-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_layer_arguments [hPre_layer_arguments : Cert.Pre_layer_arguments.Facts] (m : (ℓ : Loc Cert.KernelIdeal.nD Cert.KernelIdeal.τ Cert.KernelIdeal.sig) → Buf (Elt Ideal) ℓ) : Prop :=
  ∀ c : Dev Cert.KernelIdeal.nD,
    (Cert.Pre_layer_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_layer_arguments [hPre_layer_arguments : Cert.Pre_layer_arguments.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_layer_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_layer_arguments [hKernelIdeal : Cert.KernelIdeal.Facts] [hPre_layer_arguments : Cert.Pre_layer_arguments.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_layer_arguments m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_layer_arguments [hReferenceIdeal : Cert.ReferenceIdeal.Facts] [hPre_layer_arguments : Cert.Pre_layer_arguments.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_layer_arguments m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7)
      ∧ r.2.mem ((c.tc : Thread Cert.Kernel8.nD Cert.Kernel8.τ).loc Cert.Kernel8.main_arg8) = m ((c.tc : Thread Cert.Kernel8.nD Cert.Kernel8.τ).loc Cert.Kernel8.main_arg8)
      ∧ r.2.mem ((c.tc : Thread Cert.Kernel8.nD Cert.Kernel8.τ).loc Cert.Kernel8.main_arg9) = m ((c.tc : Thread Cert.Kernel8.nD Cert.Kernel8.τ).loc Cert.Kernel8.main_arg9)
      ∧ r.2.mem ((c.tc : Thread Cert.Kernel8.nD Cert.Kernel8.τ).loc Cert.Kernel8.main_arg10) = m ((c.tc : Thread Cert.Kernel8.nD Cert.Kernel8.τ).loc Cert.Kernel8.main_arg10)
      ∧ r.2.mem ((c.tc : Thread Cert.Kernel8.nD Cert.Kernel8.τ).loc Cert.Kernel8.main_arg11) = m ((c.tc : Thread Cert.Kernel8.nD Cert.Kernel8.τ).loc Cert.Kernel8.main_arg11)
      ∧ r.2.mem ((c.tc : Thread Cert.Kernel8.nD Cert.Kernel8.τ).loc Cert.Kernel8.main_arg12) = m ((c.tc : Thread Cert.Kernel8.nD Cert.Kernel8.τ).loc Cert.Kernel8.main_arg12)
      ∧ r.2.mem ((c.tc : Thread Cert.Kernel8.nD Cert.Kernel8.τ).loc Cert.Kernel8.main_arg13) = m ((c.tc : Thread Cert.Kernel8.nD Cert.Kernel8.τ).loc Cert.Kernel8.main_arg13))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
      ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9)
      ∧ r.2.mem ((c.tc : Thread Cert.Kernel8Ideal.nD Cert.Kernel8Ideal.τ).loc Cert.Kernel8Ideal.main_arg10) = m ((c.tc : Thread Cert.Kernel8Ideal.nD Cert.Kernel8Ideal.τ).loc Cert.Kernel8Ideal.main_arg10)
      ∧ r.2.mem ((c.tc : Thread Cert.Kernel8Ideal.nD Cert.Kernel8Ideal.τ).loc Cert.Kernel8Ideal.main_arg11) = m ((c.tc : Thread Cert.Kernel8Ideal.nD Cert.Kernel8Ideal.τ).loc Cert.Kernel8Ideal.main_arg11)
      ∧ r.2.mem ((c.tc : Thread Cert.Kernel8Ideal.nD Cert.Kernel8Ideal.τ).loc Cert.Kernel8Ideal.main_arg12) = m ((c.tc : Thread Cert.Kernel8Ideal.nD Cert.Kernel8Ideal.τ).loc Cert.Kernel8Ideal.main_arg12)
      ∧ r.2.mem ((c.tc : Thread Cert.Kernel8Ideal.nD Cert.Kernel8Ideal.τ).loc Cert.Kernel8Ideal.main_arg13) = m ((c.tc : Thread Cert.Kernel8Ideal.nD Cert.Kernel8Ideal.τ).loc Cert.Kernel8Ideal.main_arg13))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8)
      ∧ r.2.mem ((c.tc : Thread Cert.Reference8Ideal.nD Cert.Reference8Ideal.τ).loc Cert.Reference8Ideal.main_arg9) = m ((c.tc : Thread Cert.Reference8Ideal.nD Cert.Reference8Ideal.τ).loc Cert.Reference8Ideal.main_arg9)
      ∧ r.2.mem ((c.tc : Thread Cert.Reference8Ideal.nD Cert.Reference8Ideal.τ).loc Cert.Reference8Ideal.main_arg10) = m ((c.tc : Thread Cert.Reference8Ideal.nD Cert.Reference8Ideal.τ).loc Cert.Reference8Ideal.main_arg10)
      ∧ r.2.mem ((c.tc : Thread Cert.Reference8Ideal.nD Cert.Reference8Ideal.τ).loc Cert.Reference8Ideal.main_arg11) = m ((c.tc : Thread Cert.Reference8Ideal.nD Cert.Reference8Ideal.τ).loc Cert.Reference8Ideal.main_arg11)
      ∧ r.2.mem ((c.tc : Thread Cert.Reference8Ideal.nD Cert.Reference8Ideal.τ).loc Cert.Reference8Ideal.main_arg12) = m ((c.tc : Thread Cert.Reference8Ideal.nD Cert.Reference8Ideal.τ).loc Cert.Reference8Ideal.main_arg12)
      ∧ r.2.mem ((c.tc : Thread Cert.Reference8Ideal.nD Cert.Reference8Ideal.τ).loc Cert.Reference8Ideal.main_arg13) = m ((c.tc : Thread Cert.Reference8Ideal.nD Cert.Reference8Ideal.τ).loc Cert.Reference8Ideal.main_arg13))
      ∧ r.2.sem = fun _ => 0)

def preserves_Kernel_KernelIdeal : Prop :=
  True

def algebraic_KernelIdeal_ReferenceIdeal_pre_layer_arguments [hKernelIdeal : Cert.KernelIdeal.Facts] [hReferenceIdeal : Cert.ReferenceIdeal.Facts] [hPre_layer_arguments : Cert.Pre_layer_arguments.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_layer_arguments m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v153) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v38) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)) (v2 : (c : Dev Cert.Kernel3Ideal.nD) → Buf (Elt Ideal) ((c.tc : Thread Cert.Kernel3Ideal.nD Cert.Kernel3Ideal.τ).loc Cert.Kernel3Ideal.main_v0_2)) (v3 : (c : Dev Cert.Kernel3Ideal.nD) → Buf (Elt Ideal) ((c.tc : Thread Cert.Kernel3Ideal.nD Cert.Kernel3Ideal.τ).loc Cert.Kernel3Ideal.main_v0_3)) (v4 : (c : Dev Cert.Kernel3Ideal.nD) → Buf (Elt Ideal) ((c.tc : Thread Cert.Kernel3Ideal.nD Cert.Kernel3Ideal.τ).loc Cert.Kernel3Ideal.main_v0_4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_v0_2) = v2 c
          ∧ r.2.mem ((c.tc : Thread Cert.Kernel3Ideal.nD Cert.Kernel3Ideal.τ).loc Cert.Kernel3Ideal.main_v0_3) = v3 c
          ∧ r.2.mem ((c.tc : Thread Cert.Kernel3Ideal.nD Cert.Kernel3Ideal.τ).loc Cert.Kernel3Ideal.main_v0_4) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v22) = v0 c
          ∧ r.2.mem ((c.tc : Thread Cert.Reference3Ideal.nD Cert.Reference3Ideal.τ).loc Cert.Reference3Ideal.main_v24) = v1 c
          ∧ r.2.mem ((c.tc : Thread Cert.Reference3Ideal.nD Cert.Reference3Ideal.τ).loc Cert.Reference3Ideal.main_v26) = v2 c
          ∧ r.2.mem ((c.tc : Thread Cert.Reference3Ideal.nD Cert.Reference3Ideal.τ).loc Cert.Reference3Ideal.main_v28) = v3 c
          ∧ r.2.mem ((c.tc : Thread Cert.Reference3Ideal.nD Cert.Reference3Ideal.τ).loc Cert.Reference3Ideal.main_v30) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v52) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v7_0)) (v1 : (c : Dev Cert.Kernel7Ideal.nD) → Buf (Elt Ideal) ((c.tc : Thread Cert.Kernel7Ideal.nD Cert.Kernel7Ideal.τ).loc Cert.Kernel7Ideal.main_v7_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v7_0) = v0 c
          ∧ r.2.mem ((c.tc : Thread Cert.Kernel7Ideal.nD Cert.Kernel7Ideal.τ).loc Cert.Kernel7Ideal.main_v7_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v26) = v0 c
          ∧ r.2.mem ((c.tc : Thread Cert.Reference7Ideal.nD Cert.Reference7Ideal.τ).loc Cert.Reference7Ideal.main_v24) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)
      ∧ m' ((c.tc : Thread Cert.Reference8Ideal.nD Cert.Reference8Ideal.τ).loc Cert.Reference8Ideal.main_arg8) = m ((c.tc : Thread Cert.Kernel8Ideal.nD Cert.Kernel8Ideal.τ).loc Cert.Kernel8Ideal.main_arg8)
      ∧ m' ((c.tc : Thread Cert.Reference8Ideal.nD Cert.Reference8Ideal.τ).loc Cert.Reference8Ideal.main_arg9) = m ((c.tc : Thread Cert.Kernel8Ideal.nD Cert.Kernel8Ideal.τ).loc Cert.Kernel8Ideal.main_arg9)
      ∧ m' ((c.tc : Thread Cert.Reference8Ideal.nD Cert.Reference8Ideal.τ).loc Cert.Reference8Ideal.main_arg10) = m ((c.tc : Thread Cert.Kernel8Ideal.nD Cert.Kernel8Ideal.τ).loc Cert.Kernel8Ideal.main_arg10)
      ∧ m' ((c.tc : Thread Cert.Reference8Ideal.nD Cert.Reference8Ideal.τ).loc Cert.Reference8Ideal.main_arg11) = m ((c.tc : Thread Cert.Kernel8Ideal.nD Cert.Kernel8Ideal.τ).loc Cert.Kernel8Ideal.main_arg11)
      ∧ m' ((c.tc : Thread Cert.Reference8Ideal.nD Cert.Reference8Ideal.τ).loc Cert.Reference8Ideal.main_arg12) = m ((c.tc : Thread Cert.Kernel8Ideal.nD Cert.Kernel8Ideal.τ).loc Cert.Kernel8Ideal.main_arg12)
      ∧ m' ((c.tc : Thread Cert.Reference8Ideal.nD Cert.Reference8Ideal.τ).loc Cert.Reference8Ideal.main_arg13) = m ((c.tc : Thread Cert.Kernel8Ideal.nD Cert.Kernel8Ideal.τ).loc Cert.Kernel8Ideal.main_arg13)) →
    ∃ (v0 : (c : Dev Cert.Kernel8Ideal.nD) → Buf (Elt Ideal) ((c.tc : Thread Cert.Kernel8Ideal.nD Cert.Kernel8Ideal.τ).loc Cert.Kernel8Ideal.main_v20_1)) (v1 : (c : Dev Cert.Kernel8Ideal.nD) → Buf (Elt Ideal) ((c.tc : Thread Cert.Kernel8Ideal.nD Cert.Kernel8Ideal.τ).loc Cert.Kernel8Ideal.main_v20_2)) (v2 : (c : Dev Cert.Kernel8Ideal.nD) → Buf (Elt Ideal) ((c.tc : Thread Cert.Kernel8Ideal.nD Cert.Kernel8Ideal.τ).loc Cert.Kernel8Ideal.main_v20_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v20_1) = v0 c
          ∧ r.2.mem ((c.tc : Thread Cert.Kernel8Ideal.nD Cert.Kernel8Ideal.τ).loc Cert.Kernel8Ideal.main_v20_2) = v1 c
          ∧ r.2.mem ((c.tc : Thread Cert.Kernel8Ideal.nD Cert.Kernel8Ideal.τ).loc Cert.Kernel8Ideal.main_v20_3) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
          ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
          ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9)
          ∧ r.2.mem ((c.tc : Thread Cert.Kernel8Ideal.nD Cert.Kernel8Ideal.τ).loc Cert.Kernel8Ideal.main_arg10) = m ((c.tc : Thread Cert.Kernel8Ideal.nD Cert.Kernel8Ideal.τ).loc Cert.Kernel8Ideal.main_arg10)
          ∧ r.2.mem ((c.tc : Thread Cert.Kernel8Ideal.nD Cert.Kernel8Ideal.τ).loc Cert.Kernel8Ideal.main_arg11) = m ((c.tc : Thread Cert.Kernel8Ideal.nD Cert.Kernel8Ideal.τ).loc Cert.Kernel8Ideal.main_arg11)
          ∧ r.2.mem ((c.tc : Thread Cert.Kernel8Ideal.nD Cert.Kernel8Ideal.τ).loc Cert.Kernel8Ideal.main_arg12) = m ((c.tc : Thread Cert.Kernel8Ideal.nD Cert.Kernel8Ideal.τ).loc Cert.Kernel8Ideal.main_arg12)
          ∧ r.2.mem ((c.tc : Thread Cert.Kernel8Ideal.nD Cert.Kernel8Ideal.τ).loc Cert.Kernel8Ideal.main_arg13) = m ((c.tc : Thread Cert.Kernel8Ideal.nD Cert.Kernel8Ideal.τ).loc Cert.Kernel8Ideal.main_arg13))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v66) = v0 c
          ∧ r.2.mem ((c.tc : Thread Cert.Reference8Ideal.nD Cert.Reference8Ideal.τ).loc Cert.Reference8Ideal.main_v68) = v1 c
          ∧ r.2.mem ((c.tc : Thread Cert.Reference8Ideal.nD Cert.Reference8Ideal.τ).loc Cert.Reference8Ideal.main_v70) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7)
          ∧ r.2.mem ((c.tc : Thread Cert.Reference8Ideal.nD Cert.Reference8Ideal.τ).loc Cert.Reference8Ideal.main_arg8) = m' ((c.tc : Thread Cert.Reference8Ideal.nD Cert.Reference8Ideal.τ).loc Cert.Reference8Ideal.main_arg8)
          ∧ r.2.mem ((c.tc : Thread Cert.Reference8Ideal.nD Cert.Reference8Ideal.τ).loc Cert.Reference8Ideal.main_arg9) = m' ((c.tc : Thread Cert.Reference8Ideal.nD Cert.Reference8Ideal.τ).loc Cert.Reference8Ideal.main_arg9)
          ∧ r.2.mem ((c.tc : Thread Cert.Reference8Ideal.nD Cert.Reference8Ideal.τ).loc Cert.Reference8Ideal.main_arg10) = m' ((c.tc : Thread Cert.Reference8Ideal.nD Cert.Reference8Ideal.τ).loc Cert.Reference8Ideal.main_arg10)
          ∧ r.2.mem ((c.tc : Thread Cert.Reference8Ideal.nD Cert.Reference8Ideal.τ).loc Cert.Reference8Ideal.main_arg11) = m' ((c.tc : Thread Cert.Reference8Ideal.nD Cert.Reference8Ideal.τ).loc Cert.Reference8Ideal.main_arg11)
          ∧ r.2.mem ((c.tc : Thread Cert.Reference8Ideal.nD Cert.Reference8Ideal.τ).loc Cert.Reference8Ideal.main_arg12) = m' ((c.tc : Thread Cert.Reference8Ideal.nD Cert.Reference8Ideal.τ).loc Cert.Reference8Ideal.main_arg12)
          ∧ r.2.mem ((c.tc : Thread Cert.Reference8Ideal.nD Cert.Reference8Ideal.τ).loc Cert.Reference8Ideal.main_arg13) = m' ((c.tc : Thread Cert.Reference8Ideal.nD Cert.Reference8Ideal.τ).loc Cert.Reference8Ideal.main_arg13))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_layer_arguments : Cert.Pre_layer_arguments.Facts),
    quiescent_Kernel (hKernel := hKernel)
    ∧ quiescent_KernelIdeal (hKernelIdeal := hKernelIdeal)
    ∧ quiescent_KernelIdeal_pre_layer_arguments (hKernelIdeal := hKernelIdeal) (hPre_layer_arguments := hPre_layer_arguments)
    ∧ quiescent_ReferenceIdeal (hReferenceIdeal := hReferenceIdeal)
    ∧ quiescent_ReferenceIdeal_pre_layer_arguments (hReferenceIdeal := hReferenceIdeal) (hPre_layer_arguments := hPre_layer_arguments)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal_pre_layer_arguments (hKernelIdeal := hKernelIdeal) (hReferenceIdeal := hReferenceIdeal) (hPre_layer_arguments := hPre_layer_arguments)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== Pre_layer_arguments.lean ====
abbrev S16640x6144 : Shape := ⟨2, ![16640, 6144]⟩
abbrev S16640x1024 : Shape := ⟨2, ![16640, 1024]⟩
abbrev S1x2048 : Shape := ⟨2, ![1, 2048]⟩
abbrev S4x4160x6144 : Shape := ⟨3, ![4, 4160, 6144]⟩
abbrev S4x48x6144 : Shape := ⟨3, ![4, 48, 6144]⟩
abbrev S_ : Shape := ⟨0, ![]⟩

class Facts : Prop where
  shapeCasts_S16640x6144_S4x4160x6144 : S16640x6144.ShapeCasts S4x4160x6144
  slices_S4x4160x6144_S4x48x6144_0_0_0 : S4x4160x6144.Slices ![0, 0, 0] S4x48x6144
  bitsLt_bf16_f32 : FTy.bits .bf16 < FTy.bits .f32
  bcast_S_S4x48x6144 : S_.BroadcastsInDim S4x48x6144 (![] : Fin 0 → Fin S4x48x6144.rank)
  reducesTo_S4x48x6144_S_d0_1_2 : S4x48x6144.ReducesTo [0, 1, 2] S_
  h_S_ : 0 < S_.numel
  bcast_S_S16640x1024 : S_.BroadcastsInDim S16640x1024 (![] : Fin 0 → Fin S16640x1024.rank)
  reducesTo_S16640x1024_S_d0_1 : S16640x1024.ReducesTo [0, 1] S_

variable [Facts]

def fn {F : FTy → Type} [FloatOps F] (main_arg0 : FVec F S16640x6144 .bf16) (main_arg1 : FVec F S16640x1024 .f32) (main_arg2 : FVec F S1x2048 .f32) : IVec S_ 1 :=
  let main_v0 : FVec F S4x4160x6144 .bf16 := shapeCast S4x4160x6144 main_arg0 shapeCasts_S16640x6144_S4x4160x6144
  let main_v1 : FVec F S4x48x6144 .bf16 := (extractStridedSlice S4x48x6144 ![0, 0, 0] · slices_S4x4160x6144_S4x48x6144_0_0_0) main_v0
  let main_v2 : FVec F S4x48x6144 .f32 := (extf .f32 · bitsLt_bf16_f32) main_v1
  let main_cst : FVec F S_ .f32 := constant S_ .f32 0x00000000#32
  let main_v3 : FVec F S4x48x6144 .f32 := broadcastInDim S4x48x6144 ![] bcast_S_S4x48x6144 main_cst
  let main_v4 : IVec S4x48x6144 1 := cmpf .oeq main_v2 main_v3
  let main_c : IVec S_ 1 := constantI S_ 1 1#1
  let main_v5 : IVec S_ 1 := (fun x v => Host.reduce IntOp.andi x v reducesTo_S4x48x6144_S_d0_1_2 h_S_) main_v4 main_c
  let main_cst_0 : FVec F S_ .f32 := constant S_ .f32 0x00000000#32
  let main_v6 : FVec F S16640x1024 .f32 := broadcastInDim S16640x1024 ![] bcast_S_S16640x1024 main_cst_0
  let main_v7 : IVec S16640x1024 1 := cmpf .ole main_arg1 main_v6
  let main_c_1 : IVec S_ 1 := constantI S_ 1 1#1
  let main_v8 : IVec S_ 1 := (fun x v => Host.reduce IntOp.andi x v reducesTo_S16640x1024_S_d0_1 h_S_) main_v7 main_c_1
  let main_v9 : IVec S_ 1 := andi main_v5 main_v8
  main_v9
-- ==== Kernel.lean ====
abbrev S16640x6144 : Shape := ⟨2, ![16640, 6144]⟩
abbrev S16640x1024 : Shape := ⟨2, ![16640, 1024]⟩
abbrev S1x2048 : Shape := ⟨2, ![1, 2048]⟩
abbrev S4x4160x6144 : Shape := ⟨3, ![4, 4160, 6144]⟩
abbrev S4x4160x1024 : Shape := ⟨3, ![4, 4160, 1024]⟩
abbrev S4x4160x2048 : Shape := ⟨3, ![4, 4160, 2048]⟩
abbrev S4x64x1024 : Shape := ⟨3, ![4, 64, 1024]⟩
abbrev S4x64x2048 : Shape := ⟨3, ![4, 64, 2048]⟩
abbrev S4x4x512x256 : Shape := ⟨4, ![4, 4, 512, 256]⟩
abbrev S64x64 : Shape := ⟨2, ![64, 64]⟩
abbrev S64x1024 : Shape := ⟨2, ![64, 1024]⟩
abbrev S1x64x1024 : Shape := ⟨3, ![1, 64, 1024]⟩
abbrev S1x1024 : Shape := ⟨2, ![1, 1024]⟩
abbrev S1x64x2048 : Shape := ⟨3, ![1, 64, 2048]⟩
abbrev S64x2048 : Shape := ⟨2, ![64, 2048]⟩
abbrev S64x512 : Shape := ⟨2, ![64, 512]⟩
abbrev S64x256 : Shape := ⟨2, ![64, 256]⟩
abbrev S1x1x512x256 : Shape := ⟨4, ![1, 1, 512, 256]⟩
abbrev S512x256 : Shape := ⟨2, ![512, 256]⟩
abbrev S1x256 : Shape := ⟨2, ![1, 256]⟩
abbrev S64 : Shape := ⟨1, ![64]⟩
abbrev S64x1 : Shape := ⟨2, ![64, 1]⟩
abbrev S1x512 : Shape := ⟨2, ![1, 512]⟩
abbrev S1x64x512 : Shape := ⟨3, ![1, 64, 512]⟩

abbrev nBuf : Space → Nat
  | .hbm => 6
  | .vmem => 14
  | .smem => 0
  | _ => 0

abbrev bufTy : (tb : Table) → Fin (tcTables nBuf tb) → BufTy
  | .hbm, ⟨0, _⟩ => ⟨S16640x6144, .bf16⟩
  | .hbm, ⟨1, _⟩ => ⟨S16640x1024, .f32⟩
  | .hbm, ⟨2, _⟩ => ⟨S1x2048, .f32⟩
  | .hbm, ⟨3, _⟩ => ⟨S4x4160x6144, .bf16⟩
  | .hbm, ⟨4, _⟩ => ⟨S4x4160x1024, .f32⟩
  | .hbm, ⟨5, _⟩ => ⟨S4x4160x2048, .bf16⟩
  | .local _ .vmem, ⟨0, _⟩ => ⟨S4x64x1024, .bf16⟩
  | .local _ .vmem, ⟨1, _⟩ => ⟨S4x64x1024, .bf16⟩
  | .local _ .vmem, ⟨2, _⟩ => ⟨S4x64x1024, .bf16⟩
  | .local _ .vmem, ⟨3, _⟩ => ⟨S4x64x1024, .bf16⟩
  | .local _ .vmem, ⟨4, _⟩ => ⟨S4x64x2048, .bf16⟩
  | .local _ .vmem, ⟨5, _⟩ => ⟨S4x64x2048, .bf16⟩
  | .local _ .vmem, ⟨6, _⟩ => ⟨S4x64x2048, .bf16⟩
  | .local _ .vmem, ⟨7, _⟩ => ⟨S4x64x2048, .bf16⟩
  | .local _ .vmem, ⟨8, _⟩ => ⟨S4x64x1024, .f32⟩
  | .local _ .vmem, ⟨9, _⟩ => ⟨S4x64x1024, .f32⟩
  | .local _ .vmem, ⟨10, _⟩ => ⟨S1x2048, .f32⟩
  | .local _ .vmem, ⟨11, _⟩ => ⟨S4x64x2048, .bf16⟩
  | .local _ .vmem, ⟨12, _⟩ => ⟨S4x64x2048, .bf16⟩
  | .local _ .vmem, ⟨13, _⟩ => ⟨S4x4x512x256, .f32⟩
  | _, _ => ⟨S16640x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![1, 65], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4x64x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x64x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x64x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x64x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S4x64x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S16640x6144 : Shape := ⟨2, ![16640, 6144]⟩
abbrev S16640x1024 : Shape := ⟨2, ![16640, 1024]⟩
abbrev S1x2048 : Shape := ⟨2, ![1, 2048]⟩
abbrev S_ : Shape := ⟨0, ![]⟩
abbrev S4x4x256x512 : Shape := ⟨4, ![4, 4, 256, 512]⟩
abbrev S4x4160x6144 : Shape := ⟨3, ![4, 4160, 6144]⟩
abbrev S4x4112x6144 : Shape := ⟨3, ![4, 4112, 6144]⟩
abbrev S4x4160x1024 : Shape := ⟨3, ![4, 4160, 1024]⟩
abbrev S4x4112x1024 : Shape := ⟨3, ![4, 4112, 1024]⟩
abbrev S4x4112x2048 : Shape := ⟨3, ![4, 4112, 2048]⟩
abbrev S4x4112x4x256 : Shape := ⟨4, ![4, 4112, 4, 256]⟩
abbrev S4x4x4112x256 : Shape := ⟨4, ![4, 4, 4112, 256]⟩
abbrev S4x4112x4x512 : Shape := ⟨4, ![4, 4112, 4, 512]⟩
abbrev S4x4x4112x512 : Shape := ⟨4, ![4, 4, 4112, 512]⟩
abbrev S4x4x16x256 : Shape := ⟨4, ![4, 4, 16, 256]⟩
abbrev S4x4x16x512 : Shape := ⟨4, ![4, 4, 16, 512]⟩
abbrev S4x4x1x256 : Shape := ⟨4, ![4, 4, 1, 256]⟩
abbrev S16x16 : Shape := ⟨2, ![16, 16]⟩
abbrev S4x4x16x16 : Shape := ⟨4, ![4, 4, 16, 16]⟩
abbrev S4x4x256 : Shape := ⟨3, ![4, 4, 256]⟩
abbrev S4x4x256x1 : Shape := ⟨4, ![4, 4, 256, 1]⟩
abbrev S4x4x4096x256 : Shape := ⟨4, ![4, 4, 4096, 256]⟩
abbrev S4x4x64x64x256 : Shape := ⟨5, ![4, 4, 64, 64, 256]⟩
abbrev S64x4x4x64x256 : Shape := ⟨5, ![64, 4, 4, 64, 256]⟩
abbrev S4x4x4096x512 : Shape := ⟨4, ![4, 4, 4096, 512]⟩
abbrev S4x4x64x64x512 : Shape := ⟨5, ![4, 4, 64, 64, 512]⟩
abbrev S64x4x4x64x512 : Shape := ⟨5, ![64, 4, 4, 64, 512]⟩
abbrev S1x4x4x64x256 : Shape := ⟨5, ![1, 4, 4, 64, 256]⟩
abbrev S4x4x64x256 : Shape := ⟨4, ![4, 4, 64, 256]⟩
abbrev S1x4x4x64x512 : Shape := ⟨5, ![1, 4, 4, 64, 512]⟩
abbrev S4x4x64x512 : Shape := ⟨4, ![4, 4, 64, 512]⟩
abbrev S64x64 : Shape := ⟨2, ![64, 64]⟩
abbrev S4x4x64x64 : Shape := ⟨4, ![4, 4, 64, 64]⟩
abbrev S4x4x4112 : Shape := ⟨3, ![4, 4, 4112]⟩
abbrev S4x4x4112x1 : Shape := ⟨4, ![4, 4, 4112, 1]⟩
abbrev S4x1x512 : Shape := ⟨3, ![4, 1, 512]⟩
abbrev S1x4x1x512 : Shape := ⟨4, ![1, 4, 1, 512]⟩
abbrev S4x4160x2048 : Shape := ⟨3, ![4, 4160, 2048]⟩

abbrev nBuf : Space → Nat
  | .hbm => 287
  | .vmem => 0
  | .smem => 0
  | _ => 0

abbrev hbmTy0_0 (i : Nat) : BufTy := match i % 128 with
  | 0 => ⟨S16640x6144, .bf16⟩
  | 1 => ⟨S16640x1024, .f32⟩
  | 2 => ⟨S1x2048, .f32⟩
  | 3 => ⟨S_, .f32⟩
  | 4 => ⟨S4x4x256x512, .f32⟩
  | 5 => ⟨S4x4160x6144, .bf16⟩
  | 6 => ⟨S4x4112x6144, .bf16⟩
  | 7 => ⟨S4x4112x6144, .f32⟩
  | 8 => ⟨S4x4160x1024, .f32⟩
  | 9 => ⟨S4x4112x1024, .f32⟩
  | 10 => ⟨S4x4112x1024, .f32⟩
  | 11 => ⟨S4x4112x1024, .f32⟩
  | 12 => ⟨S4x4112x2048, .f32⟩
  | 13 => ⟨S4x4112x4x256, .f32⟩
  | 14 => ⟨S4x4x4112x256, .f32⟩
  | 15 => ⟨S_, .f32⟩
  | 16 => ⟨S4x4x4112x256, .f32⟩
  | 17 => ⟨S4x4x4112x256, .f32⟩
  | 18 => ⟨S4x4112x4x256, .f32⟩
  | 19 => ⟨S4x4x4112x256, .f32⟩
  | 20 => ⟨S4x4112x4x512, .f32⟩
  | 21 => ⟨S4x4x4112x512, .f32⟩
  | 22 => ⟨S4x4112x4x256, .f32⟩
  | 23 => ⟨S4x4x4112x256, .f32⟩
  | 24 => ⟨S4x4x16x256, .f32⟩
  | 25 => ⟨S4x4x16x256, .f32⟩
  | 26 => ⟨S4x4x16x512, .f32⟩
  | 27 => ⟨S4x4x16x256, .f32⟩
  | 28 => ⟨S_, .f32⟩
  | 29 => ⟨S_, .f32⟩
  | 30 => ⟨S4x4x16x256, .f32⟩
  | 31 => ⟨S4x4x1x256, .f32⟩
  | 32 => ⟨S4x4x16x256, .f32⟩
  | 33 => ⟨S4x4x16x256, .f32⟩
  | 34 => ⟨S4x4x16x256, .f32⟩
  | 35 => ⟨S4x4x16x256, .f32⟩
  | 36 => ⟨S4x4x16x256, .f32⟩
  | 37 => ⟨S_, .i1⟩
  | 38 => ⟨S16x16, .i1⟩
  | 39 => ⟨S16x16, .i32⟩
  | 40 => ⟨S_, .i32⟩
  | 41 => ⟨S16x16, .i32⟩
  | 42 => ⟨S16x16, .i32⟩
  | 43 => ⟨S16x16, .i32⟩
  | 44 => ⟨S16x16, .i1⟩
  | 45 => ⟨S_, .i1⟩
  | 46 => ⟨S16x16, .i1⟩
  | 47 => ⟨S16x16, .i1⟩
  | 48 => ⟨S4x4x16x16, .f32⟩
  | 49 => ⟨S_, .f32⟩
  | 50 => ⟨S_, .f32⟩
  | 51 => ⟨S4x4x16x16, .i1⟩
  | 52 => ⟨S4x4x16x16, .f32⟩
  | 53 => ⟨S4x4x16x16, .f32⟩
  | 54 => ⟨S4x4x16x512, .f32⟩
  | 55 => ⟨S4x4x16x512, .f32⟩
  | 56 => ⟨S4x4x16x512, .f32⟩
  | 57 => ⟨S4x4x1x256, .f32⟩
  | 58 => ⟨S4x4x256, .f32⟩
  | 59 => ⟨S4x4x256x1, .f32⟩
  | 60 => ⟨S4x4x256x512, .f32⟩
  | 61 => ⟨S4x4x256x512, .f32⟩
  | 62 => ⟨S4x4x16x256, .f32⟩
  | 63 => ⟨S4x4x16x256, .f32⟩
  | 64 => ⟨S4x4x16x256, .f32⟩
  | 65 => ⟨S4x4x16x256, .f32⟩
  | 66 => ⟨S4x4x256x512, .f32⟩
  | 67 => ⟨S4x4x256x512, .f32⟩
  | 68 => ⟨S4x4160x6144, .bf16⟩
  | 69 => ⟨S4x4112x6144, .bf16⟩
  | 70 => ⟨S4x4112x6144, .f32⟩
  | 71 => ⟨S4x4160x1024, .f32⟩
  | 72 => ⟨S4x4112x1024, .f32⟩
  | 73 => ⟨S4x4112x1024, .f32⟩
  | 74 => ⟨S4x4112x1024, .f32⟩
  | 75 => ⟨S4x4112x2048, .f32⟩
  | 76 => ⟨S4x4112x4x256, .f32⟩
  | 77 => ⟨S4x4x4112x256, .f32⟩
  | 78 => ⟨S_, .f32⟩
  | 79 => ⟨S4x4x4112x256, .f32⟩
  | 80 => ⟨S4x4x4112x256, .f32⟩
  | 81 => ⟨S4x4112x4x256, .f32⟩
  | 82 => ⟨S4x4x4112x256, .f32⟩
  | 83 => ⟨S4x4112x4x512, .f32⟩
  | 84 => ⟨S4x4x4112x512, .f32⟩
  | 85 => ⟨S4x4112x4x256, .f32⟩
  | 86 => ⟨S4x4x4112x256, .f32⟩
  | 87 => ⟨S4x4x4096x256, .f32⟩
  | 88 => ⟨S4x4x64x64x256, .f32⟩
  | 89 => ⟨S64x4x4x64x256, .f32⟩
  | 90 => ⟨S4x4x4096x256, .f32⟩
  | 91 => ⟨S4x4x64x64x256, .f32⟩
  | 92 => ⟨S64x4x4x64x256, .f32⟩
  | 93 => ⟨S4x4x4096x512, .f32⟩
  | 94 => ⟨S4x4x64x64x512, .f32⟩
  | 95 => ⟨S64x4x4x64x512, .f32⟩
  | 96 => ⟨S4x4x4096x256, .f32⟩
  | 97 => ⟨S4x4x64x64x256, .f32⟩
  | 98 => ⟨S64x4x4x64x256, .f32⟩
  | 99 => ⟨S_, .f32⟩
  | 100 => ⟨S64x4x4x64x512, .f32⟩
  | 101 => ⟨S_, .i32⟩
  | 102 => ⟨S64x4x4x64x256, .f32⟩
  | 103 => ⟨S64x4x4x64x256, .f32⟩
  | 104 => ⟨S64x4x4x64x512, .f32⟩
  | 105 => ⟨S64x4x4x64x256, .f32⟩
  | 106 => ⟨S_, .i32⟩
  | 107 => ⟨S4x4x256x512, .f32⟩
  | 108 => ⟨S64x4x4x64x512, .f32⟩
  | 109 => ⟨S_, .i32⟩
  | 110 => ⟨S_, .i1⟩
  | 111 => ⟨S_, .i32⟩
  | 112 => ⟨S_, .i32⟩
  | 113 => ⟨S_, .i32⟩
  | 114 => ⟨S_, .i32⟩
  | 115 => ⟨S1x4x4x64x256, .f32⟩
  | 116 => ⟨S4x4x64x256, .f32⟩
  | 117 => ⟨S_, .i32⟩
  | 118 => ⟨S_, .i32⟩
  | 119 => ⟨S_, .i32⟩
  | 120 => ⟨S_, .i32⟩
  | 121 => ⟨S1x4x4x64x256, .f32⟩
  | 122 => ⟨S4x4x64x256, .f32⟩
  | 123 => ⟨S_, .i32⟩
  | 124 => ⟨S_, .i32⟩
  | 125 => ⟨S_, .i32⟩
  | 126 => ⟨S_, .i32⟩
  | 127 => ⟨S1x4x4x64x512, .f32⟩
  | _ => ⟨S16640x6144, .bf16⟩

abbrev hbmTy0_1 (i : Nat) : BufTy := match i % 128 with
  | 0 => ⟨S4x4x64x512, .f32⟩
  | 1 => ⟨S_, .i32⟩
  | 2 => ⟨S_, .i32⟩
  | 3 => ⟨S_, .i32⟩
  | 4 => ⟨S_, .i32⟩
  | 5 => ⟨S1x4x4x64x256, .f32⟩
  | 6 => ⟨S4x4x64x256, .f32⟩
  | 7 => ⟨S_, .f32⟩
  | 8 => ⟨S_, .f32⟩
  | 9 => ⟨S4x4x64x256, .f32⟩
  | 10 => ⟨S4x4x1x256, .f32⟩
  | 11 => ⟨S4x4x64x256, .f32⟩
  | 12 => ⟨S4x4x64x256, .f32⟩
  | 13 => ⟨S4x4x64x256, .f32⟩
  | 14 => ⟨S4x4x64x256, .f32⟩
  | 15 => ⟨S4x4x64x256, .f32⟩
  | 16 => ⟨S_, .i1⟩
  | 17 => ⟨S64x64, .i1⟩
  | 18 => ⟨S64x64, .i32⟩
  | 19 => ⟨S_, .i32⟩
  | 20 => ⟨S64x64, .i32⟩
  | 21 => ⟨S64x64, .i32⟩
  | 22 => ⟨S64x64, .i32⟩
  | 23 => ⟨S64x64, .i1⟩
  | 24 => ⟨S_, .i1⟩
  | 25 => ⟨S64x64, .i1⟩
  | 26 => ⟨S64x64, .i1⟩
  | 27 => ⟨S4x4x64x64, .f32⟩
  | 28 => ⟨S_, .f32⟩
  | 29 => ⟨S_, .f32⟩
  | 30 => ⟨S4x4x64x64, .i1⟩
  | 31 => ⟨S4x4x64x64, .f32⟩
  | 32 => ⟨S4x4x64x64, .f32⟩
  | 33 => ⟨S4x4x64x512, .f32⟩
  | 34 => ⟨S4x4x64x512, .f32⟩
  | 35 => ⟨S4x4x64x512, .f32⟩
  | 36 => ⟨S4x4x1x256, .f32⟩
  | 37 => ⟨S4x4x256, .f32⟩
  | 38 => ⟨S4x4x256x1, .f32⟩
  | 39 => ⟨S4x4x256x512, .f32⟩
  | 40 => ⟨S4x4x256x512, .f32⟩
  | 41 => ⟨S4x4x64x256, .f32⟩
  | 42 => ⟨S4x4x64x256, .f32⟩
  | 43 => ⟨S4x4x64x256, .f32⟩
  | 44 => ⟨S4x4x64x256, .f32⟩
  | 45 => ⟨S4x4x256x512, .f32⟩
  | 46 => ⟨S4x4x256x512, .f32⟩
  | 47 => ⟨S1x4x4x64x512, .f32⟩
  | 48 => ⟨S_, .i32⟩
  | 49 => ⟨S_, .i32⟩
  | 50 => ⟨S_, .i32⟩
  | 51 => ⟨S_, .i32⟩
  | 52 => ⟨S64x4x4x64x512, .f32⟩
  | 53 => ⟨S_, .i32⟩
  | 54 => ⟨S_, .i32⟩
  | 55 => ⟨S4x4x64x64x512, .f32⟩
  | 56 => ⟨S4x4x4096x512, .f32⟩
  | 57 => ⟨S_, .f32⟩
  | 58 => ⟨S4x4x256x512, .f32⟩
  | 59 => ⟨S4x4160x6144, .bf16⟩
  | 60 => ⟨S4x4112x6144, .bf16⟩
  | 61 => ⟨S4x4112x6144, .f32⟩
  | 62 => ⟨S4x4160x1024, .f32⟩
  | 63 => ⟨S4x4112x1024, .f32⟩
  | 64 => ⟨S4x4112x1024, .f32⟩
  | 65 => ⟨S4x4112x1024, .f32⟩
  | 66 => ⟨S4x4112x2048, .f32⟩
  | 67 => ⟨S4x4112x4x256, .f32⟩
  | 68 => ⟨S4x4x4112x256, .f32⟩
  | 69 => ⟨S_, .f32⟩
  | 70 => ⟨S4x4x4112x256, .f32⟩
  | 71 => ⟨S4x4x4112x256, .f32⟩
  | 72 => ⟨S4x4112x4x256, .f32⟩
  | 73 => ⟨S4x4x4112x256, .f32⟩
  | 74 => ⟨S4x4112x4x512, .f32⟩
  | 75 => ⟨S4x4x4112x512, .f32⟩
  | 76 => ⟨S4x4112x4x256, .f32⟩
  | 77 => ⟨S4x4x4112x256, .f32⟩
  | 78 => ⟨S4x4x16x256, .f32⟩
  | 79 => ⟨S4x4x16x256, .f32⟩
  | 80 => ⟨S4x4x16x512, .f32⟩
  | 81 => ⟨S4x4x16x256, .f32⟩
  | 82 => ⟨S_, .f32⟩
  | 83 => ⟨S_, .f32⟩
  | 84 => ⟨S4x4x16x256, .f32⟩
  | 85 => ⟨S4x4x1x256, .f32⟩
  | 86 => ⟨S4x4x16x256, .f32⟩
  | 87 => ⟨S4x4x16x256, .f32⟩
  | 88 => ⟨S4x4x16x256, .f32⟩
  | 89 => ⟨S4x4x16x256, .f32⟩
  | 90 => ⟨S4x4x16x256, .f32⟩
  | 91 => ⟨S_, .i1⟩
  | 92 => ⟨S16x16, .i1⟩
  | 93 => ⟨S16x16, .i32⟩
  | 94 => ⟨S_, .i32⟩
  | 95 => ⟨S16x16, .i32⟩
  | 96 => ⟨S16x16, .i32⟩
  | 97 => ⟨S16x16, .i32⟩
  | 98 => ⟨S16x16, .i1⟩
  | 99 => ⟨S_, .i1⟩
  | 100 => ⟨S16x16, .i1⟩
  | 101 => ⟨S16x16, .i1⟩
  | 102 => ⟨S4x4x16x16, .f32⟩
  | 103 => ⟨S_, .f32⟩
  | 104 => ⟨S_, .f32⟩
  | 105 => ⟨S4x4x16x16, .i1⟩
  | 106 => ⟨S4x4x16x16, .f32⟩
  | 107 => ⟨S4x4x16x16, .f32⟩
  | 108 => ⟨S4x4x16x512, .f32⟩
  | 109 => ⟨S4x4x16x512, .f32⟩
  | 110 => ⟨S4x4x16x512, .f32⟩
  | 111 => ⟨S4x4x1x256, .f32⟩
  | 112 => ⟨S4x4x256, .f32⟩
  | 113 => ⟨S4x4x256x1, .f32⟩
  | 114 => ⟨S4x4x256x512, .f32⟩
  | 115 => ⟨S4x4x256x512, .f32⟩
  | 116 => ⟨S4x4x16x256, .f32⟩
  | 117 => ⟨S4x4x16x256, .f32⟩
  | 118 => ⟨S4x4x16x256, .f32⟩
  | 119 => ⟨S4x4x16x256, .f32⟩
  | 120 => ⟨S4x4x256x512, .f32⟩
  | 121 => ⟨S4x4x256x512, .f32⟩
  | 122 => ⟨S4x4x4112x512, .f32⟩
  | 123 => ⟨S4x4x4112x512, .f32⟩
  | 124 => ⟨S_, .f32⟩
  | 125 => ⟨S4x4x4112, .f32⟩
  | 126 => ⟨S4x4x4112x1, .f32⟩
  | 127 => ⟨S_, .f32⟩
  | _ => ⟨S16640x6144, .bf16⟩

abbrev hbmTy0_2 (i : Nat) : BufTy := match i % 128 with
  | 0 => ⟨S4x4x4112x1, .f32⟩
  | 1 => ⟨S4x4x4112x1, .f32⟩
  | 2 => ⟨S_, .f32⟩
  | 3 => ⟨S4x4x4112x1, .f32⟩
  | 4 => ⟨S4x4x4112x1, .f32⟩
  | 5 => ⟨S4x4x4112x1, .f32⟩
  | 6 => ⟨S4x4x4112x512, .f32⟩
  | 7 => ⟨S4x4x4112x512, .f32⟩
  | 8 => ⟨S4x1x512, .f32⟩
  | 9 => ⟨S1x4x1x512, .f32⟩
  | 10 => ⟨S4x4x4112x512, .f32⟩
  | 11 => ⟨S4x4x4112x512, .f32⟩
  | 12 => ⟨S4x4112x4x512, .f32⟩
  | 13 => ⟨S4x4112x2048, .f32⟩
  | 14 => ⟨S4x4160x6144, .bf16⟩
  | 15 => ⟨S4x4112x2048, .bf16⟩
  | 16 => ⟨S4x4112x2048, .f32⟩
  | 17 => ⟨S4x4112x2048, .f32⟩
  | 18 => ⟨S4x4112x2048, .f32⟩
  | 19 => ⟨S_, .f32⟩
  | 20 => ⟨S4x4112x2048, .f32⟩
  | 21 => ⟨S4x4112x2048, .f32⟩
  | 22 => ⟨S_, .f32⟩
  | 23 => ⟨S4x4112x2048, .f32⟩
  | 24 => ⟨S4x4112x2048, .f32⟩
  | 25 => ⟨S4x4112x2048, .f32⟩
  | 26 => ⟨S4x4112x2048, .f32⟩
  | 27 => ⟨S_, .i32⟩
  | 28 => ⟨S_, .f32⟩
  | 29 => ⟨S4x4160x2048, .f32⟩
  | 30 => ⟨S4x4160x2048, .bf16⟩
  | _ => ⟨S16640x6144, .bf16⟩

abbrev hbmTy (i : Nat) : BufTy := match i / 128 with
  | 0 => hbmTy0_0 i
  | 1 => hbmTy0_1 i
  | 2 => hbmTy0_2 i
  | _ => ⟨S16640x6144, .bf16⟩

abbrev bufTy : (tb : Table) → Fin (tcTables nBuf tb) → BufTy
  | .hbm, ⟨i, _⟩ => hbmTy i
  | _, _ => ⟨S16640x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_call0_call0_cst : Ref sig .tc := ⟨.hbm, 28, rfl⟩
abbrev main_call0_call0_v0 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_c : Ref sig .tc := ⟨.hbm, 37, rfl⟩
abbrev main_v30 : Ref sig .tc := ⟨.hbm, 38, rfl⟩
abbrev main_call1_v0 : Ref sig .tc := ⟨.hbm, 39, rfl⟩
abbrev main_call1_c : Ref sig .tc := ⟨.hbm, 40, rfl⟩
abbrev main_call1_v1 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_c_0 : Ref sig .tc := ⟨.hbm, 45, rfl⟩
abbrev main_call1_v5 : Ref sig .tc := ⟨.hbm, 46, rfl⟩
abbrev main_v31 : Ref sig .tc := ⟨.hbm, 47, rfl⟩
abbrev main_v32 : Ref sig .tc := ⟨.hbm, 48, rfl⟩
abbrev main_cst_1 : Ref sig .tc := ⟨.hbm, 49, rfl⟩
abbrev main_call2_v0 : Ref sig .tc := ⟨.hbm, 50, rfl⟩
abbrev main_call2_v1 : Ref sig .tc := ⟨.hbm, 51, rfl⟩
abbrev main_call2_v2 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_2 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_cst_3 : Ref sig .tc := ⟨.hbm, 99, rfl⟩
abbrev main_v78 : Ref sig .tc := ⟨.hbm, 100, rfl⟩
abbrev main_c_4 : Ref sig .tc := ⟨.hbm, 101, rfl⟩
abbrev main_v79_0 : Ref sig .tc := ⟨.hbm, 102, rfl⟩
abbrev main_v79_1 : Ref sig .tc := ⟨.hbm, 103, rfl⟩
abbrev main_v79_2 : Ref sig .tc := ⟨.hbm, 104, rfl⟩
abbrev main_v79_3 : Ref sig .tc := ⟨.hbm, 105, rfl⟩
abbrev main_v79_4 : Ref sig .tc := ⟨.hbm, 106, rfl⟩
abbrev main_v79_5 : Ref sig .tc := ⟨.hbm, 107, rfl⟩
abbrev main_v79_6 : Ref sig .tc := ⟨.hbm, 108, rfl⟩
abbrev main_while0c_c_19 : Ref sig .tc := ⟨.hbm, 109, rfl⟩
abbrev main_while0c_v154 : Ref sig .tc := ⟨.hbm, 110, rfl⟩
abbrev main_while0b_call3_c : Ref sig .tc := ⟨.hbm, 111, rfl⟩
abbrev main_while0b_call3_c_0 : Ref sig .tc := ⟨.hbm, 112, rfl⟩
abbrev main_while0b_call3_c_1 : Ref sig .tc := ⟨.hbm, 113, rfl⟩
abbrev main_while0b_call3_c_2 : Ref sig .tc := ⟨.hbm, 114, rfl⟩
abbrev main_while0b_call3_v0 : Ref sig .tc := ⟨.hbm, 115, rfl⟩
abbrev main_while0b_v154 : Ref sig .tc := ⟨.hbm, 116, rfl⟩
abbrev main_while0b_call4_c : Ref sig .tc := ⟨.hbm, 117, rfl⟩
abbrev main_while0b_call4_c_0 : Ref sig .tc := ⟨.hbm, 118, rfl⟩
abbrev main_while0b_call4_c_1 : Ref sig .tc := ⟨.hbm, 119, rfl⟩
abbrev main_while0b_call4_c_2 : Ref sig .tc := ⟨.hbm, 120, rfl⟩
abbrev main_while0b_call4_v0 : Ref sig .tc := ⟨.hbm, 121, rfl⟩
abbrev main_while0b_v155 : Ref sig .tc := ⟨.hbm, 122, rfl⟩
abbrev main_while0b_call5_c : Ref sig .tc := ⟨.hbm, 123, rfl⟩
abbrev main_while0b_call5_c_0 : Ref sig .tc := ⟨.hbm, 124, rfl⟩
abbrev main_while0b_call5_c_1 : Ref sig .tc := ⟨.hbm, 125, rfl⟩
abbrev main_while0b_call5_c_2 : Ref sig .tc := ⟨.hbm, 126, rfl⟩
abbrev main_while0b_call5_v0 : Ref sig .tc := ⟨.hbm, 127, rfl⟩
abbrev main_while0b_v156 : Ref sig .tc := ⟨.hbm, 128, rfl⟩
abbrev main_while0b_call6_c : Ref sig .tc := ⟨.hbm, 129, rfl⟩
abbrev main_while0b_call6_c_0 : Ref sig .tc := ⟨.hbm, 130, rfl⟩
abbrev main_while0b_call6_c_1 : Ref sig .tc := ⟨.hbm, 131, rfl⟩
abbrev main_while0b_call6_c_2 : Ref sig .tc := ⟨.hbm, 132, rfl⟩
abbrev main_while0b_call6_v0 : Ref sig .tc := ⟨.hbm, 133, rfl⟩
abbrev main_while0b_v157 : Ref sig .tc := ⟨.hbm, 134, rfl⟩
abbrev main_while0b_call7_call0_cst : Ref sig .tc := ⟨.hbm, 135, rfl⟩
abbrev main_while0b_call7_call0_v0 : Ref sig .tc := ⟨.hbm, 136, rfl⟩
abbrev main_while0b_v158 : Ref sig .tc := ⟨.hbm, 137, rfl⟩
abbrev main_while0b_v159 : Ref sig .tc := ⟨.hbm, 138, rfl⟩
abbrev main_while0b_v160 : Ref sig .tc := ⟨.hbm, 139, rfl⟩
abbrev main_while0b_v161 : Ref sig .tc := ⟨.hbm, 140, rfl⟩
abbrev main_while0b_v162 : Ref sig .tc := ⟨.hbm, 141, rfl⟩
abbrev main_while0b_v163 : Ref sig .tc := ⟨.hbm, 142, rfl⟩
abbrev main_while0b_v164 : Ref sig .tc := ⟨.hbm, 143, rfl⟩
abbrev main_while0b_c_19 : Ref sig .tc := ⟨.hbm, 144, rfl⟩
abbrev main_while0b_v165 : Ref sig .tc := ⟨.hbm, 145, rfl⟩
abbrev main_while0b_call8_v0 : Ref sig .tc := ⟨.hbm, 146, rfl⟩
abbrev main_while0b_call8_c : Ref sig .tc := ⟨.hbm, 147, rfl⟩
abbrev main_while0b_call8_v1 : Ref sig .tc := ⟨.hbm, 148, rfl⟩
abbrev main_while0b_call8_v2 : Ref sig .tc := ⟨.hbm, 149, rfl⟩
abbrev main_while0b_call8_v3 : Ref sig .tc := ⟨.hbm, 150, rfl⟩
abbrev main_while0b_call8_v4 : Ref sig .tc := ⟨.hbm, 151, rfl⟩
abbrev main_while0b_call8_c_0 : Ref sig .tc := ⟨.hbm, 152, rfl⟩
abbrev main_while0b_call8_v5 : Ref sig .tc := ⟨.hbm, 153, rfl⟩
abbrev main_while0b_v166 : Ref sig .tc := ⟨.hbm, 154, rfl⟩
abbrev main_while0b_v167 : Ref sig .tc := ⟨.hbm, 155, rfl⟩
abbrev main_while0b_cst_20 : Ref sig .tc := ⟨.hbm, 156, rfl⟩
abbrev main_while0b_call9_v0 : Ref sig .tc := ⟨.hbm, 157, rfl⟩
abbrev main_while0b_call9_v1 : Ref sig .tc := ⟨.hbm, 158, rfl⟩
abbrev main_while0b_call9_v2 : Ref sig .tc := ⟨.hbm, 159, rfl⟩
abbrev main_while0b_v168 : Ref sig .tc := ⟨.hbm, 160, rfl⟩
abbrev main_while0b_v169 : Ref sig .tc := ⟨.hbm, 161, rfl⟩
abbrev main_while0b_v170 : Ref sig .tc := ⟨.hbm, 162, rfl⟩
abbrev main_while0b_v171 : Ref sig .tc := ⟨.hbm, 163, rfl⟩
abbrev main_while0b_v172 : Ref sig .tc := ⟨.hbm, 164, rfl⟩
abbrev main_while0b_v173 : Ref sig .tc := ⟨.hbm, 165, rfl⟩
abbrev main_while0b_v174 : Ref sig .tc := ⟨.hbm, 166, rfl⟩
abbrev main_while0b_v175 : Ref sig .tc := ⟨.hbm, 167, rfl⟩
abbrev main_while0b_v176 : Ref sig .tc := ⟨.hbm, 168, rfl⟩
abbrev main_while0b_v177 : Ref sig .tc := ⟨.hbm, 169, rfl⟩
abbrev main_while0b_v178 : Ref sig .tc := ⟨.hbm, 170, rfl⟩
abbrev main_while0b_v179 : Ref sig .tc := ⟨.hbm, 171, rfl⟩
abbrev main_while0b_v180 : Ref sig .tc := ⟨.hbm, 172, rfl⟩
abbrev main_while0b_v181 : Ref sig .tc := ⟨.hbm, 173, rfl⟩
abbrev main_while0b_v182 : Ref sig .tc := ⟨.hbm, 174, rfl⟩
abbrev main_while0b_call10_v0 : Ref sig .tc := ⟨.hbm, 175, rfl⟩
abbrev main_while0b_call10_c : Ref sig .tc := ⟨.hbm, 176, rfl⟩
abbrev main_while0b_call10_c_0 : Ref sig .tc := ⟨.hbm, 177, rfl⟩
abbrev main_while0b_call10_c_1 : Ref sig .tc := ⟨.hbm, 178, rfl⟩
abbrev main_while0b_call10_c_2 : Ref sig .tc := ⟨.hbm, 179, rfl⟩
abbrev main_while0b_v183 : Ref sig .tc := ⟨.hbm, 180, rfl⟩
abbrev main_while0b_c_21 : Ref sig .tc := ⟨.hbm, 181, rfl⟩
abbrev main_while0b_v184 : Ref sig .tc := ⟨.hbm, 182, rfl⟩
abbrev main_v80 : Ref sig .tc := ⟨.hbm, 183, rfl⟩
abbrev main_v81 : Ref sig .tc := ⟨.hbm, 184, rfl⟩
abbrev main_cst_5 : Ref sig .tc := ⟨.hbm, 185, rfl⟩
abbrev main_v82 : Ref sig .tc := ⟨.hbm, 186, rfl⟩
abbrev main_v83 : Ref sig .tc := ⟨.hbm, 187, rfl⟩
abbrev main_v84 : Ref sig .tc := ⟨.hbm, 188, rfl⟩
abbrev main_v85 : Ref sig .tc := ⟨.hbm, 189, rfl⟩
abbrev main_v86 : Ref sig .tc := ⟨.hbm, 190, rfl⟩
abbrev main_v87 : Ref sig .tc := ⟨.hbm, 191, rfl⟩
abbrev main_v88 : Ref sig .tc := ⟨.hbm, 192, rfl⟩
abbrev main_v89 : Ref sig .tc := ⟨.hbm, 193, rfl⟩
abbrev main_v90 : Ref sig .tc := ⟨.hbm, 194, rfl⟩
abbrev main_v91 : Ref sig .tc := ⟨.hbm, 195, rfl⟩
abbrev main_v92 : Ref sig .tc := ⟨.hbm, 196, rfl⟩
abbrev main_cst_6 : Ref sig .tc := ⟨.hbm, 197, rfl⟩
abbrev main_v93 : Ref sig .tc := ⟨.hbm, 198, rfl⟩
abbrev main_v94 : Ref sig .tc := ⟨.hbm, 199, rfl⟩
abbrev main_v95 : Ref sig .tc := ⟨.hbm, 200, rfl⟩
abbrev main_v96 : Ref sig .tc := ⟨.hbm, 201, rfl⟩
abbrev main_v97 : Ref sig .tc := ⟨.hbm, 202, rfl⟩
abbrev main_v98 : Ref sig .tc := ⟨.hbm, 203, rfl⟩
abbrev main_v99 : Ref sig .tc := ⟨.hbm, 204, rfl⟩
abbrev main_v100 : Ref sig .tc := ⟨.hbm, 205, rfl⟩
abbrev main_v101 : Ref sig .tc := ⟨.hbm, 206, rfl⟩
abbrev main_v102 : Ref sig .tc := ⟨.hbm, 207, rfl⟩
abbrev main_v103 : Ref sig .tc := ⟨.hbm, 208, rfl⟩
abbrev main_v104 : Ref sig .tc := ⟨.hbm, 209, rfl⟩
abbrev main_call11_call0_cst : Ref sig .tc := ⟨.hbm, 210, rfl⟩
abbrev main_call11_call0_v0 : Ref sig .tc := ⟨.hbm, 211, rfl⟩
abbrev main_v105 : Ref sig .tc := ⟨.hbm, 212, rfl⟩
abbrev main_v106 : Ref sig .tc := ⟨.hbm, 213, rfl⟩
abbrev main_v107 : Ref sig .tc := ⟨.hbm, 214, rfl⟩
abbrev main_v108 : Ref sig .tc := ⟨.hbm, 215, rfl⟩
abbrev main_v109 : Ref sig .tc := ⟨.hbm, 216, rfl⟩
abbrev main_v110 : Ref sig .tc := ⟨.hbm, 217, rfl⟩
abbrev main_v111 : Ref sig .tc := ⟨.hbm, 218, rfl⟩
abbrev main_c_7 : Ref sig .tc := ⟨.hbm, 219, rfl⟩
abbrev main_v112 : Ref sig .tc := ⟨.hbm, 220, rfl⟩
abbrev main_call12_v0 : Ref sig .tc := ⟨.hbm, 221, rfl⟩
abbrev main_call12_c : Ref sig .tc := ⟨.hbm, 222, rfl⟩
abbrev main_call12_v1 : Ref sig .tc := ⟨.hbm, 223, rfl⟩
abbrev main_call12_v2 : Ref sig .tc := ⟨.hbm, 224, rfl⟩
abbrev main_call12_v3 : Ref sig .tc := ⟨.hbm, 225, rfl⟩
abbrev main_call12_v4 : Ref sig .tc := ⟨.hbm, 226, rfl⟩
abbrev main_call12_c_0 : Ref sig .tc := ⟨.hbm, 227, rfl⟩
abbrev main_call12_v5 : Ref sig .tc := ⟨.hbm, 228, rfl⟩
abbrev main_v113 : Ref sig .tc := ⟨.hbm, 229, rfl⟩
abbrev main_v114 : Ref sig .tc := ⟨.hbm, 230, rfl⟩
abbrev main_cst_8 : Ref sig .tc := ⟨.hbm, 231, rfl⟩
abbrev main_call13_v0 : Ref sig .tc := ⟨.hbm, 232, rfl⟩
abbrev main_call13_v1 : Ref sig .tc := ⟨.hbm, 233, rfl⟩
abbrev main_call13_v2 : Ref sig .tc := ⟨.hbm, 234, rfl⟩
abbrev main_v115 : Ref sig .tc := ⟨.hbm, 235, rfl⟩
abbrev main_v116 : Ref sig .tc := ⟨.hbm, 236, rfl⟩
abbrev main_v117 : Ref sig .tc := ⟨.hbm, 237, rfl⟩
abbrev main_v118 : Ref sig .tc := ⟨.hbm, 238, rfl⟩
abbrev main_v119 : Ref sig .tc := ⟨.hbm, 239, rfl⟩
abbrev main_v120 : Ref sig .tc := ⟨.hbm, 240, rfl⟩
abbrev main_v121 : Ref sig .tc := ⟨.hbm, 241, rfl⟩
abbrev main_v122 : Ref sig .tc := ⟨.hbm, 242, rfl⟩
abbrev main_v123 : Ref sig .tc := ⟨.hbm, 243, rfl⟩
abbrev main_v124 : Ref sig .tc := ⟨.hbm, 244, rfl⟩
abbrev main_v125 : Ref sig .tc := ⟨.hbm, 245, rfl⟩
abbrev main_v126 : Ref sig .tc := ⟨.hbm, 246, rfl⟩
abbrev main_v127 : Ref sig .tc := ⟨.hbm, 247, rfl⟩
abbrev main_v128 : Ref sig .tc := ⟨.hbm, 248, rfl⟩
abbrev main_v129 : Ref sig .tc := ⟨.hbm, 249, rfl⟩
abbrev main_v130 : Ref sig .tc := ⟨.hbm, 250, rfl⟩
abbrev main_v131 : Ref sig .tc := ⟨.hbm, 251, rfl⟩
abbrev main_cst_9 : Ref sig .tc := ⟨.hbm, 252, rfl⟩
abbrev main_v132 : Ref sig .tc := ⟨.hbm, 253, rfl⟩
abbrev main_v133 : Ref sig .tc := ⟨.hbm, 254, rfl⟩
abbrev main_cst_10 : Ref sig .tc := ⟨.hbm, 255, rfl⟩
abbrev main_v134 : Ref sig .tc := ⟨.hbm, 256, rfl⟩
abbrev main_v135 : Ref sig .tc := ⟨.hbm, 257, rfl⟩
abbrev main_cst_11 : Ref sig .tc := ⟨.hbm, 258, rfl⟩
abbrev main_v136 : Ref sig .tc := ⟨.hbm, 259, rfl⟩
abbrev main_v137 : Ref sig .tc := ⟨.hbm, 260, rfl⟩
abbrev main_v138 : Ref sig .tc := ⟨.hbm, 261, rfl⟩
abbrev main_v139 : Ref sig .tc := ⟨.hbm, 262, rfl⟩
abbrev main_v140 : Ref sig .tc := ⟨.hbm, 263, rfl⟩
abbrev main_v141 : Ref sig .tc := ⟨.hbm, 264, rfl⟩
abbrev main_v142 : Ref sig .tc := ⟨.hbm, 265, rfl⟩
abbrev main_v143 : Ref sig .tc := ⟨.hbm, 266, rfl⟩
abbrev main_v144 : Ref sig .tc := ⟨.hbm, 267, rfl⟩
abbrev main_v145 : Ref sig .tc := ⟨.hbm, 268, rfl⟩
abbrev main_v146 : Ref sig .tc := ⟨.hbm, 269, rfl⟩
abbrev main_v147 : Ref sig .tc := ⟨.hbm, 270, rfl⟩
abbrev main_v148 : Ref sig .tc := ⟨.hbm, 271, rfl⟩
abbrev main_v149 : Ref sig .tc := ⟨.hbm, 272, rfl⟩
abbrev main_call14_v0 : Ref sig .tc := ⟨.hbm, 273, rfl⟩
abbrev main_call14_v1 : Ref sig .tc := ⟨.hbm, 274, rfl⟩
abbrev main_call14_cst : Ref sig .tc := ⟨.hbm, 275, rfl⟩
abbrev main_call14_v2 : Ref sig .tc := ⟨.hbm, 276, rfl⟩
abbrev main_call14_v3 : Ref sig .tc := ⟨.hbm, 277, rfl⟩
abbrev main_call14_cst_0 : Ref sig .tc := ⟨.hbm, 278, rfl⟩
abbrev main_call14_v4 : Ref sig .tc := ⟨.hbm, 279, rfl⟩
abbrev main_call14_v5 : Ref sig .tc := ⟨.hbm, 280, rfl⟩
abbrev main_v150 : Ref sig .tc := ⟨.hbm, 281, rfl⟩
abbrev main_v151 : Ref sig .tc := ⟨.hbm, 282, rfl⟩
abbrev main_c_12 : Ref sig .tc := ⟨.hbm, 283, rfl⟩
abbrev main_call15_v0 : Ref sig .tc := ⟨.hbm, 284, rfl⟩
abbrev main_v152 : Ref sig .tc := ⟨.hbm, 285, rfl⟩
abbrev main_v153 : Ref sig .tc := ⟨.hbm, 286, rfl⟩

abbrev nD : Nat := 1
abbrev τ : Topo := Topo.v7x

variable {F : FTy → Type} [FloatOps F]

abbrev main_while0_count : Scf.Loop 32 := ⟨0#32, 64#32, 1#32⟩
-- ==== Kernel2.lean ====
abbrev S4x4160x2048 : Shape := ⟨3, ![4, 4160, 2048]⟩
abbrev S1x2048 : Shape := ⟨2, ![1, 2048]⟩
abbrev S1x2048x8192 : Shape := ⟨3, ![1, 2048, 8192]⟩
abbrev S1x8192x2048 : Shape := ⟨3, ![1, 8192, 2048]⟩
abbrev S16640x2048 : Shape := ⟨2, ![16640, 2048]⟩
abbrev S4x4096x2048 : Shape := ⟨3, ![4, 4096, 2048]⟩
abbrev S512x2048 : Shape := ⟨2, ![512, 2048]⟩
abbrev S1x2048x1024 : Shape := ⟨3, ![1, 2048, 1024]⟩
abbrev S1x1024x2048 : Shape := ⟨3, ![1, 1024, 2048]⟩
abbrev S1x512x2048 : Shape := ⟨3, ![1, 512, 2048]⟩
abbrev S512 : Shape := ⟨1, ![512]⟩
abbrev S512x1 : Shape := ⟨2, ![512, 1]⟩
abbrev S2048x1024 : Shape := ⟨2, ![2048, 1024]⟩
abbrev S512x1024 : Shape := ⟨2, ![512, 1024]⟩
abbrev S1024x2048 : Shape := ⟨2, ![1024, 2048]⟩

abbrev nBuf : Space → Nat
  | .hbm => 7
  | .vmem => 11
  | .smem => 0
  | _ => 0

abbrev bufTy : (tb : Table) → Fin (tcTables nBuf tb) → BufTy
  | .hbm, ⟨0, _⟩ => ⟨S4x4160x2048, .f32⟩
  | .hbm, ⟨1, _⟩ => ⟨S1x2048, .f32⟩
  | .hbm, ⟨2, _⟩ => ⟨S1x2048x8192, .bf16⟩
  | .hbm, ⟨3, _⟩ => ⟨S1x8192x2048, .bf16⟩
  | .hbm, ⟨4, _⟩ => ⟨S1x2048, .f32⟩
  | .hbm, ⟨5, _⟩ => ⟨S16640x2048, .f32⟩
  | .hbm, ⟨6, _⟩ => ⟨S4x4096x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048x1024, .bf16⟩
  | .local _ .vmem, ⟨4, _⟩ => ⟨S1x2048x1024, .bf16⟩
  | .local _ .vmem, ⟨5, _⟩ => ⟨S1x1024x2048, .bf16⟩
  | .local _ .vmem, ⟨6, _⟩ => ⟨S1x1024x2048, .bf16⟩
  | .local _ .vmem, ⟨7, _⟩ => ⟨S1x2048, .f32⟩
  | .local _ .vmem, ⟨8, _⟩ => ⟨S1x512x2048, .f32⟩
  | .local _ .vmem, ⟨9, _⟩ => ⟨S1x512x2048, .f32⟩
  | .local _ .vmem, ⟨10, _⟩ => ⟨S512x2048, .bf16⟩
  | _, _ => ⟨S4x4160x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![4, 8, 8], ![false, false, false]⟩

def k0_mult1 (i : grid0.Coords) : BitVec 32 :=
  let arg0 : BitVec 32 := BitVec.ofNat 32 (i 0).val
  let c4160_i32 : BitVec 32 := 4160#32
  let v0 : BitVec 32 := Scalar.muli arg0 c4160_i32
  let c64_i32 : BitVec 32 := 64#32
  let v1 : BitVec 32 := Scalar.addi v0 c64_i32
  let arg1 : BitVec 32 := BitVec.ofNat 32 (i 1).val
  let c512_i32 : BitVec 32 := 512#32
  let v2 : BitVec 32 := Scalar.muli arg1 c512_i32
  let v3 : BitVec 32 := Scalar.addi v1 v2
  v3
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4160_i32 : BitVec 32 := 4160#32
  let v0 : BitVec 32 := Scalar.muli arg0 c4160_i32
  let c64_i32 : BitVec 32 := 64#32
  let v1 : BitVec 32 := Scalar.addi v0 c64_i32
  let c512_i32 : BitVec 32 := 512#32
  let v2 : BitVec 32 := Scalar.muli arg1 c512_i32
  let v3 : BitVec 32 := Scalar.addi v1 v2
  let v4 : BitVec 32 := v3
  let c0_i32 : BitVec 32 := 0#32
  let c0_i32_0 : BitVec 32 := 0#32
  ![v4.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg2.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S1x1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference2Ideal.lean ====
abbrev S4x4160x2048 : Shape := ⟨3, ![4, 4160, 2048]⟩
abbrev S1x2048 : Shape := ⟨2, ![1, 2048]⟩
abbrev S1x2048x8192 : Shape := ⟨3, ![1, 2048, 8192]⟩
abbrev S1x8192x2048 : Shape := ⟨3, ![1, 8192, 2048]⟩
abbrev S4x4112x2048 : Shape := ⟨3, ![4, 4112, 2048]⟩
abbrev S2048 : Shape := ⟨1, ![2048]⟩
abbrev S_ : Shape := ⟨0, ![]⟩
abbrev S4x4112 : Shape := ⟨2, ![4, 4112]⟩
abbrev S4x4112x1 : Shape := ⟨3, ![4, 4112, 1]⟩
abbrev S1x1x2048 : Shape := ⟨3, ![1, 1, 2048]⟩
abbrev S2048x8192 : Shape := ⟨2, ![2048, 8192]⟩
abbrev S8192x2048 : Shape := ⟨2, ![8192, 2048]⟩
abbrev S4x4112x8192 : Shape := ⟨3, ![4, 4112, 8192]⟩
abbrev S4x4096x2048 : Shape := ⟨3, ![4, 4096, 2048]⟩

abbrev nBuf : Space → Nat
  | .hbm => 52
  | .vmem => 0
  | .smem => 0
  | _ => 0

abbrev bufTy : (tb : Table) → Fin (tcTables nBuf tb) → BufTy
  | .hbm, ⟨0, _⟩ => ⟨S4x4160x2048, .f32⟩
  | .hbm, ⟨1, _⟩ => ⟨S1x2048, .f32⟩
  | .hbm, ⟨2, _⟩ => ⟨S1x2048x8192, .bf16⟩
  | .hbm, ⟨3, _⟩ => ⟨S1x8192x2048, .bf16⟩
  | .hbm, ⟨4, _⟩ => ⟨S1x2048, .f32⟩
  | .hbm, ⟨5, _⟩ => ⟨S4x4112x2048, .f32⟩
  | .hbm, ⟨6, _⟩ => ⟨S2048, .f32⟩
  | .hbm, ⟨7, _⟩ => ⟨S4x4112x2048, .f32⟩
  | .hbm, ⟨8, _⟩ => ⟨S_, .f32⟩
  | .hbm, ⟨9, _⟩ => ⟨S4x4112, .f32⟩
  | .hbm, ⟨10, _⟩ => ⟨S4x4112x1, .f32⟩
  | .hbm, ⟨11, _⟩ => ⟨S_, .f32⟩
  | .hbm, ⟨12, _⟩ => ⟨S4x4112x1, .f32⟩
  | .hbm, ⟨13, _⟩ => ⟨S4x4112x1, .f32⟩
  | .hbm, ⟨14, _⟩ => ⟨S_, .f32⟩
  | .hbm, ⟨15, _⟩ => ⟨S4x4112x1, .f32⟩
  | .hbm, ⟨16, _⟩ => ⟨S4x4112x1, .f32⟩
  | .hbm, ⟨17, _⟩ => ⟨S4x4112x1, .f32⟩
  | .hbm, ⟨18, _⟩ => ⟨S4x4112x2048, .f32⟩
  | .hbm, ⟨19, _⟩ => ⟨S4x4112x2048, .f32⟩
  | .hbm, ⟨20, _⟩ => ⟨S1x1x2048, .f32⟩
  | .hbm, ⟨21, _⟩ => ⟨S4x4112x2048, .f32⟩
  | .hbm, ⟨22, _⟩ => ⟨S4x4112x2048, .f32⟩
  | .hbm, ⟨23, _⟩ => ⟨S2048x8192, .bf16⟩
  | .hbm, ⟨24, _⟩ => ⟨S2048x8192, .f32⟩
  | .hbm, ⟨25, _⟩ => ⟨S8192x2048, .bf16⟩
  | .hbm, ⟨26, _⟩ => ⟨S8192x2048, .f32⟩
  | .hbm, ⟨27, _⟩ => ⟨S4x4112x8192, .f32⟩
  | .hbm, ⟨28, _⟩ => ⟨S_, .f32⟩
  | .hbm, ⟨29, _⟩ => ⟨S4x4112x8192, .f32⟩
  | .hbm, ⟨30, _⟩ => ⟨S4x4112x8192, .f32⟩
  | .hbm, ⟨31, _⟩ => ⟨S4x4112x8192, .f32⟩
  | .hbm, ⟨32, _⟩ => ⟨S4x4112x2048, .f32⟩
  | .hbm, ⟨33, _⟩ => ⟨S4x4112x2048, .f32⟩
  | .hbm, ⟨34, _⟩ => ⟨S2048, .f32⟩
  | .hbm, ⟨35, _⟩ => ⟨S4x4112x2048, .f32⟩
  | .hbm, ⟨36, _⟩ => ⟨S_, .f32⟩
  | .hbm, ⟨37, _⟩ => ⟨S4x4112, .f32⟩
  | .hbm, ⟨38, _⟩ => ⟨S4x4112x1, .f32⟩
  | .hbm, ⟨39, _⟩ => ⟨S_, .f32⟩
  | .hbm, ⟨40, _⟩ => ⟨S4x4112x1, .f32⟩
  | .hbm, ⟨41, _⟩ => ⟨S4x4112x1, .f32⟩
  | .hbm, ⟨42, _⟩ => ⟨S_, .f32⟩
  | .hbm, ⟨43, _⟩ => ⟨S4x4112x1, .f32⟩
  | .hbm, ⟨44, _⟩ => ⟨S4x4112x1, .f32⟩
  | .hbm, ⟨45, _⟩ => ⟨S4x4112x1, .f32⟩
  | .hbm, ⟨46, _⟩ => ⟨S4x4112x2048, .f32⟩
  | .hbm, ⟨47, _⟩ => ⟨S4x4112x2048, .f32⟩
  | .hbm, ⟨48, _⟩ => ⟨S1x1x2048, .f32⟩
  | .hbm, ⟨49, _⟩ => ⟨S4x4112x2048, .f32⟩
  | .hbm, ⟨50, _⟩ => ⟨S4x4112x2048, .f32⟩
  | .hbm, ⟨51, _⟩ => ⟨S4x4096x2048, .f32⟩
  | _, _ => ⟨S4x4160x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_call0_cst : Ref sig .tc := ⟨.hbm, 28, rfl⟩
abbrev main_call0_v0 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_2 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Kernel3.lean ====
abbrev S16640x2048 : Shape := ⟨2, ![16640, 2048]⟩
abbrev S1x2048 : Shape := ⟨2, ![1, 2048]⟩
abbrev S1x2048x8192 : Shape := ⟨3, ![1, 2048, 8192]⟩
abbrev S1x8192x2048 : Shape := ⟨3, ![1, 8192, 2048]⟩
abbrev S2x6160x2048 : Shape := ⟨3, ![2, 6160, 2048]⟩
abbrev S2x2048x2048 : Shape := ⟨3, ![2, 2048, 2048]⟩
abbrev S4x2048x8192 : Shape := ⟨3, ![4, 2048, 8192]⟩
abbrev S4x8192x2048 : Shape := ⟨3, ![4, 8192, 2048]⟩
abbrev S1x6160x2048 : Shape := ⟨3, ![1, 6160, 2048]⟩
abbrev S1x2048x2048 : Shape := ⟨3, ![1, 2048, 2048]⟩
abbrev S832x2048 : Shape := ⟨2, ![832, 2048]⟩
abbrev S1x2048x1024 : Shape := ⟨3, ![1, 2048, 1024]⟩
abbrev S1x1024x2048 : Shape := ⟨3, ![1, 1024, 2048]⟩
abbrev S1x80x2048 : Shape := ⟨3, ![1, 80, 2048]⟩
abbrev S1x16x2048 : Shape := ⟨3, ![1, 16, 2048]⟩
abbrev S1x16x8192 : Shape := ⟨3, ![1, 16, 8192]⟩
abbrev S1x64x2048 : Shape := ⟨3, ![1, 64, 2048]⟩
abbrev S832 : Shape := ⟨1, ![832]⟩
abbrev S832x1 : Shape := ⟨2, ![832, 1]⟩
abbrev S2048x1024 : Shape := ⟨2, ![2048, 1024]⟩
abbrev S832x1024 : Shape := ⟨2, ![832, 1024]⟩
abbrev S1024x2048 : Shape := ⟨2, ![1024, 2048]⟩
abbrev S80x2048 : Shape := ⟨2, ![80, 2048]⟩
abbrev S16x2048 : Shape := ⟨2, ![16, 2048]⟩
abbrev S16x8192 : Shape := ⟨2, ![16, 8192]⟩
abbrev S64x2048 : Shape := ⟨2, ![64, 2048]⟩

abbrev nBuf : Space → Nat
  | .hbm => 14
  | .vmem => 27
  | .smem => 0
  | _ => 0

abbrev bufTy : (tb : Table) → Fin (tcTables nBuf tb) → BufTy
  | .hbm, ⟨0, _⟩ => ⟨S16640x2048, .f32⟩
  | .hbm, ⟨1, _⟩ => ⟨S1x2048, .f32⟩
  | .hbm, ⟨2, _⟩ => ⟨S1x2048x8192, .bf16⟩
  | .hbm, ⟨3, _⟩ => ⟨S1x8192x2048, .bf16⟩
  | .hbm, ⟨4, _⟩ => ⟨S1x2048, .f32⟩
  | .hbm, ⟨5, _⟩ => ⟨S2x6160x2048, .f32⟩
  | .hbm, ⟨6, _⟩ => ⟨S2x2048x2048, .f32⟩
  | .hbm, ⟨7, _⟩ => ⟨S4x2048x8192, .f32⟩
  | .hbm, ⟨8, _⟩ => ⟨S4x8192x2048, .f32⟩
  | .hbm, ⟨9, _⟩ => ⟨S16640x2048, .f32⟩
  | .hbm, ⟨10, _⟩ => ⟨S1x6160x2048, .bf16⟩
  | .hbm, ⟨11, _⟩ => ⟨S1x2048x2048, .bf16⟩
  | .hbm, ⟨12, _⟩ => ⟨S1x2048x8192, .bf16⟩
  | .hbm, ⟨13, _⟩ => ⟨S1x8192x2048, .bf16⟩
  | .local _ .vmem, ⟨0, _⟩ => ⟨S832x2048, .f32⟩
  | .local _ .vmem, ⟨1, _⟩ => ⟨S832x2048, .f32⟩
  | .local _ .vmem, ⟨2, _⟩ => ⟨S1x2048, .f32⟩
  | .local _ .vmem, ⟨3, _⟩ => ⟨S1x2048x1024, .bf16⟩
  | .local _ .vmem, ⟨4, _⟩ => ⟨S1x2048x1024, .bf16⟩
  | .local _ .vmem, ⟨5, _⟩ => ⟨S1x1024x2048, .bf16⟩
  | .local _ .vmem, ⟨6, _⟩ => ⟨S1x1024x2048, .bf16⟩
  | .local _ .vmem, ⟨7, _⟩ => ⟨S1x2048, .f32⟩
  | .local _ .vmem, ⟨8, _⟩ => ⟨S1x80x2048, .f32⟩
  | .local _ .vmem, ⟨9, _⟩ => ⟨S1x80x2048, .f32⟩
  | .local _ .vmem, ⟨10, _⟩ => ⟨S1x16x2048, .f32⟩
  | .local _ .vmem, ⟨11, _⟩ => ⟨S1x16x2048, .f32⟩
  | .local _ .vmem, ⟨12, _⟩ => ⟨S1x16x8192, .f32⟩
  | .local _ .vmem, ⟨13, _⟩ => ⟨S1x16x8192, .f32⟩
  | .local _ .vmem, ⟨14, _⟩ => ⟨S1x64x2048, .f32⟩
  | .local _ .vmem, ⟨15, _⟩ => ⟨S1x64x2048, .f32⟩
  | .local _ .vmem, ⟨16, _⟩ => ⟨S832x2048, .f32⟩
  | .local _ .vmem, ⟨17, _⟩ => ⟨S832x2048, .f32⟩
  | .local _ .vmem, ⟨18, _⟩ => ⟨S1x80x2048, .bf16⟩
  | .local _ .vmem, ⟨19, _⟩ => ⟨S1x80x2048, .bf16⟩
  | .local _ .vmem, ⟨20, _⟩ => ⟨S1x16x2048, .bf16⟩
  | .local _ .vmem, ⟨21, _⟩ => ⟨S1x16x2048, .bf16⟩
  | .local _ .vmem, ⟨22, _⟩ => ⟨S1x16x8192, .bf16⟩
  | .local _ .vmem, ⟨23, _⟩ => ⟨S1x16x8192, .bf16⟩
  | .local _ .vmem, ⟨24, _⟩ => ⟨S1x64x2048, .bf16⟩
  | .local _ .vmem, ⟨25, _⟩ => ⟨S1x64x2048, .bf16⟩
  | .local _ .vmem, ⟨26, _⟩ => ⟨S832x2048, .bf16⟩
  | _, _ => ⟨S16640x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_scratch0 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25

abbrev nD : Nat := 1
abbrev τ : Topo := Topo.v7x

variable {F : FTy → Type} [FloatOps F]

abbrev grid0 : Pipeline.Grid := ⟨2, ![20, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c76_i32 : BitVec 32 := 76#32
  let v2 : BitVec 32 := Scalar.minsi v1 c76_i32
  let c0_i32 : BitVec 32 := 0#32
  let c0_i32_0 : BitVec 32 := 0#32
  let c0_i32_1 : BitVec 32 := 0#32
  ![c0_i32.toNat, v2.toNat, c0_i32_0.toNat]

def cc0_transform_6 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  let c0_i32_1 : BitVec 32 := 0#32
  ![c0_i32.toNat, v2.toNat, c0_i32_0.toNat]

def cc0_transform_7 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c127_i32 : BitVec 32 := 127#32
  let v2 : BitVec 32 := Scalar.minsi v1 c127_i32
  let c1_i32 : BitVec 32 := 1#32
  let c0_i32 : BitVec 32 := 0#32
  let c0_i32_0 : BitVec 32 := 0#32
  ![c1_i32.toNat, v2.toNat, c0_i32.toNat]

def cc0_transform_8 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c127_i32 : BitVec 32 := 127#32
  let v2 : BitVec 32 := Scalar.minsi v1 c127_i32
  let c1_i32 : BitVec 32 := 1#32
  let c0_i32 : BitVec 32 := 0#32
  let c0_i32_0 : BitVec 32 := 0#32
  ![c1_i32.toNat, v2.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c76_i32 : BitVec 32 := 76#32
  let v2 : BitVec 32 := Scalar.minsi v1 c76_i32
  let c0_i32 : BitVec 32 := 0#32
  let c0_i32_0 : BitVec 32 := 0#32
  let c0_i32_1 : BitVec 32 := 0#32
  ![c0_i32.toNat, v2.toNat, c0_i32_0.toNat]

def cc0_transform_11 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  let c0_i32_1 : BitVec 32 := 0#32
  ![c0_i32.toNat, v2.toNat, c0_i32_0.toNat]

def cc0_transform_12 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  let c0_i32_1 : BitVec 32 := 0#32
  ![c0_i32.toNat, v2.toNat, c0_i32_0.toNat]

def cc0_transform_13 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  let c0_i32_1 : BitVec 32 := 0#32
  ![c0_i32.toNat, v2.toNat, c0_i32_0.toNat]

abbrev stage0_0 : Fin 2 → Memref sig .tc .vmem S832x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x80x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x16x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x16x8192 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x64x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S832x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x80x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x16x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x16x8192 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x64x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Reference3Ideal.lean ====
abbrev S16640x2048 : Shape := ⟨2, ![16640, 2048]⟩
abbrev S1x2048 : Shape := ⟨2, ![1, 2048]⟩
abbrev S1x2048x8192 : Shape := ⟨3, ![1, 2048, 8192]⟩
abbrev S1x8192x2048 : Shape := ⟨3, ![1, 8192, 2048]⟩
abbrev S2x6160x2048 : Shape := ⟨3, ![2, 6160, 2048]⟩
abbrev S2x2048x2048 : Shape := ⟨3, ![2, 2048, 2048]⟩
abbrev S4x2048x8192 : Shape := ⟨3, ![4, 2048, 8192]⟩
abbrev S4x8192x2048 : Shape := ⟨3, ![4, 8192, 2048]⟩
abbrev S2048 : Shape := ⟨1, ![2048]⟩
abbrev S_ : Shape := ⟨0, ![]⟩
abbrev S16640 : Shape := ⟨1, ![16640]⟩
abbrev S16640x1 : Shape := ⟨2, ![16640, 1]⟩
abbrev S2048x8192 : Shape := ⟨2, ![2048, 8192]⟩
abbrev S8192x2048 : Shape := ⟨2, ![8192, 2048]⟩
abbrev S16640x8192 : Shape := ⟨2, ![16640, 8192]⟩
abbrev S1x6160x2048 : Shape := ⟨3, ![1, 6160, 2048]⟩
abbrev S1x2048x2048 : Shape := ⟨3, ![1, 2048, 2048]⟩

abbrev nBuf : Space → Nat
  | .hbm => 45
  | .vmem => 0
  | .smem => 0
  | _ => 0

abbrev bufTy : (tb : Table) → Fin (tcTables nBuf tb) → BufTy
  | .hbm, ⟨0, _⟩ => ⟨S16640x2048, .f32⟩
  | .hbm, ⟨1, _⟩ => ⟨S1x2048, .f32⟩
  | .hbm, ⟨2, _⟩ => ⟨S1x2048x8192, .bf16⟩
  | .hbm, ⟨3, _⟩ => ⟨S1x8192x2048, .bf16⟩
  | .hbm, ⟨4, _⟩ => ⟨S1x2048, .f32⟩
  | .hbm, ⟨5, _⟩ => ⟨S2x6160x2048, .f32⟩
  | .hbm, ⟨6, _⟩ => ⟨S2x2048x2048, .f32⟩
  | .hbm, ⟨7, _⟩ => ⟨S4x2048x8192, .f32⟩
  | .hbm, ⟨8, _⟩ => ⟨S4x8192x2048, .f32⟩
  | .hbm, ⟨9, _⟩ => ⟨S2048, .f32⟩
  | .hbm, ⟨10, _⟩ => ⟨S16640x2048, .f32⟩
  | .hbm, ⟨11, _⟩ => ⟨S_, .f32⟩
  | .hbm, ⟨12, _⟩ => ⟨S16640, .f32⟩
  | .hbm, ⟨13, _⟩ => ⟨S16640x1, .f32⟩
  | .hbm, ⟨14, _⟩ => ⟨S_, .f32⟩
  | .hbm, ⟨15, _⟩ => ⟨S16640x1, .f32⟩
  | .hbm, ⟨16, _⟩ => ⟨S16640x1, .f32⟩
  | .hbm, ⟨17, _⟩ => ⟨S_, .f32⟩
  | .hbm, ⟨18, _⟩ => ⟨S16640x1, .f32⟩
  | .hbm, ⟨19, _⟩ => ⟨S16640x1, .f32⟩
  | .hbm, ⟨20, _⟩ => ⟨S16640x1, .f32⟩
  | .hbm, ⟨21, _⟩ => ⟨S16640x2048, .f32⟩
  | .hbm, ⟨22, _⟩ => ⟨S16640x2048, .f32⟩
  | .hbm, ⟨23, _⟩ => ⟨S1x2048, .f32⟩
  | .hbm, ⟨24, _⟩ => ⟨S16640x2048, .f32⟩
  | .hbm, ⟨25, _⟩ => ⟨S16640x2048, .f32⟩
  | .hbm, ⟨26, _⟩ => ⟨S2048x8192, .bf16⟩
  | .hbm, ⟨27, _⟩ => ⟨S2048x8192, .f32⟩
  | .hbm, ⟨28, _⟩ => ⟨S8192x2048, .bf16⟩
  | .hbm, ⟨29, _⟩ => ⟨S8192x2048, .f32⟩
  | .hbm, ⟨30, _⟩ => ⟨S16640x8192, .f32⟩
  | .hbm, ⟨31, _⟩ => ⟨S_, .f32⟩
  | .hbm, ⟨32, _⟩ => ⟨S16640x8192, .f32⟩
  | .hbm, ⟨33, _⟩ => ⟨S16640x8192, .f32⟩
  | .hbm, ⟨34, _⟩ => ⟨S16640x8192, .f32⟩
  | .hbm, ⟨35, _⟩ => ⟨S16640x2048, .f32⟩
  | .hbm, ⟨36, _⟩ => ⟨S16640x2048, .f32⟩
  | .hbm, ⟨37, _⟩ => ⟨S1x6160x2048, .f32⟩
  | .hbm, ⟨38, _⟩ => ⟨S1x6160x2048, .bf16⟩
  | .hbm, ⟨39, _⟩ => ⟨S1x2048x2048, .f32⟩
  | .hbm, ⟨40, _⟩ => ⟨S1x2048x2048, .bf16⟩
  | .hbm, ⟨41, _⟩ => ⟨S1x2048x8192, .f32⟩
  | .hbm, ⟨42, _⟩ => ⟨S1x2048x8192, .bf16⟩
  | .hbm, ⟨43, _⟩ => ⟨S1x8192x2048, .f32⟩
  | .hbm, ⟨44, _⟩ => ⟨S1x8192x2048, .bf16⟩
  | _, _ => ⟨S16640x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_call0_cst : Ref sig .tc := ⟨.hbm, 31, rfl⟩
abbrev main_call0_v0 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩

abbrev nD : Nat := 1
abbrev τ : Topo := Topo.v7x

variable {F : FTy → Type} [FloatOps F]
-- ==== Kernel4.lean ====
abbrev S16x16640x128 : Shape := ⟨3, ![16, 16640, 128]⟩
abbrev S1x2048x2048 : Shape := ⟨3, ![1, 2048, 2048]⟩
abbrev S16640x2048 : Shape := ⟨2, ![16640, 2048]⟩
abbrev S16x640x128 : Shape := ⟨3, ![16, 640, 128]⟩
abbrev S640x2048 : Shape := ⟨2, ![640, 2048]⟩
abbrev S1x640x128 : Shape := ⟨3, ![1, 640, 128]⟩
abbrev S640x128 : Shape := ⟨2, ![640, 128]⟩
abbrev S2048x2048 : Shape := ⟨2, ![2048, 2048]⟩

abbrev nBuf : Space → Nat
  | .hbm => 4
  | .vmem => 7
  | .smem => 0
  | _ => 0

abbrev bufTy : (tb : Table) → Fin (tcTables nBuf tb) → BufTy
  | .hbm, ⟨0, _⟩ => ⟨S16x16640x128, .bf16⟩
  | .hbm, ⟨1, _⟩ => ⟨S1x2048x2048, .bf16⟩
  | .hbm, ⟨2, _⟩ => ⟨S16640x2048, .f32⟩
  | .hbm, ⟨3, _⟩ => ⟨S16640x2048, .f32⟩
  | .local _ .vmem, ⟨0, _⟩ => ⟨S16x640x128, .bf16⟩
  | .local _ .vmem, ⟨1, _⟩ => ⟨S16x640x128, .bf16⟩
  | .local _ .vmem, ⟨2, _⟩ => ⟨S1x2048x2048, .bf16⟩
  | .local _ .vmem, ⟨3, _⟩ => ⟨S640x2048, .f32⟩
  | .local _ .vmem, ⟨4, _⟩ => ⟨S640x2048, .f32⟩
  | .local _ .vmem, ⟨5, _⟩ => ⟨S640x2048, .f32⟩
  | .local _ .vmem, ⟨6, _⟩ => ⟨S640x2048, .f32⟩
  | _, _ => ⟨S16x16640x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![26], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x640x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S640x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S640x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference4Ideal.lean ====
abbrev S16x16640x128 : Shape := ⟨3, ![16, 16640, 128]⟩
abbrev S1x2048x2048 : Shape := ⟨3, ![1, 2048, 2048]⟩
abbrev S16640x2048 : Shape := ⟨2, ![16640, 2048]⟩
abbrev S16640x16x128 : Shape := ⟨3, ![16640, 16, 128]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S16x16640x128, .bf16⟩
  | .hbm, ⟨1, _⟩ => ⟨S1x2048x2048, .bf16⟩
  | .hbm, ⟨2, _⟩ => ⟨S16640x2048, .f32⟩
  | .hbm, ⟨3, _⟩ => ⟨S16x16640x128, .f32⟩
  | .hbm, ⟨4, _⟩ => ⟨S16640x16x128, .f32⟩
  | .hbm, ⟨5, _⟩ => ⟨S16640x2048, .f32⟩
  | .hbm, ⟨6, _⟩ => ⟨S2048x2048, .bf16⟩
  | .hbm, ⟨7, _⟩ => ⟨S2048x2048, .f32⟩
  | .hbm, ⟨8, _⟩ => ⟨S16640x2048, .f32⟩
  | .hbm, ⟨9, _⟩ => ⟨S16640x2048, .f32⟩
  | _, _ => ⟨S16x16640x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel5.lean ====
abbrev S16640x2048 : Shape := ⟨2, ![16640, 2048]⟩
abbrev S1x2048x2048 : Shape := ⟨3, ![1, 2048, 2048]⟩
abbrev S640x2048 : Shape := ⟨2, ![640, 2048]⟩
abbrev S2048x2048 : Shape := ⟨2, ![2048, 2048]⟩

abbrev nBuf : Space → Nat
  | .hbm => 4
  | .vmem => 7
  | .smem => 0
  | _ => 0

abbrev bufTy : (tb : Table) → Fin (tcTables nBuf tb) → BufTy
  | .hbm, ⟨0, _⟩ => ⟨S16640x2048, .bf16⟩
  | .hbm, ⟨1, _⟩ => ⟨S1x2048x2048, .bf16⟩
  | .hbm, ⟨2, _⟩ => ⟨S16640x2048, .f32⟩
  | .hbm, ⟨3, _⟩ => ⟨S16640x2048, .f32⟩
  | .local _ .vmem, ⟨0, _⟩ => ⟨S640x2048, .bf16⟩
  | .local _ .vmem, ⟨1, _⟩ => ⟨S640x2048, .bf16⟩
  | .local _ .vmem, ⟨2, _⟩ => ⟨S1x2048x2048, .bf16⟩
  | .local _ .vmem, ⟨3, _⟩ => ⟨S640x2048, .f32⟩
  | .local _ .vmem, ⟨4, _⟩ => ⟨S640x2048, .f32⟩
  | .local _ .vmem, ⟨5, _⟩ => ⟨S640x2048, .f32⟩
  | .local _ .vmem, ⟨6, _⟩ => ⟨S640x2048, .f32⟩
  | _, _ => ⟨S16640x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![26], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S640x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S640x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S640x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference5Ideal.lean ====
abbrev S16640x2048 : Shape := ⟨2, ![16640, 2048]⟩
abbrev S1x2048x2048 : Shape := ⟨3, ![1, 2048, 2048]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S16640x2048, .bf16⟩
  | .hbm, ⟨1, _⟩ => ⟨S1x2048x2048, .bf16⟩
  | .hbm, ⟨2, _⟩ => ⟨S16640x2048, .f32⟩
  | .hbm, ⟨3, _⟩ => ⟨S16640x2048, .f32⟩
  | .hbm, ⟨4, _⟩ => ⟨S2048x2048, .bf16⟩
  | .hbm, ⟨5, _⟩ => ⟨S2048x2048, .f32⟩
  | .hbm, ⟨6, _⟩ => ⟨S16640x2048, .f32⟩
  | .hbm, ⟨7, _⟩ => ⟨S16640x2048, .f32⟩
  | _, _ => ⟨S16640x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel6.lean ====
abbrev S4x4160x2048 : Shape := ⟨3, ![4, 4160, 2048]⟩
abbrev S1x2048 : Shape := ⟨2, ![1, 2048]⟩
abbrev S6x2048 : Shape := ⟨2, ![6, 2048]⟩
abbrev S1x3x2048x2048 : Shape := ⟨4, ![1, 3, 2048, 2048]⟩
abbrev S3x16x16640x128 : Shape := ⟨4, ![3, 16, 16640, 128]⟩
abbrev S1x208x2048 : Shape := ⟨3, ![1, 208, 2048]⟩
abbrev S1x8x2048 : Shape := ⟨3, ![1, 8, 2048]⟩
abbrev S3x16x208x128 : Shape := ⟨4, ![3, 16, 208, 128]⟩
abbrev S208x2048 : Shape := ⟨2, ![208, 2048]⟩
abbrev S208 : Shape := ⟨1, ![208]⟩
abbrev S208x1 : Shape := ⟨2, ![208, 1]⟩
abbrev S8x2048 : Shape := ⟨2, ![8, 2048]⟩
abbrev S8 : Shape := ⟨1, ![8]⟩
abbrev S8x1 : Shape := ⟨2, ![8, 1]⟩
abbrev S1x1x2048x2048 : Shape := ⟨4, ![1, 1, 2048, 2048]⟩
abbrev S2048x2048 : Shape := ⟨2, ![2048, 2048]⟩
abbrev S208x128 : Shape := ⟨2, ![208, 128]⟩
abbrev S1x1x208x128 : Shape := ⟨4, ![1, 1, 208, 128]⟩

abbrev nBuf : Space → Nat
  | .hbm => 5
  | .vmem => 9
  | .smem => 0
  | _ => 0

abbrev bufTy : (tb : Table) → Fin (tcTables nBuf tb) → BufTy
  | .hbm, ⟨0, _⟩ => ⟨S4x4160x2048, .f32⟩
  | .hbm, ⟨1, _⟩ => ⟨S1x2048, .f32⟩
  | .hbm, ⟨2, _⟩ => ⟨S6x2048, .f32⟩
  | .hbm, ⟨3, _⟩ => ⟨S1x3x2048x2048, .bf16⟩
  | .hbm, ⟨4, _⟩ => ⟨S3x16x16640x128, .f32⟩
  | .local _ .vmem, ⟨0, _⟩ => ⟨S1x208x2048, .f32⟩
  | .local _ .vmem, ⟨1, _⟩ => ⟨S1x208x2048, .f32⟩
  | .local _ .vmem, ⟨2, _⟩ => ⟨S1x8x2048, .f32⟩
  | .local _ .vmem, ⟨3, _⟩ => ⟨S1x8x2048, .f32⟩
  | .local _ .vmem, ⟨4, _⟩ => ⟨S1x2048, .f32⟩
  | .local _ .vmem, ⟨5, _⟩ => ⟨S6x2048, .f32⟩
  | .local _ .vmem, ⟨6, _⟩ => ⟨S1x3x2048x2048, .bf16⟩
  | .local _ .vmem, ⟨7, _⟩ => ⟨S3x16x208x128, .f32⟩
  | .local _ .vmem, ⟨8, _⟩ => ⟨S3x16x208x128, .f32⟩
  | _, _ => ⟨S4x4160x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![4, 20], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c26_i32 : BitVec 32 := 26#32
  let v0 : BitVec 32 := Scalar.muli arg1 c26_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_5 (i : grid0.Coords) : Fin 4 → Nat :=
  let arg0 : BitVec 32 := BitVec.ofNat 32 (i 0).val
  let arg1 : BitVec 32 := BitVec.ofNat 32 (i 1).val
  let c20_i32 : BitVec 32 := 20#32
  let v0 : BitVec 32 := Scalar.muli arg0 c20_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![c0_i32.toNat, c0_i32_0.toNat, v1.toNat, c0_i32_1.toNat]

abbrev stage0_0 : Fin 2 → Memref sig .tc .vmem S1x208x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S6x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x3x2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S3x16x208x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference6Ideal.lean ====
abbrev S4x4160x2048 : Shape := ⟨3, ![4, 4160, 2048]⟩
abbrev S1x2048 : Shape := ⟨2, ![1, 2048]⟩
abbrev S6x2048 : Shape := ⟨2, ![6, 2048]⟩
abbrev S1x3x2048x2048 : Shape := ⟨4, ![1, 3, 2048, 2048]⟩
abbrev S2048 : Shape := ⟨1, ![2048]⟩
abbrev S_ : Shape := ⟨0, ![]⟩
abbrev S4x4160 : Shape := ⟨2, ![4, 4160]⟩
abbrev S4x4160x1 : Shape := ⟨3, ![4, 4160, 1]⟩
abbrev S1x1x2048 : Shape := ⟨3, ![1, 1, 2048]⟩
abbrev S4x4161x2048 : Shape := ⟨3, ![4, 4161, 2048]⟩
abbrev S1x1x2048x2048 : Shape := ⟨4, ![1, 1, 2048, 2048]⟩
abbrev S2048x2048 : Shape := ⟨2, ![2048, 2048]⟩
abbrev S1x4x4160x2048 : Shape := ⟨4, ![1, 4, 4160, 2048]⟩
abbrev S3x4x4160x2048 : Shape := ⟨4, ![3, 4, 4160, 2048]⟩
abbrev S3x16640x16x128 : Shape := ⟨4, ![3, 16640, 16, 128]⟩
abbrev S3x16x16640x128 : Shape := ⟨4, ![3, 16, 16640, 128]⟩

abbrev nBuf : Space → Nat
  | .hbm => 62
  | .vmem => 0
  | .smem => 0
  | _ => 0

abbrev bufTy : (tb : Table) → Fin (tcTables nBuf tb) → BufTy
  | .hbm, ⟨0, _⟩ => ⟨S4x4160x2048, .f32⟩
  | .hbm, ⟨1, _⟩ => ⟨S1x2048, .f32⟩
  | .hbm, ⟨2, _⟩ => ⟨S6x2048, .f32⟩
  | .hbm, ⟨3, _⟩ => ⟨S1x3x2048x2048, .bf16⟩
  | .hbm, ⟨4, _⟩ => ⟨S2048, .f32⟩
  | .hbm, ⟨5, _⟩ => ⟨S4x4160x2048, .f32⟩
  | .hbm, ⟨6, _⟩ => ⟨S_, .f32⟩
  | .hbm, ⟨7, _⟩ => ⟨S4x4160, .f32⟩
  | .hbm, ⟨8, _⟩ => ⟨S4x4160x1, .f32⟩
  | .hbm, ⟨9, _⟩ => ⟨S_, .f32⟩
  | .hbm, ⟨10, _⟩ => ⟨S4x4160x1, .f32⟩
  | .hbm, ⟨11, _⟩ => ⟨S4x4160x1, .f32⟩
  | .hbm, ⟨12, _⟩ => ⟨S_, .f32⟩
  | .hbm, ⟨13, _⟩ => ⟨S4x4160x1, .f32⟩
  | .hbm, ⟨14, _⟩ => ⟨S4x4160x1, .f32⟩
  | .hbm, ⟨15, _⟩ => ⟨S4x4160x1, .f32⟩
  | .hbm, ⟨16, _⟩ => ⟨S4x4160x2048, .f32⟩
  | .hbm, ⟨17, _⟩ => ⟨S4x4160x2048, .f32⟩
  | .hbm, ⟨18, _⟩ => ⟨S1x1x2048, .f32⟩
  | .hbm, ⟨19, _⟩ => ⟨S4x4160x2048, .f32⟩
  | .hbm, ⟨20, _⟩ => ⟨S4x4160x2048, .f32⟩
  | .hbm, ⟨21, _⟩ => ⟨S_, .i32⟩
  | .hbm, ⟨22, _⟩ => ⟨S_, .f32⟩
  | .hbm, ⟨23, _⟩ => ⟨S4x4161x2048, .f32⟩
  | .hbm, ⟨24, _⟩ => ⟨S4x4160x2048, .f32⟩
  | .hbm, ⟨25, _⟩ => ⟨S4x4160x2048, .f32⟩
  | .hbm, ⟨26, _⟩ => ⟨S1x2048, .f32⟩
  | .hbm, ⟨27, _⟩ => ⟨S2048, .f32⟩
  | .hbm, ⟨28, _⟩ => ⟨S1x1x2048, .f32⟩
  | .hbm, ⟨29, _⟩ => ⟨S4x4160x2048, .f32⟩
  | .hbm, ⟨30, _⟩ => ⟨S4x4160x2048, .f32⟩
  | .hbm, ⟨31, _⟩ => ⟨S4x4160x2048, .f32⟩
  | .hbm, ⟨32, _⟩ => ⟨S1x2048, .f32⟩
  | .hbm, ⟨33, _⟩ => ⟨S2048, .f32⟩
  | .hbm, ⟨34, _⟩ => ⟨S1x1x2048, .f32⟩
  | .hbm, ⟨35, _⟩ => ⟨S4x4160x2048, .f32⟩
  | .hbm, ⟨36, _⟩ => ⟨S4x4160x2048, .f32⟩
  | .hbm, ⟨37, _⟩ => ⟨S4x4160x2048, .f32⟩
  | .hbm, ⟨38, _⟩ => ⟨S1x2048, .f32⟩
  | .hbm, ⟨39, _⟩ => ⟨S2048, .f32⟩
  | .hbm, ⟨40, _⟩ => ⟨S1x1x2048, .f32⟩
  | .hbm, ⟨41, _⟩ => ⟨S4x4160x2048, .f32⟩
  | .hbm, ⟨42, _⟩ => ⟨S4x4160x2048, .f32⟩
  | .hbm, ⟨43, _⟩ => ⟨S4x4160x2048, .f32⟩
  | .hbm, ⟨44, _⟩ => ⟨S1x1x2048x2048, .bf16⟩
  | .hbm, ⟨45, _⟩ => ⟨S2048x2048, .bf16⟩
  | .hbm, ⟨46, _⟩ => ⟨S2048x2048, .f32⟩
  | .hbm, ⟨47, _⟩ => ⟨S4x4160x2048, .f32⟩
  | .hbm, ⟨48, _⟩ => ⟨S1x1x2048x2048, .bf16⟩
  | .hbm, ⟨49, _⟩ => ⟨S2048x2048, .bf16⟩
  | .hbm, ⟨50, _⟩ => ⟨S2048x2048, .f32⟩
  | .hbm, ⟨51, _⟩ => ⟨S4x4160x2048, .f32⟩
  | .hbm, ⟨52, _⟩ => ⟨S1x1x2048x2048, .bf16⟩
  | .hbm, ⟨53, _⟩ => ⟨S2048x2048, .bf16⟩
  | .hbm, ⟨54, _⟩ => ⟨S2048x2048, .f32⟩
  | .hbm, ⟨55, _⟩ => ⟨S4x4160x2048, .f32⟩
  | .hbm, ⟨56, _⟩ => ⟨S1x4x4160x2048, .f32⟩
  | .hbm, ⟨57, _⟩ => ⟨S1x4x4160x2048, .f32⟩
  | .hbm, ⟨58, _⟩ => ⟨S1x4x4160x2048, .f32⟩
  | .hbm, ⟨59, _⟩ => ⟨S3x4x4160x2048, .f32⟩
  | .hbm, ⟨60, _⟩ => ⟨S3x16640x16x128, .f32⟩
  | .hbm, ⟨61, _⟩ => ⟨S3x16x16640x128, .f32⟩
  | _, _ => ⟨S4x4160x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c : Ref sig .tc := ⟨.hbm, 21, rfl⟩
abbrev main_call0_v0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩

abbrev nD : Nat := 1
abbrev τ : Topo := Topo.v7x

variable {F : FTy → Type} [FloatOps F]
-- ==== Kernel7.lean ====
abbrev S16640x2048 : Shape := ⟨2, ![16640, 2048]⟩
abbrev S2048 : Shape := ⟨1, ![2048]⟩
abbrev S1x6160x2048 : Shape := ⟨3, ![1, 6160, 2048]⟩
abbrev S16x1024 : Shape := ⟨2, ![16, 1024]⟩
abbrev S1024 : Shape := ⟨1, ![1024]⟩
abbrev S1x2048 : Shape := ⟨2, ![1, 2048]⟩
abbrev S1x16x2048 : Shape := ⟨3, ![1, 16, 2048]⟩
abbrev S16x2048 : Shape := ⟨2, ![16, 2048]⟩
abbrev S2048x16 : Shape := ⟨2, ![2048, 16]⟩
abbrev S_ : Shape := ⟨0, ![]⟩
abbrev S2048x128 : Shape := ⟨2, ![2048, 128]⟩
abbrev S128x1024 : Shape := ⟨2, ![128, 1024]⟩
abbrev S1x1024 : Shape := ⟨2, ![1, 1024]⟩
abbrev S16640x6144 : Shape := ⟨2, ![16640, 6144]⟩
abbrev S16640x1024 : Shape := ⟨2, ![16640, 1024]⟩
abbrev S640x2048 : Shape := ⟨2, ![640, 2048]⟩
abbrev S1x2048x2048 : Shape := ⟨3, ![1, 2048, 2048]⟩
abbrev S640x1024 : Shape := ⟨2, ![640, 1024]⟩
abbrev S640 : Shape := ⟨1, ![640]⟩
abbrev S640x1 : Shape := ⟨2, ![640, 1]⟩
abbrev S640x128 : Shape := ⟨2, ![640, 128]⟩
abbrev S2048x2048 : Shape := ⟨2, ![2048, 2048]⟩

abbrev nBuf : Space → Nat
  | .hbm => 18
  | .vmem => 13
  | .smem => 0
  | _ => 0

abbrev bufTy : (tb : Table) → Fin (tcTables nBuf tb) → BufTy
  | .hbm, ⟨0, _⟩ => ⟨S16640x2048, .f32⟩
  | .hbm, ⟨1, _⟩ => ⟨S2048, .f32⟩
  | .hbm, ⟨2, _⟩ => ⟨S1x6160x2048, .bf16⟩
  | .hbm, ⟨3, _⟩ => ⟨S16x1024, .f32⟩
  | .hbm, ⟨4, _⟩ => ⟨S1024, .f32⟩
  | .hbm, ⟨5, _⟩ => ⟨S1x2048, .f32⟩
  | .hbm, ⟨6, _⟩ => ⟨S1x16x2048, .bf16⟩
  | .hbm, ⟨7, _⟩ => ⟨S16x2048, .bf16⟩
  | .hbm, ⟨8, _⟩ => ⟨S2048x16, .bf16⟩
  | .hbm, ⟨9, _⟩ => ⟨S_, .i32⟩
  | .hbm, ⟨10, _⟩ => ⟨S_, .bf16⟩
  | .hbm, ⟨11, _⟩ => ⟨S2048x128, .bf16⟩
  | .hbm, ⟨12, _⟩ => ⟨S_, .i32⟩
  | .hbm, ⟨13, _⟩ => ⟨S_, .f32⟩
  | .hbm, ⟨14, _⟩ => ⟨S128x1024, .f32⟩
  | .hbm, ⟨15, _⟩ => ⟨S1x1024, .f32⟩
  | .hbm, ⟨16, _⟩ => ⟨S16640x6144, .bf16⟩
  | .hbm, ⟨17, _⟩ => ⟨S16640x1024, .f32⟩
  | .local _ .vmem, ⟨0, _⟩ => ⟨S640x2048, .f32⟩
  | .local _ .vmem, ⟨1, _⟩ => ⟨S640x2048, .f32⟩
  | .local _ .vmem, ⟨2, _⟩ => ⟨S1x2048, .f32⟩
  | .local _ .vmem, ⟨3, _⟩ => ⟨S1x2048x2048, .bf16⟩
  | .local _ .vmem, ⟨4, _⟩ => ⟨S1x2048x2048, .bf16⟩
  | .local _ .vmem, ⟨5, _⟩ => ⟨S2048x128, .bf16⟩
  | .local _ .vmem, ⟨6, _⟩ => ⟨S128x1024, .f32⟩
  | .local _ .vmem, ⟨7, _⟩ => ⟨S1x1024, .f32⟩
  | .local _ .vmem, ⟨8, _⟩ => ⟨S640x2048, .bf16⟩
  | .local _ .vmem, ⟨9, _⟩ => ⟨S640x2048, .bf16⟩
  | .local _ .vmem, ⟨10, _⟩ => ⟨S640x1024, .f32⟩
  | .local _ .vmem, ⟨11, _⟩ => ⟨S640x1024, .f32⟩
  | .local _ .vmem, ⟨12, _⟩ => ⟨S640x2048, .bf16⟩
  | _, _ => ⟨S16640x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_v4 : Ref sig .tc := ⟨.hbm, 11, rfl⟩
abbrev main_c_0 : Ref sig .tc := ⟨.hbm, 12, rfl⟩
abbrev main_call1_v0 : Ref sig .tc := ⟨.hbm, 13, rfl⟩
abbrev main_v5 : Ref sig .tc := ⟨.hbm, 14, rfl⟩
abbrev main_v6 : Ref sig .tc := ⟨.hbm, 15, rfl⟩
abbrev main_v7_0 : Ref sig .tc := ⟨.hbm, 16, rfl⟩
abbrev main_v7_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![26, 3], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S640x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S2048x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S640x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S640x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference7Ideal.lean ====
abbrev S16640x2048 : Shape := ⟨2, ![16640, 2048]⟩
abbrev S2048 : Shape := ⟨1, ![2048]⟩
abbrev S1x6160x2048 : Shape := ⟨3, ![1, 6160, 2048]⟩
abbrev S16x1024 : Shape := ⟨2, ![16, 1024]⟩
abbrev S1024 : Shape := ⟨1, ![1024]⟩
abbrev S_ : Shape := ⟨0, ![]⟩
abbrev S16640 : Shape := ⟨1, ![16640]⟩
abbrev S16640x1 : Shape := ⟨2, ![16640, 1]⟩
abbrev S1x2048 : Shape := ⟨2, ![1, 2048]⟩
abbrev S6160x2048 : Shape := ⟨2, ![6160, 2048]⟩
abbrev S2048x6160 : Shape := ⟨2, ![2048, 6160]⟩
abbrev S16640x6160 : Shape := ⟨2, ![16640, 6160]⟩
abbrev S16640x16 : Shape := ⟨2, ![16640, 16]⟩
abbrev S16640x1024 : Shape := ⟨2, ![16640, 1024]⟩
abbrev S1x1024 : Shape := ⟨2, ![1, 1024]⟩
abbrev S16640x6144 : Shape := ⟨2, ![16640, 6144]⟩

abbrev nBuf : Space → Nat
  | .hbm => 51
  | .vmem => 0
  | .smem => 0
  | _ => 0

abbrev bufTy : (tb : Table) → Fin (tcTables nBuf tb) → BufTy
  | .hbm, ⟨0, _⟩ => ⟨S16640x2048, .f32⟩
  | .hbm, ⟨1, _⟩ => ⟨S2048, .f32⟩
  | .hbm, ⟨2, _⟩ => ⟨S1x6160x2048, .bf16⟩
  | .hbm, ⟨3, _⟩ => ⟨S16x1024, .f32⟩
  | .hbm, ⟨4, _⟩ => ⟨S1024, .f32⟩
  | .hbm, ⟨5, _⟩ => ⟨S16640x2048, .f32⟩
  | .hbm, ⟨6, _⟩ => ⟨S_, .f32⟩
  | .hbm, ⟨7, _⟩ => ⟨S16640, .f32⟩
  | .hbm, ⟨8, _⟩ => ⟨S16640x1, .f32⟩
  | .hbm, ⟨9, _⟩ => ⟨S_, .f32⟩
  | .hbm, ⟨10, _⟩ => ⟨S16640x1, .f32⟩
  | .hbm, ⟨11, _⟩ => ⟨S16640x1, .f32⟩
  | .hbm, ⟨12, _⟩ => ⟨S_, .f32⟩
  | .hbm, ⟨13, _⟩ => ⟨S16640x1, .f32⟩
  | .hbm, ⟨14, _⟩ => ⟨S16640x1, .f32⟩
  | .hbm, ⟨15, _⟩ => ⟨S16640x1, .f32⟩
  | .hbm, ⟨16, _⟩ => ⟨S16640x2048, .f32⟩
  | .hbm, ⟨17, _⟩ => ⟨S16640x2048, .f32⟩
  | .hbm, ⟨18, _⟩ => ⟨S1x2048, .f32⟩
  | .hbm, ⟨19, _⟩ => ⟨S16640x2048, .f32⟩
  | .hbm, ⟨20, _⟩ => ⟨S16640x2048, .f32⟩
  | .hbm, ⟨21, _⟩ => ⟨S6160x2048, .bf16⟩
  | .hbm, ⟨22, _⟩ => ⟨S6160x2048, .f32⟩
  | .hbm, ⟨23, _⟩ => ⟨S2048x6160, .f32⟩
  | .hbm, ⟨24, _⟩ => ⟨S16640x6160, .f32⟩
  | .hbm, ⟨25, _⟩ => ⟨S16640x16, .f32⟩
  | .hbm, ⟨26, _⟩ => ⟨S16640x1024, .f32⟩
  | .hbm, ⟨27, _⟩ => ⟨S1x1024, .f32⟩
  | .hbm, ⟨28, _⟩ => ⟨S16640x1024, .f32⟩
  | .hbm, ⟨29, _⟩ => ⟨S16640x1024, .f32⟩
  | .hbm, ⟨30, _⟩ => ⟨S16640x1024, .f32⟩
  | .hbm, ⟨31, _⟩ => ⟨S_, .f32⟩
  | .hbm, ⟨32, _⟩ => ⟨S16640x1024, .f32⟩
  | .hbm, ⟨33, _⟩ => ⟨S16640x1024, .f32⟩
  | .hbm, ⟨34, _⟩ => ⟨S16640x1024, .f32⟩
  | .hbm, ⟨35, _⟩ => ⟨S16640x1024, .f32⟩
  | .hbm, ⟨36, _⟩ => ⟨S16640x1024, .i1⟩
  | .hbm, ⟨37, _⟩ => ⟨S16640x1024, .f32⟩
  | .hbm, ⟨38, _⟩ => ⟨S16640x1024, .f32⟩
  | .hbm, ⟨39, _⟩ => ⟨S16640x1024, .f32⟩
  | .hbm, ⟨40, _⟩ => ⟨S16640x1024, .f32⟩
  | .hbm, ⟨41, _⟩ => ⟨S16640x1024, .f32⟩
  | .hbm, ⟨42, _⟩ => ⟨S16640x1024, .f32⟩
  | .hbm, ⟨43, _⟩ => ⟨S16640x1024, .f32⟩
  | .hbm, ⟨44, _⟩ => ⟨S16640x1024, .f32⟩
  | .hbm, ⟨45, _⟩ => ⟨S16640x1024, .f32⟩
  | .hbm, ⟨46, _⟩ => ⟨S_, .f32⟩
  | .hbm, ⟨47, _⟩ => ⟨S16640x1024, .f32⟩
  | .hbm, ⟨48, _⟩ => ⟨S16640x1024, .f32⟩
  | .hbm, ⟨49, _⟩ => ⟨S16640x6144, .f32⟩
  | .hbm, ⟨50, _⟩ => ⟨S16640x6144, .bf16⟩
  | _, _ => ⟨S16640x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_call0_v0 : Ref sig .tc := ⟨.hbm, 30, rfl⟩
abbrev main_call0_call0_cst : Ref sig .tc := ⟨.hbm, 31, rfl⟩
abbrev main_call0_call0_v0 : Ref sig .tc := ⟨.hbm, 32, rfl⟩
abbrev main_call0_call0_v1 : Ref sig .tc := ⟨.hbm, 33, rfl⟩
abbrev main_call0_call0_v2 : Ref sig .tc := ⟨.hbm, 34, rfl⟩
abbrev main_call0_call0_v3 : Ref sig .tc := ⟨.hbm, 35, rfl⟩
abbrev main_call0_call0_v4 : Ref sig .tc := ⟨.hbm, 36, rfl⟩
abbrev main_call0_call0_v5 : Ref sig .tc := ⟨.hbm, 37, rfl⟩
abbrev main_call0_call0_v6 : Ref sig .tc := ⟨.hbm, 38, rfl⟩
abbrev main_call0_call0_v7 : Ref sig .tc := ⟨.hbm, 39, rfl⟩
abbrev main_call0_call0_v8 : Ref sig .tc := ⟨.hbm, 40, rfl⟩
abbrev main_call0_call0_v9 : Ref sig .tc := ⟨.hbm, 41, rfl⟩
abbrev main_call0_call0_v10 : Ref sig .tc := ⟨.hbm, 42, rfl⟩
abbrev main_call0_call0_v11 : Ref sig .tc := ⟨.hbm, 43, rfl⟩
abbrev main_call0_v1 : Ref sig .tc := ⟨.hbm, 44, rfl⟩
abbrev main_v22 : Ref sig .tc := ⟨.hbm, 45, rfl⟩
abbrev main_cst_2 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩

abbrev nD : Nat := 1
abbrev τ : Topo := Topo.v7x

variable {F : FTy → Type} [FloatOps F]
-- ==== Kernel8.lean ====
abbrev S4x4160x2048 : Shape := ⟨3, ![4, 4160, 2048]⟩
abbrev S1x2048 : Shape := ⟨2, ![1, 2048]⟩
abbrev S6x2048 : Shape := ⟨2, ![6, 2048]⟩
abbrev S2048 : Shape := ⟨1, ![2048]⟩
abbrev S2048x96 : Shape := ⟨2, ![2048, 96]⟩
abbrev S96x2048 : Shape := ⟨2, ![96, 2048]⟩
abbrev S2048x256 : Shape := ⟨2, ![2048, 256]⟩
abbrev S256x2048 : Shape := ⟨2, ![256, 2048]⟩
abbrev S2048x64 : Shape := ⟨2, ![2048, 64]⟩
abbrev S64x2048 : Shape := ⟨2, ![64, 2048]⟩
abbrev S_ : Shape := ⟨0, ![]⟩
abbrev S2048x128 : Shape := ⟨2, ![2048, 128]⟩
abbrev S128x2048 : Shape := ⟨2, ![128, 2048]⟩
abbrev S16x16640x128 : Shape := ⟨3, ![16, 16640, 128]⟩
abbrev S1x416x2048 : Shape := ⟨3, ![1, 416, 2048]⟩
abbrev S1x8x2048 : Shape := ⟨3, ![1, 8, 2048]⟩
abbrev S16x416x128 : Shape := ⟨3, ![16, 416, 128]⟩
abbrev S416x2048 : Shape := ⟨2, ![416, 2048]⟩
abbrev S416 : Shape := ⟨1, ![416]⟩
abbrev S416x1 : Shape := ⟨2, ![416, 1]⟩
abbrev S8x2048 : Shape := ⟨2, ![8, 2048]⟩
abbrev S8 : Shape := ⟨1, ![8]⟩
abbrev S8x1 : Shape := ⟨2, ![8, 1]⟩
abbrev S416x128 : Shape := ⟨2, ![416, 128]⟩
abbrev S1x416x128 : Shape := ⟨3, ![1, 416, 128]⟩
abbrev S416x256 : Shape := ⟨2, ![416, 256]⟩

abbrev nBuf : Space → Nat
  | .hbm => 55
  | .vmem => 26
  | .smem => 0
  | _ => 0

abbrev bufTy : (tb : Table) → Fin (tcTables nBuf tb) → BufTy
  | .hbm, ⟨0, _⟩ => ⟨S4x4160x2048, .f32⟩
  | .hbm, ⟨1, _⟩ => ⟨S1x2048, .f32⟩
  | .hbm, ⟨2, _⟩ => ⟨S6x2048, .f32⟩
  | .hbm, ⟨3, _⟩ => ⟨S2048, .f32⟩
  | .hbm, ⟨4, _⟩ => ⟨S2048x96, .f32⟩
  | .hbm, ⟨5, _⟩ => ⟨S96x2048, .f32⟩
  | .hbm, ⟨6, _⟩ => ⟨S2048, .f32⟩
  | .hbm, ⟨7, _⟩ => ⟨S2048x96, .f32⟩
  | .hbm, ⟨8, _⟩ => ⟨S96x2048, .f32⟩
  | .hbm, ⟨9, _⟩ => ⟨S2048x256, .f32⟩
  | .hbm, ⟨10, _⟩ => ⟨S256x2048, .f32⟩
  | .hbm, ⟨11, _⟩ => ⟨S2048, .f32⟩
  | .hbm, ⟨12, _⟩ => ⟨S2048x64, .f32⟩
  | .hbm, ⟨13, _⟩ => ⟨S64x2048, .f32⟩
  | .hbm, ⟨14, _⟩ => ⟨S_, .i32⟩
  | .hbm, ⟨15, _⟩ => ⟨S_, .f32⟩
  | .hbm, ⟨16, _⟩ => ⟨S2048x128, .f32⟩
  | .hbm, ⟨17, _⟩ => ⟨S2048x128, .bf16⟩
  | .hbm, ⟨18, _⟩ => ⟨S_, .i32⟩
  | .hbm, ⟨19, _⟩ => ⟨S_, .f32⟩
  | .hbm, ⟨20, _⟩ => ⟨S128x2048, .f32⟩
  | .hbm, ⟨21, _⟩ => ⟨S128x2048, .bf16⟩
  | .hbm, ⟨22, _⟩ => ⟨S1x2048, .f32⟩
  | .hbm, ⟨23, _⟩ => ⟨S_, .i32⟩
  | .hbm, ⟨24, _⟩ => ⟨S_, .f32⟩
  | .hbm, ⟨25, _⟩ => ⟨S2048x128, .f32⟩
  | .hbm, ⟨26, _⟩ => ⟨S2048x128, .bf16⟩
  | .hbm, ⟨27, _⟩ => ⟨S_, .i32⟩
  | .hbm, ⟨28, _⟩ => ⟨S_, .f32⟩
  | .hbm, ⟨29, _⟩ => ⟨S128x2048, .f32⟩
  | .hbm, ⟨30, _⟩ => ⟨S128x2048, .bf16⟩
  | .hbm, ⟨31, _⟩ => ⟨S1x2048, .f32⟩
  | .hbm, ⟨32, _⟩ => ⟨S_, .i32⟩
  | .hbm, ⟨33, _⟩ => ⟨S_, .f32⟩
  | .hbm, ⟨34, _⟩ => ⟨S2048x256, .f32⟩
  | .hbm, ⟨35, _⟩ => ⟨S2048x256, .bf16⟩
  | .hbm, ⟨36, _⟩ => ⟨S_, .i32⟩
  | .hbm, ⟨37, _⟩ => ⟨S_, .f32⟩
  | .hbm, ⟨38, _⟩ => ⟨S256x2048, .f32⟩
  | .hbm, ⟨39, _⟩ => ⟨S256x2048, .bf16⟩
  | .hbm, ⟨40, _⟩ => ⟨S_, .f32⟩
  | .hbm, ⟨41, _⟩ => ⟨S1x2048, .f32⟩
  | .hbm, ⟨42, _⟩ => ⟨S_, .i32⟩
  | .hbm, ⟨43, _⟩ => ⟨S_, .f32⟩
  | .hbm, ⟨44, _⟩ => ⟨S2048x128, .f32⟩
  | .hbm, ⟨45, _⟩ => ⟨S2048x128, .bf16⟩
  | .hbm, ⟨46, _⟩ => ⟨S_, .i32⟩
  | .hbm, ⟨47, _⟩ => ⟨S_, .f32⟩
  | .hbm, ⟨48, _⟩ => ⟨S128x2048, .f32⟩
  | .hbm, ⟨49, _⟩ => ⟨S128x2048, .bf16⟩
  | .hbm, ⟨50, _⟩ => ⟨S1x2048, .f32⟩
  | .hbm, ⟨51, _⟩ => ⟨S16x16640x128, .f32⟩
  | .hbm, ⟨52, _⟩ => ⟨S16x16640x128, .f32⟩
  | .hbm, ⟨53, _⟩ => ⟨S16x16640x128, .f32⟩
  | .hbm, ⟨54, _⟩ => ⟨S16x16640x128, .f32⟩
  | .local _ .vmem, ⟨0, _⟩ => ⟨S1x416x2048, .f32⟩
  | .local _ .vmem, ⟨1, _⟩ => ⟨S1x416x2048, .f32⟩
  | .local _ .vmem, ⟨2, _⟩ => ⟨S1x8x2048, .f32⟩
  | .local _ .vmem, ⟨3, _⟩ => ⟨S1x8x2048, .f32⟩
  | .local _ .vmem, ⟨4, _⟩ => ⟨S1x2048, .f32⟩
  | .local _ .vmem, ⟨5, _⟩ => ⟨S6x2048, .f32⟩
  | .local _ .vmem, ⟨6, _⟩ => ⟨S2048x128, .bf16⟩
  | .local _ .vmem, ⟨7, _⟩ => ⟨S128x2048, .bf16⟩
  | .local _ .vmem, ⟨8, _⟩ => ⟨S1x2048, .f32⟩
  | .local _ .vmem, ⟨9, _⟩ => ⟨S2048x128, .bf16⟩
  | .local _ .vmem, ⟨10, _⟩ => ⟨S128x2048, .bf16⟩
  | .local _ .vmem, ⟨11, _⟩ => ⟨S1x2048, .f32⟩
  | .local _ .vmem, ⟨12, _⟩ => ⟨S2048x256, .bf16⟩
  | .local _ .vmem, ⟨13, _⟩ => ⟨S256x2048, .bf16⟩
  | .local _ .vmem, ⟨14, _⟩ => ⟨S1x2048, .f32⟩
  | .local _ .vmem, ⟨15, _⟩ => ⟨S2048x128, .bf16⟩
  | .local _ .vmem, ⟨16, _⟩ => ⟨S128x2048, .bf16⟩
  | .local _ .vmem, ⟨17, _⟩ => ⟨S1x2048, .f32⟩
  | .local _ .vmem, ⟨18, _⟩ => ⟨S16x416x128, .f32⟩
  | .local _ .vmem, ⟨19, _⟩ => ⟨S16x416x128, .f32⟩
  | .local _ .vmem, ⟨20, _⟩ => ⟨S16x416x128, .f32⟩
  | .local _ .vmem, ⟨21, _⟩ => ⟨S16x416x128, .f32⟩
  | .local _ .vmem, ⟨22, _⟩ => ⟨S16x416x128, .f32⟩
  | .local _ .vmem, ⟨23, _⟩ => ⟨S16x416x128, .f32⟩
  | .local _ .vmem, ⟨24, _⟩ => ⟨S16x416x128, .f32⟩
  | .local _ .vmem, ⟨25, _⟩ => ⟨S16x416x128, .f32⟩
  | _, _ => ⟨S4x4160x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_call0_v0 : Ref sig .tc := ⟨.hbm, 15, rfl⟩
abbrev main_v0 : Ref sig .tc := ⟨.hbm, 16, rfl⟩
abbrev main_v1 : Ref sig .tc := ⟨.hbm, 17, rfl⟩
abbrev main_c_0 : Ref sig .tc := ⟨.hbm, 18, rfl⟩
abbrev main_call1_v0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_c_1 : Ref sig .tc := ⟨.hbm, 23, rfl⟩
abbrev main_call2_v0 : Ref sig .tc := ⟨.hbm, 24, rfl⟩
abbrev main_v5 : Ref sig .tc := ⟨.hbm, 25, rfl⟩
abbrev main_v6 : Ref sig .tc := ⟨.hbm, 26, rfl⟩
abbrev main_c_2 : Ref sig .tc := ⟨.hbm, 27, rfl⟩
abbrev main_call3_v0 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_c_3 : Ref sig .tc := ⟨.hbm, 32, rfl⟩
abbrev main_call4_v0 : Ref sig .tc := ⟨.hbm, 33, rfl⟩
abbrev main_v10 : Ref sig .tc := ⟨.hbm, 34, rfl⟩
abbrev main_v11 : Ref sig .tc := ⟨.hbm, 35, rfl⟩
abbrev main_c_4 : Ref sig .tc := ⟨.hbm, 36, rfl⟩
abbrev main_call5_v0 : Ref sig .tc := ⟨.hbm, 37, rfl⟩
abbrev main_v12 : Ref sig .tc := ⟨.hbm, 38, rfl⟩
abbrev main_v13 : Ref sig .tc := ⟨.hbm, 39, rfl⟩
abbrev main_cst : Ref sig .tc := ⟨.hbm, 40, rfl⟩
abbrev main_v14 : Ref sig .tc := ⟨.hbm, 41, rfl⟩
abbrev main_c_5 : Ref sig .tc := ⟨.hbm, 42, rfl⟩
abbrev main_call6_v0 : Ref sig .tc := ⟨.hbm, 43, rfl⟩
abbrev main_v15 : Ref sig .tc := ⟨.hbm, 44, rfl⟩
abbrev main_v16 : Ref sig .tc := ⟨.hbm, 45, rfl⟩
abbrev main_c_6 : Ref sig .tc := ⟨.hbm, 46, rfl⟩
abbrev main_call7_v0 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20_0 : Ref sig .tc := ⟨.hbm, 51, rfl⟩
abbrev main_v20_1 : Ref sig .tc := ⟨.hbm, 52, rfl⟩
abbrev main_v20_2 : Ref sig .tc := ⟨.hbm, 53, rfl⟩
abbrev main_v20_3 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg16_1 : Ref sig .tc := ⟨.vmem, 19, rfl⟩
abbrev cc0_stg17_0 : Ref sig .tc := ⟨.vmem, 20, rfl⟩
abbrev cc0_stg17_1 : Ref sig .tc := ⟨.vmem, 21, rfl⟩
abbrev cc0_stg18_0 : Ref sig .tc := ⟨.vmem, 22, rfl⟩
abbrev cc0_stg18_1 : Ref sig .tc := ⟨.vmem, 23, rfl⟩
abbrev cc0_stg19_0 : Ref sig .tc := ⟨.vmem, 24, rfl⟩
abbrev cc0_stg19_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem16_1 : DmaSem sig := 19
abbrev cc0_sem17_0 : DmaSem sig := 20
abbrev cc0_sem17_1 : DmaSem sig := 21
abbrev cc0_sem18_0 : DmaSem sig := 22
abbrev cc0_sem18_1 : DmaSem sig := 23
abbrev cc0_sem19_0 : DmaSem sig := 24
abbrev cc0_sem19_1 : DmaSem sig := 25

abbrev nD : Nat := 1
abbrev τ : Topo := Topo.v7x

variable {F : FTy → Type} [FloatOps F]

abbrev grid0 : Pipeline.Grid := ⟨2, ![4, 10], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c52_i32 : BitVec 32 := 52#32
  let v0 : BitVec 32 := Scalar.muli arg1 c52_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_17 (i : grid0.Coords) : Fin 3 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_18 (i : grid0.Coords) : Fin 3 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_19 (i : grid0.Coords) : Fin 3 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

abbrev stage0_0 : Fin 2 → Memref sig .tc .vmem S1x416x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S6x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2048x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2048x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S2048x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S256x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S2048x128 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S128x2048 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x2048 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 2 → Memref sig .tc .vmem S16x416x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S16x416x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S16x416x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S16x416x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]
-- ==== Reference8Ideal.lean ====
abbrev S4x4160x2048 : Shape := ⟨3, ![4, 4160, 2048]⟩
abbrev S1x2048 : Shape := ⟨2, ![1, 2048]⟩
abbrev S6x2048 : Shape := ⟨2, ![6, 2048]⟩
abbrev S2048 : Shape := ⟨1, ![2048]⟩
abbrev S2048x96 : Shape := ⟨2, ![2048, 96]⟩
abbrev S96x2048 : Shape := ⟨2, ![96, 2048]⟩
abbrev S2048x256 : Shape := ⟨2, ![2048, 256]⟩
abbrev S256x2048 : Shape := ⟨2, ![256, 2048]⟩
abbrev S2048x64 : Shape := ⟨2, ![2048, 64]⟩
abbrev S64x2048 : Shape := ⟨2, ![64, 2048]⟩
abbrev S_ : Shape := ⟨0, ![]⟩
abbrev S4x4160 : Shape := ⟨2, ![4, 4160]⟩
abbrev S4x4160x1 : Shape := ⟨3, ![4, 4160, 1]⟩
abbrev S1x1x2048 : Shape := ⟨3, ![1, 1, 2048]⟩
abbrev S4x4161x2048 : Shape := ⟨3, ![4, 4161, 2048]⟩
abbrev S4x4160x96 : Shape := ⟨3, ![4, 4160, 96]⟩
abbrev S4x4160x256 : Shape := ⟨3, ![4, 4160, 256]⟩
abbrev S4x4160x64 : Shape := ⟨3, ![4, 4160, 64]⟩
abbrev S16640x16x128 : Shape := ⟨3, ![16640, 16, 128]⟩
abbrev S16x16640x128 : Shape := ⟨3, ![16, 16640, 128]⟩

abbrev nBuf : Space → Nat
  | .hbm => 96
  | .vmem => 0
  | .smem => 0
  | _ => 0

abbrev bufTy : (tb : Table) → Fin (tcTables nBuf tb) → BufTy
  | .hbm, ⟨0, _⟩ => ⟨S4x4160x2048, .f32⟩
  | .hbm, ⟨1, _⟩ => ⟨S1x2048, .f32⟩
  | .hbm, ⟨2, _⟩ => ⟨S6x2048, .f32⟩
  | .hbm, ⟨3, _⟩ => ⟨S2048, .f32⟩
  | .hbm, ⟨4, _⟩ => ⟨S2048x96, .f32⟩
  | .hbm, ⟨5, _⟩ => ⟨S96x2048, .f32⟩
  | .hbm, ⟨6, _⟩ => ⟨S2048, .f32⟩
  | .hbm, ⟨7, _⟩ => ⟨S2048x96, .f32⟩
  | .hbm, ⟨8, _⟩ => ⟨S96x2048, .f32⟩
  | .hbm, ⟨9, _⟩ => ⟨S2048x256, .f32⟩
  | .hbm, ⟨10, _⟩ => ⟨S256x2048, .f32⟩
  | .hbm, ⟨11, _⟩ => ⟨S2048, .f32⟩
  | .hbm, ⟨12, _⟩ => ⟨S2048x64, .f32⟩
  | .hbm, ⟨13, _⟩ => ⟨S64x2048, .f32⟩
  | .hbm, ⟨14, _⟩ => ⟨S2048, .f32⟩
  | .hbm, ⟨15, _⟩ => ⟨S4x4160x2048, .f32⟩
  | .hbm, ⟨16, _⟩ => ⟨S_, .f32⟩
  | .hbm, ⟨17, _⟩ => ⟨S4x4160, .f32⟩
  | .hbm, ⟨18, _⟩ => ⟨S4x4160x1, .f32⟩
  | .hbm, ⟨19, _⟩ => ⟨S_, .f32⟩
  | .hbm, ⟨20, _⟩ => ⟨S4x4160x1, .f32⟩
  | .hbm, ⟨21, _⟩ => ⟨S4x4160x1, .f32⟩
  | .hbm, ⟨22, _⟩ => ⟨S_, .f32⟩
  | .hbm, ⟨23, _⟩ => ⟨S4x4160x1, .f32⟩
  | .hbm, ⟨24, _⟩ => ⟨S4x4160x1, .f32⟩
  | .hbm, ⟨25, _⟩ => ⟨S4x4160x1, .f32⟩
  | .hbm, ⟨26, _⟩ => ⟨S4x4160x2048, .f32⟩
  | .hbm, ⟨27, _⟩ => ⟨S4x4160x2048, .f32⟩
  | .hbm, ⟨28, _⟩ => ⟨S1x1x2048, .f32⟩
  | .hbm, ⟨29, _⟩ => ⟨S4x4160x2048, .f32⟩
  | .hbm, ⟨30, _⟩ => ⟨S4x4160x2048, .f32⟩
  | .hbm, ⟨31, _⟩ => ⟨S_, .i32⟩
  | .hbm, ⟨32, _⟩ => ⟨S_, .f32⟩
  | .hbm, ⟨33, _⟩ => ⟨S4x4161x2048, .f32⟩
  | .hbm, ⟨34, _⟩ => ⟨S4x4160x2048, .f32⟩
  | .hbm, ⟨35, _⟩ => ⟨S4x4160x2048, .f32⟩
  | .hbm, ⟨36, _⟩ => ⟨S1x2048, .f32⟩
  | .hbm, ⟨37, _⟩ => ⟨S2048, .f32⟩
  | .hbm, ⟨38, _⟩ => ⟨S1x1x2048, .f32⟩
  | .hbm, ⟨39, _⟩ => ⟨S4x4160x2048, .f32⟩
  | .hbm, ⟨40, _⟩ => ⟨S4x4160x2048, .f32⟩
  | .hbm, ⟨41, _⟩ => ⟨S4x4160x2048, .f32⟩
  | .hbm, ⟨42, _⟩ => ⟨S1x2048, .f32⟩
  | .hbm, ⟨43, _⟩ => ⟨S2048, .f32⟩
  | .hbm, ⟨44, _⟩ => ⟨S1x1x2048, .f32⟩
  | .hbm, ⟨45, _⟩ => ⟨S4x4160x2048, .f32⟩
  | .hbm, ⟨46, _⟩ => ⟨S4x4160x2048, .f32⟩
  | .hbm, ⟨47, _⟩ => ⟨S4x4160x2048, .f32⟩
  | .hbm, ⟨48, _⟩ => ⟨S1x2048, .f32⟩
  | .hbm, ⟨49, _⟩ => ⟨S2048, .f32⟩
  | .hbm, ⟨50, _⟩ => ⟨S1x1x2048, .f32⟩
  | .hbm, ⟨51, _⟩ => ⟨S4x4160x2048, .f32⟩
  | .hbm, ⟨52, _⟩ => ⟨S4x4160x2048, .f32⟩
  | .hbm, ⟨53, _⟩ => ⟨S4x4160x2048, .f32⟩
  | .hbm, ⟨54, _⟩ => ⟨S4x4160x96, .f32⟩
  | .hbm, ⟨55, _⟩ => ⟨S4x4160x2048, .f32⟩
  | .hbm, ⟨56, _⟩ => ⟨S1x1x2048, .f32⟩
  | .hbm, ⟨57, _⟩ => ⟨S4x4160x2048, .f32⟩
  | .hbm, ⟨58, _⟩ => ⟨S4x4160x2048, .f32⟩
  | .hbm, ⟨59, _⟩ => ⟨S4x4160x2048, .f32⟩
  | .hbm, ⟨60, _⟩ => ⟨S4x4160x2048, .f32⟩
  | .hbm, ⟨61, _⟩ => ⟨S_, .f32⟩
  | .hbm, ⟨62, _⟩ => ⟨S4x4160x2048, .f32⟩
  | .hbm, ⟨63, _⟩ => ⟨S4x4160x2048, .f32⟩
  | .hbm, ⟨64, _⟩ => ⟨S_, .f32⟩
  | .hbm, ⟨65, _⟩ => ⟨S4x4160x2048, .f32⟩
  | .hbm, ⟨66, _⟩ => ⟨S4x4160x2048, .f32⟩
  | .hbm, ⟨67, _⟩ => ⟨S4x4160x256, .f32⟩
  | .hbm, ⟨68, _⟩ => ⟨S4x4160x256, .f32⟩
  | .hbm, ⟨69, _⟩ => ⟨S4x4160x256, .f32⟩
  | .hbm, ⟨70, _⟩ => ⟨S_, .f32⟩
  | .hbm, ⟨71, _⟩ => ⟨S4x4160x256, .f32⟩
  | .hbm, ⟨72, _⟩ => ⟨S4x4160x256, .f32⟩
  | .hbm, ⟨73, _⟩ => ⟨S_, .f32⟩
  | .hbm, ⟨74, _⟩ => ⟨S4x4160x256, .f32⟩
  | .hbm, ⟨75, _⟩ => ⟨S4x4160x256, .f32⟩
  | .hbm, ⟨76, _⟩ => ⟨S4x4160x2048, .f32⟩
  | .hbm, ⟨77, _⟩ => ⟨S4x4160x64, .f32⟩
  | .hbm, ⟨78, _⟩ => ⟨S4x4160x2048, .f32⟩
  | .hbm, ⟨79, _⟩ => ⟨S1x1x2048, .f32⟩
  | .hbm, ⟨80, _⟩ => ⟨S4x4160x2048, .f32⟩
  | .hbm, ⟨81, _⟩ => ⟨S4x4160x2048, .f32⟩
  | .hbm, ⟨82, _⟩ => ⟨S4x4160x2048, .f32⟩
  | .hbm, ⟨83, _⟩ => ⟨S4x4160x2048, .f32⟩
  | .hbm, ⟨84, _⟩ => ⟨S_, .f32⟩
  | .hbm, ⟨85, _⟩ => ⟨S4x4160x2048, .f32⟩
  | .hbm, ⟨86, _⟩ => ⟨S4x4160x2048, .f32⟩
  | .hbm, ⟨87, _⟩ => ⟨S_, .f32⟩
  | .hbm, ⟨88, _⟩ => ⟨S4x4160x2048, .f32⟩
  | .hbm, ⟨89, _⟩ => ⟨S4x4160x2048, .f32⟩
  | .hbm, ⟨90, _⟩ => ⟨S16640x16x128, .f32⟩
  | .hbm, ⟨91, _⟩ => ⟨S16x16640x128, .f32⟩
  | .hbm, ⟨92, _⟩ => ⟨S16640x16x128, .f32⟩
  | .hbm, ⟨93, _⟩ => ⟨S16x16640x128, .f32⟩
  | .hbm, ⟨94, _⟩ => ⟨S16640x16x128, .f32⟩
  | .hbm, ⟨95, _⟩ => ⟨S16x16640x128, .f32⟩
  | _, _ => ⟨S4x4160x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_cst : Ref sig .tc := ⟨.hbm, 16, rfl⟩
abbrev main_v2 : Ref sig .tc := ⟨.hbm, 17, rfl⟩
abbrev main_v3 : Ref sig .tc := ⟨.hbm, 18, rfl⟩
abbrev main_cst_0 : Ref sig .tc := ⟨.hbm, 19, rfl⟩
abbrev main_v4 : Ref sig .tc := ⟨.hbm, 20, rfl⟩
abbrev main_v5 : Ref sig .tc := ⟨.hbm, 21, rfl⟩
abbrev main_cst_1 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_c : Ref sig .tc := ⟨.hbm, 31, rfl⟩
abbrev main_call0_v0 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_2 : Ref sig .tc := ⟨.hbm, 61, rfl⟩
abbrev main_v42 : Ref sig .tc := ⟨.hbm, 62, rfl⟩
abbrev main_v43 : Ref sig .tc := ⟨.hbm, 63, rfl⟩
abbrev main_cst_3 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_4 : Ref sig .tc := ⟨.hbm, 70, rfl⟩
abbrev main_v49 : Ref sig .tc := ⟨.hbm, 71, rfl⟩
abbrev main_v50 : Ref sig .tc := ⟨.hbm, 72, rfl⟩
abbrev main_cst_5 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_6 : Ref sig .tc := ⟨.hbm, 84, rfl⟩
abbrev main_v61 : Ref sig .tc := ⟨.hbm, 85, rfl⟩
abbrev main_v62 : Ref sig .tc := ⟨.hbm, 86, rfl⟩
abbrev main_cst_7 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩

abbrev nD : Nat := 1
abbrev τ : Topo := Topo.v7x

variable {F : FTy → Type} [FloatOps F]
-- ==== Proof.Gla.Spec.lean ====
/-
  One chunk of gated linear attention over the extended reals, for a chunk of any number of rows:
  the running sum of the log forget gates, the scores, the outputs and the state handed on. Then
  three facts about it: the running sum may be taken of the gates and of their (vanishing) rounding
  rests; rows of zeros in front of a chunk that starts from the zero state change nothing; and the
  zero rows' own outputs are zero.
-/
module

public import Idealize.ShloMosaic.Lib.IdealHost
public import Idealize.ShloMosaic.Lib.Pointwise

@[expose] public section

noncomputable section

namespace Cert.Gla

open Idealize.ShloMosaic
open scoped BigOperators

section Chunk

variable {n : ℕ}

/-- The running sum of the log gates down the rows. -/
def cum (g : Fin n → Fin 256 → EReal) (i : Fin n) (d : Fin 256) : EReal := ∑ j : Fin n, if j ≤ i then g j d else 0

/-- The sum of all the rows' log gates. -/
def total (g : Fin n → Fin 256 → EReal) (d : Fin 256) : EReal := ∑ j : Fin n, g j d

/-- The causal scores of a chunk. -/
def score (q k g : Fin n → Fin 256 → EReal) (i j : Fin n) : EReal :=
  if j ≤ i then ∑ d : Fin 256, (q i d * Ideal.exp (cum g i d)) * (k j d * Ideal.exp (-(cum g j d))) else 0

/-- The chunk's outputs from the state `S` before it. -/
def out (q k g : Fin n → Fin 256 → EReal) (v : Fin n → Fin 512 → EReal) (S : Fin 256 → Fin 512 → EReal) (i : Fin n)
    (w : Fin 512) : EReal :=
  (∑ d : Fin 256, (q i d * Ideal.exp (cum g i d)) * S d w) + ∑ j : Fin n, score q k g i j * v j w

/-- The state after the chunk. -/
def next (k g : Fin n → Fin 256 → EReal) (v : Fin n → Fin 512 → EReal) (S : Fin 256 → Fin 512 → EReal) (d : Fin 256)
    (w : Fin 512) : EReal :=
  Ideal.exp (total g d) * S d w + ∑ j : Fin n, (k j d * Ideal.exp (total g d - cum g j d)) * v j w

end Chunk

/-! ## The running sum by two products -/

/-- A finite sum with a summand `⊥` is `⊥`. -/
theorem sum_eq_bot {ι : Type*} [DecidableEq ι] (s : Finset ι) (f : ι → EReal) {i : ι} (hi : i ∈ s) (h : f i = ⊥) :
    ∑ j ∈ s, f j = ⊥ := by
  rw [← Finset.add_sum_erase s f hi, h, EReal.bot_add]

/-- An extended real that is at most zero is `⊥` or a real number. -/
theorem nonpos_cases {x : EReal} (h : x ≤ 0) : x = ⊥ ∨ ∃ r : ℝ, x = (r : EReal) := by
  induction x with
  | bot => exact .inl rfl
  | coe r => exact .inr ⟨r, rfl⟩
  | top => exact absurd h (by simp)

/-- The masked sum of the gates plus the masked sum of their differences from themselves is the running sum. -/
theorem cum_split {n : ℕ} (g : Fin n → Fin 256 → EReal) (hg : ∀ j d, g j d ≤ 0) (i : Fin n) (d : Fin 256) :
    (∑ j : Fin n, (if j ≤ i then 1 else 0) * g j d) + (∑ j : Fin n, (if j ≤ i then 1 else 0) * (g j d - g j d))
      = cum g i d := by
  have e1 : (∑ j : Fin n, (if j ≤ i then (1 : EReal) else 0) * g j d) = cum g i d := by
    unfold cum
    refine Finset.sum_congr rfl fun j _ => ?_
    split <;> simp
  rw [e1]
  by_cases hb : ∃ j, j ≤ i ∧ g j d = ⊥
  · obtain ⟨j, hj, hjd⟩ := hb
    have : cum g i d = ⊥ := by
      unfold cum
      exact sum_eq_bot _ _ (Finset.mem_univ j) (by rw [if_pos hj, hjd])
    rw [this, EReal.bot_add]
  · have z : (∑ j : Fin n, (if j ≤ i then (1 : EReal) else 0) * (g j d - g j d)) = 0 := by
      refine Finset.sum_eq_zero fun j _ => ?_
      split
      · rename_i hj
        rcases nonpos_cases (hg j d) with h | ⟨r, h⟩
        · exact absurd ⟨j, hj, h⟩ hb
        · rw [h, ← EReal.coe_sub, sub_self, EReal.coe_zero, mul_zero]
      · exact zero_mul _
    rw [z, add_zero]

/-- The last row's running sum is the sum of all rows. -/
theorem cum_last {n : ℕ} (g : Fin (n + 1) → Fin 256 → EReal) (d : Fin 256) : cum g (Fin.last n) d = total g d := by
  unfold cum total
  exact Finset.sum_congr rfl fun j _ => if_pos (Fin.le_last j)

/-! ## Rows of zeros in front -/

section Front

variable {a n : ℕ}

/-- Rows of `x` behind `a` rows of zeros. -/
def behind {m : ℕ} (a : ℕ) {n : ℕ} (x : Fin n → Fin m → EReal) : Fin (a + n) → Fin m → EReal := Fin.append (fun _ _ => 0) x

theorem behind_low {m : ℕ} (x : Fin n → Fin m → EReal) (i : Fin a) (d : Fin m) : behind a x (Fin.castAdd n i) d = 0 := by
  unfold behind; rw [Fin.append_left]

theorem behind_high {m : ℕ} (x : Fin n → Fin m → EReal) (i : Fin n) (d : Fin m) : behind a x (Fin.natAdd a i) d = x i d := by
  unfold behind; rw [Fin.append_right]

theorem cum_behind (g : Fin n → Fin 256 → EReal) (i : Fin n) (d : Fin 256) :
    cum (behind a g) (Fin.natAdd a i) d = cum g i d := by
  unfold cum
  rw [Fin.sum_univ_add]
  simp only [behind_low, behind_high, ite_self, Finset.sum_const_zero, zero_add, Fin.natAdd_le_natAdd_iff]

theorem total_behind (g : Fin n → Fin 256 → EReal) (d : Fin 256) : total (behind a g) d = total g d := by
  unfold total
  rw [Fin.sum_univ_add]
  simp only [behind_low, behind_high, Finset.sum_const_zero, zero_add]

theorem score_behind (q k g : Fin n → Fin 256 → EReal) (i j : Fin n) :
    score (behind a q) (behind a k) (behind a g) (Fin.natAdd a i) (Fin.natAdd a j) = score q k g i j := by
  unfold score
  simp only [cum_behind, behind_high, Fin.natAdd_le_natAdd_iff]

/-- The outputs of the rows behind the zeros, from the zero state. -/
theorem out_behind (q k g : Fin n → Fin 256 → EReal) (v : Fin n → Fin 512 → EReal) (i : Fin n) (w : Fin 512) :
    out (behind a q) (behind a k) (behind a g) (behind a v) (fun _ _ => 0) (Fin.natAdd a i) w = out q k g v (fun _ _ => 0) i w := by
  unfold out
  rw [Fin.sum_univ_add]
  simp only [behind_low, behind_high, cum_behind, score_behind, mul_zero, Finset.sum_const_zero, zero_add]

/-- The zero rows' outputs are zero. -/
theorem out_front (q k g : Fin n → Fin 256 → EReal) (v : Fin n → Fin 512 → EReal) (i : Fin a) (w : Fin 512) :
    out (behind a q) (behind a k) (behind a g) (behind a v) (fun _ _ => 0) (Fin.castAdd n i) w = 0 := by
  unfold out score
  simp only [behind_low, mul_zero, zero_mul, Finset.sum_const_zero, ite_self, add_zero]

/-- The state after them. -/
theorem next_behind (k g : Fin n → Fin 256 → EReal) (v : Fin n → Fin 512 → EReal) (d : Fin 256) (w : Fin 512) :
    next (behind a k) (behind a g) (behind a v) (fun _ _ => 0) d w = next k g v (fun _ _ => 0) d w := by
  unfold next
  rw [Fin.sum_univ_add]
  simp only [behind_low, behind_high, cum_behind, total_behind, mul_zero, Finset.sum_const_zero, zero_add]

end Front

/-! ## The norm and the gate over one head's row -/

/-- One head's row of outputs, normalised by its mean square, weighted and gated. -/
def normGate (o gn gate : Fin 512 → EReal) (w : Fin 512) : EReal :=
  o w * Ideal.rsqrt (Ideal.div (∑ u : Fin 512, o u * o u) (Ideal.ofBits .f32 0x44000000#32) + Ideal.ofBits .f32 0x3727C5AC#32)
    * gn w * (gate w * Ideal.logistic (gate w))

theorem normGate_zero (o gn gate : Fin 512 → EReal) (w : Fin 512) (h : o w = 0) : normGate o gn gate w = 0 := by
  unfold normGate; rw [h, zero_mul, zero_mul, zero_mul]

/-! ## The layer's rows, read by number -/

/-- A matrix's entry by row and column number, zero outside. -/
def rd {n0 n1 : ℕ} (A : (⟨2, ![n0, n1]⟩ : Shape).Idx → EReal) (r c : ℕ) : EReal :=
  if h : r < n0 ∧ c < n1 then A (ValueIdx.ix2 ⟨r, h.1⟩ ⟨c, h.2⟩) else 0

theorem rd_of_lt {n0 n1 : ℕ} (A : (⟨2, ![n0, n1]⟩ : Shape).Idx → EReal) {r c : ℕ} (hr : r < n0) (hc : c < n1) :
    A (ValueIdx.ix2 ⟨r, hr⟩ ⟨c, hc⟩) = rd A r c := by unfold rd; rw [dif_pos ⟨hr, hc⟩]

section Rows

variable (p : (⟨2, ![16640, 6144]⟩ : Shape).Idx → EReal) (gl : (⟨2, ![16640, 1024]⟩ : Shape).Idx → EReal)
  (gn : (⟨2, ![1, 2048]⟩ : Shape).Idx → EReal) (b h : ℕ)

/-- Head `h`'s scaled queries in `n` rows of sequence `b` from row `r0` on. -/
def qRows (n r0 : ℕ) (i : Fin n) (d : Fin 256) : EReal :=
  rd p (4160 * b + (r0 + i.val)) (256 * h + d.val) * Ideal.ofBits .f32 0x3D800000#32
/-- Its keys. -/
def kRows (n r0 : ℕ) (i : Fin n) (d : Fin 256) : EReal := rd p (4160 * b + (r0 + i.val)) (1024 + (256 * h + d.val))
/-- Its values. -/
def vRows (n r0 : ℕ) (i : Fin n) (w : Fin 512) : EReal := rd p (4160 * b + (r0 + i.val)) (2048 + (512 * h + w.val))
/-- Its log forget gates. -/
def gRows (n r0 : ℕ) (i : Fin n) (d : Fin 256) : EReal := rd gl (4160 * b + (r0 + i.val)) (256 * h + d.val)

/-- The state after the meta tokens and `j` chunks of 64 tokens. -/
def state : ℕ → Fin 256 → Fin 512 → EReal
  | 0 => next (kRows p b h 16 48) (gRows gl b h 16 48) (vRows p b h 16 48) fun _ _ => 0
  | j + 1 => next (kRows p b h 64 (64 * (j + 1))) (gRows gl b h 64 (64 * (j + 1))) (vRows p b h 64 (64 * (j + 1))) (state j)

/-- The outputs of the 16 meta tokens. -/
def metaOut : Fin 16 → Fin 512 → EReal :=
  out (qRows p b h 16 48) (kRows p b h 16 48) (gRows gl b h 16 48) (vRows p b h 16 48) fun _ _ => 0

/-- The outputs of chunk `j`. -/
def chunkOut (j : ℕ) : Fin 64 → Fin 512 → EReal :=
  out (qRows p b h 64 (64 * (j + 1))) (kRows p b h 64 (64 * (j + 1))) (gRows gl b h 64 (64 * (j + 1)))
    (vRows p b h 64 (64 * (j + 1))) (state p gl b h j)

/-- Head `h`'s outputs in row `r` of sequence `b`, before the norm: nothing in the 48 idle rows, then the meta tokens, then
    the chunks. -/
def rowOut (r : ℕ) (w : Fin 512) : EReal :=
  if r < 48 then 0
  else if hr : r < 64 then metaOut p gl b h ⟨r - 48, by omega⟩ w
  else chunkOut p gl b h (r / 64 - 1) ⟨r % 64, Nat.mod_lt _ (by decide)⟩ w

/-- The layer's result in row `r` of sequence `b`, at column `w` of head `h`. -/
def result (r : ℕ) (w : Fin 512) : EReal :=
  normGate (rowOut p gl b h r) (fun u => rd gn 0 (512 * h + u.val))
    (fun u => rd p (4160 * b + r) (4096 + (512 * h + u.val))) w

end Rows

end Cert.Gla

end
-- ==== Proof.Gla.Cell.lean ====
/-
  One head of one sequence in one grid point of the kernel, as operations on the loaded blocks: the
  masked log gates, their running sums, the decayed queries and keys, the scores, the outputs and
  the new state. The head enters as the offset of its columns, so one text serves all four heads.
  Then each value read at an index over the extended reals.
-/
module

public import proofs.«01_k».proof.Proof.Gen.KernelIdeal.Skeleton
public import proofs.«01_k».proof.Proof.Gla.Spec

@[expose] public section

set_option maxRecDepth 16384

noncomputable section

namespace Cert.Gla

open Idealize.ShloMosaic Idealize.ShloMosaic.TcCoe Idealize.ShloMosaic.Tactic
open Cert.KernelIdeal Cert.KernelIdeal.Gen
open scoped BigOperators

section Cell

variable {F : FTy → Type} [FloatOps F]
variable (i : grid0.Coords) (G : Vec F S1x64x1024 .f32) (Q K : Vec F S1x64x1024 .bf16) (V T : Vec F S1x64x2048 .bf16)
  (W : Vec F S1x2048 .f32) (St : Vec F S1x1x512x256 .f32)

/-- The running sums of the masked log gates, by two products with the triangle of ones. -/
def bcK : FVec F S64x1024 .f32 := k0_pay12 k0_pay4 (k0_pay10 i G) (k0_pay11 i G)

/-- Their last row. -/
def lastK : FVec F S1x1024 .f32 := extractStridedSlice S1x1024 ![63, 0] (bcK i G) slices_S64x1024_o63_0_S1x1024

/-- The scaled queries with their decay. -/
def qtK : FVec F S64x1024 .bf16 := k0_pay24 k0_pay4 (k0_pay10 i G) (k0_pay11 i G) Q

/-- The keys without their decay. -/
def ktK : FVec F S64x1024 .bf16 := k0_pay30 (bcK i G) K

/-- The keys with the decay that is left to the chunk's end. -/
def khK : FVec F S64x1024 .bf16 := k0_pay36 (bcK i G) (lastK i G) K

/-- One head's values. -/
def vK (o : ℕ) (hs : S64x2048.Slices ![0, o] S64x512) : FVec F S64x512 .bf16 :=
  extractStridedSlice S64x512 ![0, o] (shapeCast S64x2048 V shapeCasts_S1x64x2048_S64x2048) hs

/-- One head's causal scores. -/
def attK (o : ℕ) (hs : S64x1024.Slices ![0, o] S64x256) : FVec F S64x64 .bf16 :=
  truncf .bf16 (select k0_pay3
    (matmul dot_S64x256_S64x256_S64x64_1_1_0_0_n_n none (extractStridedSlice S64x256 ![0, o] (qtK i G Q) hs)
      (extractStridedSlice S64x256 ![0, o] (ktK i G K) hs) (constant S64x64 .f32 0x00000000#32))
    (broadcast S64x64 (Scalar.ofBits .f32 0x00000000#32))) bitsLt_bf16_f32

/-- One head's outputs. -/
def oK (o o' : ℕ) (hs : S64x1024.Slices ![0, o] S64x256) (hs' : S64x2048.Slices ![0, o'] S64x512) : FVec F S64x512 .f32 :=
  addf (matmul dot_S64x256_S512x256_S64x512_1_1_0_0_n_n none (extractStridedSlice S64x256 ![0, o] (qtK i G Q) hs)
      (truncf .bf16 (shapeCast S512x256 St shapeCasts_S1x1x512x256_S512x256) bitsLt_bf16_f32)
      (constant S64x512 .f32 0x00000000#32))
    (matmul dot_S64x64_S64x512_S64x512_1_0_0_1_n_n none (attK i G Q K o hs) (vK V o' hs') (constant S64x512 .f32 0x00000000#32))

/-- One head's new state, transposed. -/
def stK (o o' : ℕ) (hs : S64x1024.Slices ![0, o] S64x256) (hs' : S64x2048.Slices ![0, o'] S64x512)
    (hs1 : S1x1024.Slices ![0, o] S1x256) : FVec F S1x1x512x256 .f32 :=
  shapeCast S1x1x512x256
    (addf (mulf (shapeCast S512x256 St shapeCasts_S1x1x512x256_S512x256)
        (broadcastTo S512x256 (extractStridedSlice S1x256 ![0, o] (exp (lastK i G)) hs1) broadcasts_S1x256_S512x256))
      (matmul dot_S64x512_S64x256_S512x256_0_0_1_1_n_n none (vK V o' hs')
        (extractStridedSlice S64x256 ![0, o] (khK i G K) hs) (constant S512x256 .f32 0x00000000#32)))
    shapeCasts_S512x256_S1x1x512x256

/-- The norm and the gate over one head's outputs. -/
def normK (O : FVec F S64x512 .f32) (o' : ℕ) (hs' : S64x2048.Slices ![0, o'] S64x512)
    (hs2 : S1x2048.Slices ![0, o'] S1x512) : FVec F S1x64x512 .bf16 :=
  have x : FVec F S64x512 .f32 := extf .f32 (vK T o' hs') bitsLt_bf16_f32
  have s : FVec F S64x1 .f32 := shapeCast S64x1
    (multiReduction .add [1] S64 (mulf O O) 0x00000000#32 reduces_S64x512_S64 (.inl rfl) rfl) shapeCasts_S64_S64x1
  shapeCast S1x64x512
    (truncf .bf16
      (mulf
        (mulf
          (mulf O (broadcastTo S64x512
            (rsqrt (addf (divf s (broadcast S64x1 (Scalar.ofBits .f32 0x44000000#32)))
              (broadcast S64x1 (Scalar.ofBits .f32 0x3727C5AC#32)))) broadcasts_S64x1_S64x512))
          (broadcastTo S64x512 (extractStridedSlice S1x512 ![0, o'] W hs2) broadcasts_S1x512_S64x512))
        (mulf x (divf (broadcast S64x512 (Scalar.ofBits .f32 0x3F800000#32))
          (addf (broadcast S64x512 (Scalar.ofBits .f32 0x3F800000#32))
            (exp (subf (broadcast S64x512 (Scalar.ofBits .f32 0x00000000#32)) x))))))
      bitsLt_bf16_f32)
    shapeCasts_S64x512_S1x64x512

/-- One head's block of the result. -/
def outK (o o' : ℕ) (hs : S64x1024.Slices ![0, o] S64x256) (hs' : S64x2048.Slices ![0, o'] S64x512)
    (hs2 : S1x2048.Slices ![0, o'] S1x512) : FVec F S1x64x512 .bf16 :=
  normK T W (oK i G Q K V St o o' hs hs') o' hs' hs2

end Cell

/-! ## Read at an index -/

/-- Column `d` behind `o` others. -/
def col {C c o : ℕ} (hO : o + c ≤ C) (d : Fin c) : Fin C := ⟨o + d.val, by have := d.isLt; omega⟩

/-- The triangle's condition. -/
theorem pay3_apply : ∀ i j : Fin 64, k0_pay3 (ix2 i j) = if j ≤ i then 1#1 else 0#1 := by
  intro i j
  pointwise [k0_pay3]
  revert i j
  decide +kernel

/-- The rows whose gates count: all of them from the second point on, the last sixteen at the first. -/
theorem pay5_apply (i : grid0.Coords) (r : Fin 64) (l : Fin 1024) :
    k0_pay5 i (ix2 r l) = if 0 < (i 1).val ∨ 48 ≤ r.val then 1#1 else 0#1 := by
  pointwise [k0_pay5]
  generalize i 1 = t
  revert t r
  decide +kernel

/-- The scale 1/16 in the narrow format is the scale in the wide one. -/
theorem sixteenth_eq : Ideal.ofBits .bf16 0x3D80#16 = Ideal.ofBits .f32 0x3D800000#32 := by
  have h : Ideal.ofBits .f32 0x3D800000#32 = ((1 / 16 : ℝ) : EReal) := by
    simp [Ideal.ofBits, Ideal.ieee, -EReal.coe_mul]; norm_num
  rw [h]; simp [Ideal.ofBits, Ideal.ieee, -EReal.coe_mul]; norm_num

section Read

variable (i : grid0.Coords) (G : Vec Ideal S1x64x1024 .f32) (Q K : Vec Ideal S1x64x1024 .bf16) (V T : Vec Ideal S1x64x2048 .bf16)
  (W : Vec Ideal S1x2048 .f32) (St : Vec Ideal S1x1x512x256 .f32)

theorem tril_apply (r j : Fin 64) : k0_pay4 (F := Ideal) (ix2 r j) = if j ≤ r then 1 else 0 := by
  pointwise [k0_pay4]
  rw [pay3_apply]
  split <;> rfl

/-- The masked log gates. -/
def gM (r : Fin 64) (l : Fin 1024) : EReal := if 0 < (i 1).val ∨ 48 ≤ r.val then G (ix3 0 r l) else 0

theorem pay6_apply (r : Fin 64) (l : Fin 1024) : k0_pay6 i G (ix2 r l) = gM i G r l := by
  pointwise [k0_pay6]
  rw [pay5_apply]
  unfold gM
  split <;> rfl

theorem bcK_apply (r : Fin 64) (l : Fin 1024) : bcK i G (ix2 r l)
    = (∑ j : Fin 64, (if j ≤ r then 1 else 0) * gM i G j l) + ∑ j : Fin 64, (if j ≤ r then 1 else 0) * (gM i G j l - gM i G j l) := by
  pointwise [bcK, k0_pay12, k0_pay10, k0_pay11]
  simp only [tril_apply, pay6_apply]

theorem qtK_apply (r : Fin 64) (l : Fin 1024) :
    qtK i G Q (ix2 r l) = (Q (ix3 0 r l) * Ideal.ofBits .f32 0x3D800000#32) * Ideal.exp (bcK i G (ix2 r l)) := by
  rw [← sixteenth_eq]
  unfold bcK
  pointwise [qtK, k0_pay24]

theorem ktK_apply (r : Fin 64) (l : Fin 1024) :
    ktK i G K (ix2 r l) = K (ix3 0 r l) * Ideal.exp (0 - bcK i G (ix2 r l)) := by
  pointwise [ktK, k0_pay30]

theorem lastK_apply (z : Fin 1) (l : Fin 1024) : lastK i G (ix2 z l) = bcK i G (ix2 63 l) := by
  pointwise [lastK]

theorem khK_apply (r : Fin 64) (l : Fin 1024) :
    khK i G K (ix2 r l) = K (ix3 0 r l) * Ideal.exp (bcK i G (ix2 63 l) - bcK i G (ix2 r l)) := by
  rw [← lastK_apply i G 0]
  pointwise [khK, k0_pay36]

variable {o o' : ℕ} (hO : o + 256 ≤ 1024) (hO' : o' + 512 ≤ 2048)

/-- One head's masked log gates, scaled queries, keys and values in the block. -/
def gC (r : Fin 64) (d : Fin 256) : EReal := gM i G r (col hO d)
def qC (r : Fin 64) (d : Fin 256) : EReal := Q (ix3 0 r (col hO d)) * Ideal.ofBits .f32 0x3D800000#32
def kC (r : Fin 64) (d : Fin 256) : EReal := K (ix3 0 r (col hO d))
def vC (r : Fin 64) (w : Fin 512) : EReal := V (ix3 0 r (col hO' w))
/-- The state, keys first. -/
def sC (d : Fin 256) (w : Fin 512) : EReal := St (ix4 0 0 w d)

theorem vK_apply (hs' : S64x2048.Slices ![0, o'] S64x512) (r : Fin 64) (w : Fin 512) :
    vK V o' hs' (ix2 r w) = vC V hO' r w := by
  pointwise [vK]
  rfl

variable (hg : ∀ r l, gM i G r l ≤ 0)
include hg

theorem bcK_eq (r : Fin 64) (d : Fin 256) : bcK i G (ix2 r (col hO d)) = cum (gC i G hO) r d := by
  rw [bcK_apply]
  exact cum_split (gC i G hO) (fun _ _ => hg _ _) r d

theorem bcK_last (d : Fin 256) : bcK i G (ix2 63 (col hO d)) = total (gC i G hO) d := by
  rw [bcK_eq i G hO hg]
  exact cum_last (n := 63) (gC i G hO) d

theorem attK_apply (hs : S64x1024.Slices ![0, o] S64x256) (r j : Fin 64) :
    attK i G Q K o hs (ix2 r j) = score (qC Q hO) (kC K hO) (gC i G hO) r j := by
  pointwise [attK]
  rw [pay3_apply]
  unfold score
  split
  · refine (show ∀ x y : EReal, Scalar.select 1#1 x y = x from fun _ _ => rfl) _ _ |>.trans ?_
    refine Finset.sum_congr rfl fun d _ => ?_
    show qtK i G Q (ix2 r (col hO d)) * ktK i G K (ix2 j (col hO d)) = _
    rw [qtK_apply, ktK_apply, bcK_eq i G hO hg, bcK_eq i G hO hg, zero_sub]
    rfl
  · rfl

theorem oK_apply (hs : S64x1024.Slices ![0, o] S64x256) (hs' : S64x2048.Slices ![0, o'] S64x512) (r : Fin 64) (w : Fin 512) :
    oK i G Q K V St o o' hs hs' (ix2 r w) = out (qC Q hO) (kC K hO) (gC i G hO) (vC V hO') (sC St) r w := by
  pointwise [oK]
  unfold out
  congr 1
  · refine Finset.sum_congr rfl fun d _ => ?_
    show qtK i G Q (ix2 r (col hO d)) * St (ix4 0 0 w d) = _
    rw [qtK_apply, bcK_eq i G hO hg]
    rfl
  · refine Finset.sum_congr rfl fun j _ => ?_
    rw [attK_apply i G Q K hO hg, vK_apply V hO']

theorem stK_apply (hs : S64x1024.Slices ![0, o] S64x256) (hs' : S64x2048.Slices ![0, o'] S64x512)
    (hs1 : S1x1024.Slices ![0, o] S1x256) (a b : Fin 1) (w : Fin 512) (d : Fin 256) :
    stK i G K V St o o' hs hs' hs1 (ix4 a b w d) = next (kC K hO) (gC i G hO) (vC V hO') (sC St) d w := by
  pointwise [stK]
  unfold next
  congr 1
  · show St (ix4 0 0 w d) * Ideal.exp (lastK i G (ix2 0 (col hO d))) = _
    rw [lastK_apply, bcK_last i G hO hg, mul_comm]
    rfl
  · refine Finset.sum_congr rfl fun j _ => ?_
    show vK V o' hs' (ix2 j w) * khK i G K (ix2 j (col hO d)) = _
    rw [khK_apply, bcK_last i G hO hg, bcK_eq i G hO hg, vK_apply V hO', mul_comm]
    rfl

omit hg in
theorem normK_apply (O : FVec Ideal S64x512 .f32) (hs' : S64x2048.Slices ![0, o'] S64x512)
    (hs2 : S1x2048.Slices ![0, o'] S1x512) (z : Fin 1) (r : Fin 64) (w : Fin 512) :
    normK T W O o' hs' hs2 (ix3 z r w)
      = normGate (fun u => O (ix2 r u)) (fun u => W (ix2 0 (col hO' u))) (fun u => vC T hO' r u) w := by
  pointwise [normK]
  rw [vK_apply T hO']
  unfold normGate Ideal.logistic
  rw [zero_sub]
  rfl

theorem outK_apply (hs : S64x1024.Slices ![0, o] S64x256) (hs' : S64x2048.Slices ![0, o'] S64x512)
    (hs2 : S1x2048.Slices ![0, o'] S1x512) (z : Fin 1) (r : Fin 64) (w : Fin 512) :
    outK i G Q K V T W St o o' hs hs' hs2 (ix3 z r w)
      = normGate (out (qC Q hO) (kC K hO) (gC i G hO) (vC V hO') (sC St) r) (fun u => W (ix2 0 (col hO' u)))
          (fun u => vC T hO' r u) w := by
  unfold outK
  rw [normK_apply T W hO']
  simp only [oK_apply i G Q K V St hO hO' hg]

end Read

end Cert.Gla

end
-- ==== Proof.Gla.Stores.lean ====
/-
  One grid point of the kernel: what it leaves in its block of the result and in the state it carries, from the six
  input blocks and the state it finds. Each is sixteen stores, one per sequence and head, and each store holds the
  chunk's mathematics (the `out` and `next` of a chunk of 64 rows) at its place in the block.
-/
module

public import proofs.«01_k».proof.Proof.Gen.KernelIdeal.Frame
public import proofs.«01_k».proof.Proof.Gla.Cell
public import Idealize.ShloMosaic.Lib.Pipeline.ReadBack
public import Idealize.ShloMosaic.Lib.Pipeline.ValueKit.Geometry
public import Idealize.ShloMosaic.Lib.WholeRead

@[expose] public section

set_option maxRecDepth 16384

noncomputable section

namespace Cert.Gla

open Idealize.ShloMosaic Idealize.ShloMosaic.TcCoe Idealize.ShloMosaic.Tactic
open Cert.KernelIdeal Cert.KernelIdeal.Gen
open scoped BigOperators

/-! ## Where a head's columns and a sequence's rows lie -/

theorem hO (h : Fin 4) : 256 * h.val + 256 ≤ 1024 := by omega
theorem hO' (h : Fin 4) : 512 * h.val + 512 ≤ 2048 := by omega

theorem sl64x256 : ∀ h : Fin 4, S64x1024.Slices ![0, 256 * h.val] S64x256 := by decide
theorem sl64x512 : ∀ h : Fin 4, S64x2048.Slices ![0, 512 * h.val] S64x512 := by decide
theorem sl1x256 : ∀ h : Fin 4, S1x1024.Slices ![0, 256 * h.val] S1x256 := by decide
theorem sl1x512 : ∀ h : Fin 4, S1x2048.Slices ![0, 512 * h.val] S1x512 := by decide
theorem inb1024 : ∀ b : Fin 4, ∀ a, (![b.val, 0, 0] : Fin 3 → ℕ) a + S1x64x1024.size a ≤ S4x64x1024.size a := by decide
theorem inb2048 : ∀ b : Fin 4, ∀ a, (![b.val, 0, 0] : Fin 3 → ℕ) a + S1x64x2048.size a ≤ S4x64x2048.size a := by decide
theorem inbState : ∀ b h : Fin 4, ∀ a, (![b.val, h.val, 0, 0] : Fin 4 → ℕ) a + S1x1x512x256.size a ≤ S4x4x512x256.size a := by
  decide
theorem inbOut : ∀ b h : Fin 4, ∀ a, (![b.val, 0, 512 * h.val] : Fin 3 → ℕ) a + S1x64x512.size a ≤ S4x64x2048.size a := by
  decide

/-! ## The stores -/

section Stores

variable {F : FTy → Type} [FloatOps F]
variable (i : grid0.Coords) (G : Fin 4 → Vec F S1x64x1024 .f32) (Q K : Fin 4 → Vec F S1x64x1024 .bf16)
  (V T : Fin 4 → Vec F S1x64x2048 .bf16) (W : Vec F S1x2048 .f32) (S : Fin 4 → Fin 4 → Vec F S1x1x512x256 .f32)

/-- The store of one sequence's head into the state. -/
def stStore (b h : Fin 4) : View.Piece (Elt F) S4x4x512x256 .f32 :=
  ⟨Rect.unit ![b.val, h.val, 0, 0] S1x1x512x256.size (inbState b h),
    stK i (G b) (K b) (V b) (S b h) (256 * h.val) (512 * h.val) (sl64x256 h) (sl64x512 h) (sl1x256 h)⟩

/-- The store of one sequence's head into the result. -/
def outStore (b h : Fin 4) : View.Piece (Elt F) S4x64x2048 .bf16 :=
  ⟨Rect.unit ![b.val, 0, 512 * h.val] S1x64x512.size (inbOut b h),
    outK i (G b) (Q b) (K b) (V b) (T b) W (S b h) (256 * h.val) (512 * h.val) (sl64x256 h) (sl64x512 h) (sl1x512 h)⟩

def stStores : List (View.Piece (Elt F) S4x4x512x256 .f32) :=
  [stStore i G K V S 3 3, stStore i G K V S 3 2, stStore i G K V S 3 1, stStore i G K V S 3 0,
    stStore i G K V S 2 3, stStore i G K V S 2 2, stStore i G K V S 2 1, stStore i G K V S 2 0,
    stStore i G K V S 1 3, stStore i G K V S 1 2, stStore i G K V S 1 1, stStore i G K V S 1 0,
    stStore i G K V S 0 3, stStore i G K V S 0 2, stStore i G K V S 0 1, stStore i G K V S 0 0]

def outStores : List (View.Piece (Elt F) S4x64x2048 .bf16) :=
  [outStore i G Q K V T W S 3 3, outStore i G Q K V T W S 3 2, outStore i G Q K V T W S 3 1, outStore i G Q K V T W S 3 0,
    outStore i G Q K V T W S 2 3, outStore i G Q K V T W S 2 2, outStore i G Q K V T W S 2 1, outStore i G Q K V T W S 2 0,
    outStore i G Q K V T W S 1 3, outStore i G Q K V T W S 1 2, outStore i G Q K V T W S 1 1, outStore i G Q K V T W S 1 0,
    outStore i G Q K V T W S 0 3, outStore i G Q K V T W S 0 2, outStore i G Q K V T W S 0 1, outStore i G Q K V T W S 0 0]

variable (M2 : Memref sig .tc .vmem S4x64x1024 .bf16)

/-- A load of one sequence's rows, 1024 columns wide. -/
def ld1024 {e : EltTy} (M : Memref sig .tc .vmem S4x64x1024 e) (hM : M.IsWhole) (x : Vec F S4x64x1024 e) (b : Fin 4) :
    Vec F S1x64x1024 e :=
  View.readAt (Elt F) M.view (Rect.unit (s := S4x64x1024) ![b.val, 0, 0] S1x64x1024.size (inb1024 b)).toLoadRect (hM.unread x)

/-- A load of one sequence's rows, 2048 columns wide. -/
def ld2048 {e : EltTy} (M : Memref sig .tc .vmem S4x64x2048 e) (hM : M.IsWhole) (x : Vec F S4x64x2048 e) (b : Fin 4) :
    Vec F S1x64x2048 e :=
  View.readAt (Elt F) M.view (Rect.unit (s := S4x64x2048) ![b.val, 0, 0] S1x64x2048.size (inb2048 b)).toLoadRect (hM.unread x)

/-- A load of the norm's weights. -/
def ldW (M : Memref sig .tc .vmem S1x2048 .f32) (hM : M.IsWhole) (x : Vec F S1x2048 .f32) : Vec F S1x2048 .f32 :=
  View.readAt (Elt F) M.view (Rect.unit (s := S1x2048) ![0, 0] S1x2048.size inb_S1x2048_S1x2048_0_0).toLoadRect (hM.unread x)

/-- A load of one head's state. -/
def ldS (M : Memref sig .tc .vmem S4x4x512x256 .f32) (hM : M.IsWhole) (x : Vec F S4x4x512x256 .f32) (b h : Fin 4) :
    Vec F S1x1x512x256 .f32 :=
  View.readAt (Elt F) M.view (Rect.unit (s := S4x4x512x256) ![b.val, h.val, 0, 0] S1x1x512x256.size (inbState b h)).toLoadRect (hM.unread x)

/-- The store of zeros over the whole state, at the first grid point. -/
def zeroStore : View.Piece (Elt F) S4x4x512x256 .f32 :=
  ⟨Rect.unit ![0, 0, 0, 0] S4x4x512x256.size inb_S4x4x512x256_S4x4x512x256_0_0_0_0, k0_pay2⟩

/-- A load of one head's state after that store. -/
def ldZ (M : Memref sig .tc .vmem S4x4x512x256 .f32) (b h : Fin 4) : Vec F S1x1x512x256 .f32 :=
  M.view.readCov [zeroStore] (Rect.unit (s := S4x4x512x256) ![b.val, h.val, 0, 0] S1x1x512x256.size (inbState b h)).toLoadRect

end Stores

section Runs

variable {F : FTy → Type} [FloatOps F]
variable (c : Dev nD) (i : grid0.Coords) (arg2 : Memref sig .tc .vmem S4x64x1024 .bf16) (harg2 : arg2.IsWhole) (arg3 : Memref sig .tc .vmem S4x64x1024 .bf16) (harg3 : arg3.IsWhole) (arg4 : Memref sig .tc .vmem S4x64x2048 .bf16) (harg4 : arg4.IsWhole) (arg5 : Memref sig .tc .vmem S4x64x2048 .bf16) (harg5 : arg5.IsWhole) (arg6 : Memref sig .tc .vmem S4x64x1024 .f32) (harg6 : arg6.IsWhole) (arg7 : Memref sig .tc .vmem S1x2048 .f32) (harg7 : arg7.IsWhole) (arg8 : Memref sig .tc .vmem S4x64x2048 .bf16) (harg8 : arg8.IsWhole) (arg9 : Memref sig .tc .vmem S4x4x512x256 .f32) (harg9 : arg9.IsWhole)
  (x0 : Vec F S4x64x1024 .bf16) (x1 : Vec F S4x64x1024 .bf16) (x2 : Vec F S4x64x2048 .bf16) (x3 : Vec F S4x64x2048 .bf16)
  (x4 : Vec F S4x64x1024 .f32) (x5 : Vec F S1x2048 .f32) (xs0 : Vec F S4x4x512x256 .f32)

set_option maxHeartbeats 2000000 in
theorem sout_B (hc0 : ¬cond0_0 i) : sout0_B_0 c i arg2 harg2 arg3 harg3 arg4 harg4 arg5 harg5 arg6 harg6 arg7 harg7 arg8 harg8 arg9 harg9 hc0 x0 x1 x2 x3 x4 x5 xs0
    = VS0_0.read (Elt F) (VS0_0.writes (Elt F) VS0_0.junk
        (stStores i (ld1024 arg6 harg6 x4) (ld1024 arg3 harg3 x1) (ld2048 arg4 harg4 x2) (ldS arg9 harg9 xs0))) := by
  unfold sout0_B_0 kernelRun0_B
  dsimp only
  sl_unfold_words
  rfl

set_option maxHeartbeats 2000000 in
theorem out_B (hc0 : ¬cond0_0 i) : out0_B_6 c i arg2 harg2 arg3 harg3 arg4 harg4 arg5 harg5 arg6 harg6 arg7 harg7 arg8 harg8 arg9 harg9 hc0 x0 x1 x2 x3 x4 x5 xs0
    = VO0_6.read (Elt F) (VO0_6.writes (Elt F) VO0_6.junk
        (outStores i (ld1024 arg6 harg6 x4) (ld1024 arg2 harg2 x0) (ld1024 arg3 harg3 x1) (ld2048 arg4 harg4 x2)
          (ld2048 arg5 harg5 x3) (ldW arg7 harg7 x5) (ldS arg9 harg9 xs0))) := by
  unfold out0_B_6 kernelRun0_B
  dsimp only
  sl_unfold_words
  rfl

set_option maxHeartbeats 2000000 in
theorem sout_A (hc0 : cond0_0 i) : sout0_A_0 c i arg2 harg2 arg3 harg3 arg4 harg4 arg5 harg5 arg6 harg6 arg7 harg7 arg8 harg8 arg9 harg9 hc0 x0 x1 x2 x3 x4 x5
    = VS0_0.read (Elt F) (VS0_0.writes (Elt F) VS0_0.junk
        (stStores i (ld1024 arg6 harg6 x4) (ld1024 arg3 harg3 x1) (ld2048 arg4 harg4 x2) (ldZ arg9) ++ [zeroStore])) := by
  unfold sout0_A_0 kernelRun0_A
  dsimp only
  sl_unfold_words
  rfl

set_option maxHeartbeats 2000000 in
theorem out_A (hc0 : cond0_0 i) : out0_A_6 c i arg2 harg2 arg3 harg3 arg4 harg4 arg5 harg5 arg6 harg6 arg7 harg7 arg8 harg8 arg9 harg9 hc0 x0 x1 x2 x3 x4 x5
    = VO0_6.read (Elt F) (VO0_6.writes (Elt F) VO0_6.junk
        (outStores i (ld1024 arg6 harg6 x4) (ld1024 arg2 harg2 x0) (ld1024 arg3 harg3 x1) (ld2048 arg4 harg4 x2)
          (ld2048 arg5 harg5 x3) (ldW arg7 harg7 x5) (ldZ arg9))) := by
  unfold out0_A_6 kernelRun0_A
  dsimp only
  sl_unfold_words
  rfl

end Runs

end Cert.Gla

end
-- ==== Proof.Gla.Block.lean ====
/-
  What one grid point leaves, read at an index: the state of sequence `b`, head `h` is the chunk's `next` of the point's
  blocks, and the result's entries are the chunk's `out` behind the norm and the gate.
-/
module

public import proofs.«01_k».proof.Proof.Gla.Stores

@[expose] public section

set_option maxRecDepth 16384

noncomputable section

namespace Cert.Gla

open Idealize.ShloMosaic Idealize.ShloMosaic.TcCoe Idealize.ShloMosaic.Tactic
open Cert.KernelIdeal Cert.KernelIdeal.Gen
open scoped BigOperators

/-! ## One head of one sequence in the point's blocks -/

section Spec

variable (i : grid0.Coords) (x0 x1 : Vec Ideal S4x64x1024 .bf16) (x2 x3 : Vec Ideal S4x64x2048 .bf16)
  (x4 : Vec Ideal S4x64x1024 .f32) (x5 : Vec Ideal S1x2048 .f32) (b h : Fin 4)

/-- The masked log gates. -/
def gB (r : Fin 64) (d : Fin 256) : EReal := if 0 < (i 1).val ∨ 48 ≤ r.val then x4 (ix3 b r (col (hO h) d)) else 0
/-- The scaled queries. -/
def qB (r : Fin 64) (d : Fin 256) : EReal := x0 (ix3 b r (col (hO h) d)) * Ideal.ofBits .f32 0x3D800000#32
/-- The keys. -/
def kB (r : Fin 64) (d : Fin 256) : EReal := x1 (ix3 b r (col (hO h) d))
/-- The values. -/
def vB (r : Fin 64) (w : Fin 512) : EReal := x2 (ix3 b r (col (hO' h) w))
/-- The state after the point. -/
def nextB (S : Fin 256 → Fin 512 → EReal) (w : Fin 512) (d : Fin 256) : EReal :=
  next (kB x1 b h) (gB i x4 b h) (vB x2 b h) S d w
/-- The result's rows. -/
def outB (S : Fin 256 → Fin 512 → EReal) (r : Fin 64) (w : Fin 512) : EReal :=
  normGate (out (qB x0 b h) (kB x1 b h) (gB i x4 b h) (vB x2 b h) S r) (fun u => x5 (ix2 0 (col (hO' h) u)))
    (fun u => x3 (ix3 b r (col (hO' h) u))) w

end Spec

/-! ## The loads -/

section Loads

variable {F : FTy → Type} [FloatOps F]

theorem ld1024_apply {e : EltTy} (M : Memref sig .tc .vmem S4x64x1024 e) (hM : M.IsWhole) (x : Vec F S4x64x1024 e) (b : Fin 4)
    (r : Fin 64) (l : Fin 1024) : ld1024 M hM x b (ix3 0 r l) = x (ix3 b r l) := by
  unfold ld1024
  rw [hM.readAt_unread]
  congr 1
  funext a; fin_cases a <;> simp [ix3, LoadRect.idx, Rect.toLoadRect, Rect.unit] <;> rfl

theorem ld2048_apply {e : EltTy} (M : Memref sig .tc .vmem S4x64x2048 e) (hM : M.IsWhole) (x : Vec F S4x64x2048 e) (b : Fin 4)
    (r : Fin 64) (l : Fin 2048) : ld2048 M hM x b (ix3 0 r l) = x (ix3 b r l) := by
  unfold ld2048
  rw [hM.readAt_unread]
  congr 1
  funext a; fin_cases a <;> simp [ix3, LoadRect.idx, Rect.toLoadRect, Rect.unit] <;> rfl

theorem ldW_apply (M : Memref sig .tc .vmem S1x2048 .f32) (hM : M.IsWhole) (x : Vec F S1x2048 .f32) (l : Fin 2048) :
    ldW M hM x (ix2 0 l) = x (ix2 0 l) := by
  unfold ldW
  rw [hM.readAt_unread]
  congr 1
  funext a
  refine Fin.ext ?_
  fin_cases a
  · rfl
  · show 0 + 1 * l.val = l.val
    omega

theorem ldS_apply (M : Memref sig .tc .vmem S4x4x512x256 .f32) (hM : M.IsWhole) (x : Vec F S4x4x512x256 .f32) (b h : Fin 4)
    (w : Fin 512) (d : Fin 256) : ldS M hM x b h (ix4 0 0 w d) = x (ix4 b h w d) := by
  unfold ldS
  rw [hM.readAt_unread]
  congr 1
  funext a; fin_cases a <;> simp [ix4, LoadRect.idx, Rect.toLoadRect, Rect.unit] <;> rfl

theorem ldZ_apply (M : Memref sig .tc .vmem S4x4x512x256 .f32) (b h : Fin 4) (w : Fin 512) (d : Fin 256) :
    ldZ (F := Ideal) M b h (ix4 0 0 w d) = 0 := by
  unfold ldZ zeroStore
  rw [View.readCov_fill _ _ _ _ _ (by intro a; fin_cases a <;> rfl)]
  exact Ideal.ofBits_zero_f32

end Loads

/-! ## The stores hold their block of one function -/

section Stores

variable (i : grid0.Coords) (x0 x1 : Vec Ideal S4x64x1024 .bf16) (x2 x3 : Vec Ideal S4x64x2048 .bf16)
  (x4 : Vec Ideal S4x64x1024 .f32) (x5 : Vec Ideal S1x2048 .f32) (s : Fin 4 → Fin 4 → Fin 256 → Fin 512 → EReal)
variable (G : Fin 4 → Vec Ideal S1x64x1024 .f32) (Q K : Fin 4 → Vec Ideal S1x64x1024 .bf16)
  (V T : Fin 4 → Vec Ideal S1x64x2048 .bf16) (W : Vec Ideal S1x2048 .f32) (S : Fin 4 → Fin 4 → Vec Ideal S1x1x512x256 .f32)
  (hG : ∀ b r l, G b (ix3 0 r l) = x4 (ix3 b r l)) (hQ : ∀ b r l, Q b (ix3 0 r l) = x0 (ix3 b r l))
  (hK : ∀ b r l, K b (ix3 0 r l) = x1 (ix3 b r l)) (hV : ∀ b r l, V b (ix3 0 r l) = x2 (ix3 b r l))
  (hT : ∀ b r l, T b (ix3 0 r l) = x3 (ix3 b r l)) (hW : ∀ l, W (ix2 0 l) = x5 (ix2 0 l))
  (hS : ∀ b h w d, S b h (ix4 0 0 w d) = s b h d w)
  (hg : ∀ b r l, x4 (ix3 b r l) ≤ 0)

/-- The state after the point, at an index of the carried array. -/
def stateAt (y : S4x4x512x256.Idx) : EReal := nextB i x1 x2 x4 (y 0) (y 1) (s (y 0) (y 1)) (y 2) (y 3)

/-- The result's block, at an index. -/
def outAt (y : S4x64x2048.Idx) : EReal :=
  outB i x0 x1 x2 x3 x4 x5 (y 0) ⟨(y 2).val / 512, by have := (y 2).isLt; change (y 2).val < 2048 at this; omega⟩
    (s (y 0) ⟨(y 2).val / 512, by have := (y 2).isLt; change (y 2).val < 2048 at this; omega⟩) (y 1)
    ⟨(y 2).val % 512, Nat.mod_lt _ (by decide)⟩

include hG hg in
theorem gM_nonpos (b : Fin 4) (r : Fin 64) (l : Fin 1024) : gM i (G b) r l ≤ 0 := by
  unfold gM
  split
  · rw [hG]; exact hg _ _ _
  · exact le_rfl

include hG hK hV hS hg in
theorem stStore_eq (b h : Fin 4) (x : (stStore i G K V S b h).1.shape.Idx) :
    (stStore i G K V S b h).2 x = stateAt i x1 x2 x4 s ((stStore i G K V S b h).1.emb x) := by
  obtain ⟨p, q, w, d, rfl⟩ : ∃ (p q : Fin 1) (w : Fin 512) (d : Fin 256), x = ix4 p q w d := ⟨x 0, x 1, x 2, x 3, ValueIdx.eq_ix4 x⟩
  have e : (stStore i G K V S b h).1.emb (ix4 p q w d) = ix4 b h w d := by
    funext a
    refine Fin.ext ?_
    unfold stStore
    rw [ValueKit.rect_emb_unit_val]
    fin_cases a
    · show b.val + p.val = b.val; omega
    · show h.val + q.val = h.val; omega
    · show 0 + w.val = w.val; omega
    · show 0 + d.val = d.val; omega
  rw [e]
  refine (stK_apply i (G b) (K b) (V b) (S b h) (hO h) (hO' h) (gM_nonpos i x4 G hG hg b) _ _ _ p q w d).trans ?_
  show _ = nextB i x1 x2 x4 b h (s b h) w d
  unfold nextB
  congr 1
  · funext r d; exact hK _ _ _
  · funext r d; unfold gC gM gB; rw [hG]
  · funext r d; exact hV _ _ _
  · funext d w; exact hS _ _ _ _

include hG hQ hK hV hT hW hS hg in
theorem outStore_eq (b h : Fin 4) (x : (outStore i G Q K V T W S b h).1.shape.Idx) :
    (outStore i G Q K V T W S b h).2 x = outAt i x0 x1 x2 x3 x4 x5 s ((outStore i G Q K V T W S b h).1.emb x) := by
  obtain ⟨p, r, w, rfl⟩ : ∃ (p : Fin 1) (r : Fin 64) (w : Fin 512), x = ix3 p r w := ⟨x 0, x 1, x 2, ValueIdx.eq_ix3 x⟩
  have e : (outStore i G Q K V T W S b h).1.emb (ix3 p r w) = ix3 b r (col (hO' h) w) := by
    funext a
    refine Fin.ext ?_
    unfold outStore
    rw [ValueKit.rect_emb_unit_val]
    fin_cases a
    · show b.val + p.val = b.val; omega
    · show 0 + r.val = r.val; omega
    · rfl
  rw [e]
  refine (outK_apply i (G b) (Q b) (K b) (V b) (T b) W (S b h) (hO h) (hO' h) (gM_nonpos i x4 G hG hg b) _ _ _ p r w).trans ?_
  have eh : (⟨(512 * h.val + w.val) / 512, by omega⟩ : Fin 4) = h := Fin.ext (by show (512 * h.val + w.val) / 512 = h.val; omega)
  have ew : (⟨(512 * h.val + w.val) % 512, Nat.mod_lt _ (by decide)⟩ : Fin 512) = w :=
    Fin.ext (by show (512 * h.val + w.val) % 512 = w.val; omega)
  show _ = outB i x0 x1 x2 x3 x4 x5 b ⟨(512 * h.val + w.val) / 512, _⟩ (s b ⟨(512 * h.val + w.val) / 512, _⟩) r
    ⟨(512 * h.val + w.val) % 512, _⟩
  rw [eh, ew]
  unfold outB
  congr 1
  · congr 1
    · funext r d; unfold qC qB; rw [hQ]
    · funext r d; exact hK _ _ _
    · funext r d; unfold gC gM gB; rw [hG]
    · funext r d; exact hV _ _ _
    · funext d w; exact hS _ _ _ _
  · funext u; exact hW _
  · funext u; exact hT _ _ _

include hG hK hV hS hg in
theorem stStores_eq : ∀ p ∈ stStores i G K V S, ∀ x, p.2 x = stateAt i x1 x2 x4 s (p.1.emb x) := by
  intro p hp
  simp only [stStores, List.mem_cons, List.not_mem_nil, or_false] at hp
  rcases hp with rfl | rfl | rfl | rfl | rfl | rfl | rfl | rfl | rfl | rfl | rfl | rfl | rfl | rfl | rfl | rfl <;>
    exact stStore_eq i x1 x2 x4 s G K V S hG hK hV hS hg _ _

include hG hQ hK hV hT hW hS hg in
theorem outStores_eq : ∀ p ∈ outStores i G Q K V T W S, ∀ x, p.2 x = outAt i x0 x1 x2 x3 x4 x5 s (p.1.emb x) := by
  intro p hp
  simp only [outStores, List.mem_cons, List.not_mem_nil, or_false] at hp
  rcases hp with rfl | rfl | rfl | rfl | rfl | rfl | rfl | rfl | rfl | rfl | rfl | rfl | rfl | rfl | rfl | rfl <;>
    exact outStore_eq i x0 x1 x2 x3 x4 x5 s G Q K V T W S hG hQ hK hV hT hW hS hg _ _

theorem stStores_cover (y : S4x4x512x256.Idx) : ∃ p ∈ stStores i G K V S, y ∈ p.1.set :=
  View.cover_of_tiledL (stStores i G K V S) S1x1x512x256.size (by sl_kernel_rfl) y

theorem outStores_cover (y : S4x64x2048.Idx) : ∃ p ∈ outStores i G Q K V T W S, y ∈ p.1.set :=
  View.cover_of_tiledL (outStores i G Q K V T W S) S1x64x512.size (by sl_kernel_rfl) y

end Stores

/-! ## The point -/

section Point

variable (c : Dev nD) (i : grid0.Coords) (arg2 : Memref sig .tc .vmem S4x64x1024 .bf16) (harg2 : arg2.IsWhole) (arg3 : Memref sig .tc .vmem S4x64x1024 .bf16) (harg3 : arg3.IsWhole) (arg4 : Memref sig .tc .vmem S4x64x2048 .bf16) (harg4 : arg4.IsWhole) (arg5 : Memref sig .tc .vmem S4x64x2048 .bf16) (harg5 : arg5.IsWhole) (arg6 : Memref sig .tc .vmem S4x64x1024 .f32) (harg6 : arg6.IsWhole) (arg7 : Memref sig .tc .vmem S1x2048 .f32) (harg7 : arg7.IsWhole) (arg8 : Memref sig .tc .vmem S4x64x2048 .bf16) (harg8 : arg8.IsWhole) (arg9 : Memref sig .tc .vmem S4x4x512x256 .f32) (harg9 : arg9.IsWhole)
  (x0 : Vec Ideal S4x64x1024 .bf16) (x1 : Vec Ideal S4x64x1024 .bf16) (x2 : Vec Ideal S4x64x2048 .bf16) (x3 : Vec Ideal S4x64x2048 .bf16)
  (x4 : Vec Ideal S4x64x1024 .f32) (x5 : Vec Ideal S1x2048 .f32) (xs0 : Vec Ideal S4x4x512x256 .f32)
  (hg : ∀ b r l, x4 (ix3 b r l) ≤ 0)
include hg

theorem sout_B_apply (hc0 : ¬cond0_0 i) (y : S4x4x512x256.Idx) : sout0_B_0 c i arg2 harg2 arg3 harg3 arg4 harg4 arg5 harg5 arg6 harg6 arg7 harg7 arg8 harg8 arg9 harg9 hc0 x0 x1 x2 x3 x4 x5 xs0 y
    = stateAt i x1 x2 x4 (fun b h d w => xs0 (ix4 b h w d)) y := by
  rw [sout_B]
  exact View.read_writes_apply_of_pieces _ _ _ _
    (stStores_eq i x1 x2 x4 _ _ _ _ _ (ld1024_apply _ _ _) (ld1024_apply _ _ _) (ld2048_apply _ _ _) (ldS_apply _ _ _) hg)
    y (stStores_cover _ _ _ _ _ y)

theorem out_B_apply (hc0 : ¬cond0_0 i) (y : S4x64x2048.Idx) : out0_B_6 c i arg2 harg2 arg3 harg3 arg4 harg4 arg5 harg5 arg6 harg6 arg7 harg7 arg8 harg8 arg9 harg9 hc0 x0 x1 x2 x3 x4 x5 xs0 y
    = outAt i x0 x1 x2 x3 x4 x5 (fun b h d w => xs0 (ix4 b h w d)) y := by
  rw [out_B]
  exact View.read_writes_apply_of_pieces _ _ _ _
    (outStores_eq i x0 x1 x2 x3 x4 x5 _ _ _ _ _ _ _ _ (ld1024_apply _ _ _) (ld1024_apply _ _ _) (ld1024_apply _ _ _)
      (ld2048_apply _ _ _) (ld2048_apply _ _ _) (ldW_apply _ _ _) (ldS_apply _ _ _) hg)
    y (outStores_cover _ _ _ _ _ _ _ _ y)

theorem sout_A_apply (hc0 : cond0_0 i) (y : S4x4x512x256.Idx) : sout0_A_0 c i arg2 harg2 arg3 harg3 arg4 harg4 arg5 harg5 arg6 harg6 arg7 harg7 arg8 harg8 arg9 harg9 hc0 x0 x1 x2 x3 x4 x5 y
    = stateAt i x1 x2 x4 (fun _ _ _ _ => 0) y := by
  rw [sout_A, View.writes_append]
  exact View.read_writes_apply_of_pieces _ _ _ _
    (stStores_eq i x1 x2 x4 _ _ _ _ _ (ld1024_apply _ _ _) (ld1024_apply _ _ _) (ld2048_apply _ _ _) (ldZ_apply _) hg)
    y (stStores_cover _ _ _ _ _ y)

theorem out_A_apply (hc0 : cond0_0 i) (y : S4x64x2048.Idx) : out0_A_6 c i arg2 harg2 arg3 harg3 arg4 harg4 arg5 harg5 arg6 harg6 arg7 harg7 arg8 harg8 arg9 harg9 hc0 x0 x1 x2 x3 x4 x5 y
    = outAt i x0 x1 x2 x3 x4 x5 (fun _ _ _ _ => 0) y := by
  rw [out_A]
  exact View.read_writes_apply_of_pieces _ _ _ _
    (outStores_eq i x0 x1 x2 x3 x4 x5 _ _ _ _ _ _ _ _ (ld1024_apply _ _ _) (ld1024_apply _ _ _) (ld1024_apply _ _ _)
      (ld2048_apply _ _ _) (ld2048_apply _ _ _) (ldW_apply _ _ _) (ldZ_apply _) hg)
    y (outStores_cover _ _ _ _ _ _ _ _ y)

end Point

end Cert.Gla

end
-- ==== Proof.Gla.Fold.lean ====
/-
  The kernel's 65 grid points in order: after point `n` the carried state is the layer's state after the meta tokens
  and `n` chunks, and the point's block of the result holds rows `64 n …` of the layer's result.
-/
module

public import proofs.«01_k».proof.Proof.Gen.KernelIdeal.Value
public import proofs.«01_k».proof.Proof.Gla.Block

@[expose] public section

set_option maxRecDepth 16384

noncomputable section

namespace Cert.Gla

open Idealize.ShloMosaic Idealize.ShloMosaic.TcCoe Idealize.ShloMosaic.Tactic Idealize.ShloMosaic.StableHlo
open Cert.KernelIdeal Cert.KernelIdeal.Gen
open scoped BigOperators

variable (m : (ℓ : Loc nD τ sig) → Buf (Elt Ideal) ℓ) (c : Dev nD)

/-- The projections' rows, the log gates and the norm's weights, as the launch finds them. -/
abbrev argP : (⟨2, ![16640, 6144]⟩ : Shape).Idx → EReal := m ((c : Thread nD τ).loc main_arg0)
abbrev argG : (⟨2, ![16640, 1024]⟩ : Shape).Idx → EReal := m ((c : Thread nD τ).loc main_arg1)
abbrev argW : (⟨2, ![1, 2048]⟩ : Shape).Idx → EReal := m ((c : Thread nD τ).loc main_arg2)

theorem V_main_v0 : V m c main_v0 = shapeCast S4x4160x6144 (argP m c) shapeCasts_S16640x6144_S4x4160x6144 := by
  unfold V
  after_results
  rfl
theorem V_main_v1 : V m c main_v1 = shapeCast S4x4160x1024 (argG m c) shapeCasts_S16640x1024_S4x4160x1024 := by
  unfold V
  after_results
  rfl

theorem cast6144 (A : (⟨2, ![16640, 6144]⟩ : Shape).Idx → EReal) (b : Fin 4) (r : Fin 4160) (l : Fin 6144) :
    shapeCast S4x4160x6144 A shapeCasts_S16640x6144_S4x4160x6144 (ix3 b r l) = rd A (4160 * b.val + r.val) l.val := by
  rw [← rd_of_lt A (r := 4160 * b.val + r.val) (c := l.val) (by omega) l.isLt]
  pointwise
  exact congrArg A (congrArg (fun q => ix2 q l) (Fin.ext (congrArg (· + r.val) (Nat.mul_comm b.val 4160))))

theorem cast1024 (A : (⟨2, ![16640, 1024]⟩ : Shape).Idx → EReal) (b : Fin 4) (r : Fin 4160) (l : Fin 1024) :
    shapeCast S4x4160x1024 A shapeCasts_S16640x1024_S4x4160x1024 (ix3 b r l) = rd A (4160 * b.val + r.val) l.val := by
  rw [← rd_of_lt A (r := 4160 * b.val + r.val) (c := l.val) (by omega) l.isLt]
  pointwise
  exact congrArg A (congrArg (fun q => ix2 q l) (Fin.ext (congrArg (· + r.val) (Nat.mul_comm b.val 4160))))

/-- Where the windows lie at point `t`. -/
theorem win_facts : ∀ t : Fin cfg0.N, t.val < 65 ∧ (grid0.coords t 1).val = t.val
    ∧ win0_0.index t = ![0, t.val, 0] ∧ win0_1.index t = ![0, t.val, 1] ∧ win0_2.index t = ![0, t.val, 1]
    ∧ win0_3.index t = ![0, t.val, 2] ∧ win0_4.index t = ![0, t.val, 0] ∧ win0_5.index t = ![0, 0] :=
  (by decide +kernel : ∀ t : Fin grid0.N, _)

section Blocks

variable (t : Fin cfg0.N) (b : Fin 4) (r : Fin 64)

theorem iblk0 (l : Fin 1024) : iblk m c 0 t (ix3 b r l) = rd (argP m c) (4160 * b.val + (64 * t.val + r.val)) l.val := by
  obtain ⟨ht, -, e, -⟩ := win_facts t
  show V m c main_v0 (((cfg0.win 0).blk t).view.emb (ix3 b r l)) = _
  rw [V_main_v0, ← cast6144 (argP m c) b ⟨64 * t.val + r.val, by omega⟩ ⟨l.val, by omega⟩]
  congr 1
  funext a
  refine Fin.ext ?_
  fin_cases a
  · show win0_0.index t 0 * 4 + 1 * b.val = b.val
    rw [e]; show 0 * 4 + 1 * b.val = _; omega
  · show win0_0.index t 1 * 64 + 1 * r.val = 64 * t.val + r.val
    rw [e]; show t.val * 64 + 1 * r.val = _; omega
  · show win0_0.index t 2 * 1024 + 1 * l.val = l.val
    rw [e]; show 0 * 1024 + 1 * l.val = _; omega

theorem iblk1 (l : Fin 1024) : iblk m c 1 t (ix3 b r l) = rd (argP m c) (4160 * b.val + (64 * t.val + r.val)) (1024 + l.val) := by
  obtain ⟨ht, -, -, e, -⟩ := win_facts t
  show V m c main_v0 (((cfg0.win 1).blk t).view.emb (ix3 b r l)) = _
  rw [V_main_v0, ← cast6144 (argP m c) b ⟨64 * t.val + r.val, by omega⟩ ⟨1024 + l.val, by omega⟩]
  congr 1
  funext a
  refine Fin.ext ?_
  fin_cases a
  · show win0_1.index t 0 * 4 + 1 * b.val = b.val
    rw [e]; show 0 * 4 + 1 * b.val = _; omega
  · show win0_1.index t 1 * 64 + 1 * r.val = 64 * t.val + r.val
    rw [e]; show t.val * 64 + 1 * r.val = _; omega
  · show win0_1.index t 2 * 1024 + 1 * l.val = 1024 + l.val
    rw [e]; show 1 * 1024 + 1 * l.val = _; omega

theorem iblk2 (l : Fin 2048) : iblk m c 2 t (ix3 b r l) = rd (argP m c) (4160 * b.val + (64 * t.val + r.val)) (2048 + l.val) := by
  obtain ⟨ht, -, -, -, e, -⟩ := win_facts t
  show V m c main_v0 (((cfg0.win 2).blk t).view.emb (ix3 b r l)) = _
  rw [V_main_v0, ← cast6144 (argP m c) b ⟨64 * t.val + r.val, by omega⟩ ⟨2048 + l.val, by omega⟩]
  congr 1
  funext a
  refine Fin.ext ?_
  fin_cases a
  · show win0_2.index t 0 * 4 + 1 * b.val = b.val
    rw [e]; show 0 * 4 + 1 * b.val = _; omega
  · show win0_2.index t 1 * 64 + 1 * r.val = 64 * t.val + r.val
    rw [e]; show t.val * 64 + 1 * r.val = _; omega
  · show win0_2.index t 2 * 2048 + 1 * l.val = 2048 + l.val
    rw [e]; show 1 * 2048 + 1 * l.val = _; omega

theorem iblk3 (l : Fin 2048) : iblk m c 3 t (ix3 b r l) = rd (argP m c) (4160 * b.val + (64 * t.val + r.val)) (4096 + l.val) := by
  obtain ⟨ht, -, -, -, -, e, -⟩ := win_facts t
  show V m c main_v0 (((cfg0.win 3).blk t).view.emb (ix3 b r l)) = _
  rw [V_main_v0, ← cast6144 (argP m c) b ⟨64 * t.val + r.val, by omega⟩ ⟨4096 + l.val, by omega⟩]
  congr 1
  funext a
  refine Fin.ext ?_
  fin_cases a
  · show win0_3.index t 0 * 4 + 1 * b.val = b.val
    rw [e]; show 0 * 4 + 1 * b.val = _; omega
  · show win0_3.index t 1 * 64 + 1 * r.val = 64 * t.val + r.val
    rw [e]; show t.val * 64 + 1 * r.val = _; omega
  · show win0_3.index t 2 * 2048 + 1 * l.val = 4096 + l.val
    rw [e]; show 2 * 2048 + 1 * l.val = _; omega

theorem iblk4 (l : Fin 1024) : iblk m c 4 t (ix3 b r l) = rd (argG m c) (4160 * b.val + (64 * t.val + r.val)) l.val := by
  obtain ⟨ht, -, -, -, -, -, e, -⟩ := win_facts t
  show V m c main_v1 (((cfg0.win 4).blk t).view.emb (ix3 b r l)) = _
  rw [V_main_v1, ← cast1024 (argG m c) b ⟨64 * t.val + r.val, by omega⟩ l]
  congr 1
  funext a
  refine Fin.ext ?_
  fin_cases a
  · show win0_4.index t 0 * 4 + 1 * b.val = b.val
    rw [e]; show 0 * 4 + 1 * b.val = _; omega
  · show win0_4.index t 1 * 64 + 1 * r.val = 64 * t.val + r.val
    rw [e]; show t.val * 64 + 1 * r.val = _; omega
  · show win0_4.index t 2 * 1024 + 1 * l.val = l.val
    rw [e]; show 0 * 1024 + 1 * l.val = _; omega

theorem iblk5 (l : Fin 2048) : iblk m c 5 t (ix2 0 l) = rd (argW m c) 0 l.val := by
  obtain ⟨ht, -, -, -, -, -, -, e⟩ := win_facts t
  show V m c main_arg2 (((cfg0.win 5).blk t).view.emb (ix2 0 l)) = _
  rw [V_main_arg2, ← rd_of_lt (argW m c) (r := 0) (c := l.val) (by decide) l.isLt]
  congr 1
  funext a
  refine Fin.ext ?_
  fin_cases a
  · show win0_5.index t 0 * 1 + 1 * 0 = 0
    rw [e]; rfl
  · show win0_5.index t 1 * 2048 + 1 * l.val = l.val
    rw [e]; show 0 * 2048 + 1 * l.val = _; omega

end Blocks

/-! ## The chunk of a point -/

section Chunk

variable (hp : ∀ b r l, b < 4 → r < 48 → l < 6144 → rd (argP m c) (4160 * b + r) l = 0)
variable (hg : ∀ r l, rd (argG m c) r l ≤ 0)

section Later

variable (t : Fin cfg0.N) (h0 : t.val ≠ 0) (b h : Fin 4)

theorem qB_later : qB (iblk m c 0 t) b h = qRows (argP m c) b h 64 (64 * t.val) := by
  funext r d; unfold qB qRows; rw [iblk0]; rfl
theorem kB_later : kB (iblk m c 1 t) b h = kRows (argP m c) b h 64 (64 * t.val) := by
  funext r d; unfold kB kRows; rw [iblk1]; rfl
theorem vB_later : vB (iblk m c 2 t) b h = vRows (argP m c) b h 64 (64 * t.val) := by
  funext r d; unfold vB vRows; rw [iblk2]; rfl
include h0 in
theorem gB_later : gB (grid0.coords t) (iblk m c 4 t) b h = gRows (argG m c) b h 64 (64 * t.val) := by
  funext r d; unfold gB gRows
  rw [iblk4, if_pos (.inl (by rw [(win_facts t).2.1]; omega))]; rfl

end Later

section First

variable (t : Fin cfg0.N) (h0 : t.val = 0) (b h : Fin 4)
include h0

/-- A row of the first block in front of the meta tokens, or one of the meta tokens. -/
theorem behind_ext {n : ℕ} (x : Fin 64 → Fin n → EReal) (y : Fin 16 → Fin n → EReal)
    (hlo : ∀ (r : Fin 48) d, x ⟨r.val, by omega⟩ d = 0) (hhi : ∀ (r : Fin 16) d, x ⟨48 + r.val, by omega⟩ d = y r d) :
    x = behind (n := 16) 48 y := by
  funext r d
  refine Fin.addCases (m := 48) (n := 16) (motive := fun r => x r d = behind (n := 16) 48 y r d) (fun r => ?_) (fun r => ?_) r
  · rw [behind_low]; exact hlo r d
  · rw [behind_high]; exact hhi r d

include hp in
theorem qB_first : qB (iblk m c 0 t) b h = behind (n := 16) 48 (qRows (argP m c) b h 16 48) := by
  refine behind_ext t h0 _ _ (fun r d => ?_) (fun r d => ?_) <;> unfold qB
  · rw [iblk0, h0]
    have := hp b (64 * 0 + r.val) (256 * h.val + d.val) b.isLt (by omega) (by omega)
    show rd (argP m c) (4160 * b.val + (64 * 0 + r.val)) (256 * h.val + d.val) * _ = 0
    rw [this, zero_mul]
  · rw [iblk0, h0]; unfold qRows
    show rd (argP m c) (4160 * b.val + (64 * 0 + (48 + r.val))) (256 * h.val + d.val) * _ = _
    rw [Nat.mul_zero, Nat.zero_add]
include hp in
theorem kB_first : kB (iblk m c 1 t) b h = behind (n := 16) 48 (kRows (argP m c) b h 16 48) := by
  refine behind_ext t h0 _ _ (fun r d => ?_) (fun r d => ?_) <;> unfold kB
  · rw [iblk1, h0]
    exact hp b (64 * 0 + r.val) (1024 + (256 * h.val + d.val)) b.isLt (by omega) (by omega)
  · rw [iblk1, h0]; unfold kRows
    show rd (argP m c) (4160 * b.val + (64 * 0 + (48 + r.val))) (1024 + (256 * h.val + d.val)) = _
    rw [Nat.mul_zero, Nat.zero_add]
include hp in
theorem vB_first : vB (iblk m c 2 t) b h = behind (n := 16) 48 (vRows (argP m c) b h 16 48) := by
  refine behind_ext t h0 _ _ (fun r d => ?_) (fun r d => ?_) <;> unfold vB
  · rw [iblk2, h0]
    exact hp b (64 * 0 + r.val) (2048 + (512 * h.val + d.val)) b.isLt (by omega) (by omega)
  · rw [iblk2, h0]; unfold vRows
    show rd (argP m c) (4160 * b.val + (64 * 0 + (48 + r.val))) (2048 + (512 * h.val + d.val)) = _
    rw [Nat.mul_zero, Nat.zero_add]
theorem gB_first : gB (grid0.coords t) (iblk m c 4 t) b h = behind (n := 16) 48 (gRows (argG m c) b h 16 48) := by
  refine behind_ext t h0 _ _ (fun r d => ?_) (fun r d => ?_) <;> unfold gB
  · rw [if_neg]
    rw [(win_facts t).2.1]
    show ¬(0 < t.val ∨ 48 ≤ r.val)
    omega
  · rw [if_pos (.inr (by show 48 ≤ 48 + r.val; omega)), iblk4, h0]; unfold gRows
    show rd (argG m c) (4160 * b.val + (64 * 0 + (48 + r.val))) (256 * h.val + d.val) = _
    rw [Nat.mul_zero, Nat.zero_add]

end First

/-- The norm's weights and the gate of a head's row in a point's block. -/
theorem gn_row (t : Fin cfg0.N) (h : Fin 4) :
    (fun u : Fin 512 => iblk m c 5 t (ix2 0 (col (hO' h) u))) = fun u => rd (argW m c) 0 (512 * h.val + u.val) := by
  funext u; rw [iblk5]; rfl
theorem gate_row (t : Fin cfg0.N) (b h : Fin 4) (r : Fin 64) :
    (fun u : Fin 512 => iblk m c 3 t (ix3 b r (col (hO' h) u)))
      = fun u => rd (argP m c) (4160 * b.val + (64 * t.val + r.val)) (4096 + (512 * h.val + u.val)) := by
  funext u; rw [iblk3]; rfl

include hg in
theorem gl_nonpos (t : Fin cfg0.N) (b : Fin 4) (r : Fin 64) (l : Fin 1024) :
    @LE.le EReal _ (iblk m c 4 t (ix3 b r l)) 0 := by
  rw [iblk4]; exact hg _ _

include hp hg

/-- After point `n`: the carried state. -/
theorem state_after : ∀ (n : ℕ) (hn : n < cfg0.N) (b h : Fin 4) (w : Fin 512) (d : Fin 256),
    (outsAt0 m c n hn).2 (ix4 b h w d) = state (argP m c) (argG m c) b h n d w
  | 0, hn, b, h, w, d => by
    rw [outsAt0_A m c ⟨0, hn⟩ rfl]
    dsimp only
    rw [sout_A_apply _ _ _ _ _ _ _ _ _ _ _ _ _ _ _ _ _ _ _ _ _ _ _ _ (gl_nonpos m c hg _)]
    unfold stateAt nextB
    dsimp only [ix4]
    rw [kB_first m c hp _ rfl, vB_first m c hp _ rfl, gB_first m c _ rfl]
    exact next_behind (a := 48) (n := 16) _ _ _ d w
  | n + 1, hn, b, h, w, d => by
    have h0 : ¬(⟨n + 1, hn⟩ : Fin cfg0.N).val % 65 = 0 := by
      have := (win_facts ⟨n + 1, hn⟩).1; dsimp only at this ⊢; omega
    rw [outsAt0_B m c ⟨n + 1, hn⟩ h0]
    dsimp only
    rw [sout_B_apply _ _ _ _ _ _ _ _ _ _ _ _ _ _ _ _ _ _ _ _ _ _ _ _ _ (gl_nonpos m c hg _)]
    unfold stateAt nextB
    dsimp only [ix4]
    rw [kB_later, vB_later, gB_later m c _ (Nat.succ_ne_zero n)]
    unfold state
    congr 1
    funext d w
    exact state_after n (Nat.lt_of_succ_lt hn) b h w d

/-- At point `n`: the block of the result. -/
theorem result_at (n : ℕ) (hn : n < cfg0.N) (b h : Fin 4) (r : Fin 64) (w : Fin 512) :
    (outsAt0 m c n hn).1 (ix3 b r (col (hO' h) w))
      = result (argP m c) (argG m c) (argW m c) b h (64 * n + r.val) w := by
  have eh : (⟨(512 * h.val + w.val) / 512, by omega⟩ : Fin 4) = h := Fin.ext (by show (512 * h.val + w.val) / 512 = h.val; omega)
  have ew : (⟨(512 * h.val + w.val) % 512, Nat.mod_lt _ (by decide)⟩ : Fin 512) = w :=
    Fin.ext (by show (512 * h.val + w.val) % 512 = w.val; omega)
  rcases Nat.eq_zero_or_pos n with rfl | hpos
  · rw [outsAt0_A m c ⟨0, hn⟩ rfl]
    dsimp only
    rw [out_A_apply _ _ _ _ _ _ _ _ _ _ _ _ _ _ _ _ _ _ _ _ _ _ _ _ (gl_nonpos m c hg _)]
    show outB _ _ _ _ _ _ _ b ⟨(512 * h.val + w.val) / 512, _⟩ _ r ⟨(512 * h.val + w.val) % 512, _⟩ = _
    rw [eh, ew]
    unfold outB result
    rw [gn_row, gate_row, qB_first m c hp _ rfl, kB_first m c hp _ rfl, vB_first m c hp _ rfl, gB_first m c _ rfl]
    congr 1
    funext u
    unfold rowOut
    have hr := r.isLt
    by_cases h48 : r.val < 48
    · rw [if_pos (by omega)]
      exact out_front (a := 48) (n := 16) _ _ _ _ ⟨r.val, h48⟩ u
    · rw [if_neg (by omega), dif_pos (by omega)]
      have e : r = Fin.natAdd 48 (⟨r.val - 48, by omega⟩ : Fin 16) := Fin.ext (by show r.val = 48 + (r.val - 48); omega)
      have := out_behind (a := 48) (n := 16) (qRows (argP m c) b h 16 48) (kRows (argP m c) b h 16 48)
        (gRows (argG m c) b h 16 48) (vRows (argP m c) b h 16 48) ⟨r.val - 48, by omega⟩ u
      rw [← e] at this
      refine this.trans ?_
      unfold metaOut
      congr 1
      exact Fin.ext (by show r.val - 48 = 64 * 0 + r.val - 48; omega)
  · have h65 := (win_facts ⟨n, hn⟩).1
    have h0 : ¬(⟨n, hn⟩ : Fin cfg0.N).val % 65 = 0 := by dsimp only at h65 ⊢; omega
    rw [outsAt0_B m c ⟨n, hn⟩ h0]
    dsimp only
    rw [out_B_apply _ _ _ _ _ _ _ _ _ _ _ _ _ _ _ _ _ _ _ _ _ _ _ _ _ (gl_nonpos m c hg _)]
    show outB _ _ _ _ _ _ _ b ⟨(512 * h.val + w.val) / 512, _⟩ _ r ⟨(512 * h.val + w.val) % 512, _⟩ = _
    rw [eh, ew]
    unfold outB result
    rw [gn_row, gate_row, qB_later, kB_later, vB_later, gB_later m c _ (Nat.pos_iff_ne_zero.mp hpos)]
    congr 1
    funext u
    unfold rowOut
    have hr := r.isLt
    rw [if_neg (by omega), dif_neg (by omega)]
    obtain ⟨j, rfl⟩ : ∃ j, n = j + 1 := ⟨n - 1, by omega⟩
    have e1 : (64 * (j + 1) + r.val) / 64 - 1 = j := by omega
    have e2 : (⟨(64 * (j + 1) + r.val) % 64, Nat.mod_lt _ (by decide)⟩ : Fin 64) = r :=
      Fin.ext (by show (64 * (j + 1) + r.val) % 64 = r.val; omega)
    rw [e1, e2]
    unfold chunkOut
    congr 1
    funext d x
    show (outsAt0 m c j _).2 (ix4 b ⟨(512 * h.val + w.val) / 512, _⟩ x d) = _
    rw [eh]
    exact state_after m c hp hg j (Nat.lt_of_succ_lt hn) b h x d

/-- The result array: row `r`, head `h`, column `w` of sequence `b`. -/
theorem array_after (b h : Fin 4) (r : Fin 4160) (w : Fin 512) :
    Value.G6 m c (ix3 b r (col (hO' h) w)) = result (argP m c) (argG m c) (argW m c) b h r.val w := by
  have hb := b.isLt; have hr := r.isLt; have hh := h.isLt; have hw := w.isLt
  have e : Value.pt6Of (ix3 b r (col (hO' h) w)) = r.val / 64 := by
    show 65 * (b.val / 4 - 0) + 1 * (r.val / 64 - 0) + 1 * ((512 * h.val + w.val) / 2048 - 0) = r.val / 64
    omega
  have hlt : r.val / 64 < cfg0.N := lt_of_lt_of_eq (show r.val / 64 < 65 by omega) N_0.symm
  unfold Value.G6
  rw [dif_pos (by rw [e]; exact hlt), Value.fold0_congr m c _ _ _ (by omega) e, ← Value.outsAt0_sweep m c (r.val / 64) hlt]
  have el : Value.loc6Of (ix3 b r (col (hO' h) w)) = ix3 b (⟨r.val % 64, Nat.mod_lt _ (by decide)⟩ : Fin 64) (col (hO' h) w) := by
    funext a
    refine Fin.ext ?_
    fin_cases a
    · show b.val % 4 = b.val; omega
    · rfl
    · show (512 * h.val + w.val) % 2048 = 512 * h.val + w.val; omega
  rw [el, result_at m c hp hg]
  congr 1
  show 64 * (r.val / 64) + r.val % 64 = r.val
  omega

end Chunk

end Cert.Gla

end
-- ==== Proof.Gla.Assumed.lean ====
/-
  What the claim's precondition says of the arguments: the rows that hold no token are zero, and no log gate is positive.
-/
module

public import proofs.«01_k».proof.Pre_layer_arguments
public import proofs.«01_k».proof.Proof.Gla.Fold
public import Idealize.ShloMosaic.Lib.ReduceAll

@[expose] public section

set_option maxRecDepth 16384

noncomputable section

namespace Cert.Gla

open Idealize.ShloMosaic Idealize.ShloMosaic.Tactic Idealize.ShloMosaic.StableHlo

/-- The shape relations of the precondition's operations. -/
theorem preFacts : Cert.Pre_layer_arguments.Facts where
  shapeCasts_S16640x6144_S4x4160x6144 := by decide
  slices_S4x4160x6144_S4x48x6144_0_0_0 := by decide
  bitsLt_bf16_f32 := by decide
  bcast_S_S4x48x6144 := by decide
  reducesTo_S4x48x6144_S_d0_1_2 := by decide
  h_S_ := by decide
  bcast_S_S16640x1024 := by decide
  reducesTo_S16640x1024_S_d0_1 := by decide

instance : Subsingleton Cert.Pre_layer_arguments.S_.Idx := ⟨fun a b => funext fun i => i.elim0⟩

theorem eq_of_oeq {x y : EReal} (h : Ideal.cmp .oeq x y = 1#1) : x = y := by
  by_contra hn
  have : Ideal.cmp .oeq x y = 0#1 := by unfold Ideal.cmp; simp [hn]
  rw [this] at h
  exact absurd h (by decide)

theorem le_of_ole {x y : EReal} (h : Ideal.cmp .ole x y = 1#1) : x ≤ y := by
  by_contra hn
  have : Ideal.cmp .ole x y = 0#1 := by unfold Ideal.cmp; simp [hn]
  rw [this] at h
  exact absurd h (by decide)

variable [Cert.Pre_layer_arguments.Facts]
  (p : (⟨2, ![16640, 6144]⟩ : Shape).Idx → EReal) (gl : (⟨2, ![16640, 1024]⟩ : Shape).Idx → EReal)
  (gn : (⟨2, ![1, 2048]⟩ : Shape).Idx → EReal)

open Cert.Pre_layer_arguments Cert.Pre_layer_arguments.Facts

theorem idle_slice (X : S4x4160x6144.Idx → EReal) (b : Fin 4) (r : Fin 48) (l : Fin 6144) :
    extractStridedSlice S4x48x6144 ![0, 0, 0] X slices_S4x4160x6144_S4x48x6144_0_0_0 (ix3 b r l)
      = X (ix3 b (⟨r.val, Nat.lt_trans r.isLt (by decide)⟩ : Fin 4160) l) := by
  refine extractStridedSlice_apply _ _ _ _ _ ?_
  intro a
  match a with
  | ⟨0, _⟩ => exact (Nat.zero_add _).symm
  | ⟨1, _⟩ => exact (Nat.zero_add _).symm
  | ⟨2, _⟩ => exact (Nat.zero_add _).symm

/-- The rows that hold no token. -/
theorem idle_zero (h : fn (F := Ideal) p gl gn = fun _ => 1#1) (b r l : ℕ) (hb : b < 4) (hr : r < 48) (hl : l < 6144) :
    rd p (4160 * b + r) l = 0 := by
  have h0 := congrFun h ix0
  have h1 := Host.reduce_andi_all _ _ reducesTo_S4x48x6144_S_d0_1_2 h_S_ _ (IntOp.andi_eq_one.1 h0).1
    (ix3 (⟨b, hb⟩ : Fin 4) (⟨r, hr⟩ : Fin 48) (⟨l, hl⟩ : Fin 6144))
  have h2 := eq_of_oeq h1
  have e1 := idle_slice (shapeCast S4x4160x6144 p shapeCasts_S16640x6144_S4x4160x6144) ⟨b, hb⟩ ⟨r, hr⟩ ⟨l, hl⟩
  have e2 := cast6144 p ⟨b, hb⟩ ⟨r, Nat.lt_trans hr (by decide)⟩ ⟨l, hl⟩
  dsimp only at e2
  rw [← e2]
  exact e1.symm.trans (h2.trans Ideal.ofBits_zero_f32)

/-- The log gates. -/
theorem gate_nonpos (h : fn (F := Ideal) p gl gn = fun _ => 1#1) (r l : ℕ) : rd gl r l ≤ 0 := by
  unfold rd
  split
  · have h0 := congrFun h ix0
    have h1 := Host.reduce_andi_all _ _ reducesTo_S16640x1024_S_d0_1 h_S_ _ (IntOp.andi_eq_one.1 h0).2
      (ix2 (⟨r, by omega⟩ : Fin 16640) (⟨l, by omega⟩ : Fin 1024))
    exact (le_of_ole h1).trans (le_of_eq Ideal.ofBits_zero_f32)
  · exact le_rfl

end Cert.Gla

end
-- ==== Proof.Gla.Window.lean ====
/-
  The host's window sum whose window ends at the row itself is the running sum of the rows.
-/
module

public import Idealize.ShloMosaic.Lib.Pointwise
public import Idealize.ShloMosaic.Lib.IdealHost

@[expose] public section

noncomputable section

namespace Cert.Gla

open Idealize.ShloMosaic
open scoped BigOperators

/-- Folding additions over a list adds its sum. -/
theorem foldl_add {ι : Type} (f : ι → EReal) : ∀ (l : List ι) (v : EReal), l.foldl (fun r k => r + f k) v = v + (l.map f).sum
  | [], v => by simp
  | k :: l, v => by rw [List.foldl_cons, foldl_add f l, List.map_cons, List.sum_cons, add_assoc]

/-- Folding additions over all positions adds the sum. -/
theorem foldl_add_sum (n : ℕ) (f : Fin n → EReal) (v : EReal) :
    (List.finRange n).foldl (fun r k => r + f k) v = v + ∑ k : Fin n, f k := by
  rw [foldl_add, Fin.sum_univ_def]

/-- Of the last axis but one only: an index of the window is its row. -/
def windowRow (n : ℕ) : (⟨4, ![1, 1, n, 1]⟩ : Shape).Idx ≃ Fin n where
  toFun w := w 2
  invFun k := ix4 0 0 k 0
  left_inv w := by
    funext a
    fin_cases a
    · exact Subsingleton.elim (α := Fin 1) _ _
    · exact Subsingleton.elim (α := Fin 1) _ _
    · rfl
    · exact Subsingleton.elim (α := Fin 1) _ _
  right_inv _ := rfl

/-- The positions of row `i`'s window that are inside hold the rows up to `i`. -/
theorem sum_window_rows (n : ℕ) (f : Fin n → EReal) (i : Fin n) :
    (∑ k : Fin n, if h : n - 1 ≤ i.val + k.val then f ⟨i.val + k.val - (n - 1), by omega⟩ else 0)
      = ∑ j : Fin n, if j ≤ i then f j else 0 := by
  have hi := i.isLt
  rw [← Finset.sum_filter]
  have e : (∑ k : Fin n, if h : n - 1 ≤ i.val + k.val then f ⟨i.val + k.val - (n - 1), by omega⟩ else 0)
      = ∑ k ∈ Finset.univ.filter (fun k : Fin n => n - 1 ≤ i.val + k.val), f ⟨i.val + k.val - (n - 1), by omega⟩ := by
    rw [Finset.sum_filter]
    exact Finset.sum_congr rfl fun k _ => by split <;> rfl
  rw [e]
  refine Finset.sum_bij' (fun k _ => ⟨i.val + k.val - (n - 1), by omega⟩)
    (fun j _ => if h : j ≤ i then ⟨j.val + (n - 1) - i.val, by have : j.val ≤ i.val := h; omega⟩ else j) ?_ ?_ ?_ ?_ ?_
  · intro k hk
    rw [Finset.mem_filter]
    refine ⟨Finset.mem_univ _, ?_⟩
    show i.val + k.val - (n - 1) ≤ i.val
    have := k.isLt; omega
  · intro j hj
    have hj' : j.val ≤ i.val := (Finset.mem_filter.mp hj).2
    rw [dif_pos (show j ≤ i from hj'), Finset.mem_filter]
    refine ⟨Finset.mem_univ _, ?_⟩
    show n - 1 ≤ i.val + (j.val + (n - 1) - i.val)
    omega
  · intro k hk
    have hk' := (Finset.mem_filter.mp hk).2
    have := k.isLt
    rw [dif_pos (show (⟨i.val + k.val - (n - 1), _⟩ : Fin n) ≤ i by show i.val + k.val - (n - 1) ≤ i.val; omega)]
    refine Fin.ext ?_
    show i.val + k.val - (n - 1) + (n - 1) - i.val = k.val
    omega
  · intro j hj
    have hj' : j.val ≤ i.val := (Finset.mem_filter.mp hj).2
    refine Fin.ext ?_
    simp only [dif_pos (show j ≤ i from hj')]
    omega
  · intro k hk; rfl

/-- A float running sum down the rows of each head. -/
theorem cumsum_apply {n c : ℕ} (x : (⟨4, ![4, 4, n, c]⟩ : Shape).Idx → EReal) (init : (⟨0, ![]⟩ : Shape).Idx → EReal)
    (h : (⟨4, ![4, 4, n, c]⟩ : Shape).ReduceWindows ![1, 1, n, 1] ![1, 1, 1, 1] ![0, 0, n - 1, 0] ![0, 0, 0, 0] ⟨4, ![4, 4, n, c]⟩)
    (hu : 0 < (⟨0, ![]⟩ : Shape).numel) (h0 : ∀ z, init z = 0) (b y : Fin 4) (i : Fin n) (d : Fin c) :
    Host.reduceWindowAdd (F := Ideal) (φ := .f32) ![1, 1, n, 1] ![1, 1, 1, 1] ![0, 0, n - 1, 0] ![0, 0, 0, 0] x init h hu (ix4 b y i d)
      = ∑ j : Fin n, if j ≤ i then x (ix4 b y j d) else 0 := by
  rw [← sum_window_rows n (fun j => x (ix4 b y j d)) i]
  show (List.finRange _).foldl (fun r k => r + _) (init _) = _
  rw [foldl_add_sum, h0, zero_add, ← Equiv.sum_comp ((Shape.rowMajor (⟨4, ![1, 1, n, 1]⟩ : Shape)))]
  rw [← Equiv.sum_comp (windowRow n).symm]
  refine Finset.sum_congr rfl fun k _ => ?_
  have hi := i.isLt
  have hk := k.isLt
  simp only [Equiv.symm_apply_apply]
  by_cases hc : n - 1 ≤ i.val + k.val
  · rw [dif_pos hc, dif_pos]
    · refine congrArg x (funext fun a => Fin.ext ?_)
      fin_cases a
      · show b.val * 1 + 0 - 0 = b.val; omega
      · show y.val * 1 + 0 - 0 = y.val; omega
      · show i.val * 1 + k.val - (n - 1) = i.val + k.val - (n - 1); omega
      · show d.val * 1 + 0 - 0 = d.val; omega
    · have hb := b.isLt; have hy := y.isLt; have hd := d.isLt
      intro a
      fin_cases a
      · show 0 ≤ b.val * 1 + 0 ∧ b.val * 1 + 0 - 0 < 4; omega
      · show 0 ≤ y.val * 1 + 0 ∧ y.val * 1 + 0 - 0 < 4; omega
      · show n - 1 ≤ i.val * 1 + k.val ∧ i.val * 1 + k.val - (n - 1) < n; omega
      · show 0 ≤ d.val * 1 + 0 ∧ d.val * 1 + 0 - 0 < c; omega
  · rw [dif_neg hc, dif_neg]
    intro hin
    have h2 : n - 1 ≤ i.val * 1 + k.val := (hin 2).1
    omega

end Cert.Gla

end
-- ==== Proof.Gla.Trip.lean ====
/-
  The reference's loop over the extended reals: what the scanned arrays hold, what one trip computes from them, and so
  the carried state and the collected outputs after every trip.
-/
module

public import proofs.«01_k».proof.Proof.Gen.ReferenceIdeal.Step
public import proofs.«01_k».proof.Proof.Gla.Spec
public import proofs.«01_k».proof.Proof.Gla.Window
public import Idealize.ShloMosaic.Lib.DynamicIndex
public import Idealize.ShloMosaic.Lib.Pipeline.Value

@[expose] public section

set_option maxRecDepth 16384

noncomputable section

namespace Cert.Gla

open Idealize.ShloMosaic
open Cert.ReferenceIdeal Cert.ReferenceIdeal.Gen Cert.ReferenceIdeal.Step
open scoped BigOperators

/-! ## The scanned arrays -/

section Arrays

variable (p : (⟨2, ![16640, 6144]⟩ : Shape).Idx → EReal) (gl : (⟨2, ![16640, 1024]⟩ : Shape).Idx → EReal)

theorem rd_at {n0 n1 : ℕ} (A : (⟨2, ![n0, n1]⟩ : Shape).Idx → EReal) (i : Fin n0) (j : Fin n1) {r c : ℕ} (hr : i.val = r) (hc : j.val = c) :
    A (ix2 i j) = rd A r c := by
  subst hr hc
  exact rd_of_lt A i.isLt j.isLt

theorem q_at (j : Fin 64) (b h : Fin 4) (i : Fin 64) (d : Fin 256) :
    A_main_v68 (F := Ideal) p gl (ix5 j b h i d) = qRows p b h 64 (64 * (j.val + 1)) i d := by
  pointwise [A_main_v68, A_main_v67, A_main_v66, A_main_v59, A_main_v57, A_main_v56, A_main_v53, A_main_v50, A_main_v49, A_main_v48, K_main_v58, K_main_cst_2]
  unfold qRows
  congr 1
  refine rd_at _ _ _ ?_ ?_ <;> dsimp only <;> omega

theorem k_at (j : Fin 64) (b h : Fin 4) (i : Fin 64) (d : Fin 256) :
    A_main_v71 (F := Ideal) p gl (ix5 j b h i d) = kRows p b h 64 (64 * (j.val + 1)) i d := by
  pointwise [A_main_v71, A_main_v70, A_main_v69, A_main_v61, A_main_v60, A_main_v54, A_main_v50, A_main_v49, A_main_v48]
  unfold kRows
  refine rd_at _ _ _ ?_ ?_ <;> dsimp only <;> omega

theorem v_at (j : Fin 64) (b h : Fin 4) (i : Fin 64) (d : Fin 512) :
    A_main_v74 (F := Ideal) p gl (ix5 j b h i d) = vRows p b h 64 (64 * (j.val + 1)) i d := by
  pointwise [A_main_v74, A_main_v73, A_main_v72, A_main_v63, A_main_v62, A_main_v55, A_main_v50, A_main_v49, A_main_v48]
  unfold vRows
  refine rd_at _ _ _ ?_ ?_ <;> dsimp only <;> omega

theorem g_at (j : Fin 64) (b h : Fin 4) (i : Fin 64) (d : Fin 256) :
    A_main_v77 (F := Ideal) p gl (ix5 j b h i d) = gRows gl b h 64 (64 * (j.val + 1)) i d := by
  pointwise [A_main_v77, A_main_v76, A_main_v75, A_main_v65, A_main_v64, A_main_v52, A_main_v51]
  unfold gRows
  refine rd_at _ _ _ ?_ ?_ <;> dsimp only <;> omega

/-! ## The meta tokens -/

theorem kMeta_at (b h : Fin 4) (i : Fin 16) (d : Fin 256) :
    A_main_v20 (F := Ideal) p gl (ix4 b h i d) = kRows p b h 16 48 i d := by
  pointwise [A_main_v20, A_main_v14, A_main_v13, A_main_v7, A_main_v3, A_main_v2, A_main_v1]
  unfold kRows
  refine rd_at _ _ _ ?_ ?_ <;> dsimp only <;> omega

theorem vMeta_at (b h : Fin 4) (i : Fin 16) (d : Fin 512) :
    A_main_v21 (F := Ideal) p gl (ix4 b h i d) = vRows p b h 16 48 i d := by
  pointwise [A_main_v21, A_main_v16, A_main_v15, A_main_v8, A_main_v3, A_main_v2, A_main_v1]
  unfold vRows
  refine rd_at _ _ _ ?_ ?_ <;> dsimp only <;> omega

theorem gMeta_at (b h : Fin 4) (i : Fin 16) (d : Fin 256) :
    A_main_v22 (F := Ideal) p gl (ix4 b h i d) = gRows gl b h 16 48 i d := by
  pointwise [A_main_v22, A_main_v18, A_main_v17, A_main_v5, A_main_v4]
  unfold gRows
  refine rd_at _ _ _ ?_ ?_ <;> dsimp only <;> omega

theorem cMeta_at (b h : Fin 4) (i : Fin 16) (d : Fin 256) :
    A_main_v23 (F := Ideal) p gl (ix4 b h i d) = cum (gRows gl b h 16 48) i d := by
  unfold A_main_v23 cum
  refine (cumsum_apply (n := 16) _ _ _ _ (fun z => by pointwise [K_main_call0_call0_v0, K_main_call0_call0_cst]) b h i d).trans ?_
  simp only [gMeta_at]

theorem start_state (b h : Fin 4) (d : Fin 256) (w : Fin 512) :
    A_main_v47 (F := Ideal) p gl (ix4 b h d w) = state p gl b h 0 d w := by
  have hl : ∀ d, A_main_v23 (F := Ideal) p gl (ix4 b h 15 d) = total (gRows gl b h 16 48) d := fun d =>
    (cMeta_at p gl b h 15 d).trans (cum_last (n := 15) _ d)
  pointwise [A_main_v47, A_main_v41, A_main_v40, A_main_v39, A_main_v38, A_main_v37, A_main_v24, A_main_v46, A_main_v45, A_main_v44,
    A_main_v43, A_main_v42, K_main_v0, K_main_cst]
  unfold state next
  simp only [hl, cMeta_at, kMeta_at, vMeta_at]

end Arrays

/-! ## One trip -/

section Trip

variable (s : State Ideal) (j : Fin 64) (b h : Fin 4)

theorem toInt_small : ∀ j : Fin 64, (BitVec.ofNat 32 j.val).toInt = (j.val : Int) := by decide

/-- The block of a scanned array at trip `j`. -/
theorem slice_at {c : ℕ} (x : (⟨5, ![64, 4, 4, 64, c]⟩ : Shape).Idx → EReal) (start : Fin 5 → Int)
    (h : (⟨5, ![64, 4, 4, 64, c]⟩ : Shape).Slices (fun _ => 0) ⟨5, ![1, 4, 4, 64, c]⟩) (h0 : start 0 = j.val)
    (h1 : start 1 = 0) (h2 : start 2 = 0) (h3 : start 3 = 0) (h4 : start 4 = 0) (z : Fin 1) (y : Fin 4) (i : Fin 64) (d : Fin c) :
    Host.dynamicSlice (s := ⟨5, ![64, 4, 4, 64, c]⟩) ⟨5, ![1, 4, 4, 64, c]⟩ x start h (ix5 z b y i d) = x (ix5 j b y i d) := by
  have hoff : (⟨5, ![64, 4, 4, 64, c]⟩ : Shape).Slices ![j.val, 0, 0, 0, 0] ⟨5, ![1, 4, 4, 64, c]⟩ := ⟨rfl, fun a => by
    have := j.isLt
    fin_cases a
    · show j.val + 1 ≤ 64; omega
    · show 0 + 4 ≤ 4; omega
    · show 0 + 4 ≤ 4; omega
    · show 0 + 64 ≤ 64; omega
    · show 0 + c ≤ c; omega⟩
  rw [Host.dynamicSlice_eq_extractStridedSlice (s := ⟨5, ![64, 4, 4, 64, c]⟩) ⟨5, ![1, 4, 4, 64, c]⟩ x start
    ![j.val, 0, 0, 0, 0] h hoff (fun a => by fin_cases a <;> assumption)]
  refine congrArg x (funext fun a => Fin.ext ?_)
  have := z.isLt
  fin_cases a
  · show j.val + z.val = j.val; omega
  · show 0 + b.val = b.val; omega
  · show 0 + y.val = y.val; omega
  · show 0 + i.val = i.val; omega
  · show 0 + d.val = d.val; omega

theorem b5_apply (i : Fin 64) (d : Fin 256) : b5 j s (ix4 b h i d) = s.main_v79_0 (ix5 j b h i d) := by
  have e : b4 j s (ix5 0 b h i d) = s.main_v79_0 (ix5 j b h i d) := by
    unfold b4; exact slice_at j b _ _ _ (toInt_small j) rfl rfl rfl rfl 0 h i d
  rw [← e]; pointwise [b5]
theorem b11_apply (i : Fin 64) (d : Fin 256) : b11 j s (ix4 b h i d) = s.main_v79_1 (ix5 j b h i d) := by
  have e : b10 j s (ix5 0 b h i d) = s.main_v79_1 (ix5 j b h i d) := by
    unfold b10; exact slice_at j b _ _ _ (toInt_small j) rfl rfl rfl rfl 0 h i d
  rw [← e]; pointwise [b11]
theorem b17_apply (i : Fin 64) (d : Fin 512) : b17 j s (ix4 b h i d) = s.main_v79_2 (ix5 j b h i d) := by
  have e : b16 j s (ix5 0 b h i d) = s.main_v79_2 (ix5 j b h i d) := by
    unfold b16; exact slice_at j b _ _ _ (toInt_small j) rfl rfl rfl rfl 0 h i d
  rw [← e]; pointwise [b17]
theorem b23_apply (i : Fin 64) (d : Fin 256) : b23 j s (ix4 b h i d) = s.main_v79_3 (ix5 j b h i d) := by
  have e : b22 j s (ix5 0 b h i d) = s.main_v79_3 (ix5 j b h i d) := by
    unfold b22; exact slice_at j b _ _ _ (toInt_small j) rfl rfl rfl rfl 0 h i d
  rw [← e]; pointwise [b23]

/-- The trip's rows of one head. -/
abbrev qT (i : Fin 64) (d : Fin 256) : EReal := s.main_v79_0 (ix5 j b h i d)
abbrev kT (i : Fin 64) (d : Fin 256) : EReal := s.main_v79_1 (ix5 j b h i d)
abbrev vT (i : Fin 64) (w : Fin 512) : EReal := s.main_v79_2 (ix5 j b h i w)
abbrev gT (i : Fin 64) (d : Fin 256) : EReal := s.main_v79_3 (ix5 j b h i d)
abbrev sT (d : Fin 256) (w : Fin 512) : EReal := s.main_v79_5 (ix4 b h d w)

theorem b26_apply (i : Fin 64) (d : Fin 256) : b26 j s (ix4 b h i d) = cum (gT s j b h) i d := by
  unfold b26 cum
  refine (cumsum_apply (n := 64) _ _ _ _ (fun z => by pointwise [b25, b24]) b h i d).trans ?_
  simp only [b23_apply]

theorem b26_last (d : Fin 256) : b26 j s (ix4 b h 63 d) = total (gT s j b h) d :=
  (b26_apply s j b h 63 d).trans (cum_last (n := 63) _ d)

theorem b43_apply (i k : Fin 64) : b43 j s (ix2 i k) = if k ≤ i then 1#1 else 0#1 := by
  pointwise [b43, b42, b41, b40, b39, b38, b37, b36, b35, b34, b33]
  revert i k
  decide +kernel

theorem b49_apply (i k : Fin 64) : b49 j s (ix4 b h i k) = score (qT s j b h) (kT s j b h) (gT s j b h) i k := by
  pointwise [b49, b48, b47, b46, b45, b44, b32, b31, b30, b29, b28]
  rw [b43_apply]
  unfold score
  split
  · refine (show ∀ x y : EReal, Scalar.select 1#1 x y = x from fun _ _ => rfl) _ _ |>.trans ?_
    simp only [b26_apply, b5_apply, b11_apply]
  · rfl

theorem b52_apply (i : Fin 64) (w : Fin 512) :
    b52 j s (ix4 b h i w) = out (qT s j b h) (kT s j b h) (gT s j b h) (vT s j b h) (sT s b h) i w := by
  pointwise [b52, b51, b50, b29, b28]
  unfold out
  simp only [b26_apply, b5_apply, b17_apply, b49_apply]

theorem b63_apply (d : Fin 256) (w : Fin 512) :
    b63 j s (ix4 b h d w) = next (kT s j b h) (gT s j b h) (vT s j b h) (sT s b h) d w := by
  pointwise [b63, b62, b61, b60, b59, b58, b57, b56, b55, b54, b53, b27]
  have hl : ∀ d, cum (gT s j b h) 63 d = total (gT s j b h) d := fun d => cum_last (n := 63) _ d
  unfold next
  simp only [b26_apply, hl, b11_apply, b17_apply]

theorem b69_apply (k : Fin 64) (i : Fin 64) (w : Fin 512) :
    b69 j s (ix5 k b h i w) = if k = j then b52 j s (ix4 b h i w) else s.main_v79_6 (ix5 k b h i w) := by
  have hoff : S64x4x4x64x512.Slices ![j.val, 0, 0, 0, 0] S1x4x4x64x512 := ⟨rfl, fun a => by
    have := j.isLt
    fin_cases a
    · show j.val + 1 ≤ 64; omega
    · show 0 + 4 ≤ 4; omega
    · show 0 + 4 ≤ 4; omega
    · show 0 + 64 ≤ 64; omega
    · show 0 + 512 ≤ 512; omega⟩
  have e : b69 j s = updateSlice s.main_v79_6 (b64 j s) ![j.val, 0, 0, 0, 0] hoff := by
    unfold b69
    refine Host.dynamicUpdateSlice_eq_updateSlice (s := S64x4x4x64x512) (u := S1x4x4x64x512) _ _ _ _ _ (fun a => ?_) hoff
    have := j.isLt
    fin_cases a
    · show (min (max ((BitVec.ofNat 32 j.val).toInt) 0) ((64 - 1 : ℕ) : Int)).toNat = j.val
      rw [toInt_small]; omega
    · rfl
    · rfl
    · rfl
    · rfl
  rw [e]
  have e64 : b64 j s (ix5 0 b h i w) = b52 j s (ix4 b h i w) := by pointwise [b64]
  rw [← e64]
  unfold updateSlice
  by_cases hkj : k = j
  · rw [if_pos hkj, dif_pos]
    · refine congrArg (b64 j s) (funext fun a => Fin.ext ?_)
      have hv : k.val = j.val := congrArg Fin.val hkj
      fin_cases a
      · show k.val - j.val = 0; omega
      · show b.val - 0 = b.val; omega
      · show h.val - 0 = h.val; omega
      · show i.val - 0 = i.val; omega
      · show w.val - 0 = w.val; omega
    · intro a
      have := b.isLt; have := h.isLt; have := i.isLt; have := w.isLt
      have hv : k.val = j.val := congrArg Fin.val hkj
      fin_cases a
      · show j.val ≤ k.val ∧ k.val < j.val + 1; omega
      · show 0 ≤ b.val ∧ b.val < 0 + 4; omega
      · show 0 ≤ h.val ∧ h.val < 0 + 4; omega
      · show 0 ≤ i.val ∧ i.val < 0 + 64; omega
      · show 0 ≤ w.val ∧ w.val < 0 + 512; omega
  · rw [if_neg hkj, dif_neg]
    intro hin
    have h0 : j.val ≤ k.val ∧ k.val < j.val + 1 := hin 0
    exact hkj (Fin.ext (by omega))

end Trip

/-! ## All trips -/

section Trips

variable (p : (⟨2, ![16640, 6144]⟩ : Shape).Idx → EReal) (gl : (⟨2, ![16640, 1024]⟩ : Shape).Idx → EReal)

/-- The carried arrays before trip `n`. -/
def trips : ℕ → State Ideal
  | 0 => init p gl
  | n + 1 => step n (trips n)

theorem trips_kept (n : ℕ) : (trips p gl n).main_v79_0 = A_main_v68 p gl ∧ (trips p gl n).main_v79_1 = A_main_v71 p gl
    ∧ (trips p gl n).main_v79_2 = A_main_v74 p gl ∧ (trips p gl n).main_v79_3 = A_main_v77 p gl := by
  induction n with
  | zero => exact ⟨rfl, rfl, rfl, rfl⟩
  | succ n ih => exact ih

variable (b h : Fin 4)

theorem trips_rows (n : Fin 64) : qT (trips p gl n) n b h = qRows p b h 64 (64 * (n.val + 1))
    ∧ kT (trips p gl n) n b h = kRows p b h 64 (64 * (n.val + 1)) ∧ vT (trips p gl n) n b h = vRows p b h 64 (64 * (n.val + 1))
    ∧ gT (trips p gl n) n b h = gRows gl b h 64 (64 * (n.val + 1)) := by
  obtain ⟨h0, h1, h2, h3⟩ := trips_kept p gl n
  refine ⟨?_, ?_, ?_, ?_⟩ <;> funext i d
  · unfold qT; rw [h0]; exact q_at p gl n b h i d
  · unfold kT; rw [h1]; exact k_at p gl n b h i d
  · unfold vT; rw [h2]; exact v_at p gl n b h i d
  · unfold gT; rw [h3]; exact g_at p gl n b h i d

/-- The carried state before trip `n` is the state after `n` chunks. -/
theorem trips_state : ∀ (n : ℕ) (_ : n ≤ 64), sT (trips p gl n) b h = state p gl b h n
  | 0, _ => by funext d w; exact start_state p gl b h d w
  | n + 1, hn => by
    funext d w
    obtain ⟨-, e1, e2, e3⟩ := trips_rows p gl b h ⟨n, hn⟩
    have := b63_apply (trips p gl n) ⟨n, hn⟩ b h d w
    refine this.trans ?_
    rw [e1, e2, e3, trips_state n (Nat.le_of_succ_le hn)]
    rfl

/-- The collected outputs before trip `n`: those of the first `n` chunks. -/
theorem trips_outputs : ∀ (n : ℕ) (_ : n ≤ 64) (k : Fin 64) (_ : k.val < n) (i : Fin 64) (w : Fin 512),
    (trips p gl n).main_v79_6 (ix5 k b h i w) = chunkOut p gl b h k.val i w
  | 0, _, k, hk, _, _ => absurd hk (Nat.not_lt_zero _)
  | n + 1, hn, k, hk, i, w => by
    refine (b69_apply (trips p gl n) ⟨n, hn⟩ b h k i w).trans ?_
    by_cases e : k = ⟨n, hn⟩
    · rw [if_pos e, b52_apply]
      obtain ⟨e0, e1, e2, e3⟩ := trips_rows p gl b h ⟨n, hn⟩
      rw [e0, e1, e2, e3, trips_state p gl b h n (Nat.le_of_succ_le hn), e]
      rfl
    · rw [if_neg e]
      refine trips_outputs n (Nat.le_of_succ_le hn) k ?_ i w
      rcases Nat.lt_succ_iff_lt_or_eq.mp hk with h | h
      · exact h
      · exact absurd (Fin.ext h) e

end Trips

end Cert.Gla

end
-- ==== Proof.Gla.Result.lean ====
/-
  The reference's result over the extended reals: the meta tokens' outputs in front of the chunks', the norm, the gate,
  and the idle rows in front.
-/
module

public import proofs.«01_k».proof.Proof.Gla.Trip
public import Idealize.ShloMosaic.Lib.ValueLayout

@[expose] public section

set_option maxRecDepth 16384

noncomputable section

namespace Cert.Gla

open Idealize.ShloMosaic
open Cert.ReferenceIdeal Cert.ReferenceIdeal.Gen Cert.ReferenceIdeal.Step
open scoped BigOperators

variable (s : State Ideal) (p : (⟨2, ![16640, 6144]⟩ : Shape).Idx → EReal) (gl : (⟨2, ![16640, 1024]⟩ : Shape).Idx → EReal)
  (gn : (⟨2, ![1, 2048]⟩ : Shape).Idx → EReal)

/-- The meta tokens' running sums of the log gates, keys and values. -/
abbrev cMeta : FVec Ideal S4x4x16x256 .f32 := A_main_v23 (F := Ideal) p gl
abbrev kMeta : FVec Ideal S4x4x16x256 .f32 := A_main_v20 (F := Ideal) p gl
abbrev vMeta : FVec Ideal S4x4x16x512 .f32 := A_main_v21 (F := Ideal) p gl
/-- All tokens' scaled queries. -/
abbrev qAll : FVec Ideal S4x4x4112x256 .f32 := A_main_v59 (F := Ideal) p gl
/-- Zeros: the state before the meta tokens, and the scores ahead of a token. -/
abbrev zeroState : FVec Ideal S4x4x256x512 .f32 := K_main_v0 (F := Ideal)
abbrev zeroScores : FVec Ideal S4x4x16x16 .f32 := K_main_call2_v2 (F := Ideal)

/-- The meta tokens' scaled queries with their decay. -/
def qMeta : FVec Ideal S4x4x16x256 .f32 :=
  mulf (extractStridedSlice S4x4x16x256 ![0, 0, 0, 0] (qAll p gl) slices_S4x4x4112x256_S4x4x16x256_0_0_0_0)
    (Host.exp (cMeta p gl))

/-- Their causal scores. -/
def attMeta : FVec Ideal S4x4x16x16 .f32 :=
  select (K_main_call2_v1 (F := Ideal))
    (Host.dotGeneral dot_S4x4x16x256_S4x4x16x256_S4x4x16x16_3_3_2_2_01_01 none (qMeta p gl)
      (mulf (kMeta p gl) (Host.exp (Host.negf (cMeta p gl)))))
    zeroScores

/-- Their outputs. -/
def outMeta : FVec Ideal S4x4x16x512 .f32 :=
  addf (Host.dotGeneral dot_S4x4x16x256_S4x4x256x512_S4x4x16x512_3_2_2_3_01_01 none (qMeta p gl) zeroState)
    (Host.dotGeneral dot_S4x4x16x16_S4x4x16x512_S4x4x16x512_3_2_2_3_01_01 none (attMeta p gl) (vMeta p gl))

/-- All tokens' outputs. -/
def outAll : FVec Ideal S4x4x4112x512 .f32 :=
  concatenate S4x4x4112x512 2 [⟨S4x4x16x512, outMeta p gl⟩, ⟨S4x4x4096x512, shapeCast S4x4x4096x512
    (transpose S4x4x64x64x512 [1, 2, 0, 3, 4] s.main_v79_6 transposes_S64x4x4x64x512_S4x4x64x64x512_1_2_0_3_4)
    shapeCasts_S4x4x64x64x512_S4x4x4096x512⟩] concatenates_S4x4x16x512_S4x4x4096x512_S4x4x4112x512_d2

/-- The gates' columns of the tokens' rows. -/
def gateAll : FVec Ideal S4x4112x2048 .f32 :=
  extf .f32 (extractStridedSlice S4x4112x2048 ![0, 48, 4096] (shapeCast S4x4160x6144 p shapeCasts_S16640x6144_S4x4160x6144 : FVec Ideal S4x4160x6144 .bf16)
    slices_S4x4160x6144_S4x4112x2048_0_48_4096) bitsLt_bf16_f32

/-- The norm over each head's row. -/
def normAll (O : FVec Ideal S4x4x4112x512 .f32) : FVec Ideal S4x4x4112x512 .f32 :=
  mulf (mulf O (broadcastInDim S4x4x4112x512 ![0, 1, 2, 3] bcast_S4x4x4112x1_S4x4x4112x512_0_1_2_3
      (Host.rsqrt (addf (Host.divf (broadcastInDim S4x4x4112x1 ![0, 1, 2] bcast_S4x4x4112_S4x4x4112x1_0_1_2
          (Host.reduceAdd (mulf O O) (constant S_ .f32 0x00000000#32) reducesTo_S4x4x4112x512_S4x4x4112_d3 h_S_))
        (broadcastInDim S4x4x4112x1 ![] bcast_S_S4x4x4112x1 (constant S_ .f32 0x44000000#32)))
        (broadcastInDim S4x4x4112x1 ![] bcast_S_S4x4x4112x1 (constant S_ .f32 0x3727C5AC#32))))))
    (broadcastInDim S4x4x4112x512 ![0, 1, 2, 3] bcast_S1x4x1x512_S4x4x4112x512_0_1_2_3
      (broadcastInDim S1x4x1x512 ![1, 2, 3] bcast_S4x1x512_S1x4x1x512_1_2_3
        (shapeCast S4x1x512 gn shapeCasts_S1x2048_S4x1x512 : FVec Ideal S4x1x512 .f32)))

/-- The tokens' rows of the result. -/
def rowsAll : FVec Ideal S4x4112x2048 .f32 :=
  mulf (shapeCast S4x4112x2048 (transpose S4x4112x4x512 [0, 2, 1, 3] (normAll gn (outAll s p gl))
      transposes_S4x4x4112x512_S4x4112x4x512_0_2_1_3) shapeCasts_S4x4112x4x512_S4x4112x2048)
    (mulf (gateAll p) (Host.divf (broadcastInDim S4x4112x2048 ![] bcast_S_S4x4112x2048 (constant S_ .f32 0x3F800000#32))
      (addf (broadcastInDim S4x4112x2048 ![] bcast_S_S4x4112x2048 (constant S_ .f32 0x3F800000#32))
        (Host.exp (Host.negf (gateAll p))))))

theorem result_eq : R_main_v153 (F := Ideal) s p gl gn
    = truncf .bf16 (pad S4x4160x2048 ![0, 48, 0] ![0, 0, 0] ![0, 0, 0] (rowsAll s p gl gn)
        (sitofp .f32 (constantI S_ 32 0#32)) pads_S4x4112x2048_S4x4160x2048_000_4800_000 h_S_) bitsLt_bf16_f32 := rfl

theorem cMeta_apply (b h : Fin 4) (i : Fin 16) (d : Fin 256) :
    cMeta p gl (ix4 b h i d) = cum (gRows gl b h 16 48) i d := cMeta_at p gl b h i d
theorem kMeta_apply (b h : Fin 4) (i : Fin 16) (d : Fin 256) : kMeta p gl (ix4 b h i d) = kRows p b h 16 48 i d :=
  kMeta_at p gl b h i d
theorem vMeta_apply (b h : Fin 4) (i : Fin 16) (w : Fin 512) : vMeta p gl (ix4 b h i w) = vRows p b h 16 48 i w :=
  vMeta_at p gl b h i w

theorem qMeta_apply (b h : Fin 4) (i : Fin 16) (d : Fin 256) :
    qMeta p gl (ix4 b h i d) = qRows p b h 16 48 i d * Ideal.exp (cum (gRows gl b h 16 48) i d) := by
  pointwise [qMeta, A_main_v59, A_main_v57, A_main_v56, A_main_v53, A_main_v50, A_main_v49, A_main_v48, K_main_v58, K_main_cst_2]
  rw [cMeta_apply]
  unfold qRows
  congr 2
  refine rd_at _ _ _ ?_ ?_ <;> dsimp only <;> omega

theorem causal16 (b h : Fin 4) (i k : Fin 16) : K_main_call2_v1 (F := Ideal) (ix4 b h i k) = if k ≤ i then 1#1 else 0#1 := by
  pointwise [K_main_call2_v1, K_main_v31, K_main_call1_v5, K_main_call1_c_0, K_main_call1_v4, K_main_call1_v3, K_main_call1_v2,
    K_main_call1_v1, K_main_call1_c, K_main_call1_v0, K_main_v30, K_main_c]
  revert i k
  decide +kernel

theorem attMeta_apply (b h : Fin 4) (i k : Fin 16) :
    attMeta p gl (ix4 b h i k) = score (qRows p b h 16 48) (kRows p b h 16 48) (gRows gl b h 16 48) i k := by
  pointwise [attMeta]
  rw [causal16]
  unfold score
  split
  · refine (show ∀ x y : EReal, Scalar.select 1#1 x y = x from fun _ _ => rfl) _ _ |>.trans ?_
    simp only [qMeta_apply, kMeta_apply, cMeta_apply]
  · pointwise [K_main_call2_v2, K_main_call2_v0, K_main_cst_1]
    exact Ideal.ofBits_zero_f32

theorem outMeta_apply (b h : Fin 4) (i : Fin 16) (w : Fin 512) : outMeta p gl (ix4 b h i w) = metaOut p gl b h i w := by
  pointwise [outMeta, K_main_v0, K_main_cst]
  unfold metaOut out
  simp only [qMeta_apply, attMeta_apply, vMeta_apply]

theorem outAll_apply (b h : Fin 4) (i : Fin 4112) (w : Fin 512) :
    outAll (trips p gl 64) p gl (ix4 b h i w) = rowOut p gl b h (48 + i.val) w := by
  have hi := i.isLt
  pointwise [outAll]
  by_cases h16 : i.val < 16
  · have er : rowOut p gl b h (48 + i.val) w = metaOut p gl b h ⟨i.val, h16⟩ w := by
      unfold rowOut
      rw [if_neg (by omega), dif_pos (by omega)]
      congr 1
      exact Fin.ext (by show 48 + i.val - 48 = i.val; omega)
    rw [er]
    exact (dif_pos h16).trans (outMeta_apply p gl b h ⟨i.val, h16⟩ w)
  · have er : rowOut p gl b h (48 + i.val) w
        = chunkOut p gl b h ((i.val - 16) / 64) ⟨(i.val - 16) % 64, Nat.mod_lt _ (by decide)⟩ w := by
      unfold rowOut
      rw [if_neg (by omega), dif_neg (by omega)]
      have e1 : (48 + i.val) / 64 - 1 = (i.val - 16) / 64 := by omega
      have e2 : (48 + i.val) % 64 = (i.val - 16) % 64 := by omega
      rw [e1]
      congr 1
      exact Fin.ext e2
    rw [er]
    exact (dif_neg h16).trans (trips_outputs p gl b h 64 le_rfl ⟨(i.val - 16) / 64, by omega⟩
      (by show (i.val - 16) / 64 < 64; omega) ⟨(i.val - 16) % 64, Nat.mod_lt _ (by decide)⟩ w)

theorem gateAll_apply (b : Fin 4) (i : Fin 4112) (l : Fin 2048) :
    gateAll p (ix3 b i l) = rd p (4160 * b.val + (48 + i.val)) (4096 + l.val) := by
  pointwise [gateAll]
  refine rd_at _ _ _ ?_ ?_ <;> dsimp only <;> omega

theorem normAll_apply (O : FVec Ideal S4x4x4112x512 .f32) (b h : Fin 4) (i : Fin 4112) (w : Fin 512) :
    normAll gn O (ix4 b h i w) = O (ix4 b h i w) * Ideal.rsqrt (Ideal.div (∑ u : Fin 512, O (ix4 b h i u) * O (ix4 b h i u)) (Ideal.ofBits .f32 0x44000000#32)
      + Ideal.ofBits .f32 0x3727C5AC#32) * rd gn 0 (512 * h.val + w.val) := by
  pointwise [normAll]
  congr 1
  refine rd_at _ _ _ ?_ ?_
  · rfl
  · dsimp only; omega

/-- The heads side by side in a token's row. -/
def heads (O : FVec Ideal S4x4x4112x512 .f32) : FVec Ideal S4x4112x2048 .f32 :=
  shapeCast S4x4112x2048 (transpose S4x4112x4x512 [0, 2, 1, 3] O
    transposes_S4x4x4112x512_S4x4112x4x512_0_2_1_3) shapeCasts_S4x4112x4x512_S4x4112x2048

theorem turned_apply (O : FVec Ideal S4x4x4112x512 .f32) (b : Fin 4) (i : Fin 4112) (h : Fin 4) (w : Fin 512) :
    transpose S4x4112x4x512 [0, 2, 1, 3] O transposes_S4x4x4112x512_S4x4112x4x512_0_2_1_3 (ix4 b i h w)
      = O (ix4 b h i w) := by
  pointwise

theorem heads_apply (O : FVec Ideal S4x4x4112x512 .f32) (b : Fin 4) (i : Fin 4112) (l : Fin 2048) :
    heads O (ix3 b i l) = O (ix4 b ⟨l.val / 512, by omega⟩ i ⟨l.val % 512, Nat.mod_lt _ (by decide)⟩) := by
  unfold heads
  rw [shapeCast_apply _ _ (ix3 b i l) (ix4 b i ⟨l.val / 512, by omega⟩ ⟨l.val % 512, Nat.mod_lt _ (by decide)⟩)
    (by
      rw [Shape.rowMajor_val_four, Shape.rowMajor_val_three]
      show ((b.val * 4112 + i.val) * 4 + l.val / 512) * 512 + l.val % 512 = (b.val * 4112 + i.val) * 2048 + l.val
      omega)]
  exact turned_apply O b i _ _

theorem gated_apply (H G : FVec Ideal S4x4112x2048 .f32) (y : S4x4112x2048.Idx) :
    (mulf H (mulf G (Host.divf (broadcastInDim S4x4112x2048 ![] bcast_S_S4x4112x2048 (constant S_ .f32 0x3F800000#32))
      (addf (broadcastInDim S4x4112x2048 ![] bcast_S_S4x4112x2048 (constant S_ .f32 0x3F800000#32))
        (Host.exp (Host.negf G))))) : FVec Ideal S4x4112x2048 .f32) y
      = H y * (G y * Ideal.logistic (G y)) := by
  show H y * (G y * Ideal.div (Ideal.ofBits .f32 0x3F800000#32) (Ideal.ofBits .f32 0x3F800000#32 + Ideal.exp (-(G y)))) = _
  rw [Ideal.ofBits_one_f32]
  rfl

theorem rowsAll_read (b : Fin 4) (i : Fin 4112) (l : Fin 2048) :
    rowsAll s p gl gn (ix3 b i l)
      = normAll gn (outAll s p gl) (ix4 b ⟨l.val / 512, by omega⟩ i ⟨l.val % 512, Nat.mod_lt _ (by decide)⟩)
        * (gateAll p (ix3 b i l) * Ideal.logistic (gateAll p (ix3 b i l))) := by
  rw [← heads_apply (normAll gn (outAll s p gl)) b i l]
  exact gated_apply _ _ _

/-- The reference's result in the tokens' rows. -/
theorem rowsAll_apply (b : Fin 4) (i : Fin 4112) (l : Fin 2048) :
    rowsAll (trips p gl 64) p gl gn (ix3 b i l)
      = result p gl gn b (l.val / 512) (48 + i.val) ⟨l.val % 512, Nat.mod_lt _ (by decide)⟩ := by
  have e : 512 * (l.val / 512) + l.val % 512 = l.val := Nat.div_add_mod _ _
  have eg : rd p (4160 * b.val + (48 + i.val)) (4096 + l.val)
      = rd p (4160 * b.val + (48 + i.val)) (4096 + (512 * (l.val / 512) + l.val % 512)) := by rw [e]
  refine (rowsAll_read _ p gl gn b i l).trans ?_
  rw [normAll_apply, gateAll_apply, eg]
  simp only [outAll_apply]
  unfold result normGate
  rfl

/-- The reference's result. -/
theorem reference_value (b : Fin 4) (r : Fin 4160) (l : Fin 2048) :
    R_main_v153 (F := Ideal) (trips p gl 64) p gl gn (ix3 b r l)
      = result p gl gn b (l.val / 512) r.val ⟨l.val % 512, Nat.mod_lt _ (by decide)⟩ := by
  rw [result_eq]
  have hr := r.isLt
  have hb := b.isLt
  have hl := l.isLt
  show pad S4x4160x2048 ![0, 48, 0] ![0, 0, 0] ![0, 0, 0] (rowsAll (trips p gl 64) p gl gn)
    (sitofp .f32 (constantI S_ 32 0#32) : FVec Ideal S_ .f32) pads_S4x4112x2048_S4x4160x2048_000_4800_000 h_S_ (ix3 b r l) = _
  unfold pad
  by_cases h48 : r.val < 48
  · rw [dif_neg]
    · unfold result
      rw [normGate_zero _ _ _ _ (by unfold rowOut; rw [if_pos h48])]
      show (((0#32 : BitVec 32).toInt : ℝ) : EReal) = 0
      simp
    · intro hin
      have h1 : 48 ≤ r.val := (hin 1).1
      omega
  · rw [dif_pos]
    · have e := rowsAll_apply p gl gn b ⟨r.val - 48, by omega⟩ l
      have er : 48 + (r.val - 48) = r.val := by omega
      dsimp only at e
      rw [er] at e
      rw [← e]
      refine congrArg _ (funext fun a => Fin.ext ?_)
      fin_cases a
      · show (b.val - 0) / (0 + 1) = b.val; omega
      · show (r.val - 48) / (0 + 1) = r.val - 48; omega
      · show (l.val - 0) / (0 + 1) = l.val; omega
    · intro a
      fin_cases a
      · show 0 ≤ b.val ∧ (b.val - 0) % (0 + 1) = 0 ∧ (b.val - 0) / (0 + 1) < 4; omega
      · show 48 ≤ r.val ∧ (r.val - 48) % (0 + 1) = 0 ∧ (r.val - 48) / (0 + 1) < 4112; omega
      · show 0 ≤ l.val ∧ (l.val - 0) % (0 + 1) = 0 ∧ (l.val - 0) / (0 + 1) < 2048; omega

end Cert.Gla

end
-- ==== Proof.Gla.Trips.lean ====
/-
  The reference's loop as iterated steps: before the k-th test of the loop's condition the carried
  buffers hold the k-th term of any sequence of states that starts at what the operations before
  the loop leave and goes on by one trip's step. The program's result is then the operations after
  the loop at term 64.
-/
module

public import proofs.«01_k».proof.Proof.Gen.ReferenceIdeal.Run
public import proofs.«01_k».proof.Proof.Gen.ReferenceIdeal.Step

@[expose] public section

set_option maxRecDepth 16384

noncomputable section

namespace Cert.Gla

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

/-- The carried arrays (state, outputs, the four cut-up operands) as a valuation holds them. -/
def carried (V : Valuation τ sig (Elt F)) : State F where
  main_v79_5 := V (Proc.devRef .tc main_v79_5)
  main_v79_6 := V (Proc.devRef .tc main_v79_6)
  main_v79_0 := V (Proc.devRef .tc main_v79_0)
  main_v79_1 := V (Proc.devRef .tc main_v79_1)
  main_v79_2 := V (Proc.devRef .tc main_v79_2)
  main_v79_3 := V (Proc.devRef .tc main_v79_3)

/-- The trip counter of a valuation stands at `j`. -/
def counterAt (V : Valuation τ sig (Elt F)) (j : ℕ) : Prop :=
  V (Proc.devRef .tc main_v79_4) = constantI S_ 32 (BitVec.ofNat 32 j)

variable {V : Valuation τ sig (Elt F)} {j : ℕ}

/-- A trip's new state is the step's. -/
theorem carried_state (h : counterAt V j) : step_main_v79_5 V = Step.b63 j (carried V) := by
  unfold counterAt at h
  unfold step_main_v79_5 res_main_while0b_v159 res_main_while0b_v158 res_main_while0b_v155 res_main_while0b_v156
  rw [h]
  rfl

/-- A trip's new array of outputs is the step's. -/
theorem carried_outputs (h : counterAt V j) : step_main_v79_6 V = Step.b69 j (carried V) := by
  unfold counterAt at h
  unfold step_main_v79_6 res_main_while0b_v161 res_main_while0b_v158 res_main_while0b_v155 res_main_while0b_v156
  rw [h]
  rfl

/-- A trip moves the counter on by one. -/
theorem counter_next (h : counterAt V j) : counterAt (STEP V) (j + 1) := by
  unfold counterAt at h ⊢
  rw [STEP_main_v79_4]
  unfold step_main_v79_4
  rw [h]
  funext i
  show BitVec.ofNat 32 j + 1#32 = BitVec.ofNat 32 (j + 1)
  rw [BitVec.ofNat_add]

/-- A trip's carried arrays are the step of those before it. -/
theorem carried_next (h : counterAt V j) : carried (STEP V) = step j (carried V) := by
  unfold step
  rw [← carried_state h, ← carried_outputs h, ← STEP_main_v79_5, ← STEP_main_v79_6]
  unfold carried
  rw [STEP_main_v79_0, STEP_main_v79_1, STEP_main_v79_2, STEP_main_v79_3]

variable (m : (ℓ : Loc nD τ sig) → Buf (Elt F) ℓ) (c : Dev nD)

/-- The carried arrays the loop starts from, of the arguments in memory. -/
abbrev start : State F := init (m ((c.tc : Thread nD τ).loc main_arg0)) (m ((c.tc : Thread nD τ).loc main_arg1))

set_option maxRecDepth 65536 in
set_option maxHeartbeats 800000 in
/-- The operations before the loop leave the starting arrays and the counter at zero. -/
theorem entry : carried (entryContents preI m c) = start m c ∧ counterAt (entryContents preI m c) 0 := by
  constructor
  · unfold carried
    simp only [entryContents, afterL_cons, afterL_nil]
    after_reads_simp
    rfl
  · unfold counterAt
    simp only [entryContents, afterL_cons, afterL_nil]
    after_reads_simp
    rfl

/-- Any sequence with the right start and step is what the loop carries, trip by trip. -/
theorem after_trips (it : ℕ → State F) (h0 : it 0 = start m c) (hs : ∀ n, it (n + 1) = step n (it n)) (k : ℕ) :
    carried (STEP^[k] (entryContents preI m c)) = it k ∧ counterAt (STEP^[k] (entryContents preI m c)) k := by
  induction k with
  | zero => rw [h0]; exact entry m c
  | succ k ih =>
    rw [Function.iterate_succ_apply', hs k, ← ih.1]
    exact ⟨carried_next ih.2, counter_next ih.2⟩

/-- The operations after the loop, read off the carried arrays and the arguments. -/
theorem after_loop (V : Valuation τ sig (Elt F)) :
    out_main_v153 V = Step.R_main_v153 (carried V) (V (Proc.devRef .tc main_arg0)) (V (Proc.devRef .tc main_arg1))
      (V (Proc.devRef .tc main_arg2)) := by
  unfold out_main_v153 Step.R_main_v153 carried
  rfl

/-- Every execution of the reference ends with the operations after the loop at term 64 of such a sequence, and with its
    arguments as they were. -/
theorem reference_run (ρ : Dev nD → PrngReg) (it : Dev nD → ℕ → State F)
    (h0 : ∀ c, it c 0 = start m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v153) = Step.R_main_v153 (it c 64) (m ((c.tc : Thread nD τ).loc main_arg0))
        (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ⟨(h c).1.trans ?_, (h c).2⟩) (Value.run m ρ)
  rw [after_loop, iter_main_arg0, iter_main_arg1, iter_main_arg2, (after_trips m c (it c) (h0 c) (hs c) 64).1]

end Cert.Gla

end
-- ==== Proof.Mlp.Spec.lean ====
/-
  The feed-forward part of a layer on one row, over the extended reals: the norm, the hidden row through the squared
  positive part, and the sum over the hidden columns, whole or in blocks of 1024.
-/
module

public import Idealize.ShloMosaic.Lib.IdealHost
public import Idealize.ShloMosaic.Lib.Pointwise
public import Idealize.ShloMosaic.Lib.ValueLayout

@[expose] public section

set_option maxRecDepth 16384

noncomputable section

namespace Cert.Mlp

open Idealize.ShloMosaic
open scoped BigOperators

/-- A row of the hidden states. -/
abbrev Row := Fin 2048 → EReal

/-- The norm: the row over the root of its mean square, times the weights. -/
def rms (x g : Row) (l : Fin 2048) : EReal :=
  x l * Ideal.rsqrt (Ideal.div (∑ u : Fin 2048, x u * x u) (Ideal.ofBits .f32 0x45000000#32) + Ideal.ofBits .f32 0x358637BD#32)
    * g l

/-- The squared positive part. -/
def sqPos (s : EReal) : EReal := max s 0 * max s 0

section Sum

variable (x y : Row) (w1 : (⟨3, ![1, 2048, 8192]⟩ : Shape).Idx → EReal) (w2 : (⟨3, ![1, 8192, 2048]⟩ : Shape).Idx → EReal)
  (l : Fin 2048)

/-- What hidden column `f` adds to column `l`. -/
def term (f : Fin 8192) : EReal := sqPos (∑ u : Fin 2048, y u * w1 (ix3 0 u f)) * w2 (ix3 0 f l)

/-- The same with nothing behind the last column. -/
def termN (f : ℕ) : EReal := if h : f < 8192 then term y w1 w2 l ⟨f, h⟩ else 0

/-- The row with the first `n` hidden columns added. -/
def upTo (n : ℕ) : EReal := x l + ∑ f ∈ Finset.range n, termN y w1 w2 l f

theorem upTo_zero : upTo x y w1 w2 l 0 = x l := by
  unfold upTo; rw [Finset.range_zero, Finset.sum_empty, add_zero]

/-- One block of 1024 columns more. -/
theorem upTo_block (j : ℕ) : upTo x y w1 w2 l (1024 * (j + 1))
    = upTo x y w1 w2 l (1024 * j) + ∑ k : Fin 1024, termN y w1 w2 l (1024 * j + k.val) := by
  unfold upTo
  rw [Nat.mul_succ, Finset.sum_range_add, ← add_assoc,
    Fin.sum_univ_eq_sum_range (fun k => termN y w1 w2 l (1024 * j + k)) 1024]

theorem upTo_all : upTo x y w1 w2 l 8192 = x l + ∑ f : Fin 8192, term y w1 w2 l f := by
  unfold upTo
  refine congrArg (x l + ·) ((Fin.sum_univ_eq_sum_range (termN y w1 w2 l) 8192).symm.trans ?_)
  refine Finset.sum_congr rfl fun f _ => ?_
  unfold termN
  exact dif_pos f.isLt

end Sum

/-- The feed-forward part on one row. -/
def mlp (x g : Row) (w1 : (⟨3, ![1, 2048, 8192]⟩ : Shape).Idx → EReal) (w2 : (⟨3, ![1, 8192, 2048]⟩ : Shape).Idx → EReal)
    (l : Fin 2048) : EReal :=
  x l + ∑ f : Fin 8192, term (rms x g) w1 w2 l f

end Cert.Mlp

end
-- ==== Proof.Mlp.Final.Point.lean ====
/-
  One grid point of the last feed-forward part: what it leaves in its block of the result and in the normed rows it
  carries, from its input blocks and what the point before left.
-/
module

public import proofs.«01_k».proof.Proof.Gen.Kernel2Ideal.Frame
public import proofs.«01_k».proof.Proof.Mlp.Spec
public import Idealize.ShloMosaic.Lib.VecWindow
public import Idealize.ShloMosaic.Lib.WholeRead

@[expose] public section

set_option maxRecDepth 16384

noncomputable section

namespace Cert.Mlp.Final

open Idealize.ShloMosaic Idealize.ShloMosaic.TcCoe Idealize.ShloMosaic.Tactic
open Cert.Kernel2Ideal Cert.Kernel2Ideal.Gen
open scoped BigOperators

/-! ## The values at an index -/

theorem pay2_apply (x : Vec Ideal S512x2048 .f32) (g : Vec Ideal S1x2048 .f32) (r : Fin 512) (l : Fin 2048) :
    k0_pay2 x g (ix2 r l) = rms (fun u => x (ix2 r u)) (fun u => g (ix2 0 u)) l := by
  pointwise [k0_pay2, k0_pay1]
  rfl

theorem pay3_apply (x : Vec Ideal S512x2048 .f32) (z : Fin 1) (r : Fin 512) (l : Fin 2048) :
    k0_pay3 x (ix3 z r l) = x (ix2 r l) := by
  pointwise [k0_pay3, k0_pay1]

theorem pay4_apply (y : Vec Ideal S512x2048 .bf16) (w1 : Vec Ideal S1x2048x1024 .bf16) (o : Vec Ideal S1x512x2048 .f32)
    (w2 : Vec Ideal S1x1024x2048 .bf16) (z : Fin 1) (r : Fin 512) (l : Fin 2048) :
    k0_pay4 y w1 o w2 (ix3 z r l)
      = o (ix3 0 r l) + ∑ k : Fin 1024, sqPos (∑ u : Fin 2048, y (ix2 r u) * w1 (ix3 0 u k)) * w2 (ix3 0 k l) := by
  pointwise [k0_pay4]
  rfl

theorem pay5_apply (o : Vec Ideal S1x512x2048 .f32) (g : Vec Ideal S1x2048 .f32) (z : Fin 1) (r : Fin 512) (l : Fin 2048) :
    k0_pay5 o g (ix3 z r l) = rms (fun u => o (ix3 0 r u)) (fun u => g (ix2 0 u)) l := by
  pointwise [k0_pay5]
  rfl

/-! ## The point's stores, read back -/

/-- A load of all of a memref reads what it holds. -/
theorem load_all {F : FTy → Type} [FloatOps F] {s : Shape} {e : EltTy} (M : Memref sig .tc .vmem s e) (hM : M.IsWhole)
    (x : Vec F s e) {off : Fin s.rank → ℕ} (inb : ∀ a, off a + s.size a ≤ s.size a) :
    View.readAt (Elt F) M.view (Rect.unit off s.size inb).toLoadRect (hM.unread x) = x := by
  rw [View.readAt_full]
  exact hM.read_unread x

section Runs

variable {F : FTy → Type} [FloatOps F]
variable (c : Dev nD) (i : grid0.Coords) (arg3 : Memref sig .tc .vmem S512x2048 .f32) (harg3 : arg3.IsWhole) (arg4 : Memref sig .tc .vmem S1x2048 .f32) (harg4 : arg4.IsWhole) (arg5 : Memref sig .tc .vmem S1x2048x1024 .bf16) (harg5 : arg5.IsWhole) (arg6 : Memref sig .tc .vmem S1x1024x2048 .bf16) (harg6 : arg6.IsWhole) (arg7 : Memref sig .tc .vmem S1x2048 .f32) (harg7 : arg7.IsWhole) (arg8 : Memref sig .tc .vmem S1x512x2048 .f32) (harg8 : arg8.IsWhole) (arg9 : Memref sig .tc .vmem S512x2048 .bf16) (harg9 : arg9.IsWhole)
  (x0 : Vec F S512x2048 .f32) (x1 : Vec F S1x2048 .f32) (x2 : Vec F S1x2048x1024 .bf16) (x3 : Vec F S1x1024x2048 .bf16)
  (x4 : Vec F S1x2048 .f32) (xo : Vec F S1x512x2048 .f32) (xs : Vec F S512x2048 .bf16)

theorem scratch_A (hc0 : cond0_0 i) (hc1 : ¬cond0_1 i) :
    sout0_A_0 c i arg3 harg3 arg4 harg4 arg5 harg5 arg6 harg6 arg7 harg7 arg8 harg8 arg9 harg9 hc0 hc1 x0 x1 x2 x3 x4
      = k0_pay2 x0 x1 := by
  unfold sout0_A_0 kernelRun0_A
  dsimp only
  sl_unfold_words
  refine (View.read_writes_full _ _ _ _ _).trans ?_
  rw [load_all, load_all]

theorem out_A (hc0 : cond0_0 i) (hc1 : ¬cond0_1 i) :
    out0_A_5 c i arg3 harg3 arg4 harg4 arg5 harg5 arg6 harg6 arg7 harg7 arg8 harg8 arg9 harg9 hc0 hc1 x0 x1 x2 x3 x4
      = k0_pay4 (k0_pay2 x0 x1) x2 (k0_pay3 x0) x3 := by
  unfold out0_A_5 kernelRun0_A
  dsimp only
  sl_unfold_words
  refine (View.read_writes_full _ _ _ _ _).trans ?_
  rw [View.readCov_full, View.readCov_full, load_all, load_all, load_all, load_all]

theorem out_B (hc0 : ¬cond0_0 i) (hc1 : ¬cond0_1 i) :
    out0_B_5 c i arg3 harg3 arg4 harg4 arg5 harg5 arg6 harg6 arg7 harg7 arg8 harg8 arg9 harg9 hc0 hc1 x0 x1 x2 x3 x4 xo xs
      = k0_pay4 xs x2 xo x3 := by
  unfold out0_B_5 kernelRun0_B
  dsimp only
  sl_unfold_words
  refine (View.read_writes_full _ _ _ _ _).trans ?_
  rw [load_all, load_all, load_all, load_all]

theorem out_C (hc0 : ¬cond0_0 i) (hc1 : cond0_1 i) :
    out0_C_5 c i arg3 harg3 arg4 harg4 arg5 harg5 arg6 harg6 arg7 harg7 arg8 harg8 arg9 harg9 hc0 hc1 x0 x1 x2 x3 x4 xo xs
      = k0_pay5 (k0_pay4 xs x2 xo x3) x4 := by
  unfold out0_C_5 kernelRun0_C
  dsimp only
  sl_unfold_words
  refine (View.read_writes_full _ _ _ _ _).trans ?_
  rw [View.readCov_full, load_all, load_all, load_all, load_all, load_all]

end Runs

end Cert.Mlp.Final

end
-- ==== Proof.Mlp.Final.Fold.lean ====
/-
  The 256 grid points of the last feed-forward part in order: eight for each block of 512 rows. After point `j` of the
  eight the block holds the rows with the first `1024 (j + 1)` hidden columns added, and after the last one their norm.
-/
module

public import proofs.«01_k».proof.Proof.Gen.Kernel2Ideal.Value
public import proofs.«01_k».proof.Proof.Mlp.Final.Point

@[expose] public section

set_option maxRecDepth 16384

noncomputable section

namespace Cert.Mlp.Final

open Idealize.ShloMosaic Idealize.ShloMosaic.TcCoe Idealize.ShloMosaic.Tactic Idealize.ShloMosaic.StableHlo
open Cert.Kernel2Ideal Cert.Kernel2Ideal.Gen
open scoped BigOperators

variable (m : (ℓ : Loc nD τ sig) → Buf (Elt Ideal) ℓ) (c : Dev nD)

/-- The hidden states, the norm's weights, the two matrices and the last norm's weights, as the launch finds them. -/
abbrev argH : (⟨3, ![4, 4160, 2048]⟩ : Shape).Idx → EReal := m ((c : Thread nD τ).loc main_arg0)
abbrev argG : (⟨2, ![1, 2048]⟩ : Shape).Idx → EReal := m ((c : Thread nD τ).loc main_arg1)
abbrev argW1 : (⟨3, ![1, 2048, 8192]⟩ : Shape).Idx → EReal := m ((c : Thread nD τ).loc main_arg2)
abbrev argW2 : (⟨3, ![1, 8192, 2048]⟩ : Shape).Idx → EReal := m ((c : Thread nD τ).loc main_arg3)
abbrev argF : (⟨2, ![1, 2048]⟩ : Shape).Idx → EReal := m ((c : Thread nD τ).loc main_arg4)

/-- Row `r` of block `q`: eight blocks a sequence, behind its first 64 rows. -/
def rowOf (q : Fin 32) (r : Fin 512) : Row := fun u =>
  argH m c (ix3 ⟨q.val / 8, by omega⟩ ⟨64 + (512 * (q.val % 8) + r.val), by omega⟩ u)

abbrev gRow : Row := fun u => argG m c (ix2 0 u)
abbrev fRow : Row := fun u => argF m c (ix2 0 u)

theorem V_main_v0 : V m c main_v0 = shapeCast S16640x2048 (argH m c) shapeCasts_S4x4160x2048_S16640x2048 := by
  unfold V
  after_results
  rfl

/-- Where the windows lie at point `t`. -/
theorem win_facts : ∀ t : Fin cfg0.N, t.val < 256
    ∧ cc0_transform_0 (grid0.coords t) = ![4160 * (t.val / 64) + 64 + 512 * (t.val / 8 % 8), 0] ∧ win0_1.index t = ![0, 0]
    ∧ win0_2.index t = ![0, 0, t.val % 8] ∧ win0_3.index t = ![0, t.val % 8, 0] ∧ win0_4.index t = ![0, 0] :=
  (by decide +kernel : ∀ t : Fin grid0.N, _)

section Blocks

variable (t : Fin cfg0.N)

theorem iblk0 (q : Fin 32) (hq : t.val / 8 = q.val) (r : Fin 512) (l : Fin 2048) :
    iblk m c 0 t (ix2 r l) = rowOf m c q r l := by
  obtain ⟨ht, e, -⟩ := win_facts t
  show V m c main_v0 (((cfg0.win 0).blk t).view.emb (ix2 r l)) = _
  rw [V_main_v0]
  unfold rowOf
  refine shapeCast_apply _ _ _ _ ?_
  have h0 : (((cfg0.win 0).blk t).view.emb (ix2 r l) 0).val = cc0_transform_0 (grid0.coords t) 0 + 1 * r.val := rfl
  have h1 : (((cfg0.win 0).blk t).view.emb (ix2 r l) 1).val = cc0_transform_0 (grid0.coords t) 1 + 1 * l.val := rfl
  rw [e] at h0 h1
  change _ = 4160 * (t.val / 64) + 64 + 512 * (t.val / 8 % 8) + 1 * r.val at h0
  change _ = 0 + 1 * l.val at h1
  rw [Shape.rowMajor_val_two, Shape.rowMajor_val_three, h0, h1]
  show (q.val / 8 * 4160 + (64 + (512 * (q.val % 8) + r.val))) * 2048 + l.val
    = (4160 * (t.val / 64) + 64 + 512 * (t.val / 8 % 8) + 1 * r.val) * 2048 + (0 + 1 * l.val)
  omega

theorem iblk1 (l : Fin 2048) : iblk m c 1 t (ix2 0 l) = gRow m c l := by
  obtain ⟨ht, -, e, -⟩ := win_facts t
  show V m c main_arg1 (((cfg0.win 1).blk t).view.emb (ix2 0 l)) = _
  rw [V_main_arg1]
  unfold gRow
  congr 1
  funext a
  refine Fin.ext ?_
  fin_cases a
  · show win0_1.index t 0 * 1 + 1 * 0 = 0
    rw [e]; rfl
  · show win0_1.index t 1 * 2048 + 1 * l.val = l.val
    rw [e]; show 0 * 2048 + 1 * l.val = _; omega

theorem iblk4 (l : Fin 2048) : iblk m c 4 t (ix2 0 l) = fRow m c l := by
  obtain ⟨ht, -, -, -, -, e⟩ := win_facts t
  show V m c main_arg4 (((cfg0.win 4).blk t).view.emb (ix2 0 l)) = _
  rw [V_main_arg4]
  unfold fRow
  congr 1
  funext a
  refine Fin.ext ?_
  fin_cases a
  · show win0_4.index t 0 * 1 + 1 * 0 = 0
    rw [e]; rfl
  · show win0_4.index t 1 * 2048 + 1 * l.val = l.val
    rw [e]; show 0 * 2048 + 1 * l.val = _; omega

theorem iblk2 (u : Fin 2048) (k : Fin 1024) :
    iblk m c 2 t (ix3 0 u k) = argW1 m c (ix3 0 u ⟨1024 * (t.val % 8) + k.val, by omega⟩) := by
  obtain ⟨ht, -, -, e, -⟩ := win_facts t
  show V m c main_arg2 (((cfg0.win 2).blk t).view.emb (ix3 0 u k)) = _
  rw [V_main_arg2]
  congr 1
  funext a
  refine Fin.ext ?_
  fin_cases a
  · show win0_2.index t 0 * 1 + 1 * 0 = 0
    rw [e]; rfl
  · show win0_2.index t 1 * 2048 + 1 * u.val = u.val
    rw [e]; show 0 * 2048 + 1 * u.val = _; omega
  · show win0_2.index t 2 * 1024 + 1 * k.val = 1024 * (t.val % 8) + k.val
    rw [e]; show t.val % 8 * 1024 + 1 * k.val = _; omega

theorem iblk3 (k : Fin 1024) (l : Fin 2048) :
    iblk m c 3 t (ix3 0 k l) = argW2 m c (ix3 0 ⟨1024 * (t.val % 8) + k.val, by omega⟩ l) := by
  obtain ⟨ht, -, -, -, e, -⟩ := win_facts t
  show V m c main_arg3 (((cfg0.win 3).blk t).view.emb (ix3 0 k l)) = _
  rw [V_main_arg3]
  congr 1
  funext a
  refine Fin.ext ?_
  fin_cases a
  · show win0_3.index t 0 * 1 + 1 * 0 = 0
    rw [e]; rfl
  · show win0_3.index t 1 * 1024 + 1 * k.val = 1024 * (t.val % 8) + k.val
    rw [e]; show t.val % 8 * 1024 + 1 * k.val = _; omega
  · show win0_3.index t 2 * 2048 + 1 * l.val = l.val
    rw [e]; show 0 * 2048 + 1 * l.val = _; omega

/-- The normed rows of a block. -/
theorem normed (q : Fin 32) (hq : t.val / 8 = q.val) (r : Fin 512) (l : Fin 2048) :
    k0_pay2 (F := Ideal) (iblk m c 0 t) (iblk m c 1 t) (ix2 r l) = rms (rowOf m c q r) (gRow m c) l := by
  rw [pay2_apply]
  have h0 : (fun u : Fin 2048 => iblk m c 0 t (ix2 r u)) = rowOf m c q r := funext fun u => iblk0 m c t q hq r u
  have h1 : (fun u : Fin 2048 => iblk m c 1 t (ix2 0 u)) = gRow m c := funext fun u => iblk1 m c t u
  rw [h0, h1]

/-- One block of hidden columns more. -/
theorem added (x y : Row) (r : Fin 512) (l : Fin 2048) (z : Fin 1) (xs : Vec Ideal S512x2048 .bf16)
    (xo : Vec Ideal S1x512x2048 .f32) (hs : ∀ u, xs (ix2 r u) = y u)
    (ho : xo (ix3 0 r l) = upTo x y (argW1 m c) (argW2 m c) l (1024 * (t.val % 8))) :
    k0_pay4 (F := Ideal) xs (iblk m c 2 t) xo (iblk m c 3 t) (ix3 z r l)
      = upTo x y (argW1 m c) (argW2 m c) l (1024 * (t.val % 8 + 1)) := by
  rw [pay4_apply, upTo_block, ho]
  refine congrArg _ (Finset.sum_congr rfl fun k _ => ?_)
  unfold termN
  rw [dif_pos (by omega)]
  unfold term
  rw [iblk3]
  refine congrArg (fun s => sqPos s * _) (Finset.sum_congr rfl fun u _ => ?_)
  rw [hs, iblk2]

end Blocks

section Points

variable (q : Fin 32)

/-- After point `j` of block `q`: the carried rows, and for all but the last point the block. -/
theorem after_point : ∀ (j : ℕ) (_ : j < 8) (hn : 8 * q.val + j < cfg0.N),
    (∀ r l, (outsAt0 m c (8 * q.val + j) hn).2 (ix2 r l) = rms (rowOf m c q r) (gRow m c) l)
    ∧ (j < 7 → ∀ r l, (outsAt0 m c (8 * q.val + j) hn).1 (ix3 0 r l)
        = upTo (rowOf m c q r) (rms (rowOf m c q r) (gRow m c)) (argW1 m c) (argW2 m c) l (1024 * (j + 1)))
  | 0, _, hn => by
    have h0 : (⟨8 * q.val + 0, hn⟩ : Fin cfg0.N).val % 8 = 0 := by dsimp only; omega
    have h1 : ¬(⟨8 * q.val + 0, hn⟩ : Fin cfg0.N).val % 8 = 7 := by dsimp only; omega
    have hq : (⟨8 * q.val + 0, hn⟩ : Fin cfg0.N).val / 8 = q.val := by dsimp only; omega
    rw [outsAt0_A m c ⟨8 * q.val + 0, hn⟩ h0 h1]
    dsimp only
    rw [scratch_A, out_A]
    refine ⟨fun r l => normed m c _ q hq r l, fun _ r l => ?_⟩
    refine (added m c _ (rowOf m c q r) _ r l 0 _ _ (fun u => normed m c _ q hq r u) ?_).trans ?_
    · rw [pay3_apply, h0, Nat.mul_zero, upTo_zero]
      exact iblk0 m c _ q hq r l
    · rw [h0]
  | j + 1, hj, hn => by
    obtain ⟨hs, ho⟩ := after_point j (by omega) (by omega)
    have h0 : ¬(⟨8 * q.val + (j + 1), hn⟩ : Fin cfg0.N).val % 8 = 0 := by dsimp only; omega
    have hm : (⟨8 * q.val + (j + 1), hn⟩ : Fin cfg0.N).val % 8 = j + 1 := by dsimp only; omega
    by_cases h7 : j + 1 < 7
    · have h1 : ¬(⟨8 * q.val + (j + 1), hn⟩ : Fin cfg0.N).val % 8 = 7 := by rw [hm]; omega
      rw [outsAt0_B m c ⟨8 * q.val + (j + 1), hn⟩ h0 h1]
      dsimp only
      refine ⟨fun r l => hs r l, fun _ r l => ?_⟩
      rw [out_B]
      refine (added m c _ (rowOf m c q r) _ r l 0 _ _ (fun u => hs r u) ?_).trans ?_
      · rw [hm]; exact ho (by omega) r l
      · rw [hm]
    · have h1 : (⟨8 * q.val + (j + 1), hn⟩ : Fin cfg0.N).val % 8 = 7 := by rw [hm]; omega
      rw [outsAt0_C m c ⟨8 * q.val + (j + 1), hn⟩ h0 h1]
      exact ⟨fun r l => hs r l, fun h => absurd h h7⟩

/-- The block of the result that is written back. -/
theorem result_block (hn : 8 * q.val + 7 < cfg0.N) (r : Fin 512) (l : Fin 2048) :
    (outsAt0 m c (8 * q.val + 7) hn).1 (ix3 0 r l)
      = rms (mlp (rowOf m c q r) (gRow m c) (argW1 m c) (argW2 m c)) (fRow m c) l := by
  obtain ⟨hs, ho⟩ := after_point m c q 6 (by omega) (by omega)
  have h0 : ¬(⟨8 * q.val + 7, hn⟩ : Fin cfg0.N).val % 8 = 0 := by dsimp only; omega
  have h1 : (⟨8 * q.val + 7, hn⟩ : Fin cfg0.N).val % 8 = 7 := by dsimp only; omega
  rw [outsAt0_C m c ⟨8 * q.val + 7, hn⟩ h0 h1]
  dsimp only
  rw [out_C, pay5_apply]
  congr 1
  · funext u
    refine (added m c _ (rowOf m c q r) _ r u 0 _ _ (fun v => hs r v) ?_).trans ?_
    · rw [h1]; exact ho (by omega) r u
    · rw [h1]; exact upTo_all _ _ _ _ _
  · funext u; exact iblk4 m c _ u

end Points

/-- The result array: row `r` of sequence `b`. -/
theorem array_after (b : Fin 4) (r : Fin 4096) (l : Fin 2048) :
    Value.G5 m c (ix3 b r l)
      = rms (mlp (fun u => argH m c (ix3 b ⟨64 + r.val, by omega⟩ u)) (gRow m c) (argW1 m c) (argW2 m c)) (fRow m c) l := by
  have hb := b.isLt; have hr := r.isLt; have hl := l.isLt
  have e : Value.pt5Of (ix3 b r l) = 8 * (8 * b.val + r.val / 512) + 7 := by
    show 8 * (8 * (b.val / 1 - 0) + 1 * (r.val / 512 - 0) + 1 * (l.val / 2048 - 0)) + 7 = _
    omega
  have hq : 8 * b.val + r.val / 512 < 32 := by omega
  have hlt : 8 * (8 * b.val + r.val / 512) + 7 < cfg0.N := lt_of_lt_of_eq (show _ < 256 by omega) N_0.symm
  unfold Value.G5
  rw [dif_pos (by rw [e]; exact hlt), Value.fold0_congr m c _ _ _ (by omega) e, ← Value.outsAt0_sweep m c _ hlt]
  have el : Value.loc5Of (ix3 b r l) = ix3 0 (⟨r.val % 512, Nat.mod_lt _ (by decide)⟩ : Fin 512) l := by
    funext a
    refine Fin.ext ?_
    fin_cases a
    · show b.val % 1 = 0; omega
    · rfl
    · show l.val % 2048 = l.val; omega
  rw [el]
  refine (result_block m c ⟨8 * b.val + r.val / 512, hq⟩ hlt _ l).trans ?_
  have ex : rowOf m c ⟨8 * b.val + r.val / 512, hq⟩ ⟨r.val % 512, Nat.mod_lt _ (by decide)⟩
      = fun u => argH m c (ix3 b ⟨64 + r.val, by omega⟩ u) := by
    funext u
    unfold rowOf
    refine congrArg (argH m c) ?_
    have e1 : (⟨(8 * b.val + r.val / 512) / 8, by omega⟩ : Fin 4) = b := Fin.ext (by dsimp only; omega)
    have e2 : (⟨64 + (512 * ((8 * b.val + r.val / 512) % 8) + r.val % 512), by omega⟩ : Fin 4160) = ⟨64 + r.val, by omega⟩ :=
      Fin.ext (by dsimp only; omega)
    exact congrArg₂ (fun p q => ix3 p q u) e1 e2
  rw [ex]

end Cert.Mlp.Final

end
-- ==== Proof.Mlp.Final.Result.lean ====
/-
  The reference of the last feed-forward part over the extended reals, read at an index, and its equality with the
  kernel's result array.
-/
module

public import proofs.«01_k».proof.Proof.Gen.Reference2Ideal.Run
public import proofs.«01_k».proof.Proof.Mlp.Spec

@[expose] public section

set_option maxRecDepth 16384

noncomputable section

namespace Cert.Mlp.Final.Ref

open Idealize.ShloMosaic Idealize.ShloMosaic.TcCoe Idealize.ShloMosaic.Tactic
open Cert.Reference2Ideal Cert.Reference2Ideal.Gen Cert.Reference2Ideal.Value
open scoped BigOperators

/-! ## The steps -/

/-- The hidden states behind the first 48 rows. -/
def tokens (h : FVec Ideal S4x4160x2048 .f32) : FVec Ideal S4x4112x2048 .f32 :=
  extractStridedSlice S4x4112x2048 ![0, 48, 0] h slices_S4x4160x2048_S4x4112x2048_0_48_0

/-- The norm of every row. -/
def normed (x : FVec Ideal S4x4112x2048 .f32) (g : FVec Ideal S1x2048 .f32) : FVec Ideal S4x4112x2048 .f32 :=
  mulf (mulf x (broadcastInDim S4x4112x2048 ![0, 1, 2] bcast_S4x4112x1_S4x4112x2048_0_1_2
      (Host.rsqrt (addf (Host.divf (broadcastInDim S4x4112x1 ![0, 1] bcast_S4x4112_S4x4112x1_0_1
          (Host.reduceAdd (mulf x x) (constant S_ .f32 0x00000000#32) reducesTo_S4x4112x2048_S4x4112_d2 h_S_))
        (broadcastInDim S4x4112x1 ![] bcast_S_S4x4112x1 (constant S_ .f32 0x45000000#32)))
        (broadcastInDim S4x4112x1 ![] bcast_S_S4x4112x1 (constant S_ .f32 0x358637BD#32))))))
    (broadcastInDim S4x4112x2048 ![0, 1, 2] bcast_S1x1x2048_S4x4112x2048_0_1_2
      (broadcastInDim S1x1x2048 ![2] bcast_S2048_S1x1x2048_2 (shapeCast S2048 g shapeCasts_S1x2048_S2048 : FVec Ideal S2048 .f32)))

/-- The positive part of the hidden rows. -/
def hidden (y : FVec Ideal S4x4112x2048 .f32) (w1 : FVec Ideal S1x2048x8192 .bf16) : FVec Ideal S4x4112x8192 .f32 :=
  maximumf (Host.dotGeneral dot_S4x4112x2048_S2048x8192_S4x4112x8192_2_0_01_1_n_n none y
      (extf .f32 (shapeCast S2048x8192 w1 shapeCasts_S1x2048x8192_S2048x8192 : FVec Ideal S2048x8192 .bf16) bitsLt_bf16_f32))
    (broadcastInDim S4x4112x8192 ![] bcast_S_S4x4112x8192 (constant S_ .f32 0x00000000#32))

/-- The rows with the feed-forward part added. -/
def added (x : FVec Ideal S4x4112x2048 .f32) (a : FVec Ideal S4x4112x8192 .f32) (w2 : FVec Ideal S1x8192x2048 .bf16) :
    FVec Ideal S4x4112x2048 .f32 :=
  addf x (Host.dotGeneral dot_S4x4112x8192_S8192x2048_S4x4112x2048_2_0_01_1_n_n none (mulf a a)
    (extf .f32 (shapeCast S8192x2048 w2 shapeCasts_S1x8192x2048_S8192x2048 : FVec Ideal S8192x2048 .bf16) bitsLt_bf16_f32))

theorem tokens_apply (h : FVec Ideal S4x4160x2048 .f32) (b : Fin 4) (r : Fin 4112) (l : Fin 2048) :
    tokens h (ix3 b r l) = h (ix3 b ⟨48 + r.val, by omega⟩ l) := by
  pointwise [tokens]

theorem normed_apply (x : FVec Ideal S4x4112x2048 .f32) (g : FVec Ideal S1x2048 .f32) (b : Fin 4) (r : Fin 4112) (l : Fin 2048) :
    normed x g (ix3 b r l) = rms (fun u => x (ix3 b r u)) (fun u => g (ix2 0 u)) l := by
  pointwise [normed]
  rfl

theorem hidden_apply (y : FVec Ideal S4x4112x2048 .f32) (w1 : FVec Ideal S1x2048x8192 .bf16) (b : Fin 4) (r : Fin 4112) (f : Fin 8192) :
    hidden y w1 (ix3 b r f) = max (∑ u : Fin 2048, y (ix3 b r u) * w1 (ix3 0 u f)) 0 := by
  pointwise [hidden]

theorem added_apply (x : FVec Ideal S4x4112x2048 .f32) (a : FVec Ideal S4x4112x8192 .f32) (w2 : FVec Ideal S1x8192x2048 .bf16)
    (b : Fin 4) (r : Fin 4112) (l : Fin 2048) :
    added x a w2 (ix3 b r l) = x (ix3 b r l) + ∑ f : Fin 8192, a (ix3 b r f) * a (ix3 b r f) * w2 (ix3 0 f l) := by
  pointwise [added]

variable (m : (ℓ : Loc nD τ sig) → Buf (Elt Ideal) ℓ) (c : Dev nD)

abbrev argH : (⟨3, ![4, 4160, 2048]⟩ : Shape).Idx → EReal := m ((c.tc : Thread nD τ).loc main_arg0)
abbrev argG : (⟨2, ![1, 2048]⟩ : Shape).Idx → EReal := m ((c.tc : Thread nD τ).loc main_arg1)
abbrev argW1 : (⟨3, ![1, 2048, 8192]⟩ : Shape).Idx → EReal := m ((c.tc : Thread nD τ).loc main_arg2)
abbrev argW2 : (⟨3, ![1, 8192, 2048]⟩ : Shape).Idx → EReal := m ((c.tc : Thread nD τ).loc main_arg3)
abbrev argF : (⟨2, ![1, 2048]⟩ : Shape).Idx → EReal := m ((c.tc : Thread nD τ).loc main_arg4)

theorem result_steps : res_out0 m c
    = extractStridedSlice S4x4096x2048 ![0, 16, 0]
        (normed (added (tokens (argH m c)) (hidden (normed (tokens (argH m c)) (argG m c)) (argW1 m c)) (argW2 m c)) (argF m c))
        slices_S4x4112x2048_S4x4096x2048_0_16_0 := by
  unfold res_out0 res_main_v38
  rfl

/-- The reference's result: row `r` of sequence `b`. -/
theorem result_apply (b : Fin 4) (r : Fin 4096) (l : Fin 2048) :
    res_out0 m c (ix3 b r l)
      = rms (mlp (fun u => argH m c (ix3 b ⟨64 + r.val, by omega⟩ u)) (fun u => argG m c (ix2 0 u)) (argW1 m c) (argW2 m c))
          (fun u => argF m c (ix2 0 u)) l := by
  rw [result_steps]
  have hx : ∀ u : Fin 2048, tokens (argH m c) (ix3 b (⟨16 + r.val, by omega⟩ : Fin 4112) u) = argH m c (ix3 b ⟨64 + r.val, by omega⟩ u) := by
    intro u
    rw [tokens_apply]
    exact congrArg (fun q => argH m c (ix3 b q u)) (Fin.ext (by show 48 + (16 + r.val) = 64 + r.val; omega))
  refine Eq.trans (extractStridedSlice_apply _ _ _ _ (ix3 b (⟨16 + r.val, by omega⟩ : Fin 4112) l) ?_) ?_
  · intro a
    match a with
    | ⟨0, _⟩ => exact (Nat.zero_add _).symm
    | ⟨1, _⟩ => rfl
    | ⟨2, _⟩ => exact (Nat.zero_add _).symm
  · rw [normed_apply]
    refine congrArg (fun x => rms x _ l) (funext fun v => ?_)
    rw [added_apply, hx]
    unfold mlp term sqPos
    refine congrArg _ (Finset.sum_congr rfl fun f _ => ?_)
    rw [hidden_apply]
    simp only [normed_apply, hx]

end Cert.Mlp.Final.Ref

end
-- ==== Proof.Mlp.Casts.Point.lean ====
/-
  One grid point of the feed-forward part with the four casts on the side: what it leaves in its block of the hidden
  states, in the normed rows it carries, and in the four blocks of the cast matrices.
-/
module

public import proofs.«01_k».proof.Proof.Gen.Kernel3Ideal.Frame
public import proofs.«01_k».proof.Proof.Mlp.Spec
public import Idealize.ShloMosaic.Lib.VecWindow
public import Idealize.ShloMosaic.Lib.WholeRead

@[expose] public section

set_option maxRecDepth 16384

noncomputable section

namespace Cert.Mlp.Casts

open Idealize.ShloMosaic Idealize.ShloMosaic.TcCoe Idealize.ShloMosaic.Tactic
open Cert.Kernel3Ideal Cert.Kernel3Ideal.Gen
open scoped BigOperators

/-! ## The values at an index -/

theorem pay4_apply (x : Vec Ideal S832x2048 .f32) (g : Vec Ideal S1x2048 .f32) (r : Fin 832) (l : Fin 2048) :
    k0_pay4 x g (ix2 r l) = rms (fun u => x (ix2 r u)) (fun u => g (ix2 0 u)) l := by
  pointwise [k0_pay4]
  rfl

theorem pay5_apply (y : Vec Ideal S832x2048 .bf16) (w1 : Vec Ideal S1x2048x1024 .bf16) (o : Vec Ideal S832x2048 .f32)
    (w2 : Vec Ideal S1x1024x2048 .bf16) (r : Fin 832) (l : Fin 2048) :
    k0_pay5 y w1 o w2 (ix2 r l)
      = o (ix2 r l) + ∑ k : Fin 1024, sqPos (∑ u : Fin 2048, y (ix2 r u) * w1 (ix3 0 u k)) * w2 (ix3 0 k l) := by
  pointwise [k0_pay5]
  rfl

theorem pay6_apply (x : Vec Ideal S1x80x2048 .f32) (r : Fin 80) (l : Fin 2048) : k0_pay6 x (ix3 0 r l) = x (ix3 0 r l) := by
  pointwise [k0_pay6]
theorem pay17_apply (x : Vec Ideal S1x16x2048 .f32) (r : Fin 16) (l : Fin 2048) :
    k0_pay1 (k0_pay7 x) (ix3 0 r l) = x (ix3 0 r l) := by
  pointwise [k0_pay1, k0_pay7]
theorem pay2_apply (x : Vec Ideal S1x16x8192 .f32) (r : Fin 16) (l : Fin 8192) : k0_pay2 x (ix3 0 r l) = x (ix3 0 r l) := by
  pointwise [k0_pay2]
theorem pay3_apply (x : Vec Ideal S1x64x2048 .f32) (r : Fin 64) (l : Fin 2048) : k0_pay3 x (ix3 0 r l) = x (ix3 0 r l) := by
  pointwise [k0_pay3]

/-! ## The point's stores, read back -/

/-- A load of all of a memref reads what it holds. -/
theorem load_all {F : FTy → Type} [FloatOps F] {s : Shape} {e : EltTy} (M : Memref sig .tc .vmem s e) (hM : M.IsWhole)
    (x : Vec F s e) {off : Fin s.rank → ℕ} (inb : ∀ a, off a + s.size a ≤ s.size a) :
    View.readAt (Elt F) M.view (Rect.unit off s.size inb).toLoadRect (hM.unread x) = x := by
  rw [View.readAt_full]
  exact hM.read_unread x

section Runs

variable {F : FTy → Type} [FloatOps F]
variable (c : Dev nD) (i : grid0.Coords) (arg2 : Memref sig .tc .vmem S832x2048 .f32) (harg2 : arg2.IsWhole) (arg3 : Memref sig .tc .vmem S1x2048 .f32) (harg3 : arg3.IsWhole) (arg4 : Memref sig .tc .vmem S1x2048x1024 .bf16) (harg4 : arg4.IsWhole) (arg5 : Memref sig .tc .vmem S1x1024x2048 .bf16) (harg5 : arg5.IsWhole) (arg6 : Memref sig .tc .vmem S1x2048 .f32) (harg6 : arg6.IsWhole) (arg7 : Memref sig .tc .vmem S1x80x2048 .f32) (harg7 : arg7.IsWhole) (arg8 : Memref sig .tc .vmem S1x16x2048 .f32) (harg8 : arg8.IsWhole) (arg9 : Memref sig .tc .vmem S1x16x8192 .f32) (harg9 : arg9.IsWhole) (arg10 : Memref sig .tc .vmem S1x64x2048 .f32) (harg10 : arg10.IsWhole) (arg11 : Memref sig .tc .vmem S832x2048 .f32) (harg11 : arg11.IsWhole) (arg12 : Memref sig .tc .vmem S1x80x2048 .bf16) (harg12 : arg12.IsWhole) (arg13 : Memref sig .tc .vmem S1x16x2048 .bf16) (harg13 : arg13.IsWhole) (arg14 : Memref sig .tc .vmem S1x16x8192 .bf16) (harg14 : arg14.IsWhole) (arg15 : Memref sig .tc .vmem S1x64x2048 .bf16) (harg15 : arg15.IsWhole) (arg16 : Memref sig .tc .vmem S832x2048 .bf16) (harg16 : arg16.IsWhole)
  (x0 : Vec F S832x2048 .f32) (x1 : Vec F S1x2048 .f32) (x2 : Vec F S1x2048x1024 .bf16) (x3 : Vec F S1x1024x2048 .bf16)
  (x4 : Vec F S1x2048 .f32) (x5 : Vec F S1x80x2048 .f32) (x6 : Vec F S1x16x2048 .f32) (x7 : Vec F S1x16x8192 .f32)
  (x8 : Vec F S1x64x2048 .f32) (xo : Vec F S832x2048 .f32) (xs : Vec F S832x2048 .bf16)

theorem scratch_A (hc0 : cond0_0 i) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8
      = k0_pay4 x0 x1 := by
  unfold sout0_A_0 kernelRun0_A
  dsimp only
  sl_unfold_words
  refine (View.read_writes_full _ _ _ _ _).trans ?_
  rw [load_all, load_all]

theorem out_A (hc0 : cond0_0 i) :
    out0_A_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8
      = k0_pay5 (k0_pay4 x0 x1) x2 x0 x3 := by
  unfold out0_A_9 kernelRun0_A
  dsimp only
  sl_unfold_words
  refine (View.read_writes_full _ _ _ _ _).trans ?_
  rw [View.readCov_full, View.readCov_full, load_all, load_all, load_all, load_all]

theorem out_B (hc0 : ¬cond0_0 i) :
    out0_B_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xo xs
      = k0_pay5 xs x2 xo x3 := by
  unfold out0_B_9 kernelRun0_B
  dsimp only
  sl_unfold_words
  refine (View.read_writes_full _ _ _ _ _).trans ?_
  rw [load_all, load_all, load_all, load_all]

theorem cast10_A (hc0 : cond0_0 i) :
    out0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8
      = k0_pay6 x5 := by
  unfold out0_A_10 kernelRun0_A
  dsimp only
  sl_unfold_words
  refine (View.read_writes_full _ _ _ _ _).trans ?_
  rw [load_all]

theorem cast10_B (hc0 : ¬cond0_0 i) :
    out0_B_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xo xs
      = k0_pay6 x5 := by
  unfold out0_B_10 kernelRun0_B
  dsimp only
  sl_unfold_words
  refine (View.read_writes_full _ _ _ _ _).trans ?_
  rw [load_all]

theorem cast11_A (hc0 : cond0_0 i) :
    out0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8
      = k0_pay1 (k0_pay7 x6) := by
  unfold out0_A_11 kernelRun0_A
  dsimp only
  sl_unfold_words
  refine (View.read_writes_full _ _ _ _ _).trans ?_
  rw [load_all]

theorem cast11_B (hc0 : ¬cond0_0 i) :
    out0_B_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xo xs
      = k0_pay1 (k0_pay7 x6) := by
  unfold out0_B_11 kernelRun0_B
  dsimp only
  sl_unfold_words
  refine (View.read_writes_full _ _ _ _ _).trans ?_
  rw [load_all]

theorem cast12_A (hc0 : cond0_0 i) :
    out0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8
      = k0_pay2 x7 := by
  unfold out0_A_12 kernelRun0_A
  dsimp only
  sl_unfold_words
  refine (View.read_writes_full _ _ _ _ _).trans ?_
  rw [load_all]

theorem cast12_B (hc0 : ¬cond0_0 i) :
    out0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xo xs
      = k0_pay2 x7 := by
  unfold out0_B_12 kernelRun0_B
  dsimp only
  sl_unfold_words
  refine (View.read_writes_full _ _ _ _ _).trans ?_
  rw [load_all]

theorem cast13_A (hc0 : cond0_0 i) :
    out0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8
      = k0_pay3 x8 := by
  unfold out0_A_13 kernelRun0_A
  dsimp only
  sl_unfold_words
  refine (View.read_writes_full _ _ _ _ _).trans ?_
  rw [load_all]

theorem cast13_B (hc0 : ¬cond0_0 i) :
    out0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xo xs
      = k0_pay3 x8 := by
  unfold out0_B_13 kernelRun0_B
  dsimp only
  sl_unfold_words
  refine (View.read_writes_full _ _ _ _ _).trans ?_
  rw [load_all]

end Runs

end Cert.Mlp.Casts

end
-- ==== Proof.Mlp.Casts.Fold.lean ====
/-
  The 160 grid points of a layer's feed-forward part in order: eight for each block of 832 rows. After point `j` of the
  eight the block holds the rows with the first `1024 (j + 1)` hidden columns added.
-/
module

public import proofs.«01_k».proof.Proof.Gen.Kernel3Ideal.Value
public import proofs.«01_k».proof.Proof.Mlp.Casts.Point

@[expose] public section

set_option maxRecDepth 16384

noncomputable section

namespace Cert.Mlp.Casts

open Idealize.ShloMosaic Idealize.ShloMosaic.TcCoe Idealize.ShloMosaic.Tactic
open Cert.Kernel3Ideal Cert.Kernel3Ideal.Gen
open scoped BigOperators

variable (m : (ℓ : Loc nD τ sig) → Buf (Elt Ideal) ℓ) (c : Dev nD)

/-- The hidden states, the norm's weights and the two matrices, as the launch finds them. -/
abbrev argH : (⟨2, ![16640, 2048]⟩ : Shape).Idx → EReal := m ((c : Thread nD τ).loc main_arg0)
abbrev argG : (⟨2, ![1, 2048]⟩ : Shape).Idx → EReal := m ((c : Thread nD τ).loc main_arg1)
abbrev argW1 : (⟨3, ![1, 2048, 8192]⟩ : Shape).Idx → EReal := m ((c : Thread nD τ).loc main_arg2)
abbrev argW2 : (⟨3, ![1, 8192, 2048]⟩ : Shape).Idx → EReal := m ((c : Thread nD τ).loc main_arg3)

abbrev gRow : Row := fun u => argG m c (ix2 0 u)

/-- Row `r` of block `q`. -/
def rowOf (q : Fin 20) (r : Fin 832) : Row := fun u => argH m c (ix2 ⟨832 * q.val + r.val, by omega⟩ u)

/-- Where the windows lie at point `t`. -/
theorem win_facts : ∀ t : Fin cfg0.N, t.val < 160
    ∧ win0_0.index t = ![t.val / 8, 0] ∧ win0_1.index t = ![0, 0]
    ∧ win0_2.index t = ![0, 0, t.val % 8] ∧ win0_3.index t = ![0, t.val % 8, 0] ∧ win0_9.index t = ![t.val / 8, 0] :=
  (by decide +kernel : ∀ t : Fin grid0.N, _)

section Blocks

variable (t : Fin cfg0.N)

theorem iblk0 (q : Fin 20) (hq : t.val / 8 = q.val) (r : Fin 832) (l : Fin 2048) :
    iblk m c 0 t (ix2 r l) = rowOf m c q r l := by
  obtain ⟨ht, e, -⟩ := win_facts t
  show V m c main_arg0 (((cfg0.win 0).blk t).view.emb (ix2 r l)) = _
  rw [V_main_arg0]
  unfold rowOf
  refine congrArg (argH m c) ?_
  funext a
  refine Fin.ext ?_
  fin_cases a
  · show win0_0.index t 0 * 832 + 1 * r.val = 832 * q.val + r.val
    rw [e]; show t.val / 8 * 832 + 1 * r.val = _; omega
  · show win0_0.index t 1 * 2048 + 1 * l.val = l.val
    rw [e]; show 0 * 2048 + 1 * l.val = _; omega

theorem iblk1 (l : Fin 2048) : iblk m c 1 t (ix2 0 l) = gRow m c l := by
  obtain ⟨ht, -, e, -⟩ := win_facts t
  show V m c main_arg1 (((cfg0.win 1).blk t).view.emb (ix2 0 l)) = _
  rw [V_main_arg1]
  unfold gRow
  congr 1
  funext a
  refine Fin.ext ?_
  fin_cases a
  · show win0_1.index t 0 * 1 + 1 * 0 = 0
    rw [e]; rfl
  · show win0_1.index t 1 * 2048 + 1 * l.val = l.val
    rw [e]; show 0 * 2048 + 1 * l.val = _; omega

theorem iblk2 (u : Fin 2048) (k : Fin 1024) :
    iblk m c 2 t (ix3 0 u k) = argW1 m c (ix3 0 u ⟨1024 * (t.val % 8) + k.val, by omega⟩) := by
  obtain ⟨ht, -, -, e, -⟩ := win_facts t
  show V m c main_arg2 (((cfg0.win 2).blk t).view.emb (ix3 0 u k)) = _
  rw [V_main_arg2]
  congr 1
  funext a
  refine Fin.ext ?_
  fin_cases a
  · show win0_2.index t 0 * 1 + 1 * 0 = 0
    rw [e]; rfl
  · show win0_2.index t 1 * 2048 + 1 * u.val = u.val
    rw [e]; show 0 * 2048 + 1 * u.val = _; omega
  · show win0_2.index t 2 * 1024 + 1 * k.val = 1024 * (t.val % 8) + k.val
    rw [e]; show t.val % 8 * 1024 + 1 * k.val = _; omega

theorem iblk3 (k : Fin 1024) (l : Fin 2048) :
    iblk m c 3 t (ix3 0 k l) = argW2 m c (ix3 0 ⟨1024 * (t.val % 8) + k.val, by omega⟩ l) := by
  obtain ⟨ht, -, -, -, e, -⟩ := win_facts t
  show V m c main_arg3 (((cfg0.win 3).blk t).view.emb (ix3 0 k l)) = _
  rw [V_main_arg3]
  congr 1
  funext a
  refine Fin.ext ?_
  fin_cases a
  · show win0_3.index t 0 * 1 + 1 * 0 = 0
    rw [e]; rfl
  · show win0_3.index t 1 * 1024 + 1 * k.val = 1024 * (t.val % 8) + k.val
    rw [e]; show t.val % 8 * 1024 + 1 * k.val = _; omega
  · show win0_3.index t 2 * 2048 + 1 * l.val = l.val
    rw [e]; show 0 * 2048 + 1 * l.val = _; omega

/-- The normed rows of a block. -/
theorem normed (q : Fin 20) (hq : t.val / 8 = q.val) (r : Fin 832) (l : Fin 2048) :
    k0_pay4 (F := Ideal) (iblk m c 0 t) (iblk m c 1 t) (ix2 r l) = rms (rowOf m c q r) (gRow m c) l := by
  rw [pay4_apply]
  have h0 : (fun u : Fin 2048 => iblk m c 0 t (ix2 r u)) = rowOf m c q r := funext fun u => iblk0 m c t q hq r u
  have h1 : (fun u : Fin 2048 => iblk m c 1 t (ix2 0 u)) = gRow m c := funext fun u => iblk1 m c t u
  rw [h0, h1]

/-- One block of hidden columns more. -/
theorem added (x y : Row) (r : Fin 832) (l : Fin 2048) (xs : Vec Ideal S832x2048 .bf16)
    (xo : Vec Ideal S832x2048 .f32) (hs : ∀ u, xs (ix2 r u) = y u)
    (ho : xo (ix2 r l) = upTo x y (argW1 m c) (argW2 m c) l (1024 * (t.val % 8))) :
    k0_pay5 (F := Ideal) xs (iblk m c 2 t) xo (iblk m c 3 t) (ix2 r l)
      = upTo x y (argW1 m c) (argW2 m c) l (1024 * (t.val % 8 + 1)) := by
  rw [pay5_apply, upTo_block, ho]
  refine congrArg _ (Finset.sum_congr rfl fun k _ => ?_)
  unfold termN
  rw [dif_pos (by omega)]
  unfold term
  rw [iblk3]
  refine congrArg (fun s => sqPos s * _) (Finset.sum_congr rfl fun u _ => ?_)
  rw [hs, iblk2]

end Blocks

/-- After point `j` of block `q`: the carried rows and the block. -/
theorem after_point (q : Fin 20) : ∀ (j : ℕ) (_ : j < 8) (hn : 8 * q.val + j < cfg0.N),
    (∀ r l, (outsAt0 m c (8 * q.val + j) hn).2.2.2.2.2 (ix2 r l) = rms (rowOf m c q r) (gRow m c) l)
    ∧ (∀ r l, (outsAt0 m c (8 * q.val + j) hn).1 (ix2 r l)
        = upTo (rowOf m c q r) (rms (rowOf m c q r) (gRow m c)) (argW1 m c) (argW2 m c) l (1024 * (j + 1)))
  | 0, _, hn => by
    have h0 : (⟨8 * q.val + 0, hn⟩ : Fin cfg0.N).val % 8 = 0 := by dsimp only; omega
    have hq : (⟨8 * q.val + 0, hn⟩ : Fin cfg0.N).val / 8 = q.val := by dsimp only; omega
    rw [outsAt0_A m c ⟨8 * q.val + 0, hn⟩ h0]
    dsimp only
    rw [scratch_A, out_A]
    refine ⟨fun r l => normed m c _ q hq r l, fun r l => ?_⟩
    refine (added m c _ (rowOf m c q r) _ r l _ _ (fun u => normed m c _ q hq r u) ?_).trans ?_
    · rw [h0, Nat.mul_zero, upTo_zero]
      exact iblk0 m c _ q hq r l
    · rw [h0]
  | j + 1, hj, hn => by
    obtain ⟨hs, ho⟩ := after_point q j (by omega) (by omega)
    have h0 : ¬(⟨8 * q.val + (j + 1), hn⟩ : Fin cfg0.N).val % 8 = 0 := by dsimp only; omega
    have hm : (⟨8 * q.val + (j + 1), hn⟩ : Fin cfg0.N).val % 8 = j + 1 := by dsimp only; omega
    rw [outsAt0_B m c ⟨8 * q.val + (j + 1), hn⟩ h0]
    dsimp only
    refine ⟨fun r l => hs r l, fun r l => ?_⟩
    rw [out_B]
    refine (added m c _ (rowOf m c q r) _ r l _ _ (fun u => hs r u) ?_).trans ?_
    · rw [hm]; exact ho r l
    · rw [hm]

/-- The rows that the call leaves. -/
def rows : (⟨2, ![16640, 2048]⟩ : Shape).Idx → EReal := fun i =>
  mlp (fun u => argH m c (ix2 (i 0) u)) (gRow m c) (argW1 m c) (argW2 m c) (i 1)

theorem rows_written (t : Fin cfg0.N) (hf : (cfg0.win 9).flush t = true) :
    (dats m 0 c).flushed 9 t = ((cfg0.win 9).blk t).view.read (Elt Ideal) (rows m c) := by
  have h7 : t.val % 8 = 7 := (flush0_9 t).mp hf
  obtain ⟨ht, -, -, -, -, e⟩ := win_facts t
  rw [Value.flushed9]
  funext y
  show (outsAt0 m c t.val t.isLt).1 ((cfg0.win 9).xinj (grid0.coords t) y) = rows m c (((cfg0.win 9).blk t).view.emb y)
  have hy0 : (y 0).val < 832 := (y 0).isLt
  have hy1 : (y 1).val < 2048 := (y 1).isLt
  have hx : (cfg0.win 9).xinj (grid0.coords t) y = ix2 (⟨(y 0).val, hy0⟩ : Fin 832) (⟨(y 1).val, hy1⟩ : Fin 2048) := by
    funext a
    refine Fin.ext ?_
    match a with
    | ⟨0, _⟩ => rfl
    | ⟨1, _⟩ => rfl
  have he : ((cfg0.win 9).blk t).view.emb y
      = ix2 (⟨832 * (t.val / 8) + (y 0).val, by omega⟩ : Fin 16640) (⟨(y 1).val, hy1⟩ : Fin 2048) := by
    funext a
    refine Fin.ext ?_
    match a with
    | ⟨0, _⟩ =>
      show win0_9.index t 0 * 832 + 1 * (y 0).val = 832 * (t.val / 8) + (y 0).val
      rw [e]; show t.val / 8 * 832 + 1 * (y 0).val = _; omega
    | ⟨1, _⟩ =>
      show win0_9.index t 1 * 2048 + 1 * (y 1).val = (y 1).val
      rw [e]; show 0 * 2048 + 1 * (y 1).val = _; omega
  rw [hx, he]
  have hq : t.val / 8 < 20 := by omega
  have hn : 8 * (t.val / 8) + 7 < cfg0.N := by have := t.isLt; omega
  have same : ∀ n (h : n < cfg0.N), n = t.val → outsAt0 m c t.val t.isLt = outsAt0 m c n h := by
    intro n h hnt; subst hnt; rfl
  rw [same (8 * (t.val / 8) + 7) hn (by omega)]
  refine ((after_point m c ⟨t.val / 8, hq⟩ 7 (by omega) hn).2 _ _).trans ?_
  exact upTo_all _ _ _ _ _

theorem rows_covered (i : S16640x2048.Idx) : ∃ t : Fin cfg0.N, (cfg0.win 9).flush t = true ∧ i ∈ ((cfg0.win 9).blk t).view.set := by
  have hi0 : (i 0).val < 16640 := (i 0).isLt
  have hi1 : (i 1).val < 2048 := (i 1).isLt
  have hlt : 8 * ((i 0).val / 832) + 7 < cfg0.N := lt_of_lt_of_eq (show _ < 160 by omega) N_0.symm
  refine ⟨⟨8 * ((i 0).val / 832) + 7, hlt⟩, (flush0_9 _).mpr (by dsimp only; omega), ?_⟩
  obtain ⟨-, -, -, -, -, e⟩ := win_facts ⟨8 * ((i 0).val / 832) + 7, hlt⟩
  show i ∈ ((View.whole main_v0_0).slice (win0_9.rect ⟨8 * ((i 0).val / 832) + 7, hlt⟩)).set
  rw [View.set_slice_whole, Rect.mem_set_unit]
  intro a
  match a with
  | ⟨0, _⟩ =>
    show win0_9.index _ 0 * 832 ≤ (i 0).val ∧ (i 0).val < win0_9.index _ 0 * 832 + 832
    rw [e]
    show (8 * ((i 0).val / 832) + 7) / 8 * 832 ≤ (i 0).val ∧ (i 0).val < (8 * ((i 0).val / 832) + 7) / 8 * 832 + 832
    omega
  | ⟨1, _⟩ =>
    show win0_9.index _ 1 * 2048 ≤ (i 1).val ∧ (i 1).val < win0_9.index _ 1 * 2048 + 2048
    rw [e]
    show 0 * 2048 ≤ (i 1).val ∧ (i 1).val < 0 * 2048 + 2048
    omega

theorem rows_after : (dats m 0 c).arrAt 9 cfg0.N = rows m c :=
  (dats m 0 c).arrAt_eq_of_cover 9 _ (rows_written m c) (rows_covered)

end Cert.Mlp.Casts

end
-- ==== Proof.Mlp.Casts.Side.lean ====
/-
  The four casts beside a layer's feed-forward part: every point leaves one block of a matrix in the narrower type, and
  the blocks that are written back fill each array.
-/
module

public import proofs.«01_k».proof.Proof.Gen.Kernel3Ideal.Value
public import proofs.«01_k».proof.Proof.Mlp.Casts.Point

@[expose] public section

set_option maxRecDepth 16384

noncomputable section

namespace Cert.Mlp.Casts

open Idealize.ShloMosaic Idealize.ShloMosaic.TcCoe Idealize.ShloMosaic.Tactic
open Cert.Kernel3Ideal Cert.Kernel3Ideal.Gen

variable (m : (ℓ : Loc nD τ sig) → Buf (Elt Ideal) ℓ) (c : Dev nD)

/-! ## main_arg5, layer 0 -/

abbrev argA : (⟨3, ![2, 6160, 2048]⟩ : Shape).Idx → EReal := m ((c : Thread nD τ).loc main_arg5)

def castA : (⟨3, ![1, 6160, 2048]⟩ : Shape).Idx → EReal := fun i => argA m c (ix3 0 (i 1) (i 2))

theorem win_factsA : ∀ t : Fin cfg0.N, win0_5.index t = ![0, min t.val 76, 0]
    ∧ win0_10.index t = ![0, min t.val 76, 0] ∧ (t.val < 76 ∨ t.val = 159 → win0_10.flush t = true) :=
  (by decide +kernel : ∀ t : Fin grid0.N, _)

theorem blockA (t : Fin cfg0.N) : (outsAt0 m c t.val t.isLt).2.1 = k0_pay6 (F := Ideal) (iblk m c 5 t) := by
  by_cases h0 : t.val % 8 = 0
  · rw [outsAt0_A m c t h0]
    dsimp only
    rw [cast10_A]
  · rw [outsAt0_B m c t h0]
    dsimp only
    rw [cast10_B]

theorem writtenA (t : Fin cfg0.N) :
    (dats m 0 c).flushed 10 t = ((cfg0.win 10).blk t).view.read (Elt Ideal) (castA m c) := by
  obtain ⟨e, e', -⟩ := win_factsA t
  rw [Value.flushed10, blockA]
  funext y
  have hy0 : (y 0).val < 1 := (y 0).isLt
  have hy1 : (y 1).val < 80 := (y 1).isLt
  have hy2 : (y 2).val < 2048 := (y 2).isLt
  show k0_pay6 (F := Ideal) (iblk m c 5 t) ((cfg0.win 10).xinj (grid0.coords t) y)
    = castA m c (((cfg0.win 10).blk t).view.emb y)
  have hx : (cfg0.win 10).xinj (grid0.coords t) y
      = ix3 0 (⟨(y 1).val, hy1⟩ : Fin 80) (⟨(y 2).val, hy2⟩ : Fin 2048) := by
    funext a
    refine Fin.ext ?_
    match a with
    | ⟨0, _⟩ => show (y 0).val = 0; omega
    | ⟨1, _⟩ => rfl
    | ⟨2, _⟩ => rfl
  rw [hx, pay6_apply]
  show V m c main_arg5 (((cfg0.win 5).blk t).view.emb _) = _
  rw [V_main_arg5]
  unfold castA
  refine congrArg (argA m c) ?_
  funext a
  refine Fin.ext ?_
  match a with
  | ⟨0, _⟩ => show win0_5.index t 0 * 1 + 1 * 0 = 0; rw [e]; rfl
  | ⟨1, _⟩ =>
    show win0_5.index t 1 * 80 + 1 * (y 1).val = win0_10.index t 1 * 80 + 1 * (y 1).val
    rw [e, e']
  | ⟨2, _⟩ =>
    show win0_5.index t 2 * 2048 + 1 * (y 2).val = win0_10.index t 2 * 2048 + 1 * (y 2).val
    rw [e, e']

theorem coveredA (i : S1x6160x2048.Idx) :
    ∃ t : Fin cfg0.N, (cfg0.win 10).flush t = true ∧ i ∈ ((cfg0.win 10).blk t).view.set := by
  have hi0 : (i 0).val < 1 := (i 0).isLt
  have hi1 : (i 1).val < 6160 := (i 1).isLt
  have hi2 : (i 2).val < 2048 := (i 2).isLt
  have pick : ∃ n : ℕ, n < 160 ∧ (n < 76 ∨ n = 159) ∧ min n 76 = (i 1).val / 80 := by
    by_cases h : (i 1).val / 80 < 76
    · exact ⟨(i 1).val / 80, by omega, Or.inl h, by omega⟩
    · exact ⟨159, by omega, Or.inr rfl, by omega⟩
  obtain ⟨n, hn, hl, hmin⟩ := pick
  have hlt : n < cfg0.N := lt_of_lt_of_eq hn N_0.symm
  obtain ⟨-, e, hf⟩ := win_factsA ⟨n, hlt⟩
  refine ⟨⟨n, hlt⟩, hf hl, ?_⟩
  show i ∈ ((View.whole main_v0_1).slice (win0_10.rect ⟨n, hlt⟩)).set
  rw [View.set_slice_whole, Rect.mem_set_unit]
  intro a
  match a with
  | ⟨0, _⟩ =>
    show win0_10.index _ 0 * 1 ≤ (i 0).val ∧ (i 0).val < win0_10.index _ 0 * 1 + 1
    rw [e]
    show 0 * 1 ≤ (i 0).val ∧ (i 0).val < 0 * 1 + 1
    omega
  | ⟨1, _⟩ =>
    show win0_10.index _ 1 * 80 ≤ (i 1).val ∧ (i 1).val < win0_10.index _ 1 * 80 + 80
    rw [e]
    show min n 76 * 80 ≤ (i 1).val ∧ (i 1).val < min n 76 * 80 + 80
    rw [hmin]
    omega
  | ⟨2, _⟩ =>
    show win0_10.index _ 2 * 2048 ≤ (i 2).val ∧ (i 2).val < win0_10.index _ 2 * 2048 + 2048
    rw [e]
    show 0 * 2048 ≤ (i 2).val ∧ (i 2).val < 0 * 2048 + 2048
    omega

theorem afterA : (dats m 0 c).arrAt 10 cfg0.N = castA m c :=
  (dats m 0 c).arrAt_eq_of_cover 10 _ (fun t _ => writtenA m c t) (coveredA)

/-! ## main_arg6, layer 0 -/

abbrev argB : (⟨3, ![2, 2048, 2048]⟩ : Shape).Idx → EReal := m ((c : Thread nD τ).loc main_arg6)

def castB : (⟨3, ![1, 2048, 2048]⟩ : Shape).Idx → EReal := fun i => argB m c (ix3 0 (i 1) (i 2))

theorem win_factsB : ∀ t : Fin cfg0.N, win0_6.index t = ![0, min t.val 127, 0]
    ∧ win0_11.index t = ![0, min t.val 127, 0] ∧ (t.val < 127 ∨ t.val = 159 → win0_11.flush t = true) :=
  (by decide +kernel : ∀ t : Fin grid0.N, _)

theorem blockB (t : Fin cfg0.N) : (outsAt0 m c t.val t.isLt).2.2.1 = k0_pay1 (F := Ideal) (k0_pay7 (iblk m c 6 t)) := by
  by_cases h0 : t.val % 8 = 0
  · rw [outsAt0_A m c t h0]
    dsimp only
    rw [cast11_A]
  · rw [outsAt0_B m c t h0]
    dsimp only
    rw [cast11_B]

theorem writtenB (t : Fin cfg0.N) :
    (dats m 0 c).flushed 11 t = ((cfg0.win 11).blk t).view.read (Elt Ideal) (castB m c) := by
  obtain ⟨e, e', -⟩ := win_factsB t
  rw [Value.flushed11, blockB]
  funext y
  have hy0 : (y 0).val < 1 := (y 0).isLt
  have hy1 : (y 1).val < 16 := (y 1).isLt
  have hy2 : (y 2).val < 2048 := (y 2).isLt
  show k0_pay1 (F := Ideal) (k0_pay7 (iblk m c 6 t)) ((cfg0.win 11).xinj (grid0.coords t) y)
    = castB m c (((cfg0.win 11).blk t).view.emb y)
  have hx : (cfg0.win 11).xinj (grid0.coords t) y
      = ix3 0 (⟨(y 1).val, hy1⟩ : Fin 16) (⟨(y 2).val, hy2⟩ : Fin 2048) := by
    funext a
    refine Fin.ext ?_
    match a with
    | ⟨0, _⟩ => show (y 0).val = 0; omega
    | ⟨1, _⟩ => rfl
    | ⟨2, _⟩ => rfl
  rw [hx, pay17_apply]
  show V m c main_arg6 (((cfg0.win 6).blk t).view.emb _) = _
  rw [V_main_arg6]
  unfold castB
  refine congrArg (argB m c) ?_
  funext a
  refine Fin.ext ?_
  match a with
  | ⟨0, _⟩ => show win0_6.index t 0 * 1 + 1 * 0 = 0; rw [e]; rfl
  | ⟨1, _⟩ =>
    show win0_6.index t 1 * 16 + 1 * (y 1).val = win0_11.index t 1 * 16 + 1 * (y 1).val
    rw [e, e']
  | ⟨2, _⟩ =>
    show win0_6.index t 2 * 2048 + 1 * (y 2).val = win0_11.index t 2 * 2048 + 1 * (y 2).val
    rw [e, e']

theorem coveredB (i : S1x2048x2048.Idx) :
    ∃ t : Fin cfg0.N, (cfg0.win 11).flush t = true ∧ i ∈ ((cfg0.win 11).blk t).view.set := by
  have hi0 : (i 0).val < 1 := (i 0).isLt
  have hi1 : (i 1).val < 2048 := (i 1).isLt
  have hi2 : (i 2).val < 2048 := (i 2).isLt
  have pick : ∃ n : ℕ, n < 160 ∧ (n < 127 ∨ n = 159) ∧ min n 127 = (i 1).val / 16 := by
    by_cases h : (i 1).val / 16 < 127
    · exact ⟨(i 1).val / 16, by omega, Or.inl h, by omega⟩
    · exact ⟨159, by omega, Or.inr rfl, by omega⟩
  obtain ⟨n, hn, hl, hmin⟩ := pick
  have hlt : n < cfg0.N := lt_of_lt_of_eq hn N_0.symm
  obtain ⟨-, e, hf⟩ := win_factsB ⟨n, hlt⟩
  refine ⟨⟨n, hlt⟩, hf hl, ?_⟩
  show i ∈ ((View.whole main_v0_2).slice (win0_11.rect ⟨n, hlt⟩)).set
  rw [View.set_slice_whole, Rect.mem_set_unit]
  intro a
  match a with
  | ⟨0, _⟩ =>
    show win0_11.index _ 0 * 1 ≤ (i 0).val ∧ (i 0).val < win0_11.index _ 0 * 1 + 1
    rw [e]
    show 0 * 1 ≤ (i 0).val ∧ (i 0).val < 0 * 1 + 1
    omega
  | ⟨1, _⟩ =>
    show win0_11.index _ 1 * 16 ≤ (i 1).val ∧ (i 1).val < win0_11.index _ 1 * 16 + 16
    rw [e]
    show min n 127 * 16 ≤ (i 1).val ∧ (i 1).val < min n 127 * 16 + 16
    rw [hmin]
    omega
  | ⟨2, _⟩ =>
    show win0_11.index _ 2 * 2048 ≤ (i 2).val ∧ (i 2).val < win0_11.index _ 2 * 2048 + 2048
    rw [e]
    show 0 * 2048 ≤ (i 2).val ∧ (i 2).val < 0 * 2048 + 2048
    omega

theorem afterB : (dats m 0 c).arrAt 11 cfg0.N = castB m c :=
  (dats m 0 c).arrAt_eq_of_cover 11 _ (fun t _ => writtenB m c t) (coveredB)

/-! ## main_arg7, layer 1 -/

abbrev argC : (⟨3, ![4, 2048, 8192]⟩ : Shape).Idx → EReal := m ((c : Thread nD τ).loc main_arg7)

def castC : (⟨3, ![1, 2048, 8192]⟩ : Shape).Idx → EReal := fun i => argC m c (ix3 1 (i 1) (i 2))

theorem win_factsC : ∀ t : Fin cfg0.N, win0_7.index t = ![1, min t.val 127, 0]
    ∧ win0_12.index t = ![0, min t.val 127, 0] ∧ (t.val < 127 ∨ t.val = 159 → win0_12.flush t = true) :=
  (by decide +kernel : ∀ t : Fin grid0.N, _)

theorem blockC (t : Fin cfg0.N) : (outsAt0 m c t.val t.isLt).2.2.2.1 = k0_pay2 (F := Ideal) (iblk m c 7 t) := by
  by_cases h0 : t.val % 8 = 0
  · rw [outsAt0_A m c t h0]
    dsimp only
    rw [cast12_A]
  · rw [outsAt0_B m c t h0]
    dsimp only
    rw [cast12_B]

theorem writtenC (t : Fin cfg0.N) :
    (dats m 0 c).flushed 12 t = ((cfg0.win 12).blk t).view.read (Elt Ideal) (castC m c) := by
  obtain ⟨e, e', -⟩ := win_factsC t
  rw [Value.flushed12, blockC]
  funext y
  have hy0 : (y 0).val < 1 := (y 0).isLt
  have hy1 : (y 1).val < 16 := (y 1).isLt
  have hy2 : (y 2).val < 8192 := (y 2).isLt
  show k0_pay2 (F := Ideal) (iblk m c 7 t) ((cfg0.win 12).xinj (grid0.coords t) y)
    = castC m c (((cfg0.win 12).blk t).view.emb y)
  have hx : (cfg0.win 12).xinj (grid0.coords t) y
      = ix3 0 (⟨(y 1).val, hy1⟩ : Fin 16) (⟨(y 2).val, hy2⟩ : Fin 8192) := by
    funext a
    refine Fin.ext ?_
    match a with
    | ⟨0, _⟩ => show (y 0).val = 0; omega
    | ⟨1, _⟩ => rfl
    | ⟨2, _⟩ => rfl
  rw [hx, pay2_apply]
  show V m c main_arg7 (((cfg0.win 7).blk t).view.emb _) = _
  rw [V_main_arg7]
  unfold castC
  refine congrArg (argC m c) ?_
  funext a
  refine Fin.ext ?_
  match a with
  | ⟨0, _⟩ => show win0_7.index t 0 * 1 + 1 * 0 = 1; rw [e]; rfl
  | ⟨1, _⟩ =>
    show win0_7.index t 1 * 16 + 1 * (y 1).val = win0_12.index t 1 * 16 + 1 * (y 1).val
    rw [e, e']; rfl
  | ⟨2, _⟩ =>
    show win0_7.index t 2 * 8192 + 1 * (y 2).val = win0_12.index t 2 * 8192 + 1 * (y 2).val
    rw [e, e']; rfl

theorem coveredC (i : S1x2048x8192.Idx) :
    ∃ t : Fin cfg0.N, (cfg0.win 12).flush t = true ∧ i ∈ ((cfg0.win 12).blk t).view.set := by
  have hi0 : (i 0).val < 1 := (i 0).isLt
  have hi1 : (i 1).val < 2048 := (i 1).isLt
  have hi2 : (i 2).val < 8192 := (i 2).isLt
  have pick : ∃ n : ℕ, n < 160 ∧ (n < 127 ∨ n = 159) ∧ min n 127 = (i 1).val / 16 := by
    by_cases h : (i 1).val / 16 < 127
    · exact ⟨(i 1).val / 16, by omega, Or.inl h, by omega⟩
    · exact ⟨159, by omega, Or.inr rfl, by omega⟩
  obtain ⟨n, hn, hl, hmin⟩ := pick
  have hlt : n < cfg0.N := lt_of_lt_of_eq hn N_0.symm
  obtain ⟨-, e, hf⟩ := win_factsC ⟨n, hlt⟩
  refine ⟨⟨n, hlt⟩, hf hl, ?_⟩
  show i ∈ ((View.whole main_v0_3).slice (win0_12.rect ⟨n, hlt⟩)).set
  rw [View.set_slice_whole, Rect.mem_set_unit]
  intro a
  match a with
  | ⟨0, _⟩ =>
    show win0_12.index _ 0 * 1 ≤ (i 0).val ∧ (i 0).val < win0_12.index _ 0 * 1 + 1
    rw [e]
    show 0 * 1 ≤ (i 0).val ∧ (i 0).val < 0 * 1 + 1
    omega
  | ⟨1, _⟩ =>
    show win0_12.index _ 1 * 16 ≤ (i 1).val ∧ (i 1).val < win0_12.index _ 1 * 16 + 16
    rw [e]
    show min n 127 * 16 ≤ (i 1).val ∧ (i 1).val < min n 127 * 16 + 16
    rw [hmin]
    omega
  | ⟨2, _⟩ =>
    show win0_12.index _ 2 * 8192 ≤ (i 2).val ∧ (i 2).val < win0_12.index _ 2 * 8192 + 8192
    rw [e]
    show 0 * 8192 ≤ (i 2).val ∧ (i 2).val < 0 * 8192 + 8192
    omega

theorem afterC : (dats m 0 c).arrAt 12 cfg0.N = castC m c :=
  (dats m 0 c).arrAt_eq_of_cover 12 _ (fun t _ => writtenC m c t) (coveredC)

/-! ## main_arg8, layer 1 -/

abbrev argD : (⟨3, ![4, 8192, 2048]⟩ : Shape).Idx → EReal := m ((c : Thread nD τ).loc main_arg8)

def castD : (⟨3, ![1, 8192, 2048]⟩ : Shape).Idx → EReal := fun i => argD m c (ix3 1 (i 1) (i 2))

theorem win_factsD : ∀ t : Fin cfg0.N, win0_8.index t = ![1, min t.val 127, 0]
    ∧ win0_13.index t = ![0, min t.val 127, 0] ∧ (t.val < 127 ∨ t.val = 159 → win0_13.flush t = true) :=
  (by decide +kernel : ∀ t : Fin grid0.N, _)

theorem blockD (t : Fin cfg0.N) : (outsAt0 m c t.val t.isLt).2.2.2.2.1 = k0_pay3 (F := Ideal) (iblk m c 8 t) := by
  by_cases h0 : t.val % 8 = 0
  · rw [outsAt0_A m c t h0]
    dsimp only
    rw [cast13_A]
  · rw [outsAt0_B m c t h0]
    dsimp only
    rw [cast13_B]

theorem writtenD (t : Fin cfg0.N) :
    (dats m 0 c).flushed 13 t = ((cfg0.win 13).blk t).view.read (Elt Ideal) (castD m c) := by
  obtain ⟨e, e', -⟩ := win_factsD t
  rw [Value.flushed13, blockD]
  funext y
  have hy0 : (y 0).val < 1 := (y 0).isLt
  have hy1 : (y 1).val < 64 := (y 1).isLt
  have hy2 : (y 2).val < 2048 := (y 2).isLt
  show k0_pay3 (F := Ideal) (iblk m c 8 t) ((cfg0.win 13).xinj (grid0.coords t) y)
    = castD m c (((cfg0.win 13).blk t).view.emb y)
  have hx : (cfg0.win 13).xinj (grid0.coords t) y
      = ix3 0 (⟨(y 1).val, hy1⟩ : Fin 64) (⟨(y 2).val, hy2⟩ : Fin 2048) := by
    funext a
    refine Fin.ext ?_
    match a with
    | ⟨0, _⟩ => show (y 0).val = 0; omega
    | ⟨1, _⟩ => rfl
    | ⟨2, _⟩ => rfl
  rw [hx, pay3_apply]
  show V m c main_arg8 (((cfg0.win 8).blk t).view.emb _) = _
  rw [V_main_arg8]
  unfold castD
  refine congrArg (argD m c) ?_
  funext a
  refine Fin.ext ?_
  match a with
  | ⟨0, _⟩ => show win0_8.index t 0 * 1 + 1 * 0 = 1; rw [e]; rfl
  | ⟨1, _⟩ =>
    show win0_8.index t 1 * 64 + 1 * (y 1).val = win0_13.index t 1 * 64 + 1 * (y 1).val
    rw [e, e']; rfl
  | ⟨2, _⟩ =>
    show win0_8.index t 2 * 2048 + 1 * (y 2).val = win0_13.index t 2 * 2048 + 1 * (y 2).val
    rw [e, e']; rfl

theorem coveredD (i : S1x8192x2048.Idx) :
    ∃ t : Fin cfg0.N, (cfg0.win 13).flush t = true ∧ i ∈ ((cfg0.win 13).blk t).view.set := by
  have hi0 : (i 0).val < 1 := (i 0).isLt
  have hi1 : (i 1).val < 8192 := (i 1).isLt
  have hi2 : (i 2).val < 2048 := (i 2).isLt
  have pick : ∃ n : ℕ, n < 160 ∧ (n < 127 ∨ n = 159) ∧ min n 127 = (i 1).val / 64 := by
    by_cases h : (i 1).val / 64 < 127
    · exact ⟨(i 1).val / 64, by omega, Or.inl h, by omega⟩
    · exact ⟨159, by omega, Or.inr rfl, by omega⟩
  obtain ⟨n, hn, hl, hmin⟩ := pick
  have hlt : n < cfg0.N := lt_of_lt_of_eq hn N_0.symm
  obtain ⟨-, e, hf⟩ := win_factsD ⟨n, hlt⟩
  refine ⟨⟨n, hlt⟩, hf hl, ?_⟩
  show i ∈ ((View.whole main_v0_4).slice (win0_13.rect ⟨n, hlt⟩)).set
  rw [View.set_slice_whole, Rect.mem_set_unit]
  intro a
  match a with
  | ⟨0, _⟩ =>
    show win0_13.index _ 0 * 1 ≤ (i 0).val ∧ (i 0).val < win0_13.index _ 0 * 1 + 1
    rw [e]
    show 0 * 1 ≤ (i 0).val ∧ (i 0).val < 0 * 1 + 1
    omega
  | ⟨1, _⟩ =>
    show win0_13.index _ 1 * 64 ≤ (i 1).val ∧ (i 1).val < win0_13.index _ 1 * 64 + 64
    rw [e]
    show min n 127 * 64 ≤ (i 1).val ∧ (i 1).val < min n 127 * 64 + 64
    rw [hmin]
    omega
  | ⟨2, _⟩ =>
    show win0_13.index _ 2 * 2048 ≤ (i 2).val ∧ (i 2).val < win0_13.index _ 2 * 2048 + 2048
    rw [e]
    show 0 * 2048 ≤ (i 2).val ∧ (i 2).val < 0 * 2048 + 2048
    omega

theorem afterD : (dats m 0 c).arrAt 13 cfg0.N = castD m c :=
  (dats m 0 c).arrAt_eq_of_cover 13 _ (fun t _ => writtenD m c t) (coveredD)

end Cert.Mlp.Casts

end
-- ==== Proof.Mlp.Casts.Result.lean ====
/-
  The reference of a layer's feed-forward part over the extended reals, read at an index.
-/
module

public import proofs.«01_k».proof.Proof.Gen.Reference3Ideal.Run
public import proofs.«01_k».proof.Proof.Mlp.Spec

@[expose] public section

set_option maxRecDepth 16384

noncomputable section

namespace Cert.Mlp.Casts.Ref

open Idealize.ShloMosaic Idealize.ShloMosaic.TcCoe Idealize.ShloMosaic.Tactic
open Cert.Reference3Ideal Cert.Reference3Ideal.Gen
open scoped BigOperators

/-- The norm of every row. -/
def normed (x : FVec Ideal S16640x2048 .f32) (g : FVec Ideal S1x2048 .f32) : FVec Ideal S16640x2048 .f32 :=
  mulf (mulf x (broadcastInDim S16640x2048 ![0, 1] bcast_S16640x1_S16640x2048_0_1
      (Host.rsqrt (addf (Host.divf (broadcastInDim S16640x1 ![0] bcast_S16640_S16640x1_0
          (Host.reduceAdd (mulf x x) (constant S_ .f32 0x00000000#32) reducesTo_S16640x2048_S16640_d1 h_S_))
        (broadcastInDim S16640x1 ![] bcast_S_S16640x1 (constant S_ .f32 0x45000000#32)))
        (broadcastInDim S16640x1 ![] bcast_S_S16640x1 (constant S_ .f32 0x358637BD#32))))))
    (broadcastInDim S16640x2048 ![0, 1] bcast_S1x2048_S16640x2048_0_1
      (broadcastInDim S1x2048 ![1] bcast_S2048_S1x2048_1 (shapeCast S2048 g shapeCasts_S1x2048_S2048 : FVec Ideal S2048 .f32)))

/-- The positive part of the hidden rows. -/
def hidden (y : FVec Ideal S16640x2048 .f32) (w1 : FVec Ideal S1x2048x8192 .bf16) : FVec Ideal S16640x8192 .f32 :=
  maximumf (Host.dotGeneral dot_S16640x2048_S2048x8192_S16640x8192_1_0_0_1_n_n none y
      (extf .f32 (shapeCast S2048x8192 w1 shapeCasts_S1x2048x8192_S2048x8192 : FVec Ideal S2048x8192 .bf16) bitsLt_bf16_f32))
    (broadcastInDim S16640x8192 ![] bcast_S_S16640x8192 (constant S_ .f32 0x00000000#32))

/-- The rows with the feed-forward part added. -/
def added (x : FVec Ideal S16640x2048 .f32) (a : FVec Ideal S16640x8192 .f32) (w2 : FVec Ideal S1x8192x2048 .bf16) :
    FVec Ideal S16640x2048 .f32 :=
  addf x (Host.dotGeneral dot_S16640x8192_S8192x2048_S16640x2048_1_0_0_1_n_n none (mulf a a)
    (extf .f32 (shapeCast S8192x2048 w2 shapeCasts_S1x8192x2048_S8192x2048 : FVec Ideal S8192x2048 .bf16) bitsLt_bf16_f32))

theorem normed_apply (x : FVec Ideal S16640x2048 .f32) (g : FVec Ideal S1x2048 .f32) (r : Fin 16640) (l : Fin 2048) :
    normed x g (ix2 r l) = rms (fun u => x (ix2 r u)) (fun u => g (ix2 0 u)) l := by
  pointwise [normed]
  rfl

theorem hidden_apply (y : FVec Ideal S16640x2048 .f32) (w1 : FVec Ideal S1x2048x8192 .bf16) (r : Fin 16640) (f : Fin 8192) :
    hidden y w1 (ix2 r f) = max (∑ u : Fin 2048, y (ix2 r u) * w1 (ix3 0 u f)) 0 := by
  pointwise [hidden]

theorem added_apply (x : FVec Ideal S16640x2048 .f32) (a : FVec Ideal S16640x8192 .f32) (w2 : FVec Ideal S1x8192x2048 .bf16)
    (r : Fin 16640) (l : Fin 2048) :
    added x a w2 (ix2 r l) = x (ix2 r l) + ∑ f : Fin 8192, a (ix2 r f) * a (ix2 r f) * w2 (ix3 0 f l) := by
  pointwise [added]

/-- The reference's rows. -/
theorem rows_apply (x : FVec Ideal S16640x2048 .f32) (g : FVec Ideal S1x2048 .f32) (w1 : FVec Ideal S1x2048x8192 .bf16)
    (w2 : FVec Ideal S1x8192x2048 .bf16) (r : Fin 16640) (l : Fin 2048) :
    added x (hidden (normed x g) w1) w2 (ix2 r l)
      = mlp (fun u => x (ix2 r u)) (fun u => g (ix2 0 u)) w1 w2 l := by
  rw [added_apply]
  unfold mlp term sqPos
  refine congrArg _ (Finset.sum_congr rfl fun f _ => ?_)
  rw [hidden_apply]
  simp only [normed_apply]

/-- The casts of one layer of a matrix. -/
theorem castA_apply (w : FVec Ideal S2x6160x2048 .f32) (r : Fin 6160) (l : Fin 2048) :
    truncf (F := Ideal) .bf16 (extractStridedSlice S1x6160x2048 ![0, 0, 0] w slices_S2x6160x2048_S1x6160x2048_0_0_0) bitsLt_bf16_f32 (ix3 0 r l)
      = w (ix3 0 r l) := by
  refine (extractStridedSlice_apply _ w slices_S2x6160x2048_S1x6160x2048_0_0_0 _ (ix3 0 r l) ?_)
  intro a
  match a with
  | ⟨0, _⟩ => rfl
  | ⟨1, _⟩ => exact (Nat.zero_add _).symm
  | ⟨2, _⟩ => exact (Nat.zero_add _).symm

theorem castB_apply (w : FVec Ideal S2x2048x2048 .f32) (r : Fin 2048) (l : Fin 2048) :
    truncf (F := Ideal) .bf16 (extractStridedSlice S1x2048x2048 ![0, 0, 0] w slices_S2x2048x2048_S1x2048x2048_0_0_0) bitsLt_bf16_f32 (ix3 0 r l)
      = w (ix3 0 r l) := by
  refine (extractStridedSlice_apply _ w slices_S2x2048x2048_S1x2048x2048_0_0_0 _ (ix3 0 r l) ?_)
  intro a
  match a with
  | ⟨0, _⟩ => rfl
  | ⟨1, _⟩ => exact (Nat.zero_add _).symm
  | ⟨2, _⟩ => exact (Nat.zero_add _).symm

theorem castC_apply (w : FVec Ideal S4x2048x8192 .f32) (r : Fin 2048) (l : Fin 8192) :
    truncf (F := Ideal) .bf16 (extractStridedSlice S1x2048x8192 ![1, 0, 0] w slices_S4x2048x8192_S1x2048x8192_1_0_0) bitsLt_bf16_f32 (ix3 0 r l)
      = w (ix3 1 r l) := by
  refine (extractStridedSlice_apply _ w slices_S4x2048x8192_S1x2048x8192_1_0_0 _ (ix3 1 r l) ?_)
  intro a
  match a with
  | ⟨0, _⟩ => rfl
  | ⟨1, _⟩ => exact (Nat.zero_add _).symm
  | ⟨2, _⟩ => exact (Nat.zero_add _).symm

theorem castD_apply (w : FVec Ideal S4x8192x2048 .f32) (r : Fin 8192) (l : Fin 2048) :
    truncf (F := Ideal) .bf16 (extractStridedSlice S1x8192x2048 ![1, 0, 0] w slices_S4x8192x2048_S1x8192x2048_1_0_0) bitsLt_bf16_f32 (ix3 0 r l)
      = w (ix3 1 r l) := by
  refine (extractStridedSlice_apply _ w slices_S4x8192x2048_S1x8192x2048_1_0_0 _ (ix3 1 r l) ?_)
  intro a
  match a with
  | ⟨0, _⟩ => rfl
  | ⟨1, _⟩ => exact (Nat.zero_add _).symm
  | ⟨2, _⟩ => exact (Nat.zero_add _).symm

end Cert.Mlp.Casts.Ref

end
-- ==== Proof.Out.Spec.lean ====
/-
  An output projection on one row, over the extended reals: the hidden row with the product of the mixed row and the
  matrix added.
-/
module

public import Idealize.ShloMosaic.Lib.IdealHost
public import Idealize.ShloMosaic.Lib.Pointwise
public import Idealize.ShloMosaic.Lib.ValueLayout

@[expose] public section

set_option maxRecDepth 16384

noncomputable section

namespace Cert.Out

open Idealize.ShloMosaic
open scoped BigOperators

/-- Column `l` of the row. -/
def proj (h z : Fin 2048 → EReal) (w : (⟨3, ![1, 2048, 2048]⟩ : Shape).Idx → EReal) (l : Fin 2048) : EReal :=
  h l + ∑ u : Fin 2048, z u * w (ix3 0 u l)

/-- A row laid out in sixteen pairs of heads, 128 columns each. -/
def ofPairs (z : (⟨3, ![16, 16640, 128]⟩ : Shape).Idx → EReal) (r : Fin 16640) (u : Fin 2048) : EReal :=
  z (ix3 ⟨u.val / 128, by omega⟩ r ⟨u.val % 128, by omega⟩)

end Cert.Out

end
-- ==== Proof.Out.Flat.lean ====
/-
  The output projection of a layer whose mixed rows are laid out column by column: what each of the 26 grid points
  writes, the array after them, and the reference read at an index.
-/
module

public import proofs.«01_k».proof.Proof.Gen.Kernel5Ideal.Value
public import proofs.«01_k».proof.Proof.Gen.Reference5Ideal.Run
public import proofs.«01_k».proof.Proof.Out.Spec
public import Idealize.ShloMosaic.Lib.Pipeline.ValueKit.Basic

@[expose] public section

set_option maxRecDepth 16384

noncomputable section

namespace Cert.Out.Flat

open Idealize.ShloMosaic Idealize.ShloMosaic.TcCoe Idealize.ShloMosaic.Tactic
open Cert.Kernel5Ideal Cert.Kernel5Ideal.Gen
open scoped BigOperators

theorem out_apply (x0 : Vec Ideal S640x2048 .bf16) (x1 : Vec Ideal S1x2048x2048 .bf16) (x2 : Vec Ideal S640x2048 .f32)
    (r : Fin 640) (l : Fin 2048) :
    out0_3 x0 x1 x2 (ix2 r l) = proj (fun u => x2 (ix2 r u)) (fun u => x0 (ix2 r u)) x1 l := by
  unfold out0_3
  rw [View.canon_cons_unit_lit _ _ _ (by decide), View.ld_unit_lit _ x0 (by decide), View.ld_unit_lit _ x2 (by decide),
    View.ld_unit_lit _ x1 (by decide)]
  pointwise [k0_pay1]
  rfl

variable (m : (ℓ : Loc nD τ sig) → Buf (Elt Ideal) ℓ) (c : Dev nD)

/-- The mixed rows, the matrix and the hidden states, as the launch finds them. -/
abbrev argZ : (⟨2, ![16640, 2048]⟩ : Shape).Idx → EReal := m ((c : Thread nD τ).loc main_arg0)
abbrev argW : (⟨3, ![1, 2048, 2048]⟩ : Shape).Idx → EReal := m ((c : Thread nD τ).loc main_arg1)
abbrev argH : (⟨2, ![16640, 2048]⟩ : Shape).Idx → EReal := m ((c : Thread nD τ).loc main_arg2)

/-- Where the windows lie at point `t`. -/
theorem win_facts : ∀ t : Fin cfg0.N, t.val < 26
    ∧ win0_0.index t = ![t.val, 0] ∧ win0_1.index t = ![0, 0, 0] ∧ win0_2.index t = ![t.val, 0] ∧ win0_3.index t = ![t.val, 0] :=
  (by decide +kernel : ∀ t : Fin grid0.N, _)

theorem iblk0 (t : Fin cfg0.N) (ht : t.val < 26) (r : Fin 640) (u : Fin 2048) :
    iblk m c 0 t (ix2 r u) = argZ m c (ix2 ⟨640 * t.val + r.val, by omega⟩ u) := by
  obtain ⟨-, e, -⟩ := win_facts t
  show V m c main_arg0 (((cfg0.win 0).blk t).view.emb (ix2 r u)) = _
  rw [V_main_arg0]
  refine congrArg (argZ m c) ?_
  funext a
  refine Fin.ext ?_
  fin_cases a
  · show win0_0.index t 0 * 640 + 1 * r.val = 640 * t.val + r.val
    rw [e]; show t.val * 640 + 1 * r.val = _; omega
  · show win0_0.index t 1 * 2048 + 1 * u.val = u.val
    rw [e]; show 0 * 2048 + 1 * u.val = _; omega

theorem iblk1 (t : Fin cfg0.N) : iblk m c 1 t = argW m c := by
  obtain ⟨-, -, e, -⟩ := win_facts t
  funext y
  show V m c main_arg1 (((cfg0.win 1).blk t).view.emb y) = _
  rw [V_main_arg1]
  refine congrArg (argW m c) ?_
  funext a
  refine Fin.ext ?_
  match a with
  | ⟨0, _⟩ =>
    show win0_1.index t 0 * 1 + 1 * (y 0).val = (y 0).val
    rw [e]; show 0 * 1 + 1 * (y 0).val = _; omega
  | ⟨1, _⟩ =>
    show win0_1.index t 1 * 2048 + 1 * (y 1).val = (y 1).val
    rw [e]; show 0 * 2048 + 1 * (y 1).val = _; omega
  | ⟨2, _⟩ =>
    show win0_1.index t 2 * 2048 + 1 * (y 2).val = (y 2).val
    rw [e]; show 0 * 2048 + 1 * (y 2).val = _; omega

theorem iblk2 (t : Fin cfg0.N) (ht : t.val < 26) (r : Fin 640) (u : Fin 2048) :
    iblk m c 2 t (ix2 r u) = argH m c (ix2 ⟨640 * t.val + r.val, by omega⟩ u) := by
  obtain ⟨-, -, -, e, -⟩ := win_facts t
  show V m c main_arg2 (((cfg0.win 2).blk t).view.emb (ix2 r u)) = _
  rw [V_main_arg2]
  refine congrArg (argH m c) ?_
  funext a
  refine Fin.ext ?_
  fin_cases a
  · show win0_2.index t 0 * 640 + 1 * r.val = 640 * t.val + r.val
    rw [e]; show t.val * 640 + 1 * r.val = _; omega
  · show win0_2.index t 1 * 2048 + 1 * u.val = u.val
    rw [e]; show 0 * 2048 + 1 * u.val = _; omega

/-- The rows that the call leaves. -/
def rows : (⟨2, ![16640, 2048]⟩ : Shape).Idx → EReal := fun i =>
  proj (fun u => argH m c (ix2 (i 0) u)) (fun u => argZ m c (ix2 (i 0) u)) (argW m c) (i 1)

theorem rows_written (t : Fin cfg0.N) :
    (dats m 0 c).flushed 3 t = ((cfg0.win 3).blk t).view.read (Elt Ideal) (rows m c) := by
  obtain ⟨ht, -, -, -, e⟩ := win_facts t
  rw [Value.flushed3]
  funext y
  show out0_3 (F := Ideal) (iblk m c 0 t) (iblk m c 1 t) (iblk m c 2 t) ((cfg0.win 3).xinj (grid0.coords t) y)
    = rows m c (((cfg0.win 3).blk t).view.emb y)
  have hy0 : (y 0).val < 640 := (y 0).isLt
  have hy1 : (y 1).val < 2048 := (y 1).isLt
  have hx : (cfg0.win 3).xinj (grid0.coords t) y = ix2 (⟨(y 0).val, hy0⟩ : Fin 640) (⟨(y 1).val, hy1⟩ : Fin 2048) := by
    funext a
    refine Fin.ext ?_
    match a with
    | ⟨0, _⟩ => rfl
    | ⟨1, _⟩ => rfl
  have he : ((cfg0.win 3).blk t).view.emb y
      = ix2 (⟨640 * t.val + (y 0).val, by omega⟩ : Fin 16640) (⟨(y 1).val, hy1⟩ : Fin 2048) := by
    funext a
    refine Fin.ext ?_
    match a with
    | ⟨0, _⟩ =>
      show win0_3.index t 0 * 640 + 1 * (y 0).val = 640 * t.val + (y 0).val
      rw [e]; show t.val * 640 + 1 * (y 0).val = _; omega
    | ⟨1, _⟩ =>
      show win0_3.index t 1 * 2048 + 1 * (y 1).val = (y 1).val
      rw [e]; show 0 * 2048 + 1 * (y 1).val = _; omega
  rw [hx, he]
  refine (out_apply _ _ _ _ _).trans ?_
  rw [iblk1]
  simp only [iblk0 m c t ht, iblk2 m c t ht]
  rfl

theorem rows_covered (i : S16640x2048.Idx) : ∃ t : Fin cfg0.N, (cfg0.win 3).flush t = true ∧ i ∈ ((cfg0.win 3).blk t).view.set := by
  have hi0 : (i 0).val < 16640 := (i 0).isLt
  have hi1 : (i 1).val < 2048 := (i 1).isLt
  have hlt : (i 0).val / 640 < cfg0.N := lt_of_lt_of_eq (show _ < 26 by omega) N_0.symm
  refine ⟨⟨(i 0).val / 640, hlt⟩, flush0_3 _, ?_⟩
  obtain ⟨-, -, -, -, e⟩ := win_facts ⟨(i 0).val / 640, hlt⟩
  show i ∈ ((View.whole main_v0).slice (win0_3.rect ⟨(i 0).val / 640, hlt⟩)).set
  rw [View.set_slice_whole, Rect.mem_set_unit]
  intro a
  match a with
  | ⟨0, _⟩ =>
    show win0_3.index _ 0 * 640 ≤ (i 0).val ∧ (i 0).val < win0_3.index _ 0 * 640 + 640
    rw [e]
    show (i 0).val / 640 * 640 ≤ (i 0).val ∧ (i 0).val < (i 0).val / 640 * 640 + 640
    omega
  | ⟨1, _⟩ =>
    show win0_3.index _ 1 * 2048 ≤ (i 1).val ∧ (i 1).val < win0_3.index _ 1 * 2048 + 2048
    rw [e]
    show 0 * 2048 ≤ (i 1).val ∧ (i 1).val < 0 * 2048 + 2048
    omega

theorem rows_after : (dats m 0 c).arrAt 3 cfg0.N = rows m c :=
  (dats m 0 c).arrAt_eq_of_cover 3 _ (fun t _ => rows_written m c t) rows_covered

end Cert.Out.Flat

namespace Cert.Out.Flat.Ref

open Idealize.ShloMosaic Idealize.ShloMosaic.TcCoe Idealize.ShloMosaic.Tactic
open Cert.Reference5Ideal Cert.Reference5Ideal.Gen

/-- The reference's rows. -/
theorem rows_apply (z : FVec Ideal S16640x2048 .bf16) (w : FVec Ideal S1x2048x2048 .bf16) (h : FVec Ideal S16640x2048 .f32)
    (r : Fin 16640) (l : Fin 2048) :
    addf h (Host.dotGeneral dot_S16640x2048_S2048x2048_S16640x2048_1_0_0_1_n_n none (extf .f32 z bitsLt_bf16_f32)
        (extf .f32 (shapeCast _ w shapeCasts_S1x2048x2048_S2048x2048) bitsLt_bf16_f32)) (ix2 r l)
      = proj (fun u => h (ix2 r u)) (fun u => z (ix2 r u)) w l := by
  pointwise
  rfl

end Cert.Out.Flat.Ref

end
-- ==== Proof.Out.Pairs.lean ====
/-
  The output projection of a layer whose mixed rows are laid out in sixteen pairs of heads: what each of the 26 grid
  points writes, the array after them, and the reference read at an index.
-/
module

public import proofs.«01_k».proof.Proof.Gen.Kernel4Ideal.Value
public import proofs.«01_k».proof.Proof.Gen.Reference4Ideal.Run
public import proofs.«01_k».proof.Proof.Out.Spec
public import Idealize.ShloMosaic.Lib.Pipeline.ValueKit.Basic

@[expose] public section

set_option maxRecDepth 16384

noncomputable section

namespace Cert.Out.Pairs

open Idealize.ShloMosaic Idealize.ShloMosaic.TcCoe Idealize.ShloMosaic.Tactic
open Cert.Kernel4Ideal Cert.Kernel4Ideal.Gen
open scoped BigOperators

/-- Pair `n` of a block. -/
def pairOf (x : Vec Ideal S16x640x128 .bf16) (n : Fin 16) : FVec Ideal S640x128 .bf16 := fun i => x (ix3 n (i 0) (i 1))

/-- Its load, without the unit axis. -/
theorem pair_eq (x : Vec Ideal S16x640x128 .bf16) (n : ℕ) (hn : n < 16) (inb : ∀ a, (![n, 0, 0] : Fin 3 → ℕ) a + S1x640x128.size a ≤ S16x640x128.size a) :
    shapeCast S640x128 (View.ld x (Rect.unit (s := S16x640x128) ![n, 0, 0] S1x640x128.size inb) : FVec Ideal S1x640x128 .bf16)
        shapeCasts_S1x640x128_S640x128
      = pairOf x ⟨n, hn⟩ := by
  funext y
  refine (shapeCast_apply _ _ _ (ix3 0 (y 0) (y 1)) ?_).trans ?_
  · rw [Shape.rowMajor_val_two, Shape.rowMajor_val_three]
    show (0 * 640 + (y 0).val) * 128 + (y 1).val = (y 0).val * 128 + (y 1).val
    omega
  · refine congrArg x ?_
    funext a
    refine Fin.ext ?_
    match a with
    | ⟨0, _⟩ => rfl
    | ⟨1, _⟩ => show 0 + 1 * (y 0).val = (y 0).val; omega
    | ⟨2, _⟩ => show 0 + 1 * (y 1).val = (y 1).val; omega

/-- The sixteen pairs beside one another. -/
def row (x : Vec Ideal S16x640x128 .bf16) : FVec Ideal S640x2048 .bf16 :=
  concatenate S640x2048 1 (List.ofFn fun n : Fin 16 => (⟨S640x128, pairOf x n⟩ : (s : Shape) × (s.Idx → EReal)))
    concatenates_S640x128_S640x128_S640x128_S640x128_S640x128_S640x128_S640x128_S640x128_S640x128_S640x128_S640x128_S640x128_S640x128_S640x128_S640x128_S640x128_S640x2048_d1

theorem row_apply (x : Vec Ideal S16x640x128 .bf16) (r : Fin 640) (u : Fin 2048) :
    row x (ix2 r u) = x (ix3 ⟨u.val / 128, by omega⟩ r ⟨u.val % 128, by omega⟩) := by
  unfold row
  refine concatenate_ofFn_apply (t := S640x2048) (s₁ := S640x128) 1 (pairOf x) _ rfl 128 rfl (ix2 r u) ⟨u.val / 128, by omega⟩ rfl
    (ix2 r (⟨u.val % 128, by omega⟩ : Fin 128)) rfl ?_
  intro b hb
  match b with
  | ⟨0, _⟩ => rfl
  | ⟨1, _⟩ => exact absurd rfl hb

theorem out_row (x0 : Vec Ideal S16x640x128 .bf16) (x1 : Vec Ideal S1x2048x2048 .bf16) (x2 : Vec Ideal S640x2048 .f32) :
    out0_3 x0 x1 x2 = k0_pay2 (row x0) x2 x1 := by
  unfold out0_3
  rw [View.canon_cons_unit_lit _ _ _ (by decide), View.ld_unit_lit _ x2 (by decide), View.ld_unit_lit _ x1 (by decide)]
  refine congrArg (fun v => k0_pay2 v x2 x1) ?_
  unfold k0_pay1 k0_pay3 k0_pay4 k0_pay5 k0_pay6 k0_pay7 k0_pay8 k0_pay9 k0_pay10 k0_pay11 k0_pay12 k0_pay13
  dsimp only
  rw [pair_eq x0 0 (by decide), pair_eq x0 1 (by decide), pair_eq x0 2 (by decide), pair_eq x0 3 (by decide),
    pair_eq x0 4 (by decide), pair_eq x0 5 (by decide), pair_eq x0 6 (by decide), pair_eq x0 7 (by decide),
    pair_eq x0 8 (by decide), pair_eq x0 9 (by decide), pair_eq x0 10 (by decide), pair_eq x0 11 (by decide),
    pair_eq x0 12 (by decide), pair_eq x0 13 (by decide), pair_eq x0 14 (by decide), pair_eq x0 15 (by decide)]
  rfl

theorem out_apply (x0 : Vec Ideal S16x640x128 .bf16) (x1 : Vec Ideal S1x2048x2048 .bf16) (x2 : Vec Ideal S640x2048 .f32)
    (r : Fin 640) (l : Fin 2048) :
    out0_3 x0 x1 x2 (ix2 r l)
      = proj (fun u => x2 (ix2 r u)) (fun u => x0 (ix3 ⟨u.val / 128, by omega⟩ r ⟨u.val % 128, by omega⟩)) x1 l := by
  rw [out_row]
  refine Eq.trans (b := proj (fun u => x2 (ix2 r u)) (fun u => row x0 (ix2 r u)) x1 l) ?_ ?_
  · generalize row x0 = v
    pointwise [k0_pay2]
    rfl
  · simp only [row_apply]

variable (m : (ℓ : Loc nD τ sig) → Buf (Elt Ideal) ℓ) (c : Dev nD)

/-- The mixed rows, the matrix and the hidden states, as the launch finds them. -/
abbrev argZ : (⟨3, ![16, 16640, 128]⟩ : Shape).Idx → EReal := m ((c : Thread nD τ).loc main_arg0)
abbrev argW : (⟨3, ![1, 2048, 2048]⟩ : Shape).Idx → EReal := m ((c : Thread nD τ).loc main_arg1)
abbrev argH : (⟨2, ![16640, 2048]⟩ : Shape).Idx → EReal := m ((c : Thread nD τ).loc main_arg2)

/-- Where the windows lie at point `t`. -/
theorem win_facts : ∀ t : Fin cfg0.N, t.val < 26
    ∧ win0_0.index t = ![0, t.val, 0] ∧ win0_1.index t = ![0, 0, 0] ∧ win0_2.index t = ![t.val, 0] ∧ win0_3.index t = ![t.val, 0] :=
  (by decide +kernel : ∀ t : Fin grid0.N, _)

theorem iblk0 (t : Fin cfg0.N) (ht : t.val < 26) (p : Fin 16) (r : Fin 640) (u : Fin 128) :
    iblk m c 0 t (ix3 p r u) = argZ m c (ix3 p ⟨640 * t.val + r.val, by omega⟩ u) := by
  obtain ⟨-, e, -⟩ := win_facts t
  show V m c main_arg0 (((cfg0.win 0).blk t).view.emb (ix3 p r u)) = _
  rw [V_main_arg0]
  refine congrArg (argZ m c) ?_
  funext a
  refine Fin.ext ?_
  fin_cases a
  · show win0_0.index t 0 * 16 + 1 * p.val = p.val
    rw [e]; show 0 * 16 + 1 * p.val = _; omega
  · show win0_0.index t 1 * 640 + 1 * r.val = 640 * t.val + r.val
    rw [e]; show t.val * 640 + 1 * r.val = _; omega
  · show win0_0.index t 2 * 128 + 1 * u.val = u.val
    rw [e]; show 0 * 128 + 1 * u.val = _; omega

theorem iblk1 (t : Fin cfg0.N) : iblk m c 1 t = argW m c := by
  obtain ⟨-, -, e, -⟩ := win_facts t
  funext y
  show V m c main_arg1 (((cfg0.win 1).blk t).view.emb y) = _
  rw [V_main_arg1]
  refine congrArg (argW m c) ?_
  funext a
  refine Fin.ext ?_
  match a with
  | ⟨0, _⟩ =>
    show win0_1.index t 0 * 1 + 1 * (y 0).val = (y 0).val
    rw [e]; show 0 * 1 + 1 * (y 0).val = _; omega
  | ⟨1, _⟩ =>
    show win0_1.index t 1 * 2048 + 1 * (y 1).val = (y 1).val
    rw [e]; show 0 * 2048 + 1 * (y 1).val = _; omega
  | ⟨2, _⟩ =>
    show win0_1.index t 2 * 2048 + 1 * (y 2).val = (y 2).val
    rw [e]; show 0 * 2048 + 1 * (y 2).val = _; omega

theorem iblk2 (t : Fin cfg0.N) (ht : t.val < 26) (r : Fin 640) (u : Fin 2048) :
    iblk m c 2 t (ix2 r u) = argH m c (ix2 ⟨640 * t.val + r.val, by omega⟩ u) := by
  obtain ⟨-, -, -, e, -⟩ := win_facts t
  show V m c main_arg2 (((cfg0.win 2).blk t).view.emb (ix2 r u)) = _
  rw [V_main_arg2]
  refine congrArg (argH m c) ?_
  funext a
  refine Fin.ext ?_
  fin_cases a
  · show win0_2.index t 0 * 640 + 1 * r.val = 640 * t.val + r.val
    rw [e]; show t.val * 640 + 1 * r.val = _; omega
  · show win0_2.index t 1 * 2048 + 1 * u.val = u.val
    rw [e]; show 0 * 2048 + 1 * u.val = _; omega

/-- The rows that the call leaves. -/
def rows : (⟨2, ![16640, 2048]⟩ : Shape).Idx → EReal := fun i =>
  proj (fun u => argH m c (ix2 (i 0) u)) (ofPairs (argZ m c) (i 0)) (argW m c) (i 1)

theorem rows_written (t : Fin cfg0.N) :
    (dats m 0 c).flushed 3 t = ((cfg0.win 3).blk t).view.read (Elt Ideal) (rows m c) := by
  obtain ⟨ht, -, -, -, e⟩ := win_facts t
  rw [Value.flushed3]
  funext y
  show out0_3 (F := Ideal) (iblk m c 0 t) (iblk m c 1 t) (iblk m c 2 t) ((cfg0.win 3).xinj (grid0.coords t) y)
    = rows m c (((cfg0.win 3).blk t).view.emb y)
  have hy0 : (y 0).val < 640 := (y 0).isLt
  have hy1 : (y 1).val < 2048 := (y 1).isLt
  have hx : (cfg0.win 3).xinj (grid0.coords t) y = ix2 (⟨(y 0).val, hy0⟩ : Fin 640) (⟨(y 1).val, hy1⟩ : Fin 2048) := by
    funext a
    refine Fin.ext ?_
    match a with
    | ⟨0, _⟩ => rfl
    | ⟨1, _⟩ => rfl
  have he : ((cfg0.win 3).blk t).view.emb y
      = ix2 (⟨640 * t.val + (y 0).val, by omega⟩ : Fin 16640) (⟨(y 1).val, hy1⟩ : Fin 2048) := by
    funext a
    refine Fin.ext ?_
    match a with
    | ⟨0, _⟩ =>
      show win0_3.index t 0 * 640 + 1 * (y 0).val = 640 * t.val + (y 0).val
      rw [e]; show t.val * 640 + 1 * (y 0).val = _; omega
    | ⟨1, _⟩ =>
      show win0_3.index t 1 * 2048 + 1 * (y 1).val = (y 1).val
      rw [e]; show 0 * 2048 + 1 * (y 1).val = _; omega
  rw [hx, he]
  refine (out_apply _ _ _ _ _).trans ?_
  rw [iblk1]
  simp only [iblk0 m c t ht, iblk2 m c t ht]
  rfl

theorem rows_covered (i : S16640x2048.Idx) : ∃ t : Fin cfg0.N, (cfg0.win 3).flush t = true ∧ i ∈ ((cfg0.win 3).blk t).view.set := by
  have hi0 : (i 0).val < 16640 := (i 0).isLt
  have hi1 : (i 1).val < 2048 := (i 1).isLt
  have hlt : (i 0).val / 640 < cfg0.N := lt_of_lt_of_eq (show _ < 26 by omega) N_0.symm
  refine ⟨⟨(i 0).val / 640, hlt⟩, flush0_3 _, ?_⟩
  obtain ⟨-, -, -, -, e⟩ := win_facts ⟨(i 0).val / 640, hlt⟩
  show i ∈ ((View.whole main_v0).slice (win0_3.rect ⟨(i 0).val / 640, hlt⟩)).set
  rw [View.set_slice_whole, Rect.mem_set_unit]
  intro a
  match a with
  | ⟨0, _⟩ =>
    show win0_3.index _ 0 * 640 ≤ (i 0).val ∧ (i 0).val < win0_3.index _ 0 * 640 + 640
    rw [e]
    show (i 0).val / 640 * 640 ≤ (i 0).val ∧ (i 0).val < (i 0).val / 640 * 640 + 640
    omega
  | ⟨1, _⟩ =>
    show win0_3.index _ 1 * 2048 ≤ (i 1).val ∧ (i 1).val < win0_3.index _ 1 * 2048 + 2048
    rw [e]
    show 0 * 2048 ≤ (i 1).val ∧ (i 1).val < 0 * 2048 + 2048
    omega

theorem rows_after : (dats m 0 c).arrAt 3 cfg0.N = rows m c :=
  (dats m 0 c).arrAt_eq_of_cover 3 _ (fun t _ => rows_written m c t) rows_covered

end Cert.Out.Pairs

namespace Cert.Out.Pairs.Ref

open Idealize.ShloMosaic Idealize.ShloMosaic.TcCoe Idealize.ShloMosaic.Tactic
open Cert.Reference4Ideal Cert.Reference4Ideal.Gen

/-- The mixed rows, column by column. -/
def mixed (z : FVec Ideal S16x16640x128 .bf16) : FVec Ideal S16640x2048 .f32 :=
  shapeCast _ (transpose S16640x16x128 [1, 0, 2] (extf .f32 z bitsLt_bf16_f32) transposes_S16x16640x128_S16640x16x128_1_0_2)
    shapeCasts_S16640x16x128_S16640x2048

theorem mixed_apply (z : FVec Ideal S16x16640x128 .bf16) (r : Fin 16640) (u : Fin 2048) : mixed z (ix2 r u) = ofPairs z r u := by
  unfold mixed
  refine (shapeCast_apply _ _ _ (ix3 r (⟨u.val / 128, by omega⟩ : Fin 16) (⟨u.val % 128, by omega⟩ : Fin 128)) ?_).trans ?_
  · rw [Shape.rowMajor_val_two, Shape.rowMajor_val_three]
    show (r.val * 16 + u.val / 128) * 128 + u.val % 128 = r.val * 2048 + u.val
    omega
  · pointwise
    rfl

/-- The reference's rows. -/
theorem rows_apply (z : FVec Ideal S16x16640x128 .bf16) (w : FVec Ideal S1x2048x2048 .bf16) (h : FVec Ideal S16640x2048 .f32)
    (r : Fin 16640) (l : Fin 2048) :
    addf h (Host.dotGeneral dot_S16640x2048_S2048x2048_S16640x2048_1_0_0_1_n_n none (mixed z)
        (extf .f32 (shapeCast _ w shapeCasts_S1x2048x2048_S2048x2048) bitsLt_bf16_f32)) (ix2 r l)
      = proj (fun u => h (ix2 r u)) (ofPairs z r) w l := by
  refine Eq.trans (b := proj (fun u => h (ix2 r u)) (fun u => mixed z (ix2 r u)) w l) ?_ ?_
  · generalize mixed z = v
    pointwise
    rfl
  · simp only [mixed_apply]

end Cert.Out.Pairs.Ref

end
-- ==== Proof.Rkv.Spec.lean ====
/-
  The token shift and one projection of an RWKV-7 layer on one row, over the extended reals.
-/
module

public import proofs.«01_k».proof.Proof.Mlp.Spec

@[expose] public section

set_option maxRecDepth 16384

noncomputable section

namespace Cert.Rkv

open Idealize.ShloMosaic
open Cert.Mlp (Row rms)
open scoped BigOperators

/-- The normed row before row `r` of sequence `b`; zero before the first. -/
def before (h : (⟨3, ![4, 4160, 2048]⟩ : Shape).Idx → EReal) (g : Row) (b : Fin 4) (r : Fin 4160) (l : Fin 2048) : EReal :=
  if r.val = 0 then 0 else rms (fun u => h (ix3 b ⟨r.val - 1, by omega⟩ u)) g l

/-- A row mixed with the one before it. -/
def shift (x p k : Row) (l : Fin 2048) : EReal := x l + (p l - x l) * k l

/-- The row of the mixing weights that projection `s` takes. -/
def mixRow (s : Fin 3) : Fin 6 := if s.val = 0 then 0 else ⟨s.val + 1, by omega⟩

/-- Projection `s` of row `r` of sequence `b`. -/
def proj (h : (⟨3, ![4, 4160, 2048]⟩ : Shape).Idx → EReal) (g : Row) (mix : (⟨2, ![6, 2048]⟩ : Shape).Idx → EReal)
    (w : (⟨4, ![1, 3, 2048, 2048]⟩ : Shape).Idx → EReal) (s : Fin 3) (b : Fin 4) (r : Fin 4160) (l : Fin 2048) : EReal :=
  ∑ u : Fin 2048, shift (rms (fun v => h (ix3 b r v)) g) (before h g b r) (fun v => mix (ix2 (mixRow s) v)) u * w (ix4 0 s u l)

/-- The three projections laid out in sixteen pairs of heads, the sequences one below another. -/
def pairs (h : (⟨3, ![4, 4160, 2048]⟩ : Shape).Idx → EReal) (g : Row) (mix : (⟨2, ![6, 2048]⟩ : Shape).Idx → EReal)
    (w : (⟨4, ![1, 3, 2048, 2048]⟩ : Shape).Idx → EReal) : (⟨4, ![3, 16, 16640, 128]⟩ : Shape).Idx → EReal := fun i =>
  have hp : (i 1).val < 16 := (i 1).isLt
  have hr : (i 2).val < 16640 := (i 2).isLt
  have hq : (i 3).val < 128 := (i 3).isLt
  proj h g mix w (i 0) ⟨(i 2).val / 4160, by omega⟩ ⟨(i 2).val % 4160, Nat.mod_lt _ (by decide)⟩
    ⟨128 * (i 1).val + (i 3).val, by omega⟩

end Cert.Rkv

end
-- ==== Proof.Rkv.Point.lean ====
/-
  One grid point of the token shift and its three projections: what it leaves in its block of the result, from its input
  blocks.
-/
module

public import proofs.«01_k».proof.Proof.Gen.Kernel6Ideal.Frame
public import proofs.«01_k».proof.Proof.Rkv.Spec
public import Idealize.ShloMosaic.Lib.Pipeline.ValueKit.Basic
public import Idealize.ShloMosaic.Lib.ValueLayout
public import Idealize.ShloMosaic.Lib.WordCmp

@[expose] public section

set_option maxRecDepth 16384

noncomputable section

namespace Cert.Rkv

open Idealize.ShloMosaic Idealize.ShloMosaic.TcCoe Idealize.ShloMosaic.Tactic
open Cert.Kernel6Ideal Cert.Kernel6Ideal.Gen
open Cert.Mlp (Row rms)
open scoped BigOperators

/-! ## The values at an index -/

theorem pay2_apply (g : Vec Ideal S1x2048 .f32) (x : Vec Ideal S1x208x2048 .f32) (r : Fin 208) (l : Fin 2048) :
    k0_pay2 g x (ix2 r l) = rms (fun u => x (ix3 0 r u)) (fun u => g (ix2 0 u)) l := by
  pointwise [k0_pay2]
  rfl

theorem select_zero (n : ℕ) (hn : n < 2 ^ 32) (a b : EReal) :
    Scalar.select (IntOp.cmpi .eq (BitVec.ofNat 32 n) 0#32) a b = if n = 0 then a else b :=
  if_congr (WordCmp.cmpi_eq_ofNat_eq_one_iff hn (by decide)) rfl rfl

theorem pay3_apply (i : grid0.Coords) (g : Vec Ideal S1x2048 .f32) (x : Vec Ideal S1x208x2048 .f32) (p : Vec Ideal S1x8x2048 .f32)
    (r : Fin 208) (l : Fin 2048) :
    k0_pay3 i g x p (ix2 r l)
      = if r.val = 0 then (if (i 1).val = 0 then 0 else rms (fun u => p (ix3 0 7 u)) (fun u => g (ix2 0 u)) l)
        else rms (fun u => x (ix3 0 ⟨r.val - 1, by omega⟩ u)) (fun u => g (ix2 0 u)) l := by
  have hi : (i 1).val < 20 := (i 1).isLt
  have hr := r.isLt
  pointwise [k0_pay3, k0_pay2]
  rw [select_zero r.val (by omega)]
  by_cases h0 : r.val = 0
  · rw [if_pos h0, if_pos h0]
    exact select_zero (i 1).val (by omega) _ _
  · rw [if_neg h0, if_neg h0]
    have e : (⟨(r.val + 208 - 1) % 208, Nat.mod_lt _ (by decide)⟩ : Fin 208) = ⟨r.val - 1, by omega⟩ := Fin.ext (by
      show (r.val + 208 - 1) % 208 = r.val - 1
      omega)
    rw [e]
    rfl

theorem pay5_apply (x p : FVec Ideal S208x2048 .f32) (k : Vec Ideal S1x2048 .f32) (w : Vec Ideal S1x1x2048x2048 .bf16)
    (r : Fin 208) (l : Fin 2048) :
    k0_pay5 x p k w (ix2 r l)
      = ∑ u : Fin 2048, shift (fun v => x (ix2 r v)) (fun v => p (ix2 r v)) (fun v => k (ix2 0 v)) u * w (ix4 0 0 u l) := by
  pointwise [k0_pay5, k0_pay4]
  rfl

theorem pay23_eq (x p : FVec Ideal S208x2048 .f32) (k : Vec Ideal S1x2048 .f32) (w : Vec Ideal S1x1x2048x2048 .bf16) :
    k0_pay23 x (k0_pay4 x p) k w = k0_pay5 x p k w := rfl

theorem pay42_eq (x p : FVec Ideal S208x2048 .f32) (k : Vec Ideal S1x2048 .f32) (w : Vec Ideal S1x1x2048x2048 .bf16) :
    k0_pay42 x (k0_pay4 x p) k w = k0_pay5 x p k w := rfl

theorem ld_row (x : Vec Ideal S6x2048 .f32) (k : Fin 6) (h : ∀ a, (![k.val, 0] : Fin 2 → Nat) a + S1x2048.size a ≤ S6x2048.size a)
    (v : Fin 2048) : View.ld x (Rect.unit (s := S6x2048) ![k.val, 0] S1x2048.size h) (ix2 0 v) = x (ix2 k v) := by
  refine congrArg x ?_
  funext a
  refine Fin.ext ?_
  match a with
  | ⟨0, _⟩ => show k.val + 1 * 0 = k.val; omega
  | ⟨1, _⟩ => show 0 + 1 * v.val = v.val; omega

theorem ld_matrix (x : Vec Ideal S1x3x2048x2048 .bf16) (s : Fin 3)
    (h : ∀ a, (![0, s.val, 0, 0] : Fin 4 → Nat) a + S1x1x2048x2048.size a ≤ S1x3x2048x2048.size a) (u l : Fin 2048) :
    View.ld x (Rect.unit (s := S1x3x2048x2048) ![0, s.val, 0, 0] S1x1x2048x2048.size h) (ix4 0 0 u l) = x (ix4 0 s u l) := by
  refine congrArg x ?_
  funext a
  refine Fin.ext ?_
  match a with
  | ⟨0, _⟩ => show 0 + 1 * 0 = 0; omega
  | ⟨1, _⟩ => show s.val + 1 * 0 = s.val; omega
  | ⟨2, _⟩ => show 0 + 1 * u.val = u.val; omega
  | ⟨3, _⟩ => show 0 + 1 * l.val = l.val; omega

/-! ## The block -/

variable (i : grid0.Coords) (x0 : Vec Ideal S1x208x2048 .f32) (x1 : Vec Ideal S1x8x2048 .f32) (x2 : Vec Ideal S1x2048 .f32)
  (x3 : Vec Ideal S6x2048 .f32) (x4 : Vec Ideal S1x3x2048x2048 .bf16)

/-- The three projections of the block's rows. -/
def projected : Fin 3 → FVec Ideal S208x2048 .f32 :=
  ![k0_pay63 i x0 x1 x2 x3 x4, k0_pay64 i x0 x1 x2 x3 x4, k0_pay65 i x0 x1 x2 x3 x4]

/-- Three arrays of rows in sixteen pairs of heads. -/
def inPairs (P : Fin 3 → FVec Ideal S208x2048 .f32) : Vec Ideal S3x16x208x128 .f32 := fun y =>
  have hp : (y 1).val < 16 := (y 1).isLt
  have hq : (y 3).val < 128 := (y 3).isLt
  P (y 0) (ix2 (y 2) ⟨128 * (y 1).val + (y 3).val, by omega⟩)

theorem at_piece (P : Fin 3 → FVec Ideal S208x2048 .f32) (s p o : ℕ) (hs : s < 3) (hp : p < 16) (ho : o = 128 * p)
    (v : FVec Ideal S208x2048 .f32) (hv : P ⟨s, hs⟩ = v) (hsl : S208x2048.Slices ![0, o] S208x128)
    (hb : ∀ a, (![s, p, 0, 0] : Fin 4 → Nat) a + S1x1x208x128.size a ≤ S3x16x208x128.size a) (x : S1x1x208x128.Idx) :
    shapeCast S1x1x208x128 (extractStridedSlice S208x128 ![0, o] v hsl) shapeCasts_S208x128_S1x1x208x128 x
      = inPairs P ((Rect.unit (s := S3x16x208x128) ![s, p, 0, 0] S1x1x208x128.size hb).emb x) := by
  subst hv ho
  have h0 : (x 0).val < 1 := (x 0).isLt
  have h1 : (x 1).val < 1 := (x 1).isLt
  have h2 : (x 2).val < 208 := (x 2).isLt
  have h3 : (x 3).val < 128 := (x 3).isLt
  refine (shapeCast_apply _ _ x (ix2 (⟨(x 2).val, h2⟩ : Fin 208) (⟨(x 3).val, h3⟩ : Fin 128)) ?_).trans ?_
  · rw [Shape.rowMajor_val_two, Shape.rowMajor_val_four]
    show (x 2).val * 128 + (x 3).val = (((x 0).val * 1 + (x 1).val) * 208 + (x 2).val) * 128 + (x 3).val
    omega
  refine (ValueIdx.slice2_axis1_apply _ _ _ _ _ ⟨128 * p + (x 3).val, by omega⟩ rfl).trans ?_
  refine congr (congrArg P (Fin.ext ?_)) ?_
  · show s = s + 1 * (x 0).val; omega
  · funext a
    refine Fin.ext ?_
    match a with
    | ⟨0, _⟩ => show (x 2).val = 0 + 1 * (x 2).val; omega
    | ⟨1, _⟩ => show 128 * p + (x 3).val = 128 * (p + 1 * (x 1).val) + (0 + 1 * (x 3).val); omega

theorem out_eq : out0_5 i x0 x1 x2 x3 x4 = inPairs (projected i x0 x1 x2 x3 x4) := by
  funext y
  refine View.canon_apply_of_pieces _ _ ?_ y (cover0_5 _ _ _ _ _ _ _ _ _ _ _ _ _ _ _ _ _ _ _ _ _ _ _ _ _ _ _ _ _ _ _ _ _ _ _ _ _ _ _ _ _ _ _ _ _ _ _ _ y)
  simp only [List.forall_mem_cons, k0_pay1, k0_pay18, k0_pay25, k0_pay33, k0_pay53, k0_pay17, k0_pay24, k0_pay32, k0_pay52, k0_pay59]
  repeat' refine And.intro ?_ ?_
  all_goals
    first
    | exact fun x => at_piece (projected i x0 x1 x2 x3 x4) _ _ _ (by decide) (by decide) (by decide) _ (by rfl) _ _ x
    | exact fun _ h => absurd h List.not_mem_nil

/-- The normed row before row `r` of the block. -/
def blockBefore (r : Fin 208) (l : Fin 2048) : EReal :=
  if r.val = 0 then (if (i 1).val = 0 then 0 else rms (fun u => x1 (ix3 0 7 u)) (fun u => x2 (ix2 0 u)) l)
  else rms (fun u => x0 (ix3 0 ⟨r.val - 1, by omega⟩ u)) (fun u => x2 (ix2 0 u)) l

theorem projected_apply (s : Fin 3) (r : Fin 208) (l : Fin 2048) :
    projected i x0 x1 x2 x3 x4 s (ix2 r l)
      = ∑ u : Fin 2048, shift (rms (fun v => x0 (ix3 0 r v)) (fun v => x2 (ix2 0 v))) (blockBefore i x0 x1 x2 r)
          (fun v => x3 (ix2 (mixRow s) v)) u * x4 (ix4 0 s u l) := by
  have hx : ∀ v, k0_pay60 i x0 x1 x2 x3 x4 (ix2 r v) = rms (fun v => x0 (ix3 0 r v)) (fun v => x2 (ix2 0 v)) v := fun v => by
    unfold k0_pay60
    rw [View.ld_unit_lit _ x0 (by decide), View.ld_unit_lit _ x2 (by decide)]
    exact pay2_apply _ _ r v
  have hp : ∀ v, k0_pay61 i x0 x1 x2 x3 x4 (ix2 r v) = blockBefore i x0 x1 x2 r v := fun v => by
    unfold k0_pay61
    rw [View.ld_unit_lit _ x0 (by decide), View.ld_unit_lit _ x1 (by decide), View.ld_unit_lit _ x2 (by decide)]
    exact pay3_apply _ _ _ _ r v
  have h5 : ∀ (k : Vec Ideal S1x2048 .f32) (w : Vec Ideal S1x1x2048x2048 .bf16),
      (∀ v, k (ix2 0 v) = x3 (ix2 (mixRow s) v)) → (∀ u, w (ix4 0 0 u l) = x4 (ix4 0 s u l)) →
      k0_pay5 (k0_pay60 i x0 x1 x2 x3 x4) (k0_pay61 i x0 x1 x2 x3 x4) k w (ix2 r l)
        = ∑ u : Fin 2048, shift (rms (fun v => x0 (ix3 0 r v)) (fun v => x2 (ix2 0 v))) (blockBefore i x0 x1 x2 r)
            (fun v => x3 (ix2 (mixRow s) v)) u * x4 (ix4 0 s u l) := fun k w hk hw => by
    rw [pay5_apply]
    simp only [hx, hp, hk, hw]
  match s with
  | ⟨0, _⟩ => exact h5 (View.ld x3 r0_3) (View.ld x4 r0_4) (fun v => ld_row x3 (mixRow 0) _ v) (fun u => ld_matrix x4 0 _ u l)
  | ⟨1, _⟩ => exact h5 (View.ld x3 r0_21) (View.ld x4 r0_22) (fun v => ld_row x3 (mixRow 1) _ v) (fun u => ld_matrix x4 1 _ u l)
  | ⟨2, _⟩ => exact h5 (View.ld x3 r0_39) (View.ld x4 r0_40) (fun v => ld_row x3 (mixRow 2) _ v) (fun u => ld_matrix x4 2 _ u l)

theorem out_apply (s : Fin 3) (p : Fin 16) (r : Fin 208) (q : Fin 128) :
    out0_5 i x0 x1 x2 x3 x4 (ix4 s p r q)
      = ∑ u : Fin 2048, shift (rms (fun v => x0 (ix3 0 r v)) (fun v => x2 (ix2 0 v))) (blockBefore i x0 x1 x2 r)
          (fun v => x3 (ix2 (mixRow s) v)) u * x4 (ix4 0 s u ⟨128 * p.val + q.val, by omega⟩) := by
  rw [out_eq]
  exact projected_apply i x0 x1 x2 x3 x4 s r _

end Cert.Rkv

end
-- ==== Proof.Rkv.Result.lean ====
/-
  The array of projections after the whole grid of 80 points, in terms of the contents that the launch finds.
-/
module

public import proofs.«01_k».proof.Proof.Gen.Kernel6Ideal.Value
public import proofs.«01_k».proof.Proof.Rkv.Point

@[expose] public section

set_option maxRecDepth 16384

noncomputable section

namespace Cert.Rkv

open Idealize.ShloMosaic Idealize.ShloMosaic.TcCoe Idealize.ShloMosaic.Tactic
open Cert.Kernel6Ideal Cert.Kernel6Ideal.Gen
open Cert.Mlp (Row rms)
open scoped BigOperators

variable (m : (ℓ : Loc nD τ sig) → Buf (Elt Ideal) ℓ) (c : Dev nD)

/-- The hidden states, the gains, the mixing weights and the matrices, as the launch finds them. -/
abbrev argH : (⟨3, ![4, 4160, 2048]⟩ : Shape).Idx → EReal := m ((c : Thread nD τ).loc main_arg0)
abbrev argG : (⟨2, ![1, 2048]⟩ : Shape).Idx → EReal := m ((c : Thread nD τ).loc main_arg1)
abbrev argMix : (⟨2, ![6, 2048]⟩ : Shape).Idx → EReal := m ((c : Thread nD τ).loc main_arg2)
abbrev argW : (⟨4, ![1, 3, 2048, 2048]⟩ : Shape).Idx → EReal := m ((c : Thread nD τ).loc main_arg3)

/-- Where the windows lie at point `t`. -/
theorem win_facts : ∀ t : Fin cfg0.N, t.val < 80
    ∧ (grid0.coords t 1).val = t.val % 20
    ∧ win0_0.index t = ![t.val / 20, t.val % 20, 0]
    ∧ win0_1.index t = ![t.val / 20, 26 * (t.val % 20) - 1, 0]
    ∧ win0_2.index t = ![0, 0] ∧ win0_3.index t = ![0, 0] ∧ win0_4.index t = ![0, 0, 0, 0]
    ∧ win0_5.index t = ![0, 0, t.val, 0] :=
  (by decide +kernel : ∀ t : Fin grid0.N, _)

theorem iblk0 (t : Fin cfg0.N) (ht : t.val < 80) (r : Fin 208) (u : Fin 2048) :
    iblk m c 0 t (ix3 0 r u) = argH m c (ix3 ⟨t.val / 20, by omega⟩ ⟨208 * (t.val % 20) + r.val, by omega⟩ u) := by
  obtain ⟨-, -, e, -⟩ := win_facts t
  show V m c main_arg0 (((cfg0.win 0).blk t).view.emb (ix3 0 r u)) = _
  rw [V_main_arg0]
  refine congrArg (argH m c) ?_
  funext a
  refine Fin.ext ?_
  fin_cases a
  · show win0_0.index t 0 * 1 + 1 * 0 = t.val / 20
    rw [e]; show t.val / 20 * 1 + 1 * 0 = _; omega
  · show win0_0.index t 1 * 208 + 1 * r.val = 208 * (t.val % 20) + r.val
    rw [e]; show t.val % 20 * 208 + 1 * r.val = _; omega
  · show win0_0.index t 2 * 2048 + 1 * u.val = u.val
    rw [e]; show 0 * 2048 + 1 * u.val = _; omega

/-- The last row of the eight-row block is the one before the point's rows. -/
theorem iblk1 (t : Fin cfg0.N) (ht : t.val < 80) (h0 : t.val % 20 ≠ 0) (u : Fin 2048) :
    iblk m c 1 t (ix3 0 7 u) = argH m c (ix3 ⟨t.val / 20, by omega⟩ ⟨208 * (t.val % 20) - 1, by omega⟩ u) := by
  obtain ⟨-, -, -, e, -⟩ := win_facts t
  show V m c main_arg0 (((cfg0.win 1).blk t).view.emb (ix3 0 7 u)) = _
  rw [V_main_arg0]
  refine congrArg (argH m c) ?_
  funext a
  refine Fin.ext ?_
  fin_cases a
  · show win0_1.index t 0 * 1 + 1 * 0 = t.val / 20
    rw [e]; show t.val / 20 * 1 + 1 * 0 = _; omega
  · show win0_1.index t 1 * 8 + 1 * 7 = 208 * (t.val % 20) - 1
    rw [e]; show (26 * (t.val % 20) - 1) * 8 + 1 * 7 = _; omega
  · show win0_1.index t 2 * 2048 + 1 * u.val = u.val
    rw [e]; show 0 * 2048 + 1 * u.val = _; omega

theorem iblk2 (t : Fin cfg0.N) : iblk m c 2 t = argG m c := by
  obtain ⟨-, -, -, -, e, -⟩ := win_facts t
  funext y
  show V m c main_arg1 (((cfg0.win 2).blk t).view.emb y) = _
  rw [V_main_arg1]
  refine congrArg (argG m c) ?_
  funext a
  refine Fin.ext ?_
  match a with
  | ⟨0, _⟩ =>
    show win0_2.index t 0 * 1 + 1 * (y 0).val = (y 0).val
    rw [e]; show 0 * 1 + 1 * (y 0).val = _; omega
  | ⟨1, _⟩ =>
    show win0_2.index t 1 * 2048 + 1 * (y 1).val = (y 1).val
    rw [e]; show 0 * 2048 + 1 * (y 1).val = _; omega

theorem iblk3 (t : Fin cfg0.N) : iblk m c 3 t = argMix m c := by
  obtain ⟨-, -, -, -, -, e, -⟩ := win_facts t
  funext y
  show V m c main_arg2 (((cfg0.win 3).blk t).view.emb y) = _
  rw [V_main_arg2]
  refine congrArg (argMix m c) ?_
  funext a
  refine Fin.ext ?_
  match a with
  | ⟨0, _⟩ =>
    show win0_3.index t 0 * 6 + 1 * (y 0).val = (y 0).val
    rw [e]; show 0 * 6 + 1 * (y 0).val = _; omega
  | ⟨1, _⟩ =>
    show win0_3.index t 1 * 2048 + 1 * (y 1).val = (y 1).val
    rw [e]; show 0 * 2048 + 1 * (y 1).val = _; omega

theorem iblk4 (t : Fin cfg0.N) : iblk m c 4 t = argW m c := by
  obtain ⟨-, -, -, -, -, -, e, -⟩ := win_facts t
  funext y
  show V m c main_arg3 (((cfg0.win 4).blk t).view.emb y) = _
  rw [V_main_arg3]
  refine congrArg (argW m c) ?_
  funext a
  refine Fin.ext ?_
  match a with
  | ⟨0, _⟩ =>
    show win0_4.index t 0 * 1 + 1 * (y 0).val = (y 0).val
    rw [e]; show 0 * 1 + 1 * (y 0).val = _; omega
  | ⟨1, _⟩ =>
    show win0_4.index t 1 * 3 + 1 * (y 1).val = (y 1).val
    rw [e]; show 0 * 3 + 1 * (y 1).val = _; omega
  | ⟨2, _⟩ =>
    show win0_4.index t 2 * 2048 + 1 * (y 2).val = (y 2).val
    rw [e]; show 0 * 2048 + 1 * (y 2).val = _; omega
  | ⟨3, _⟩ =>
    show win0_4.index t 3 * 2048 + 1 * (y 3).val = (y 3).val
    rw [e]; show 0 * 2048 + 1 * (y 3).val = _; omega

/-- What the point takes for the row before row `r` of its block is the row before it in its sequence. -/
theorem before_block (t : Fin cfg0.N) (ht : t.val < 80) (r : Fin 208) (l : Fin 2048) :
    blockBefore (grid0.coords t) (iblk m c 0 t) (iblk m c 1 t) (argG m c) r l
      = before (argH m c) (fun u => argG m c (ix2 0 u)) ⟨t.val / 20, by omega⟩ ⟨208 * (t.val % 20) + r.val, by omega⟩ l := by
  obtain ⟨-, ei, -⟩ := win_facts t
  unfold blockBefore before
  rw [ei]
  by_cases h0 : r.val = 0
  · by_cases h1 : t.val % 20 = 0
    · rw [if_pos h0, if_pos h1, if_pos (show 208 * (t.val % 20) + r.val = 0 by omega)]
    · rw [if_pos h0, if_neg h1, if_neg (show ¬208 * (t.val % 20) + r.val = 0 by omega)]
      simp only [iblk1 m c t ht h1]
      have e : (⟨208 * (t.val % 20) - 1, by omega⟩ : Fin 4160) = ⟨208 * (t.val % 20) + r.val - 1, by omega⟩ :=
        Fin.ext (by show 208 * (t.val % 20) - 1 = 208 * (t.val % 20) + r.val - 1; omega)
      rw [e]
  · rw [if_neg h0, if_neg (show ¬208 * (t.val % 20) + r.val = 0 by omega)]
    simp only [iblk0 m c t ht]
    have e : (⟨208 * (t.val % 20) + (r.val - 1), by omega⟩ : Fin 4160) = ⟨208 * (t.val % 20) + r.val - 1, by omega⟩ :=
      Fin.ext (by show 208 * (t.val % 20) + (r.val - 1) = 208 * (t.val % 20) + r.val - 1; omega)
    rw [e]

/-- The array that the call leaves. -/
def result : (⟨4, ![3, 16, 16640, 128]⟩ : Shape).Idx → EReal :=
  pairs (argH m c) (fun u => argG m c (ix2 0 u)) (argMix m c) (argW m c)

theorem result_written (t : Fin cfg0.N) :
    (dats m 0 c).flushed 5 t = ((cfg0.win 5).blk t).view.read (Elt Ideal) (result m c) := by
  obtain ⟨ht, -, -, -, -, -, -, e⟩ := win_facts t
  rw [Value.flushed5]
  funext y
  show out0_5 (F := Ideal) (grid0.coords t) (iblk m c 0 t) (iblk m c 1 t) (iblk m c 2 t) (iblk m c 3 t) (iblk m c 4 t)
      ((cfg0.win 5).xinj (grid0.coords t) y)
    = result m c (((cfg0.win 5).blk t).view.emb y)
  have hy0 : (y 0).val < 3 := (y 0).isLt
  have hy1 : (y 1).val < 16 := (y 1).isLt
  have hy2 : (y 2).val < 208 := (y 2).isLt
  have hy3 : (y 3).val < 128 := (y 3).isLt
  have hx : (cfg0.win 5).xinj (grid0.coords t) y
      = ix4 (⟨(y 0).val, hy0⟩ : Fin 3) (⟨(y 1).val, hy1⟩ : Fin 16) (⟨(y 2).val, hy2⟩ : Fin 208) (⟨(y 3).val, hy3⟩ : Fin 128) := by
    funext a
    refine Fin.ext ?_
    match a with
    | ⟨0, _⟩ => rfl
    | ⟨1, _⟩ => rfl
    | ⟨2, _⟩ => rfl
    | ⟨3, _⟩ => rfl
  have he : ((cfg0.win 5).blk t).view.emb y
      = ix4 (⟨(y 0).val, hy0⟩ : Fin 3) (⟨(y 1).val, hy1⟩ : Fin 16) (⟨208 * t.val + (y 2).val, by omega⟩ : Fin 16640)
          (⟨(y 3).val, hy3⟩ : Fin 128) := by
    funext a
    refine Fin.ext ?_
    match a with
    | ⟨0, _⟩ =>
      show win0_5.index t 0 * 3 + 1 * (y 0).val = (y 0).val
      rw [e]; show 0 * 3 + 1 * (y 0).val = _; omega
    | ⟨1, _⟩ =>
      show win0_5.index t 1 * 16 + 1 * (y 1).val = (y 1).val
      rw [e]; show 0 * 16 + 1 * (y 1).val = _; omega
    | ⟨2, _⟩ =>
      show win0_5.index t 2 * 208 + 1 * (y 2).val = 208 * t.val + (y 2).val
      rw [e]; show t.val * 208 + 1 * (y 2).val = _; omega
    | ⟨3, _⟩ =>
      show win0_5.index t 3 * 128 + 1 * (y 3).val = (y 3).val
      rw [e]; show 0 * 128 + 1 * (y 3).val = _; omega
  rw [hx, he]
  refine (out_apply _ _ _ _ _ _ _ _ _ _).trans ?_
  rw [iblk2, iblk3, iblk4]
  have hb : blockBefore (grid0.coords t) (iblk m c 0 t) (iblk m c 1 t) (argG m c) ⟨(y 2).val, hy2⟩
      = before (argH m c) (fun u => argG m c (ix2 0 u)) ⟨t.val / 20, by omega⟩ ⟨208 * (t.val % 20) + (y 2).val, by omega⟩ :=
    funext fun l => before_block m c t ht ⟨(y 2).val, hy2⟩ l
  rw [hb]
  simp only [iblk0 m c t ht]
  have eb : (⟨t.val / 20, by omega⟩ : Fin 4) = ⟨(208 * t.val + (y 2).val) / 4160, by omega⟩ :=
    Fin.ext (by show t.val / 20 = (208 * t.val + (y 2).val) / 4160; omega)
  have er : (⟨208 * (t.val % 20) + (y 2).val, by omega⟩ : Fin 4160)
      = ⟨(208 * t.val + (y 2).val) % 4160, Nat.mod_lt _ (by decide)⟩ :=
    Fin.ext (by show 208 * (t.val % 20) + (y 2).val = (208 * t.val + (y 2).val) % 4160; omega)
  rw [eb, er]
  rfl

theorem result_covered (i : S3x16x16640x128.Idx) :
    ∃ t : Fin cfg0.N, (cfg0.win 5).flush t = true ∧ i ∈ ((cfg0.win 5).blk t).view.set := by
  have hi0 : (i 0).val < 3 := (i 0).isLt
  have hi1 : (i 1).val < 16 := (i 1).isLt
  have hi2 : (i 2).val < 16640 := (i 2).isLt
  have hi3 : (i 3).val < 128 := (i 3).isLt
  have hlt : (i 2).val / 208 < cfg0.N := lt_of_lt_of_eq (show _ < 80 by omega) N_0.symm
  refine ⟨⟨(i 2).val / 208, hlt⟩, flush0_5 _, ?_⟩
  obtain ⟨-, -, -, -, -, -, -, e⟩ := win_facts ⟨(i 2).val / 208, hlt⟩
  show i ∈ ((View.whole main_v0).slice (win0_5.rect ⟨(i 2).val / 208, hlt⟩)).set
  rw [View.set_slice_whole, Rect.mem_set_unit]
  intro a
  match a with
  | ⟨0, _⟩ =>
    show win0_5.index _ 0 * 3 ≤ (i 0).val ∧ (i 0).val < win0_5.index _ 0 * 3 + 3
    rw [e]
    show 0 * 3 ≤ (i 0).val ∧ (i 0).val < 0 * 3 + 3
    omega
  | ⟨1, _⟩ =>
    show win0_5.index _ 1 * 16 ≤ (i 1).val ∧ (i 1).val < win0_5.index _ 1 * 16 + 16
    rw [e]
    show 0 * 16 ≤ (i 1).val ∧ (i 1).val < 0 * 16 + 16
    omega
  | ⟨2, _⟩ =>
    show win0_5.index _ 2 * 208 ≤ (i 2).val ∧ (i 2).val < win0_5.index _ 2 * 208 + 208
    rw [e]
    show (i 2).val / 208 * 208 ≤ (i 2).val ∧ (i 2).val < (i 2).val / 208 * 208 + 208
    omega
  | ⟨3, _⟩ =>
    show win0_5.index _ 3 * 128 ≤ (i 3).val ∧ (i 3).val < win0_5.index _ 3 * 128 + 128
    rw [e]
    show 0 * 128 ≤ (i 3).val ∧ (i 3).val < 0 * 128 + 128
    omega

theorem result_after : (dats m 0 c).arrAt 5 cfg0.N = result m c :=
  (dats m 0 c).arrAt_eq_of_cover 5 _ (fun t _ => result_written m c t) result_covered

end Cert.Rkv

end
-- ==== Proof.Rkv.Reference.lean ====
/-
  The reference's projections, read at an index.
-/
module

public import proofs.«01_k».proof.Proof.Gen.Reference6Ideal.Run
public import proofs.«01_k».proof.Proof.Rkv.Spec

@[expose] public section

set_option maxRecDepth 16384

noncomputable section

namespace Cert.Rkv.Ref

open Idealize.ShloMosaic Idealize.ShloMosaic.TcCoe Idealize.ShloMosaic.Tactic
open Cert.Reference6Ideal Cert.Reference6Ideal.Gen
open Cert.Mlp (Row rms)
open scoped BigOperators

variable (h : FVec Ideal S4x4160x2048 .f32) (g : FVec Ideal S1x2048 .f32) (mix : FVec Ideal S6x2048 .f32)
  (w : FVec Ideal S1x3x2048x2048 .bf16)

/-- The normed rows. -/
def normed : FVec Ideal S4x4160x2048 .f32 :=
  mulf (mulf h (broadcastInDim S4x4160x2048 ![0, 1, 2] bcast_S4x4160x1_S4x4160x2048_0_1_2
      (Host.rsqrt (addf (Host.divf (broadcastInDim S4x4160x1 ![0, 1] bcast_S4x4160_S4x4160x1_0_1
          (Host.reduceAdd (mulf h h) (constant S_ .f32 0x00000000#32) reducesTo_S4x4160x2048_S4x4160_d2 h_S_))
          (broadcastInDim S4x4160x1 ![] bcast_S_S4x4160x1 (constant S_ .f32 0x45000000#32)))
        (broadcastInDim S4x4160x1 ![] bcast_S_S4x4160x1 (constant S_ .f32 0x358637BD#32))))))
    (broadcastInDim S4x4160x2048 ![0, 1, 2] bcast_S1x1x2048_S4x4160x2048_0_1_2
      (broadcastInDim S1x1x2048 ![2] bcast_S2048_S1x1x2048_2 (shapeCast _ g shapeCasts_S1x2048_S2048)))

theorem normed_apply (b : Fin 4) (r : Fin 4160) (l : Fin 2048) :
    normed h g (ix3 b r l) = rms (fun u => h (ix3 b r u)) (fun u => g (ix2 0 u)) l := by
  pointwise [normed]
  rfl

/-- The rows one place later. -/
def later (x : FVec Ideal S4x4160x2048 .f32) : FVec Ideal S4x4160x2048 .f32 :=
  extractStridedSlice S4x4160x2048 ![0, 0, 0] (pad S4x4161x2048 ![0, 1, 0] ![0, 0, 0] ![0, 0, 0] x (sitofp .f32 (constantI S_ 32 0#32))
    pads_S4x4160x2048_S4x4161x2048_000_100_000 h_S_) slices_S4x4161x2048_S4x4160x2048_0_0_0

theorem later_apply (b : Fin 4) (r : Fin 4160) (l : Fin 2048) :
    later (normed h g) (ix3 b r l) = before h (fun u => g (ix2 0 u)) b r l := by
  pointwise [later]
  unfold before
  by_cases h0 : r.val = 0
  · rw [dif_neg (show ¬(1 ≤ r.val ∧ r.val - 1 < 4160) by omega), if_pos h0]
    show (((0#32 : BitVec 32).toInt : ℝ) : EReal) = 0
    simp
  · rw [dif_pos (show 1 ≤ r.val ∧ r.val - 1 < 4160 by omega), if_neg h0]
    exact normed_apply h g b _ l

/-- One projection: the rows mixed with the ones before them, times a matrix. -/
def projected (o : ℕ) (s : ℕ) (hk : S6x2048.Slices ![o, 0] S1x2048) (hw : S1x3x2048x2048.Slices ![0, s, 0, 0] S1x1x2048x2048) :
    FVec Ideal S4x4160x2048 .f32 :=
  Host.dotGeneral dot_S4x4160x2048_S2048x2048_S4x4160x2048_2_0_01_1_n_n none
    (addf (normed h g) (mulf (subf (later (normed h g)) (normed h g))
      (broadcastInDim S4x4160x2048 ![0, 1, 2] bcast_S1x1x2048_S4x4160x2048_0_1_2
        (broadcastInDim S1x1x2048 ![2] bcast_S2048_S1x1x2048_2 (shapeCast _ (extractStridedSlice S1x2048 ![o, 0] mix hk)
          shapeCasts_S1x2048_S2048)))))
    (extf .f32 (shapeCast _ (extractStridedSlice S1x1x2048x2048 ![0, s, 0, 0] w hw) shapeCasts_S1x1x2048x2048_S2048x2048) bitsLt_bf16_f32)

theorem projected_apply (s : Fin 3) (hk : S6x2048.Slices ![(mixRow s).val, 0] S1x2048)
    (hw : S1x3x2048x2048.Slices ![0, s.val, 0, 0] S1x1x2048x2048) (b : Fin 4) (r : Fin 4160) (l : Fin 2048) :
    projected h g mix w (mixRow s).val s.val hk hw (ix3 b r l) = proj h (fun u => g (ix2 0 u)) mix w s b r l := by
  have hkv : ∀ v : Fin 2048, extractStridedSlice S1x2048 ![(mixRow s).val, 0] mix hk (ix2 0 v) = mix (ix2 (mixRow s) v) := fun v =>
    extractStridedSlice_apply _ _ _ _ (ix2 (mixRow s) v) (by
      intro a
      match a with
      | ⟨0, _⟩ => rfl
      | ⟨1, _⟩ => exact (Nat.zero_add _).symm)
  have hwv : ∀ u : Fin 2048, extractStridedSlice S1x1x2048x2048 ![0, s.val, 0, 0] w hw (ix4 0 0 u l) = w (ix4 0 s u l) := fun u =>
    extractStridedSlice_apply _ _ _ _ (ix4 0 s u l) (by
      intro a
      match a with
      | ⟨0, _⟩ => rfl
      | ⟨1, _⟩ => rfl
      | ⟨2, _⟩ => exact (Nat.zero_add _).symm
      | ⟨3, _⟩ => exact (Nat.zero_add _).symm)
  unfold projected
  generalize extractStridedSlice S1x2048 ![(mixRow s).val, 0] mix hk = k at hkv ⊢
  generalize extractStridedSlice S1x1x2048x2048 ![0, s.val, 0, 0] w hw = y at hwv ⊢
  pointwise
  simp only [normed_apply, later_apply, hkv, hwv]
  rfl

/-- An array as one layer. -/
def layer (x : FVec Ideal S4x4160x2048 .f32) : S1x4x4160x2048.Idx → EReal :=
  broadcastInDim S1x4x4160x2048 ![1, 2, 3] bcast_S4x4160x2048_S1x4x4160x2048_1_2_3 x

theorem layer_apply (x : FVec Ideal S4x4160x2048 .f32) (b : Fin 4) (r : Fin 4160) (l : Fin 2048) :
    layer x (ix4 0 b r l) = x (ix3 b r l) := by
  pointwise [layer]

/-- Three layers above one another. -/
def stacked (a b c : FVec Ideal S4x4160x2048 .f32) : FVec Ideal S3x4x4160x2048 .f32 :=
  concatenate S3x4x4160x2048 0 [⟨S1x4x4160x2048, layer a⟩, ⟨S1x4x4160x2048, layer b⟩, ⟨S1x4x4160x2048, layer c⟩]
    concatenates_S1x4x4160x2048_S1x4x4160x2048_S1x4x4160x2048_S3x4x4160x2048_d0

theorem stacked_apply (A : Fin 3 → FVec Ideal S4x4160x2048 .f32) (s : Fin 3) (b : Fin 4) (r : Fin 4160) (l : Fin 2048) :
    stacked (A 0) (A 1) (A 2) (ix4 s b r l) = A s (ix3 b r l) := by
  unfold stacked
  refine Eq.trans ?_ (layer_apply (A s) b r l)
  refine concatenate_ofFn_apply (t := S3x4x4160x2048) (s₁ := S1x4x4160x2048) 0 (fun j : Fin 3 => layer (A j)) _ rfl 1 rfl
    (ix4 s b r l) s (Nat.div_one _) (ix4 0 b r l) (Nat.mod_one _).symm ?_
  intro k hk
  match k with
  | ⟨0, _⟩ => exact absurd rfl hk
  | ⟨1, _⟩ => rfl
  | ⟨2, _⟩ => rfl
  | ⟨3, _⟩ => rfl

/-- Three arrays of rows in sixteen pairs of heads, the sequences one below another. -/
def inPairs (x : FVec Ideal S3x4x4160x2048 .f32) : FVec Ideal S3x16x16640x128 .f32 :=
  transpose S3x16x16640x128 [0, 2, 1, 3] (shapeCast _ x shapeCasts_S3x4x4160x2048_S3x16640x16x128)
    transposes_S3x16640x16x128_S3x16x16640x128_0_2_1_3

theorem transposed_apply (x : FVec Ideal S3x16640x16x128 .f32) (s : Fin 3) (p : Fin 16) (R : Fin 16640) (q : Fin 128) :
    transpose S3x16x16640x128 [0, 2, 1, 3] x transposes_S3x16640x16x128_S3x16x16640x128_0_2_1_3 (ix4 s p R q) = x (ix4 s R p q) := by
  pointwise

theorem inPairs_apply (x : FVec Ideal S3x4x4160x2048 .f32) (s : Fin 3) (p : Fin 16) (R : Fin 16640) (q : Fin 128) :
    inPairs x (ix4 s p R q)
      = x (ix4 s ⟨R.val / 4160, by omega⟩ ⟨R.val % 4160, Nat.mod_lt _ (by decide)⟩ ⟨128 * p.val + q.val, by omega⟩) := by
  refine (transposed_apply _ s p R q).trans (shapeCast_apply _ _ _ _ ?_)
  rw [Shape.rowMajor_val_four, Shape.rowMajor_val_four]
  show ((s.val * 4 + R.val / 4160) * 4160 + R.val % 4160) * 2048 + (128 * p.val + q.val)
    = ((s.val * 16640 + R.val) * 16 + p.val) * 128 + q.val
  omega

/-- The reference's array. -/
theorem result_eq :
    inPairs (stacked (projected h g mix w 0 0 slices_S6x2048_S1x2048_0_0 slices_S1x3x2048x2048_S1x1x2048x2048_0_0_0_0)
        (projected h g mix w 2 1 slices_S6x2048_S1x2048_2_0 slices_S1x3x2048x2048_S1x1x2048x2048_0_1_0_0)
        (projected h g mix w 3 2 slices_S6x2048_S1x2048_3_0 slices_S1x3x2048x2048_S1x1x2048x2048_0_2_0_0))
      = pairs h (fun u => g (ix2 0 u)) mix w := by
  funext i
  have hi : i = ix4 (i 0) (i 1) (i 2) (i 3) := by
    funext a
    match a with
    | ⟨0, _⟩ => rfl
    | ⟨1, _⟩ => rfl
    | ⟨2, _⟩ => rfl
    | ⟨3, _⟩ => rfl
  rw [hi]
  refine (inPairs_apply _ _ _ _ _).trans ((stacked_apply (fun s => projected h g mix w (mixRow s).val s.val
    (match s with
      | ⟨0, _⟩ => slices_S6x2048_S1x2048_0_0
      | ⟨1, _⟩ => slices_S6x2048_S1x2048_2_0
      | ⟨2, _⟩ => slices_S6x2048_S1x2048_3_0)
    (match s with
      | ⟨0, _⟩ => slices_S1x3x2048x2048_S1x1x2048x2048_0_0_0_0
      | ⟨1, _⟩ => slices_S1x3x2048x2048_S1x1x2048x2048_0_1_0_0
      | ⟨2, _⟩ => slices_S1x3x2048x2048_S1x1x2048x2048_0_2_0_0)) _ _ _ _).trans ?_)
  exact projected_apply h g mix w _ _ _ _ _ _

/-- What the reference returns is the same array. -/
theorem result_run (m : (ℓ : Loc nD τ sig) → Buf (Elt Ideal) ℓ) (c : Dev nD) :
    Value.res_main_v52 m c
      = pairs (m ((c.tc : Thread nD τ).loc main_arg0)) (fun u => m ((c.tc : Thread nD τ).loc main_arg1) (ix2 0 u))
          (m ((c.tc : Thread nD τ).loc main_arg2)) (m ((c.tc : Thread nD τ).loc main_arg3)) :=
  result_eq _ _ _ _

end Cert.Rkv.Ref

end
-- ==== Proof.GlaIn.Ideal.Runs.lean ====
/- The launch of the GLA layers' input projections: the operations before the region, the windows' blocks, where the
   gates' window is idle, and the memrefs the body is called with. -/
module

public import proofs.«01_k».proof.Proof.Gen.Kernel7Ideal.Launch
public import proofs.«01_k».proof.Proof.Gen.Kernel7Ideal.Skeleton
public import proofs.«01_k».proof.Proof.Gen.Kernel7Ideal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.Kernel7Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

abbrev V (c : Dev nD) (b : Ref sig .tc) : Buf (Elt F) ((c : Thread nD τ).loc b) :=
  StableHlo.after (List.flatten [hostOps0, hostOps0_1, hostOps0_2, hostOps0_3, hostOps0_4]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor

set_option maxHeartbeats 800000 in
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4] (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-- The arguments: no operation before the region writes them. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
def dflt0_2 : (cfg0.win 2).block.Idx → Elt F (cfg0.win 2).elt := fun _ => Classical.choice inferInstance
def X0_2 (c : Dev nD) (t : Fin cfg0.N) : (cfg0.win 2).block.Idx → Elt F (cfg0.win 2).elt :=
  (cfg0.win 2).fill (cfg0.grid.coords t) dflt0_2 (iblk m c 2 t)
theorem xsize0_2 : ∀ t : Fin cfg0.N, ∀ a, (cfg0.win 2).xsize (cfg0.grid.coords t) a = (cfg0.win 2).size a := by decide +kernel
theorem moved0_2 (t : Fin cfg0.N) (j : (cfg0.win 2).block.Idx) : (cfg0.win 2).moved (cfg0.grid.coords t) j = true :=
  ((cfg0.win 2).moved_iff _ j).mpr fun a => by rw [xsize0_2 t a]; exact (j a).isLt
theorem fill0_2 (t : Fin cfg0.N) (d d' : (cfg0.win 2).block.Idx → Elt F (cfg0.win 2).elt) (g) :
    (cfg0.win 2).fill (cfg0.grid.coords t) d g = (cfg0.win 2).fill (cfg0.grid.coords t) d' g := by
  funext j; unfold Pipeline.Window.fill; rw [dif_pos (moved0_2 t j), dif_pos (moved0_2 t j)]
theorem before0_2_of {c : Dev nD} (dat : Dat τ (Elt F) Unit ℕ (UR sig nD τ) ℕ cfg0 c) (hA : dat.A 2 = V m c (Pipeline.arrRef spec0 2))
    (hafter : ∀ t, dat.after 2 t = X0_2 m c t) (t : Fin cfg0.N) (d) : dat.before 2 t d = X0_2 m c t :=
  (dat.before_in_eq_fetched 2 rfl (fun _ => rfl)
      (fun t t' h => funext fun a => congrArg (fun n => Pipeline.Clip.of n ((cfg0.win 2).size a) (S1x6160x2048.size a)) (congrFun h a))
      (fun t => by rw [hafter]; unfold X0_2; rw [Pipeline.Window.cut_fill]; unfold Dat.blockOf iblk; rw [hA]; try rfl) t d).trans
    (by unfold Dat.fetched X0_2; rw [fill0_2 t d dflt0_2]; unfold Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) h

/-! ## The body's branch conditions -/

abbrev cond0_0 (i : grid0.Coords) : Prop := k0_cond1 i = 1#1
theorem hcond0_0 : ∀ t : Fin cfg0.N, cond0_0 (grid0.coords t) ↔ t.val % 3 = 0 :=
  (fun t => by
    have ht : t.val < 78 := Nat.lt_of_lt_of_eq t.isLt N_0
    have e0 : (grid0.coords t 0).val = t.val / 3 % 26 := Pipeline.Grid.coords_val t 0 (by decide) rfl
    have e1 : (grid0.coords t 1).val = t.val / 1 % 3 := Pipeline.Grid.coords_val t 1 (by decide) rfl
    simp only [cond0_0, k0_cond1, e0, e1]
    word_cmp
   : ∀ t : Fin grid0.N, cond0_0 (grid0.coords t) ↔ t.val % 3 = 0)

/-! ## Where the windows are idle (the printed configuration's table `Cfg.idle`) -/

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl
def freshTab0_7 : ℕ → Bool
  | 0 => true
  | n + 1 => (0x24924924924924924924 : ℕ).testBit n
theorem freshTab0_7_step : ∀ t : Fin cfg0.N,
    freshTab0_7 (t.val + 1) = ((cfg0.win 7).flush t || (cfg0.idle 7 (cfg0.grid.coords t) && freshTab0_7 t.val)) := by decide +kernel
theorem fresh0_7_eq (t : Fin cfg0.N) : cfg0.fresh 7 t.val = freshTab0_7 t.val :=
  Pipeline.Cfg.fresh_tab cfg0 7 freshTab0_7 rfl freshTab0_7_step t.val (Nat.le_of_lt t.isLt)
/-- The row's first point stores the gates; the two others leave them alone. -/
theorem liveAt0_7_A : ∀ t : Fin cfg0.N, cond0_0 (grid0.coords t) → cfg0.idle 7 (grid0.coords t) = false := by decide +kernel
theorem idleAt0_7_B : ∀ t : Fin cfg0.N, ¬cond0_0 (grid0.coords t) → cfg0.idle 7 (grid0.coords t) = true := by decide +kernel
/-- … where the gates of the row's first point still lie. -/
theorem notFresh0_7_B : ∀ t : Fin cfg0.N, ¬cond0_0 (grid0.coords t) → cfg0.fresh 7 t.val = false := by
  intro t; rw [fresh0_7_eq t]; revert t; decide +kernel

/-! ## The kernel body on any staging memrefs: a subtype the run finds -/

abbrev VO0_6 : View sig .tc .vmem S640x2048 .bf16 := (Memref.whole cc0_stg6_0 : Memref sig .tc .vmem S640x2048 .bf16).view
abbrev VO0_7 : View sig .tc .vmem S640x1024 .f32 := (Memref.whole cc0_stg7_0 : Memref sig .tc .vmem S640x1024 .f32).view
abbrev ms0_0 (t : Fin cfg0.N) : Memref sig .tc .vmem S640x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048x2048 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S640x2048 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S640x1024 .f32 := win0_7.stage (cfg0.slots t 7)
abbrev hs0_7 (t : Fin cfg0.N) : (ms0_7 t).IsWhole := hstage0_7 ((cfg0.slots t 7).cast nbuf0_7)
abbrev scM0_0 : Memref sig .tc .vmem S640x2048 .bf16 := Memref.whole cc0_scratch0
abbrev VS0_0 : View sig .tc .vmem S640x2048 .bf16 := scM0_0.view

theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel7Ideal.Gen

end
-- ==== Proof.GlaIn.Ideal.Run.lean ====
/- The body of the GLA layers' input projections, run on any whole memrefs: at a row's first point, and at the others. -/
module

public import proofs.«01_k».proof.Proof.GlaIn.Ideal.Runs

@[expose] public section

set_option maxRecDepth 16384

noncomputable section

namespace Cert.Kernel7Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- At a row's first point: the pieces the body leaves in the two outputs and in the scratch. -/
noncomputable def kernelRun0_A (c : Dev nD) (i : grid0.Coords) (arg2 : Memref sig .tc .vmem S640x2048 .f32) (harg2 : arg2.IsWhole) (arg3 : Memref sig .tc .vmem S1x2048 .f32) (harg3 : arg3.IsWhole) (arg4 : Memref sig .tc .vmem S1x2048x2048 .bf16) (harg4 : arg4.IsWhole) (arg5 : Memref sig .tc .vmem S2048x128 .bf16) (harg5 : arg5.IsWhole) (arg6 : Memref sig .tc .vmem S128x1024 .f32) (harg6 : arg6.IsWhole) (arg7 : Memref sig .tc .vmem S1x1024 .f32) (harg7 : arg7.IsWhole) (arg8 : Memref sig .tc .vmem S640x2048 .bf16) (harg8 : arg8.IsWhole) (arg9 : Memref sig .tc .vmem S640x1024 .f32) (harg9 : arg9.IsWhole) (arg10 : Memref sig .tc .vmem S640x2048 .bf16) (harg10 : arg10.IsWhole) (hc0 : cond0_0 i)
    (x0 : Vec F S640x2048 .f32) (x1 : Vec F S1x2048 .f32) (x2 : Vec F S1x2048x2048 .bf16) (x3 : Vec F S2048x128 .bf16) (x4 : Vec F S128x1024 .f32) (x5 : Vec F S1x1024 .f32) :
    Σ' (L6 : List (View.Piece (Elt F) S640x2048 .bf16)), Σ' (L7 : List (View.Piece (Elt F) S640x1024 .f32)), { LS0 : List (View.Piece (Elt F) S640x2048 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0)) -∗ K ⟨⟩))
          ⊢ wp frame (wpE (defs₀ (F := F)) Variants.none c none) E (cc0_gla_in i arg2 harg2 arg3 harg3 arg4 harg4 arg5 harg5 arg6 harg6 arg7 harg7 arg8 harg8 arg9 harg9 arg10 harg10) K } := by
  refine ⟨?_, ?_, ?_, fun E K => ?run⟩
  case run =>
    simp only [cc0_gla_in_eq_skeleton]; unfold cc0_gla_in_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    iexists _; iexact HS0

set_option maxHeartbeats 1000000 in
/-- At a row's two other points: the pieces the body leaves in the first output. The gates and the scratch stay. -/
noncomputable def kernelRun0_B (c : Dev nD) (i : grid0.Coords) (arg2 : Memref sig .tc .vmem S640x2048 .f32) (harg2 : arg2.IsWhole) (arg3 : Memref sig .tc .vmem S1x2048 .f32) (harg3 : arg3.IsWhole) (arg4 : Memref sig .tc .vmem S1x2048x2048 .bf16) (harg4 : arg4.IsWhole) (arg5 : Memref sig .tc .vmem S2048x128 .bf16) (harg5 : arg5.IsWhole) (arg6 : Memref sig .tc .vmem S128x1024 .f32) (harg6 : arg6.IsWhole) (arg7 : Memref sig .tc .vmem S1x1024 .f32) (harg7 : arg7.IsWhole) (arg8 : Memref sig .tc .vmem S640x2048 .bf16) (harg8 : arg8.IsWhole) (arg9 : Memref sig .tc .vmem S640x1024 .f32) (harg9 : arg9.IsWhole) (arg10 : Memref sig .tc .vmem S640x2048 .bf16) (harg10 : arg10.IsWhole) (hc0 : ¬cond0_0 i)
    (x0 : Vec F S640x2048 .f32) (x1 : Vec F S1x2048 .f32) (x2 : Vec F S1x2048x2048 .bf16) (x3 : Vec F S2048x128 .bf16) (x4 : Vec F S128x1024 .f32) (x5 : Vec F S1x1024 .f32) (xo7 : Vec F S640x1024 .f32) (xs0 : Vec F S640x2048 .bf16) :
    { L6 : List (View.Piece (Elt F) S640x2048 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xo7 ∗ owns (c : Thread nD τ) arg10 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ owns (c : Thread nD τ) arg9 fullShare xo7 ∗ owns (c : Thread nD τ) arg10 fullShare xs0) -∗ K ⟨⟩))
          ⊢ wp frame (wpE (defs₀ (F := F)) Variants.none c none) E (cc0_gla_in i arg2 harg2 arg3 harg3 arg4 harg4 arg5 harg5 arg6 harg6 arg7 harg7 arg8 harg8 arg9 harg9 arg10 harg10) K } := by
  refine ⟨?_, fun E K => ?run⟩
  case run =>
    simp only [cc0_gla_in_eq_skeleton]; unfold cc0_gla_in_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf7; obtain rfl := harg10.eq_unread hfs0
    sl_exec (disch := sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]
    · iexists _; isplitr; · ipureintro; exact harg9.read_unread _
      iexact H7
    iexists _; isplitr; · ipureintro; exact harg10.read_unread _
    iexact HS0

end Cert.Kernel7Ideal.Gen

end
-- ==== Proof.GlaIn.Ideal.Frame.lean ====
/- The frame of the GLA layers' input projections. A row's first point normalises its block into the scratch and stores
   the gates; the two other points read the scratch and leave the gates' buffer as it was until the last one writes it
   back. -/
module

public import proofs.«01_k».proof.Proof.GlaIn.Ideal.Run
public import Idealize.ShloMosaic.Lib.Claim

@[expose] public section

set_option maxRecDepth 16384

noncomputable section

namespace Cert.Kernel7Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The runs at a point, and what they leave -/

/-- The run at a row's first point. -/
abbrev runA (c : Dev nD) (t : Fin cfg0.N) (h0 : t.val % 3 = 0) :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0)
    (iblk m c 0 t) (iblk m c 1 t) (X0_2 m c t) (iblk m c 3 t) (iblk m c 4 t) (iblk m c 5 t)

/-- The run at one of the two others, over the gates and the scratch the point before left. -/
abbrev runB (c : Dev nD) (t : Fin cfg0.N) (h0 : ¬t.val % 3 = 0) (xo7 : Vec F S640x1024 .f32) (xs0 : Vec F S640x2048 .bf16) :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h))
    (iblk m c 0 t) (iblk m c 1 t) (X0_2 m c t) (iblk m c 3 t) (iblk m c 4 t) (iblk m c 5 t) xo7 xs0

theorem coverA_p (c : Dev nD) (t : Fin cfg0.N) (h0 : t.val % 3 = 0) (y : S640x2048.Idx) :
    ∃ pc ∈ (runA m c t h0).1, y ∈ pc.1.set :=
  View.cover_of_tiledL (runA m c t h0).1 S640x2048.size (by sl_kernel_rfl) y
theorem coverA_gate (c : Dev nD) (t : Fin cfg0.N) (h0 : t.val % 3 = 0) (y : S640x1024.Idx) :
    ∃ pc ∈ (runA m c t h0).2.1, y ∈ pc.1.set :=
  View.cover_of_tiledL (runA m c t h0).2.1 S640x1024.size (by sl_kernel_rfl) y
theorem coverA_xn (c : Dev nD) (t : Fin cfg0.N) (h0 : t.val % 3 = 0) (y : S640x2048.Idx) :
    ∃ pc ∈ (runA m c t h0).2.2.1, y ∈ pc.1.set :=
  View.cover_of_tiledL (runA m c t h0).2.2.1 S640x2048.size (by sl_kernel_rfl) y
theorem coverB_p (c : Dev nD) (t : Fin cfg0.N) (h0 : ¬t.val % 3 = 0) (xo7 : Vec F S640x1024 .f32) (xs0 : Vec F S640x2048 .bf16)
    (y : S640x2048.Idx) : ∃ pc ∈ (runB m c t h0 xo7 xs0).1, y ∈ pc.1.set :=
  View.cover_of_tiledL (runB m c t h0 xo7 xs0).1 S640x2048.size (by sl_kernel_rfl) y

/-- What a row's first point leaves: its block of the projections, the gates, the normalised rows. -/
def outA (c : Dev nD) (t : Fin cfg0.N) (h0 : t.val % 3 = 0) : Vec F S640x2048 .bf16 × Vec F S640x1024 .f32 × Vec F S640x2048 .bf16 :=
  (VO0_6.read (Elt F) (VO0_6.writes (Elt F) VO0_6.junk (runA m c t h0).1),
    VO0_7.read (Elt F) (VO0_7.writes (Elt F) VO0_7.junk (runA m c t h0).2.1),
    VS0_0.read (Elt F) (VS0_0.writes (Elt F) VS0_0.junk (runA m c t h0).2.2.1))

/-- What the two others leave: their block of the projections, the rest as the point before left it. -/
def outB (c : Dev nD) (t : Fin cfg0.N) (h0 : ¬t.val % 3 = 0) (p : Vec F S640x2048 .bf16 × Vec F S640x1024 .f32 × Vec F S640x2048 .bf16) :
    Vec F S640x2048 .bf16 × Vec F S640x1024 .f32 × Vec F S640x2048 .bf16 :=
  (VO0_6.read (Elt F) (VO0_6.writes (Elt F) VO0_6.junk (runB m c t h0 p.2.1 p.2.2).1), p.2.1, p.2.2)

/-- The outputs' buffers and the scratch after the body at each point. -/
def outsAt0 (c : Dev nD) : (n : ℕ) → n < cfg0.N → Vec F S640x2048 .bf16 × Vec F S640x1024 .f32 × Vec F S640x2048 .bf16
  | 0, hn => outA m c ⟨0, hn⟩ (Nat.zero_mod _)
  | n + 1, hn =>
    if h0 : (n + 1) % 3 = 0 then outA m c ⟨n + 1, hn⟩ h0
    else outB m c ⟨n + 1, hn⟩ h0 (outsAt0 c n (Nat.lt_of_succ_lt hn))

theorem outsAt0_A (c : Dev nD) (t : Fin cfg0.N) (h0 : t.val % 3 = 0) : outsAt0 m c t.val t.isLt = outA m c t h0 := by
  obtain ⟨n, hn⟩ := t
  cases n with
  | zero => exact rfl
  | succ n => exact dif_pos h0

theorem outsAt0_B (c : Dev nD) (t : Fin cfg0.N) (h0 : ¬t.val % 3 = 0) :
    outsAt0 m c t.val t.isLt = outB m c t h0 (outsAt0 m c (t.val - 1) (Nat.lt_of_le_of_lt (Nat.sub_le _ _) t.isLt)) := by
  obtain ⟨n, hn⟩ := t
  cases n with
  | zero => exact absurd (Nat.zero_mod _) h0
  | succ n => exact dif_neg h0

/-- The invariant between the points: the scratch at what the point before left in it. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2)) ∗ (∃ r, prngReg c r)) := by
  cases n with
  | zero => exact absurd rfl hz
  | succ n => rfl

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => X0_2 m c t
    | ⟨3, _⟩ => iblk m c 3 t
    | ⟨4, _⟩ => iblk m c 4 t
    | ⟨5, _⟩ => iblk m c 5 t
    | ⟨6, _⟩ => (outsAt0 m c t.val t.isLt).1
    | ⟨7, _⟩ => (outsAt0 m c t.val t.isLt).2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = X0_2 m c t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outsAt0 m c t.val t.isLt).1 := by dsimp only [dats]
theorem after0_7 (c : Dev nD) (t : Fin cfg0.N) : (dats m 0 c).after 7 t = (outsAt0 m c t.val t.isLt).2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = X0_2 m c t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- Where the gates' window is idle its contents are the point before's. -/
theorem hcarry0_7 (c : Dev nD) : ∀ (t : Fin cfg0.N) (_ : t.val ≠ 0), cfg0.idle 7 (grid0.coords t) = true → cfg0.fresh 7 t.val = false →
    (dats m 0 c).after 7 t = (dats m 0 c).after 7 ⟨t.val - 1, by omega⟩ := by
  intro t _ hi _
  rw [after0_7, after0_7]
  by_cases h0 : t.val % 3 = 0
  · rw [liveAt0_7_A t ((hcond0_0 t).mpr h0)] at hi
    exact absurd hi Bool.false_ne_true
  · rw [outsAt0_B m c t h0]; rfl

theorem before0_7_B (c : Dev nD) (t : Fin cfg0.N) (h0 : ¬t.val % 3 = 0) (d) :
    (dats m 0 c).before 7 t d = (outsAt0 m c (t.val - 1) (Nat.lt_of_le_of_lt (Nat.sub_le _ _) t.isLt)).2.1 := by
  rw [Dat.before_out_traj _ 7 rfl (fun _ _ => rfl) (hcarry0_7 m c) t.val t rfl d,
    if_neg (by rw [notFresh0_7_B t (fun h => h0 ((hcond0_0 t).mp h))]; exact Bool.false_ne_true)]
  dsimp only [dats]

/-- The gates' buffer as it was is what the two later points owe of it, written back or not. -/
theorem leaves0_7_B (c : Dev nD) (t : Fin cfg0.N) (h0 : ¬t.val % 3 = 0) :
    owns (c : Thread nD τ) (ms0_7 t) fullShare (outsAt0 m c (t.val - 1) (Nat.lt_of_le_of_lt (Nat.sub_le _ _) t.isLt)).2.1
      ⊢ ((dats m 0 c).leavesExact 7 t : sProp 𝕄) := by
  unfold Dat.leavesExact
  rw [idleAt0_7_B t (fun h => h0 ((hcond0_0 t).mp h))]
  cases hf : (cfg0.win 7).flush t
  · dsimp only
    simp only [before0_7_B m c t h0]
    iintro H
    iexists fun _ => Classical.choice inferInstance
    iexact H
  · dsimp only
    rw [after0_7, outsAt0_B m c t h0]
    unfold outB
    iintro H
    iexact H

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 6400000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  by_cases h0 : t.val % 3 = 0
  · rw [show (dats m 0 c).leavesExact 7 t = owns (c : Thread nD τ) (ms0_7 t) fullShare ((dats m 0 c).after 7 t) from by
      unfold Dat.leavesExact; rw [liveAt0_7_A t ((hcond0_0 t).mpr h0)], after0_7]
    by_cases hz : t.val = 0
    · rw [PhiS_castSucc m c t, PhiS_zero m c _ _ hz, PhiA0_eq]
      rw [outsAt0_A m c t h0]
      unfold outA; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runA m c t h0).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexact HS0
      iintro ⟨H0, H1, H2, H3, H4, H5, ⟨%e6, H6⟩, ⟨%e7, H7⟩, ⟨%es0, HS0⟩⟩
      isplitl [HS0 Hg]
      · isplitl [HS0]
        · unfold owns; iexists _; isplitr
          swap; · iexact HS0
          ipureintro; exact View.read_writes_of_cover _ _ _ _ _ (coverA_xn m c t h0)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (coverA_p m c t h0)
      unfold owns; iexists _; isplitr
      swap; · iexact H7
      ipureintro; exact View.read_writes_of_cover _ _ _ _ _ (coverA_gate m c t h0)
    · rw [PhiS_castSucc m c t, PhiS_pos m c _ _ hz]
      rw [outsAt0_A m c t h0]
      unfold outA; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runA m c t h0).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexists _; iexact HS0
      iintro ⟨H0, H1, H2, H3, H4, H5, ⟨%e6, H6⟩, ⟨%e7, H7⟩, ⟨%es0, HS0⟩⟩
      isplitl [HS0 Hg]
      · isplitl [HS0]
        · unfold owns; iexists _; isplitr
          swap; · iexact HS0
          ipureintro; exact View.read_writes_of_cover _ _ _ _ _ (coverA_xn m c t h0)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (coverA_p m c t h0)
      unfold owns; iexists _; isplitr
      swap; · iexact H7
      ipureintro; exact View.read_writes_of_cover _ _ _ _ _ (coverA_gate m c t h0)
  · have hz : t.val ≠ 0 := fun h => h0 (by rw [h])
    rw [PhiS_castSucc m c t, PhiS_pos m c _ _ hz]
    rw [outsAt0_B m c t h0]
    simp only [before0_7_B m c t h0]
    unfold outB; (try dsimp only)
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runB m c t h0 _ _).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [HS0]; · iexact HS0
    iintro ⟨H0, H1, H2, H3, H4, H5, ⟨%e6, H6⟩, H7, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (coverB_p m c t h0 _ _)
    iapply (leaves0_7_B m c t h0); iexact H7

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 78 := N_0; omega)

/-! ## The run and the frame -/

-- `θ_run_frame_track`'s implicit arguments are found by unifying its conclusion with this one, which takes unfolding plain
-- definitions in a metavariable's type
set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Kernel7Ideal.Gen

end
-- ==== Proof.GlaIn.Spec.lean ====
/-
  The GLA layers' input projections over the extended reals: the normed rows times the projections' matrix, and the gates
  from its last sixteen rows.
-/
module

public import proofs.«01_k».proof.Proof.Mlp.Spec

@[expose] public section

set_option maxRecDepth 16384

noncomputable section

namespace Cert.GlaIn

open Idealize.ShloMosaic
open Cert.Mlp (Row rms)
open scoped BigOperators

/-- A row times one row of the projections' matrix. -/
def col (y : Row) (w : (⟨3, ![1, 6160, 2048]⟩ : Shape).Idx → EReal) (j : Fin 6160) : EReal :=
  ∑ u : Fin 2048, y u * w (ix3 0 j u)

/-- What the gate is taken of: the sixteen last products through a second matrix, and a bias. -/
def pre (y : Row) (w : (⟨3, ![1, 6160, 2048]⟩ : Shape).Idx → EReal) (a : (⟨2, ![16, 1024]⟩ : Shape).Idx → EReal)
    (b : Fin 1024 → EReal) (f : Fin 1024) : EReal :=
  ∑ k : Fin 16, col y w ⟨6144 + k.val, by omega⟩ * a (ix2 k f) + b f

/-- The logarithm of `1 + e ^ x`. -/
def softplus (x : EReal) : EReal := Ideal.log1p (Ideal.exp x)

/-- The logarithm of the logistic function, by sixteen. -/
def gate (u : EReal) : EReal := (min u 0 - softplus (-max u (-u))) * Ideal.ofBits .f32 0x3D800000#32

theorem softplus_ne_bot (x : EReal) : softplus x ≠ ⊥ := by
  unfold softplus Ideal.log1p
  induction x using EReal.rec with
  | bot => simp [← EReal.coe_one]
  | top => simp [← EReal.coe_one]
  | coe r =>
    have hr : 0 < Real.exp r := Real.exp_pos r
    rw [Ideal.exp_coe, ← EReal.coe_one, ← EReal.coe_add, Ideal.log_coe, if_neg (by linarith)]
    exact EReal.coe_ne_bot _

theorem ofBits_sixteen : Ideal.ofBits .f32 0x41800000#32 = ((16 : ℝ) : EReal) := by
  simp [Ideal.ofBits, Ideal.ieee, -EReal.coe_mul]; norm_num
theorem ofBits_sixteenth : Ideal.ofBits .f32 0x3D800000#32 = (((16 : ℝ)⁻¹ : ℝ) : EReal) := by
  simp [Ideal.ofBits, Ideal.ieee, -EReal.coe_mul]; norm_num

/-- The gate as the opposite of the logarithm of `e ^ (-u) + 1`. -/
theorem gate_eq (u : EReal) :
    Ideal.div (-(max (-u) 0 + softplus (-max (-u) (-(-u))))) (Ideal.ofBits .f32 0x41800000#32) = gate u := by
  have hm : -max (-u) 0 = min u 0 := by
    rcases le_total u 0 with h | h
    · rw [max_eq_left (by rw [EReal.le_neg]; simpa using h), neg_neg, min_eq_left h]
    · rw [max_eq_right (by rw [EReal.neg_le]; simpa using h), neg_zero, min_eq_right h]
  have h0 : max (-u) 0 ≠ ⊥ := fun h => absurd (h ▸ le_max_right (-u) 0 : (0 : EReal) ≤ ⊥) (by simp)
  unfold gate Ideal.div
  rw [ofBits_sixteen, ofBits_sixteenth, if_neg (by norm_num), neg_neg, max_comm (-u) u, ← EReal.coe_inv]
  rw [EReal.neg_add (.inl h0) (.inr (softplus_ne_bot _)), hm]

/-- A sum over a rank padded with zeros. -/
theorem sum_padded (n : ℕ) (f : Fin 128 → EReal) (hn : n ≤ 128) (h : ∀ k : Fin 128, n ≤ k.val → f k = 0) :
    ∑ k : Fin 128, f k = ∑ k : Fin n, f ⟨k.val, by omega⟩ := by
  obtain ⟨d, hd⟩ := Nat.exists_eq_add_of_le hn
  rw [← Fin.sum_congr' f hd.symm, Fin.sum_univ_add]
  rw [Finset.sum_eq_zero (s := (Finset.univ : Finset (Fin d))) fun k _ => h _ (by simp), add_zero]
  rfl

section Arrays

variable (h : (⟨2, ![16640, 2048]⟩ : Shape).Idx → EReal) (g : Fin 2048 → EReal)
  (w : (⟨3, ![1, 6160, 2048]⟩ : Shape).Idx → EReal) (a : (⟨2, ![16, 1024]⟩ : Shape).Idx → EReal) (b : Fin 1024 → EReal)

/-- The normed row. -/
def row (r : Fin 16640) : Row := rms (fun u => h (ix2 r u)) g

/-- The projections. -/
def projections : (⟨2, ![16640, 6144]⟩ : Shape).Idx → EReal := fun i =>
  have hi : (i 1).val < 6144 := (i 1).isLt
  col (row h g (i 0)) w ⟨(i 1).val, by omega⟩

/-- The gates. -/
def gates : (⟨2, ![16640, 1024]⟩ : Shape).Idx → EReal := fun i => gate (pre (row h g (i 0)) w a b (i 1))

end Arrays

end Cert.GlaIn

end
-- ==== Proof.GlaIn.Point.lean ====
/-
  One grid point of the GLA layers' input projections: what it leaves in the two outputs and in the scratch, from its
  input blocks.
-/
module

public import proofs.«01_k».proof.Proof.GlaIn.Ideal.Frame
public import proofs.«01_k».proof.Proof.GlaIn.Spec
public import Idealize.ShloMosaic.Lib.VecWindow
public import Idealize.ShloMosaic.Lib.WholeRead

@[expose] public section

set_option maxRecDepth 16384

noncomputable section

namespace Cert.GlaIn

open Idealize.ShloMosaic Idealize.ShloMosaic.TcCoe Idealize.ShloMosaic.Tactic
open Cert.Kernel7Ideal Cert.Kernel7Ideal.Gen
open Cert.Mlp (Row rms)
open scoped BigOperators

/-! ## The values at an index -/

theorem pay2_apply (x : Vec Ideal S640x2048 .bf16) (w : Vec Ideal S1x2048x2048 .bf16) (r : Fin 640) (l : Fin 2048) :
    k0_pay2 x w (ix2 r l) = ∑ u : Fin 2048, x (ix2 r u) * w (ix3 0 l u) := by
  pointwise [k0_pay2]

theorem pay3_apply (x : Vec Ideal S640x2048 .f32) (g : Vec Ideal S1x2048 .f32) (r : Fin 640) (l : Fin 2048) :
    k0_pay3 x g (ix2 r l) = rms (fun u => x (ix2 r u)) (fun u => g (ix2 0 u)) l := by
  pointwise [k0_pay3]
  rfl

theorem pay4_apply (x : Vec Ideal S640x2048 .f32) (g : Vec Ideal S1x2048 .f32) (r : Fin 640) (l : Fin 2048) :
    k0_pay4 x g (ix2 r l) = rms (fun u => x (ix2 r u)) (fun u => g (ix2 0 u)) l := by
  rw [← pay3_apply]
  pointwise [k0_pay4]

theorem pay1_apply (x : Vec Ideal S640x2048 .f32) (g : Vec Ideal S1x2048 .f32) (z : Vec Ideal S2048x128 .bf16)
    (a : Vec Ideal S128x1024 .f32) (b : Vec Ideal S1x1024 .f32) (r : Fin 640) (f : Fin 1024) :
    k0_pay1 (k0_pay5 x g z a b) (Scalar.ofBits .f32 0x3D800000#32) (ix2 r f)
      = gate (∑ k : Fin 128, (∑ u : Fin 2048, rms (fun u => x (ix2 r u)) (fun u => g (ix2 0 u)) u * z (ix2 u k)) * a (ix2 k f)
          + b (ix2 0 f)) := by
  simp only [← pay3_apply]
  generalize hy : k0_pay3 x g = y
  unfold k0_pay5
  rw [hy]
  pointwise [k0_pay1]
  unfold gate softplus
  rw [zero_sub]
  rfl

/-! ## The point's stores, read back -/

/-- A load of all of a memref reads what it holds. -/
theorem load_all {F : FTy → Type} [FloatOps F] {s : Shape} {e : EltTy} (M : Memref sig .tc .vmem s e) (hM : M.IsWhole)
    (x : Vec F s e) {off : Fin s.rank → ℕ} (inb : ∀ a, off a + s.size a ≤ s.size a) :
    View.readAt (Elt F) M.view (Rect.unit off s.size inb).toLoadRect (hM.unread x) = x := by
  rw [View.readAt_full]
  exact hM.read_unread x

variable {F : FTy → Type} [FloatOps F] (m : (ℓ : Loc nD τ sig) → Buf (Elt F) ℓ) (c : Dev nD) (t : Fin cfg0.N)

theorem xn_A (h0 : t.val % 3 = 0) : (outA m c t h0).2.2 = k0_pay4 (iblk m c 0 t) (iblk m c 1 t) := by
  unfold outA runA kernelRun0_A
  dsimp only
  sl_unfold_words
  refine (View.read_writes_full _ _ _ _ _).trans ?_
  rw [load_all, load_all]

theorem gate_A (h0 : t.val % 3 = 0) : (outA m c t h0).2.1
    = k0_pay1 (k0_pay5 (iblk m c 0 t) (iblk m c 1 t) (iblk m c 3 t) (iblk m c 4 t) (iblk m c 5 t))
        (Scalar.ofBits .f32 0x3D800000#32) := by
  unfold outA runA kernelRun0_A
  dsimp only
  sl_unfold_words
  refine (View.read_writes_full _ _ _ _ _).trans ?_
  rw [load_all, load_all, load_all, load_all, load_all]

theorem p_A (h0 : t.val % 3 = 0) :
    (outA m c t h0).1 = k0_pay2 (k0_pay4 (iblk m c 0 t) (iblk m c 1 t)) (X0_2 m c t) := by
  unfold outA runA kernelRun0_A
  dsimp only
  sl_unfold_words
  refine (View.read_writes_full _ _ _ _ _).trans ?_
  rw [View.readCov_full, load_all, load_all, load_all]

theorem p_B (h0 : ¬t.val % 3 = 0) (q : Vec F S640x2048 .bf16 × Vec F S640x1024 .f32 × Vec F S640x2048 .bf16) :
    (outB m c t h0 q).1 = k0_pay2 q.2.2 (X0_2 m c t) := by
  unfold outB runB kernelRun0_B
  dsimp only
  sl_unfold_words
  refine (View.read_writes_full _ _ _ _ _).trans ?_
  rw [load_all]
  exact congrArg (k0_pay2 · _) (load_all scM0_0 (Memref.isWhole_whole _) q.2.2 _)

end Cert.GlaIn

end
-- ==== Proof.GlaIn.Result.lean ====
/-
  The projections and the gates after the whole grid of 78 points, in terms of the contents that the launch finds.
-/
module

public import proofs.«01_k».proof.Proof.GlaIn.Point

@[expose] public section

set_option maxRecDepth 16384

noncomputable section

namespace Cert.GlaIn

open Idealize.ShloMosaic Idealize.ShloMosaic.TcCoe Idealize.ShloMosaic.Tactic
open Cert.Kernel7Ideal Cert.Kernel7Ideal.Gen
open Cert.Mlp (Row rms)
open scoped BigOperators

variable (m : (ℓ : Loc nD τ sig) → Buf (Elt Ideal) ℓ) (c : Dev nD)

/-- The hidden states, the gains, the projections' matrix, the gates' second matrix and bias, as the launch finds them. -/
abbrev argH : (⟨2, ![16640, 2048]⟩ : Shape).Idx → EReal := m ((c : Thread nD τ).loc main_arg0)
abbrev argG : (⟨1, ![2048]⟩ : Shape).Idx → EReal := m ((c : Thread nD τ).loc main_arg1)
abbrev argW : (⟨3, ![1, 6160, 2048]⟩ : Shape).Idx → EReal := m ((c : Thread nD τ).loc main_arg2)
abbrev argA : (⟨2, ![16, 1024]⟩ : Shape).Idx → EReal := m ((c : Thread nD τ).loc main_arg3)
abbrev argB : (⟨1, ![1024]⟩ : Shape).Idx → EReal := m ((c : Thread nD τ).loc main_arg4)

/-! ## What the host hands the call -/

theorem V_main_v0 : V m c main_v0 = shapeCast S1x2048 (argG m c) shapeCasts_S2048_S1x2048 := by
  simp only [V, hostOps0, hostOps0_1, hostOps0_2, hostOps0_3, hostOps0_4, List.flatten_cons, List.flatten_nil,
    List.append_nil, List.cons_append, List.nil_append, StableHlo.TRef.binary, StableHlo.TRef.unary, StableHlo.TRef.toBuf,
    StableHlo.TRef.ofBuf, cast_eq]
  after_results
  rfl

theorem V_main_v6 : V m c main_v6 = shapeCast S1x1024 (argB m c) shapeCasts_S1024_S1x1024 := by
  simp only [V, hostOps0, hostOps0_1, hostOps0_2, hostOps0_3, hostOps0_4, List.flatten_cons, List.flatten_nil,
    List.append_nil, List.cons_append, List.nil_append, StableHlo.TRef.binary, StableHlo.TRef.unary, StableHlo.TRef.toBuf,
    StableHlo.TRef.ofBuf, cast_eq]
  after_results
  rfl

theorem V_main_v5 : V m c main_v5 = pad S128x1024 ![0, 0] ![112, 0] ![0, 0] (argA m c)
    (sitofp (F := Ideal) .f32 (constantI S_ 32 0#32)) pads_S16x1024_S128x1024_01120_000 h_S_ := by
  simp only [V, hostOps0, hostOps0_1, hostOps0_2, hostOps0_3, hostOps0_4, List.flatten_cons, List.flatten_nil,
    List.append_nil, List.cons_append, List.nil_append, StableHlo.TRef.binary, StableHlo.TRef.unary, StableHlo.TRef.toBuf,
    StableHlo.TRef.ofBuf, cast_eq]
  after_results

theorem V_main_v4 : V m c main_v4 = pad S2048x128 ![0, 0] ![0, 112] ![0, 0]
    (transpose S2048x16 [1, 0]
      (shapeCast S16x2048
        (extractStridedSlice S1x16x2048 ![0, 6144, 0] (argW m c) slices_S1x6160x2048_S1x16x2048_0_6144_0)
        shapeCasts_S1x16x2048_S16x2048) transposes_S16x2048_S2048x16_1_0)
    (sitofp (F := Ideal) .bf16 (constantI S_ 32 0#32)) pads_S2048x16_S2048x128_000_01120 h_S_ := by
  simp only [V, hostOps0, hostOps0_1, hostOps0_2, hostOps0_3, hostOps0_4, List.flatten_cons, List.flatten_nil,
    List.append_nil, List.cons_append, List.nil_append, StableHlo.TRef.binary, StableHlo.TRef.unary, StableHlo.TRef.toBuf,
    StableHlo.TRef.ofBuf, cast_eq]
  after_results
  rfl

theorem gains_apply (l : Fin 2048) : V m c main_v0 (ix2 0 l) = argG m c (ix1 l) := by
  rw [V_main_v0]
  pointwise

theorem bias_apply (f : Fin 1024) : V m c main_v6 (ix2 0 f) = argB m c (ix1 f) := by
  rw [V_main_v6]
  pointwise

theorem zero_apply {t : FTy} : (sitofp (F := Ideal) t (constantI S_ 32 0#32)) = fun _ => (0 : EReal) := by
  funext y
  show (((0#32 : BitVec 32).toInt : ℝ) : EReal) = 0
  simp

theorem second_apply (k : Fin 128) (f : Fin 1024) :
    V m c main_v5 (ix2 k f) = if h : k.val < 16 then argA m c (ix2 ⟨k.val, h⟩ f) else 0 := by
  rw [V_main_v5, zero_apply]
  pointwise

theorem last_apply (u : Fin 2048) (k : Fin 128) :
    V m c main_v4 (ix2 u k) = if h : k.val < 16 then argW m c (ix3 0 ⟨6144 + k.val, by omega⟩ u) else 0 := by
  rw [V_main_v4, zero_apply]
  pointwise

/-- What the kernel takes a gate of, over the padded matrices. -/
theorem padded_pre (y : Row) (f : Fin 1024) :
    ∑ k : Fin 128, (∑ u : Fin 2048, y u * V m c main_v4 (ix2 u k)) * V m c main_v5 (ix2 k f) + V m c main_v6 (ix2 0 f)
      = pre y (argW m c) (argA m c) (fun f => argB m c (ix1 f)) f := by
  rw [bias_apply, sum_padded 16 _ (by decide) (fun k hk => by
    rw [second_apply, dif_neg (by omega)]; exact mul_zero _)]
  unfold pre col
  refine congrArg (· + argB m c (ix1 f)) (Finset.sum_congr rfl fun k _ => ?_)
  have hk := k.isLt
  rw [second_apply, dif_pos hk]
  refine congrArg (· * argA m c (ix2 k f)) (Finset.sum_congr rfl fun u _ => ?_)
  rw [last_apply, dif_pos hk]

/-! ## The windows -/

/-- Where the windows lie at point `t`. -/
theorem win_facts : ∀ t : Fin cfg0.N, t.val < 78
    ∧ win0_0.index t = ![t.val / 3, 0] ∧ win0_1.index t = ![0, 0] ∧ win0_2.index t = ![0, t.val % 3, 0]
    ∧ win0_3.index t = ![0, 0] ∧ win0_4.index t = ![0, 0] ∧ win0_5.index t = ![0, 0]
    ∧ win0_6.index t = ![t.val / 3, t.val % 3] ∧ win0_7.index t = ![t.val / 3, 0] :=
  (by decide +kernel : ∀ t : Fin grid0.N, _)

theorem iblk0 (t : Fin cfg0.N) (ht : t.val < 78) (r : Fin 640) (u : Fin 2048) :
    iblk m c 0 t (ix2 r u) = argH m c (ix2 ⟨640 * (t.val / 3) + r.val, by omega⟩ u) := by
  obtain ⟨-, e, -⟩ := win_facts t
  show V m c main_arg0 (((cfg0.win 0).blk t).view.emb (ix2 r u)) = _
  rw [V_main_arg0]
  refine congrArg (argH m c) ?_
  funext a
  refine Fin.ext ?_
  match a with
  | ⟨0, _⟩ =>
    show win0_0.index t 0 * 640 + 1 * r.val = 640 * (t.val / 3) + r.val
    rw [e]; show t.val / 3 * 640 + 1 * r.val = _; omega
  | ⟨1, _⟩ =>
    show win0_0.index t 1 * 2048 + 1 * u.val = u.val
    rw [e]; show 0 * 2048 + 1 * u.val = _; omega

theorem X2 (t : Fin cfg0.N) (ht : t.val < 78) (l : Fin 2048) (u : Fin 2048) :
    X0_2 m c t (ix3 0 l u) = argW m c (ix3 0 ⟨2048 * (t.val % 3) + l.val, by omega⟩ u) := by
  obtain ⟨-, -, -, e, -⟩ := win_facts t
  unfold X0_2 Pipeline.Window.fill
  rw [dif_pos (moved0_2 t _)]
  show V m c main_arg2 (((cfg0.win 2).blk t).view.emb _) = _
  rw [V_main_arg2]
  refine congrArg (argW m c) ?_
  funext a
  refine Fin.ext ?_
  match a with
  | ⟨0, _⟩ =>
    show win0_2.index t 0 * 1 + 1 * 0 = 0
    rw [e]; rfl
  | ⟨1, _⟩ =>
    show win0_2.index t 1 * 2048 + 1 * l.val = 2048 * (t.val % 3) + l.val
    rw [e]; show t.val % 3 * 2048 + 1 * l.val = _; omega
  | ⟨2, _⟩ =>
    show win0_2.index t 2 * 2048 + 1 * u.val = u.val
    rw [e]; show 0 * 2048 + 1 * u.val = _; omega

theorem iblk1 (t : Fin cfg0.N) : iblk m c 1 t = V m c main_v0 := by
  obtain ⟨-, -, e, -⟩ := win_facts t
  funext y
  show V m c main_v0 (((cfg0.win 1).blk t).view.emb y) = _
  refine congrArg (V m c main_v0) ?_
  funext a
  refine Fin.ext ?_
  match a with
  | ⟨0, _⟩ =>
    show win0_1.index t 0 * 1 + 1 * (y 0).val = (y 0).val
    rw [e]; show 0 * 1 + 1 * (y 0).val = _; omega
  | ⟨1, _⟩ =>
    show win0_1.index t 1 * 2048 + 1 * (y 1).val = (y 1).val
    rw [e]; show 0 * 2048 + 1 * (y 1).val = _; omega

theorem iblk3 (t : Fin cfg0.N) : iblk m c 3 t = V m c main_v4 := by
  obtain ⟨-, -, -, -, e, -⟩ := win_facts t
  funext y
  show V m c main_v4 (((cfg0.win 3).blk t).view.emb y) = _
  refine congrArg (V m c main_v4) ?_
  funext a
  refine Fin.ext ?_
  match a with
  | ⟨0, _⟩ =>
    show win0_3.index t 0 * 2048 + 1 * (y 0).val = (y 0).val
    rw [e]; show 0 * 2048 + 1 * (y 0).val = _; omega
  | ⟨1, _⟩ =>
    show win0_3.index t 1 * 128 + 1 * (y 1).val = (y 1).val
    rw [e]; show 0 * 128 + 1 * (y 1).val = _; omega

theorem iblk4 (t : Fin cfg0.N) : iblk m c 4 t = V m c main_v5 := by
  obtain ⟨-, -, -, -, -, e, -⟩ := win_facts t
  funext y
  show V m c main_v5 (((cfg0.win 4).blk t).view.emb y) = _
  refine congrArg (V m c main_v5) ?_
  funext a
  refine Fin.ext ?_
  match a with
  | ⟨0, _⟩ =>
    show win0_4.index t 0 * 128 + 1 * (y 0).val = (y 0).val
    rw [e]; show 0 * 128 + 1 * (y 0).val = _; omega
  | ⟨1, _⟩ =>
    show win0_4.index t 1 * 1024 + 1 * (y 1).val = (y 1).val
    rw [e]; show 0 * 1024 + 1 * (y 1).val = _; omega

theorem iblk5 (t : Fin cfg0.N) : iblk m c 5 t = V m c main_v6 := by
  obtain ⟨-, -, -, -, -, -, e, -⟩ := win_facts t
  funext y
  show V m c main_v6 (((cfg0.win 5).blk t).view.emb y) = _
  refine congrArg (V m c main_v6) ?_
  funext a
  refine Fin.ext ?_
  match a with
  | ⟨0, _⟩ =>
    show win0_5.index t 0 * 1 + 1 * (y 0).val = (y 0).val
    rw [e]; show 0 * 1 + 1 * (y 0).val = _; omega
  | ⟨1, _⟩ =>
    show win0_5.index t 1 * 1024 + 1 * (y 1).val = (y 1).val
    rw [e]; show 0 * 1024 + 1 * (y 1).val = _; omega

/-! ## What every point leaves -/

abbrev gains : Row := fun u => argG m c (ix1 u)

theorem block_row (t : Fin cfg0.N) (ht : t.val < 78) (r : Fin 640) :
    rms (fun u => iblk m c 0 t (ix2 r u)) (fun u => iblk m c 1 t (ix2 0 u))
      = row (argH m c) (gains m c) ⟨640 * (t.val / 3) + r.val, by omega⟩ := by
  have hh : (fun u => iblk m c 0 t (ix2 r u)) = fun u => argH m c (ix2 ⟨640 * (t.val / 3) + r.val, by omega⟩ u) :=
    funext fun u => iblk0 m c t ht r u
  have hg : (fun u => iblk m c 1 t (ix2 0 u)) = gains m c :=
    funext fun u => (congrFun (iblk1 m c t) (ix2 0 u)).trans (gains_apply m c u)
  exact congrArg₂ rms hh hg

theorem pay1_padded (x : Vec Ideal S640x2048 .f32) (g : Vec Ideal S1x2048 .f32) (r : Fin 640) (f : Fin 1024) :
    k0_pay1 (k0_pay5 x g (V m c main_v4) (V m c main_v5) (V m c main_v6)) (Scalar.ofBits .f32 0x3D800000#32) (ix2 r f)
      = gate (pre (rms (fun u => x (ix2 r u)) (fun u => g (ix2 0 u))) (argW m c) (argA m c) (fun f => argB m c (ix1 f)) f) :=
  (pay1_apply x g (V m c main_v4) (V m c main_v5) (V m c main_v6) r f).trans (congrArg gate (padded_pre m c _ f))

/-- A row's first point leaves its block's normed rows in the scratch, and its gates. -/
theorem rows_A (t : Fin cfg0.N) (ht : t.val < 78) (h0 : t.val % 3 = 0) (r : Fin 640) (l : Fin 2048) :
    (outA m c t h0).2.2 (ix2 r l) = row (argH m c) (gains m c) ⟨640 * (t.val / 3) + r.val, by omega⟩ l := by
  rw [xn_A]
  exact (pay4_apply (iblk m c 0 t) (iblk m c 1 t) r l).trans (congrFun (block_row m c t ht r) l)

theorem gates_A (t : Fin cfg0.N) (ht : t.val < 78) (h0 : t.val % 3 = 0) (r : Fin 640) (f : Fin 1024) :
    (outA m c t h0).2.1 (ix2 r f)
      = gate (pre (row (argH m c) (gains m c) ⟨640 * (t.val / 3) + r.val, by omega⟩) (argW m c) (argA m c)
          (fun f => argB m c (ix1 f)) f) := by
  rw [gate_A, iblk3, iblk4, iblk5]
  exact (pay1_padded m c (iblk m c 0 t) (iblk m c 1 t) r f).trans
    (congrArg (fun y => gate (pre y (argW m c) (argA m c) (fun f => argB m c (ix1 f)) f)) (block_row m c t ht r))

/-- So does every point of block `q`: the two others keep what the first one left. -/
theorem carried (q : Fin 26) : ∀ (n : ℕ) (hn : n < cfg0.N), n / 3 = q.val →
    (∀ (r : Fin 640) (l : Fin 2048),
      (outsAt0 m c n hn).2.2 (ix2 r l) = row (argH m c) (gains m c) ⟨640 * q.val + r.val, by omega⟩ l)
    ∧ (∀ (r : Fin 640) (f : Fin 1024),
      (outsAt0 m c n hn).2.1 (ix2 r f)
        = gate (pre (row (argH m c) (gains m c) ⟨640 * q.val + r.val, by omega⟩) (argW m c) (argA m c)
            (fun f => argB m c (ix1 f)) f)) := by
  intro n
  induction n using Nat.strong_induction_on with
  | _ n ih =>
    intro hn hq
    have ht := (win_facts ⟨n, hn⟩).1
    by_cases h0 : n % 3 = 0
    · obtain ⟨q, hq0⟩ := q
      obtain rfl : n / 3 = q := hq
      rw [outsAt0_A m c ⟨n, hn⟩ h0]
      exact ⟨fun r l => rows_A m c ⟨n, hn⟩ ht h0 r l, fun r f => gates_A m c ⟨n, hn⟩ ht h0 r f⟩
    · rw [outsAt0_B m c ⟨n, hn⟩ h0]
      unfold outB
      dsimp only
      exact ih (n - 1) (by omega) (by omega) (by omega)

/-- Every point leaves its block of the projections. -/
theorem projected (t : Fin cfg0.N) (ht : t.val < 78) (r : Fin 640) (l : Fin 2048) :
    (outsAt0 m c t.val t.isLt).1 (ix2 r l)
      = col (row (argH m c) (gains m c) ⟨640 * (t.val / 3) + r.val, by omega⟩) (argW m c)
          ⟨2048 * (t.val % 3) + l.val, by omega⟩ := by
  have hx : (outsAt0 m c t.val t.isLt).1 = k0_pay2 (outsAt0 m c t.val t.isLt).2.2 (X0_2 m c t) := by
    by_cases h0 : t.val % 3 = 0
    · rw [outsAt0_A m c t h0, p_A, xn_A]
    · rw [outsAt0_B m c t h0, p_B]
      rfl
  rw [hx]
  refine (pay2_apply _ _ _ _).trans (Finset.sum_congr rfl fun u _ => ?_)
  rw [(carried m c ⟨t.val / 3, by omega⟩ t.val t.isLt rfl).1, X2 m c t ht]

/-! ## The arrays -/

/-- The projections that the call leaves. -/
def resultP : (⟨2, ![16640, 6144]⟩ : Shape).Idx → EReal := projections (argH m c) (gains m c) (argW m c)

/-- The gates that the call leaves. -/
def resultG : (⟨2, ![16640, 1024]⟩ : Shape).Idx → EReal :=
  gates (argH m c) (gains m c) (argW m c) (argA m c) (fun f => argB m c (ix1 f))

theorem projections_written (t : Fin cfg0.N) :
    (dats m 0 c).flushed 6 t = ((cfg0.win 6).blk t).view.read (Elt Ideal) (resultP m c) := by
  obtain ⟨ht, -, -, -, -, -, -, e, -⟩ := win_facts t
  show (cfg0.win 6).cut (grid0.coords t) ((dats m 0 c).after 6 t) = _
  rw [after0_6]
  funext y
  show (outsAt0 m c t.val t.isLt).1 ((cfg0.win 6).xinj (grid0.coords t) y) = resultP m c (((cfg0.win 6).blk t).view.emb y)
  have hy0 : (y 0).val < 640 := (y 0).isLt
  have hy1 : (y 1).val < 2048 := (y 1).isLt
  have hx : (cfg0.win 6).xinj (grid0.coords t) y = ix2 (⟨(y 0).val, hy0⟩ : Fin 640) (⟨(y 1).val, hy1⟩ : Fin 2048) := by
    funext a
    refine Fin.ext ?_
    match a with
    | ⟨0, _⟩ => rfl
    | ⟨1, _⟩ => rfl
  have he : ((cfg0.win 6).blk t).view.emb y
      = ix2 (⟨640 * (t.val / 3) + (y 0).val, by omega⟩ : Fin 16640) (⟨2048 * (t.val % 3) + (y 1).val, by omega⟩ : Fin 6144) := by
    funext a
    refine Fin.ext ?_
    match a with
    | ⟨0, _⟩ =>
      show win0_6.index t 0 * 640 + 1 * (y 0).val = 640 * (t.val / 3) + (y 0).val
      rw [e]; show t.val / 3 * 640 + 1 * (y 0).val = _; omega
    | ⟨1, _⟩ =>
      show win0_6.index t 1 * 2048 + 1 * (y 1).val = 2048 * (t.val % 3) + (y 1).val
      rw [e]; show t.val % 3 * 2048 + 1 * (y 1).val = _; omega
  rw [hx, he]
  exact projected m c t ht _ _

theorem projections_covered (i : S16640x6144.Idx) :
    ∃ t : Fin cfg0.N, (cfg0.win 6).flush t = true ∧ i ∈ ((cfg0.win 6).blk t).view.set := by
  have hi0 : (i 0).val < 16640 := (i 0).isLt
  have hi1 : (i 1).val < 6144 := (i 1).isLt
  have hlt : 3 * ((i 0).val / 640) + (i 1).val / 2048 < cfg0.N := lt_of_lt_of_eq (show _ < 78 by omega) N_0.symm
  refine ⟨⟨3 * ((i 0).val / 640) + (i 1).val / 2048, hlt⟩, flush0_6 _, ?_⟩
  obtain ⟨-, -, -, -, -, -, -, e, -⟩ := win_facts ⟨3 * ((i 0).val / 640) + (i 1).val / 2048, hlt⟩
  show i ∈ ((View.whole main_v7_0).slice (win0_6.rect ⟨3 * ((i 0).val / 640) + (i 1).val / 2048, hlt⟩)).set
  rw [View.set_slice_whole, Rect.mem_set_unit]
  intro a
  match a with
  | ⟨0, _⟩ =>
    show win0_6.index _ 0 * 640 ≤ (i 0).val ∧ (i 0).val < win0_6.index _ 0 * 640 + 640
    rw [e]
    show (3 * ((i 0).val / 640) + (i 1).val / 2048) / 3 * 640 ≤ (i 0).val
      ∧ (i 0).val < (3 * ((i 0).val / 640) + (i 1).val / 2048) / 3 * 640 + 640
    omega
  | ⟨1, _⟩ =>
    show win0_6.index _ 1 * 2048 ≤ (i 1).val ∧ (i 1).val < win0_6.index _ 1 * 2048 + 2048
    rw [e]
    show (3 * ((i 0).val / 640) + (i 1).val / 2048) % 3 * 2048 ≤ (i 1).val
      ∧ (i 1).val < (3 * ((i 0).val / 640) + (i 1).val / 2048) % 3 * 2048 + 2048
    omega

theorem projections_after : (dats m 0 c).arrAt 6 cfg0.N = resultP m c :=
  (dats m 0 c).arrAt_eq_of_cover 6 _ (fun t _ => projections_written m c t) projections_covered

theorem gates_written (t : Fin cfg0.N) :
    (dats m 0 c).flushed 7 t = ((cfg0.win 7).blk t).view.read (Elt Ideal) (resultG m c) := by
  obtain ⟨ht, -, -, -, -, -, -, -, e⟩ := win_facts t
  show (cfg0.win 7).cut (grid0.coords t) ((dats m 0 c).after 7 t) = _
  rw [after0_7]
  funext y
  show (outsAt0 m c t.val t.isLt).2.1 ((cfg0.win 7).xinj (grid0.coords t) y) = resultG m c (((cfg0.win 7).blk t).view.emb y)
  have hy0 : (y 0).val < 640 := (y 0).isLt
  have hy1 : (y 1).val < 1024 := (y 1).isLt
  have hx : (cfg0.win 7).xinj (grid0.coords t) y = ix2 (⟨(y 0).val, hy0⟩ : Fin 640) (⟨(y 1).val, hy1⟩ : Fin 1024) := by
    funext a
    refine Fin.ext ?_
    match a with
    | ⟨0, _⟩ => rfl
    | ⟨1, _⟩ => rfl
  have he : ((cfg0.win 7).blk t).view.emb y
      = ix2 (⟨640 * (t.val / 3) + (y 0).val, by omega⟩ : Fin 16640) (⟨(y 1).val, hy1⟩ : Fin 1024) := by
    funext a
    refine Fin.ext ?_
    match a with
    | ⟨0, _⟩ =>
      show win0_7.index t 0 * 640 + 1 * (y 0).val = 640 * (t.val / 3) + (y 0).val
      rw [e]; show t.val / 3 * 640 + 1 * (y 0).val = _; omega
    | ⟨1, _⟩ =>
      show win0_7.index t 1 * 1024 + 1 * (y 1).val = (y 1).val
      rw [e]; show 0 * 1024 + 1 * (y 1).val = _; omega
  rw [hx, he]
  exact (carried m c ⟨t.val / 3, by omega⟩ t.val t.isLt rfl).2 _ _

theorem gates_covered (i : S16640x1024.Idx) :
    ∃ t : Fin cfg0.N, (cfg0.win 7).flush t = true ∧ i ∈ ((cfg0.win 7).blk t).view.set := by
  have hi0 : (i 0).val < 16640 := (i 0).isLt
  have hi1 : (i 1).val < 1024 := (i 1).isLt
  have hlt : 3 * ((i 0).val / 640) + 2 < cfg0.N := lt_of_lt_of_eq (show _ < 78 by omega) N_0.symm
  refine ⟨⟨3 * ((i 0).val / 640) + 2, hlt⟩, (flush0_7 _).mpr (by show (3 * ((i 0).val / 640) + 2) % 3 = 2; omega), ?_⟩
  obtain ⟨-, -, -, -, -, -, -, -, e⟩ := win_facts ⟨3 * ((i 0).val / 640) + 2, hlt⟩
  show i ∈ ((View.whole main_v7_1).slice (win0_7.rect ⟨3 * ((i 0).val / 640) + 2, hlt⟩)).set
  rw [View.set_slice_whole, Rect.mem_set_unit]
  intro a
  match a with
  | ⟨0, _⟩ =>
    show win0_7.index _ 0 * 640 ≤ (i 0).val ∧ (i 0).val < win0_7.index _ 0 * 640 + 640
    rw [e]
    show (3 * ((i 0).val / 640) + 2) / 3 * 640 ≤ (i 0).val ∧ (i 0).val < (3 * ((i 0).val / 640) + 2) / 3 * 640 + 640
    omega
  | ⟨1, _⟩ =>
    show win0_7.index _ 1 * 1024 ≤ (i 1).val ∧ (i 1).val < win0_7.index _ 1 * 1024 + 1024
    rw [e]
    show 0 * 1024 ≤ (i 1).val ∧ (i 1).val < 0 * 1024 + 1024
    omega

theorem gates_after : (dats m 0 c).arrAt 7 cfg0.N = resultG m c :=
  (dats m 0 c).arrAt_eq_of_cover 7 _ (fun t _ => gates_written m c t) gates_covered

/-- The run: both arrays, and the arguments as they were. -/
theorem run (ρ : Dev nD → PrngReg) : θ_run defs (onTc (τ := τ) (main (F := Ideal))) ⟨m, fun _ => 0, ρ⟩ fun r => ∀ c : Dev nD,
      r.2.mem ((c.tc : Thread nD τ).loc main_v7_0) = resultP m c
      ∧ r.2.mem ((c.tc : Thread nD τ).loc main_v7_1) = resultG m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono
    (fun _ h c => ⟨((h.1 c).1 6).trans (projections_after m c), ((h.1 c).1 7).trans (gates_after m c), h.2 c⟩)
    (θ_run_and (run_main m ρ) (unchanged m ρ))

end Cert.GlaIn

end
-- ==== Proof.GlaIn.Reference.lean ====
/-
  The reference's projections and gates, read at an index.
-/
module

public import proofs.«01_k».proof.Proof.Gen.Reference7Ideal.Run
public import proofs.«01_k».proof.Proof.GlaIn.Spec

@[expose] public section

set_option maxRecDepth 16384

noncomputable section

namespace Cert.GlaIn.Ref

open Idealize.ShloMosaic Idealize.ShloMosaic.TcCoe Idealize.ShloMosaic.Tactic
open Cert.Reference7Ideal Cert.Reference7Ideal.Gen
open Cert.Mlp (Row rms)
open scoped BigOperators

variable (h : FVec Ideal S16640x2048 .f32) (g : FVec Ideal S2048 .f32) (w : FVec Ideal S1x6160x2048 .bf16)
  (a : FVec Ideal S16x1024 .f32) (b : FVec Ideal S1024 .f32)

/-- The normed rows. -/
def normed : FVec Ideal S16640x2048 .f32 :=
  mulf (mulf h (broadcastInDim S16640x2048 ![0, 1] bcast_S16640x1_S16640x2048_0_1
      (Host.rsqrt (addf (Host.divf (broadcastInDim S16640x1 ![0] bcast_S16640_S16640x1_0
          (Host.reduceAdd (mulf h h) (constant S_ .f32 0x00000000#32) reducesTo_S16640x2048_S16640_d1 h_S_))
          (broadcastInDim S16640x1 ![] bcast_S_S16640x1 (constant S_ .f32 0x45000000#32)))
        (broadcastInDim S16640x1 ![] bcast_S_S16640x1 (constant S_ .f32 0x358637BD#32))))))
    (broadcastInDim S16640x2048 ![0, 1] bcast_S1x2048_S16640x2048_0_1 (broadcastInDim S1x2048 ![1] bcast_S2048_S1x2048_1 g))

theorem normed_apply (r : Fin 16640) (l : Fin 2048) : normed h g (ix2 r l) = row h (fun u => g (ix1 u)) r l := by
  pointwise [normed]
  rfl

/-- The rows times the projections' matrix. -/
def products : FVec Ideal S16640x6160 .f32 :=
  Host.dotGeneral dot_S16640x2048_S2048x6160_S16640x6160_1_0_0_1_n_n none (normed h g)
    (transpose S2048x6160 [1, 0] (extf .f32 (shapeCast _ w shapeCasts_S1x6160x2048_S6160x2048) bitsLt_bf16_f32)
      transposes_S6160x2048_S2048x6160_1_0)

theorem products_apply (r : Fin 16640) (j : Fin 6160) :
    products h g w (ix2 r j) = col (row h (fun u => g (ix1 u)) r) w j := by
  unfold products
  generalize hy : normed h g = y
  pointwise
  subst hy
  simp only [normed_apply]
  rfl

/-- The gates' argument. -/
def before : FVec Ideal S16640x1024 .f32 :=
  addf (Host.dotGeneral dot_S16640x16_S16x1024_S16640x1024_1_0_0_1_n_n none
      (extractStridedSlice S16640x16 ![0, 6144] (products h g w) slices_S16640x6160_S16640x16_0_6144) a)
    (broadcastInDim S16640x1024 ![0, 1] bcast_S1x1024_S16640x1024_0_1 (broadcastInDim S1x1024 ![1] bcast_S1024_S1x1024_1 b))

theorem before_apply (r : Fin 16640) (f : Fin 1024) :
    before h g w a b (ix2 r f) = pre (row h (fun u => g (ix1 u)) r) w a (fun f => b (ix1 f)) f := by
  unfold before
  generalize hy : products h g w = y
  pointwise
  subst hy
  simp only [products_apply]
  rfl

/-- The zeros that the logarithm is taken against. -/
def zeros : FVec Ideal S16640x1024 .f32 :=
  broadcastInDim S16640x1024 ![] bcast_S_S16640x1024 (constant S_ .f32 0x00000000#32)

/-- The logarithm of the logistic function, by sixteen. -/
def gated (v : FVec Ideal S16640x1024 .f32) : FVec Ideal S16640x1024 .f32 :=
  Host.divf (Host.negf (select (cmpf .une (subf (Host.negf v) zeros) (subf (Host.negf v) zeros)) (addf (Host.negf v) zeros)
      (addf (maximumf (Host.negf v) zeros) (Host.log1p (Host.exp (Host.negf (Host.absf (subf (Host.negf v) zeros))))))))
    (broadcastInDim S16640x1024 ![] bcast_S_S16640x1024 (constant S_ .f32 0x41800000#32))

theorem gated_apply (v : FVec Ideal S16640x1024 .f32) (r : Fin 16640) (f : Fin 1024) : gated v (ix2 r f) = gate (v (ix2 r f)) := by
  pointwise [gated, zeros]
  rw [if_neg (not_not_intro rfl)]
  exact gate_eq _

/-- The reference's projections. -/
theorem projections_eq :
    truncf .bf16 (extractStridedSlice S16640x6144 ![0, 0] (products h g w) slices_S16640x6160_S16640x6144_0_0) bitsLt_bf16_f32
      = projections h (fun u => g (ix1 u)) w := by
  funext i
  have hi : i = ix2 (i 0) (i 1) := by
    funext a
    match a with
    | ⟨0, _⟩ => rfl
    | ⟨1, _⟩ => rfl
  rw [hi]
  generalize hy : products h g w = y
  pointwise
  subst hy
  exact products_apply h g w _ _

/-- The reference's gates. -/
theorem gates_eq : gated (before h g w a b) = gates h (fun u => g (ix1 u)) w a (fun f => b (ix1 f)) := by
  funext i
  have hi : i = ix2 (i 0) (i 1) := by
    funext a
    match a with
    | ⟨0, _⟩ => rfl
    | ⟨1, _⟩ => rfl
  rw [hi]
  exact (gated_apply _ _ _).trans (congrArg gate (before_apply h g w a b _ _))

/-- What the reference returns is the same gates. -/
theorem gates_run (m : (ℓ : Loc nD τ sig) → Buf (Elt Ideal) ℓ) (c : Dev nD) :
    Value.res_main_v24 m c
      = gates (m ((c.tc : Thread nD τ).loc main_arg0)) (fun u => m ((c.tc : Thread nD τ).loc main_arg1) (ix1 u))
          (m ((c.tc : Thread nD τ).loc main_arg2)) (m ((c.tc : Thread nD τ).loc main_arg3))
          (fun f => m ((c.tc : Thread nD τ).loc main_arg4) (ix1 f)) :=
  gates_eq _ _ _ _ _

end Cert.GlaIn.Ref

end
-- ==== Proof.Lora.Spec.lean ====
/-
  The low-rank updates of an RWKV-7 layer over the extended reals: a shifted row through two thin matrices, with the
  logistic function after them or between them.
-/
module

public import proofs.«01_k».proof.Proof.Rkv.Spec
public import proofs.«01_k».proof.Proof.GlaIn.Spec

@[expose] public section

set_option maxRecDepth 16384

noncomputable section

namespace Cert.Lora

open Idealize.ShloMosaic
open Cert.Mlp (Row rms)
open Cert.Rkv (before shift)
open scoped BigOperators

/-- The logistic function. -/
def logistic (x : EReal) : EReal := Ideal.div 1 (1 + Ideal.exp (-x))

/-- A row times a matrix of rank `n`. -/
def down {n : ℕ} (x : Row) (w : (⟨2, ![2048, n]⟩ : Shape).Idx → EReal) (k : Fin n) : EReal := ∑ u : Fin 2048, x u * w (ix2 u k)

/-- Back to a row. -/
def up {n : ℕ} (z : Fin n → EReal) (w : (⟨2, ![n, 2048]⟩ : Shape).Idx → EReal) (l : Fin 2048) : EReal :=
  ∑ k : Fin n, z k * w (ix2 k l)

/-- A rate: the logistic function of the two matrices' product and a bias. -/
def rate {n : ℕ} (x : Row) (w₁ : (⟨2, ![2048, n]⟩ : Shape).Idx → EReal) (w₂ : (⟨2, ![n, 2048]⟩ : Shape).Idx → EReal) (b : Row)
    (l : Fin 2048) : EReal := logistic (up (down x w₁) w₂ l + b l)

/-- The output gate: the logistic function between the two matrices. -/
def gate {n : ℕ} (x : Row) (w₁ : (⟨2, ![2048, n]⟩ : Shape).Idx → EReal) (w₂ : (⟨2, ![n, 2048]⟩ : Shape).Idx → EReal)
    (l : Fin 2048) : EReal := up (fun k => logistic (down x w₁ k)) w₂ l

/-- A matrix of rank `n` padded with zero columns. -/
def wide {n : ℕ} (w : (⟨2, ![2048, n]⟩ : Shape).Idx → EReal) : (⟨2, ![2048, 128]⟩ : Shape).Idx → EReal :=
  fun i => if h : (i 1).val < n then w (ix2 (i 0) ⟨(i 1).val, h⟩) else 0

/-- A matrix of rank `n` padded with zero rows. -/
def tall {n : ℕ} (w : (⟨2, ![n, 2048]⟩ : Shape).Idx → EReal) : (⟨2, ![128, 2048]⟩ : Shape).Idx → EReal :=
  fun i => if h : (i 0).val < n then w (ix2 ⟨(i 0).val, h⟩ (i 1)) else 0

/-- Padding the rank changes no rate. -/
theorem rate_padded {n : ℕ} (hn : n ≤ 128) (x : Row) (w₁ : (⟨2, ![2048, n]⟩ : Shape).Idx → EReal)
    (w₂ : (⟨2, ![n, 2048]⟩ : Shape).Idx → EReal) (b : Row) (l : Fin 2048) :
    rate x (wide w₁) (tall w₂) b l = rate x w₁ w₂ b l := by
  unfold rate up
  refine congrArg (fun s => logistic (s + b l)) ((GlaIn.sum_padded n _ hn fun k hk => ?_).trans ?_)
  · show _ * tall w₂ (ix2 k l) = 0
    rw [show tall w₂ (ix2 k l) = 0 from dif_neg (by show ¬k.val < n; omega), mul_zero]
  · refine Finset.sum_congr rfl fun k _ => ?_
    have e₂ : tall w₂ (ix2 (⟨k.val, by omega⟩ : Fin 128) l) = w₂ (ix2 k l) := dif_pos k.isLt
    have e₁ : down x (wide w₁) (⟨k.val, by omega⟩ : Fin 128) = down x w₁ k :=
      Finset.sum_congr rfl fun u _ => congrArg (x u * ·)
        (show wide w₁ (ix2 u (⟨k.val, by omega⟩ : Fin 128)) = w₁ (ix2 u k) from dif_pos k.isLt)
    rw [e₂, e₁]

/-- Row `r` of sequence `b`, mixed with the row before it by the mixing weights' row `k`. -/
def mixed (h : (⟨3, ![4, 4160, 2048]⟩ : Shape).Idx → EReal) (g : Row) (mix : (⟨2, ![6, 2048]⟩ : Shape).Idx → EReal) (k : Fin 6)
    (b : Fin 4) (r : Fin 4160) : Row :=
  shift (rms (fun v => h (ix3 b r v)) g) (before h g b r) (fun v => mix (ix2 k v))

/-- Rows laid out in sixteen pairs of heads, the sequences one below another. -/
def pairs (P : Fin 4 → Fin 4160 → Row) : (⟨3, ![16, 16640, 128]⟩ : Shape).Idx → EReal := fun i =>
  have hp : (i 0).val < 16 := (i 0).isLt
  have hr : (i 1).val < 16640 := (i 1).isLt
  have hq : (i 2).val < 128 := (i 2).isLt
  P ⟨(i 1).val / 4160, by omega⟩ ⟨(i 1).val % 4160, Nat.mod_lt _ (by decide)⟩ ⟨128 * (i 0).val + (i 2).val, by omega⟩

end Cert.Lora

end
-- ==== Proof.Lora.Point.lean ====
/-
  One grid point of the low-rank updates: what it leaves in its blocks of three results, from its input blocks.
-/
module

public import proofs.«01_k».proof.Proof.Gen.Kernel8Ideal.Frame
public import proofs.«01_k».proof.Proof.Lora.Spec
public import Idealize.ShloMosaic.Lib.Pipeline.ValueKit.Basic
public import Idealize.ShloMosaic.Lib.ValueLayout
public import Idealize.ShloMosaic.Lib.WordCmp

@[expose] public section

set_option maxRecDepth 16384

noncomputable section

namespace Cert.Lora

open Idealize.ShloMosaic Idealize.ShloMosaic.TcCoe Idealize.ShloMosaic.Tactic
open Cert.Kernel8Ideal Cert.Kernel8Ideal.Gen
open Cert.Mlp (Row rms)
open Cert.Rkv (shift)
open scoped BigOperators

/-! ## The values at an index -/

theorem pay2_apply (g : Vec Ideal S1x2048 .f32) (x : Vec Ideal S1x416x2048 .f32) (r : Fin 416) (l : Fin 2048) :
    k0_pay2 g x (ix2 r l) = rms (fun u => x (ix3 0 r u)) (fun u => g (ix2 0 u)) l := by
  pointwise [k0_pay2]
  rfl

theorem select_zero (n : ℕ) (hn : n < 2 ^ 32) (a b : EReal) :
    Scalar.select (IntOp.cmpi .eq (BitVec.ofNat 32 n) 0#32) a b = if n = 0 then a else b :=
  if_congr (WordCmp.cmpi_eq_ofNat_eq_one_iff hn (by decide)) rfl rfl

theorem pay3_apply (i : grid0.Coords) (g : Vec Ideal S1x2048 .f32) (x : Vec Ideal S1x416x2048 .f32) (p : Vec Ideal S1x8x2048 .f32)
    (r : Fin 416) (l : Fin 2048) :
    k0_pay3 i g x p (ix2 r l)
      = if r.val = 0 then (if (i 1).val = 0 then 0 else rms (fun u => p (ix3 0 7 u)) (fun u => g (ix2 0 u)) l)
        else rms (fun u => x (ix3 0 ⟨r.val - 1, by omega⟩ u)) (fun u => g (ix2 0 u)) l := by
  have hi : (i 1).val < 10 := (i 1).isLt
  have hr := r.isLt
  pointwise [k0_pay3, k0_pay2]
  rw [select_zero r.val (by omega)]
  by_cases h0 : r.val = 0
  · rw [if_pos h0, if_pos h0]
    exact select_zero (i 1).val (by omega) _ _
  · rw [if_neg h0, if_neg h0]
    have e : (⟨(r.val + 416 - 1) % 416, Nat.mod_lt _ (by decide)⟩ : Fin 416) = ⟨r.val - 1, by omega⟩ := Fin.ext (by
      show (r.val + 416 - 1) % 416 = r.val - 1
      omega)
    rw [e]
    rfl

/-- The block's row mixed with the one before it. -/
abbrev blockMixed (x p : FVec Ideal S416x2048 .f32) (k : Vec Ideal S1x2048 .f32) (r : Fin 416) : Row :=
  shift (fun v => x (ix2 r v)) (fun v => p (ix2 r v)) (fun v => k (ix2 0 v))

theorem pay63_apply (x p : FVec Ideal S416x2048 .f32) (k : Vec Ideal S1x2048 .f32) (w₁ : Vec Ideal S2048x128 .bf16)
    (w₂ : Vec Ideal S128x2048 .bf16) (b : Vec Ideal S1x2048 .f32) (r : Fin 416) (l : Fin 2048) :
    k0_pay63 x (k0_pay4 x p) k w₁ w₂ b (ix2 r l) = rate (blockMixed x p k r) w₁ w₂ (fun u => b (ix2 0 u)) l := by
  pointwise [k0_pay63, k0_pay4]
  rw [zero_sub]
  rfl

theorem pay25_eq (x d : FVec Ideal S416x2048 .f32) (k : Vec Ideal S1x2048 .f32) (w₁ : Vec Ideal S2048x128 .bf16)
    (w₂ : Vec Ideal S128x2048 .bf16) (b : Vec Ideal S1x2048 .f32) :
    k0_pay25 (k0_pay23 x d k) (k0_pay24 w₁) w₂ b = k0_pay63 x d k w₁ w₂ b := rfl

theorem pay44_apply (x p : FVec Ideal S416x2048 .f32) (k : Vec Ideal S1x2048 .f32) (w₁ : Vec Ideal S2048x256 .bf16)
    (w₂ : Vec Ideal S256x2048 .bf16) (r : Fin 416) (l : Fin 2048) :
    k0_pay44 (k0_pay43 x (k0_pay4 x p) k w₁) w₂ (ix2 r l) = gate (blockMixed x p k r) w₁ w₂ l := by
  pointwise [k0_pay44, k0_pay43, k0_pay4]
  simp only [zero_sub]
  rfl

theorem ld_row (x : Vec Ideal S6x2048 .f32) (k : Fin 6) (h : ∀ a, (![k.val, 0] : Fin 2 → Nat) a + S1x2048.size a ≤ S6x2048.size a)
    (v : Fin 2048) : View.ld x (Rect.unit (s := S6x2048) ![k.val, 0] S1x2048.size h) (ix2 0 v) = x (ix2 k v) := by
  refine congrArg x ?_
  funext a
  refine Fin.ext ?_
  match a with
  | ⟨0, _⟩ => show k.val + 1 * 0 = k.val; omega
  | ⟨1, _⟩ => show 0 + 1 * v.val = v.val; omega

/-! ## The blocks -/

/-- Rows in sixteen pairs of heads. -/
def inPairs (P : FVec Ideal S416x2048 .f32) : Vec Ideal S16x416x128 .f32 := fun y =>
  have hp : (y 0).val < 16 := (y 0).isLt
  have hq : (y 2).val < 128 := (y 2).isLt
  P (ix2 (y 1) ⟨128 * (y 0).val + (y 2).val, by omega⟩)

theorem at_piece (P : FVec Ideal S416x2048 .f32) (p o : ℕ) (hp : p < 16) (ho : o = 128 * p) (hsl : S416x2048.Slices ![0, o] S416x128)
    (hb : ∀ a, (![p, 0, 0] : Fin 3 → Nat) a + S1x416x128.size a ≤ S16x416x128.size a) (x : S1x416x128.Idx) :
    shapeCast S1x416x128 (extractStridedSlice S416x128 ![0, o] P hsl) shapeCasts_S416x128_S1x416x128 x
      = inPairs P ((Rect.unit (s := S16x416x128) ![p, 0, 0] S1x416x128.size hb).emb x) := by
  subst ho
  have h0 : (x 0).val < 1 := (x 0).isLt
  have h1 : (x 1).val < 416 := (x 1).isLt
  have h2 : (x 2).val < 128 := (x 2).isLt
  refine (shapeCast_apply _ _ x (ix2 (⟨(x 1).val, h1⟩ : Fin 416) (⟨(x 2).val, h2⟩ : Fin 128)) ?_).trans ?_
  · rw [Shape.rowMajor_val_two, Shape.rowMajor_val_three]
    show (x 1).val * 128 + (x 2).val = ((x 0).val * 416 + (x 1).val) * 128 + (x 2).val
    omega
  refine (ValueIdx.slice2_axis1_apply _ _ _ _ _ ⟨128 * p + (x 2).val, by omega⟩ rfl).trans ?_
  refine congrArg P ?_
  funext a
  refine Fin.ext ?_
  match a with
  | ⟨0, _⟩ => show (x 1).val = 0 + 1 * (x 1).val; omega
  | ⟨1, _⟩ => show 128 * p + (x 2).val = 128 * (p + 1 * (x 0).val) + (0 + 1 * (x 2).val); omega

variable (i : grid0.Coords) (x0 : Vec Ideal S1x416x2048 .f32) (x1 : Vec Ideal S1x8x2048 .f32) (x2 : Vec Ideal S1x2048 .f32)
  (x3 : Vec Ideal S6x2048 .f32) (x4 : Vec Ideal S2048x128 .bf16) (x5 : Vec Ideal S128x2048 .bf16) (x6 : Vec Ideal S1x2048 .f32)
  (x7 : Vec Ideal S2048x128 .bf16) (x8 : Vec Ideal S128x2048 .bf16) (x9 : Vec Ideal S1x2048 .f32)
  (x10 : Vec Ideal S2048x256 .bf16) (x11 : Vec Ideal S256x2048 .bf16) (x12 : Vec Ideal S1x2048 .f32)
  (x13 : Vec Ideal S2048x128 .bf16) (x14 : Vec Ideal S128x2048 .bf16) (x15 : Vec Ideal S1x2048 .f32)

theorem out17_eq : out0_17 i x0 x1 x2 x3 x4 x5 x6 x7 x8 x9 x10 x11 x12 x13 x14 x15
    = inPairs (k0_pay88 i x0 x1 x2 x3 x4 x5 x6 x7 x8 x9 x10 x11 x12 x13 x14 x15) := by
  funext y
  refine View.canon_apply_of_pieces _ _ ?_ y (cover0_17 _ _ _ _ _ _ _ _ _ _ _ _ _ _ _ _ y)
  simp only [List.forall_mem_cons, k0_pay26, k0_pay27, k0_pay28, k0_pay29, k0_pay30, k0_pay31, k0_pay32, k0_pay33, k0_pay34, k0_pay35,
    k0_pay36, k0_pay37, k0_pay38, k0_pay39, k0_pay40, k0_pay41, k0_pay42]
  repeat' refine And.intro ?_ ?_
  all_goals
    first
    | exact fun x => at_piece _ _ _ (by decide) (by decide) _ _ x
    | exact fun _ h => absurd h List.not_mem_nil

theorem out18_eq : out0_18 i x0 x1 x2 x3 x4 x5 x6 x7 x8 x9 x10 x11 x12 x13 x14 x15
    = inPairs (k0_pay90 i x0 x1 x2 x3 x4 x5 x6 x7 x8 x9 x10 x11 x12 x13 x14 x15) := by
  funext y
  refine View.canon_apply_of_pieces _ _ ?_ y (cover0_18 _ _ _ _ _ _ _ _ _ _ _ _ _ _ _ _ y)
  simp only [List.forall_mem_cons, k0_pay45, k0_pay46, k0_pay47, k0_pay48, k0_pay49, k0_pay50, k0_pay51, k0_pay52, k0_pay53, k0_pay54,
    k0_pay55, k0_pay56, k0_pay57, k0_pay58, k0_pay59, k0_pay60, k0_pay61, k0_pay62]
  repeat' refine And.intro ?_ ?_
  all_goals
    first
    | exact fun x => at_piece _ _ _ (by decide) (by decide) _ _ x
    | exact fun _ h => absurd h List.not_mem_nil

theorem out19_eq : out0_19 i x0 x1 x2 x3 x4 x5 x6 x7 x8 x9 x10 x11 x12 x13 x14 x15
    = inPairs (k0_pay91 i x0 x1 x2 x3 x4 x5 x6 x7 x8 x9 x10 x11 x12 x13 x14 x15) := by
  funext y
  refine View.canon_apply_of_pieces _ _ ?_ y (cover0_19 _ _ _ _ _ _ _ _ _ _ _ _ _ _ _ _ y)
  simp only [List.forall_mem_cons, k0_pay1, k0_pay64, k0_pay65, k0_pay66, k0_pay67, k0_pay68, k0_pay69, k0_pay70, k0_pay71, k0_pay72,
    k0_pay73, k0_pay74, k0_pay75, k0_pay76, k0_pay77, k0_pay78, k0_pay79, k0_pay80, k0_pay81]
  repeat' refine And.intro ?_ ?_
  all_goals
    first
    | exact fun x => at_piece _ _ _ (by decide) (by decide) _ _ x
    | exact fun _ h => absurd h List.not_mem_nil

/-- The normed row before row `r` of the block. -/
def blockBefore (r : Fin 416) (l : Fin 2048) : EReal :=
  if r.val = 0 then (if (i 1).val = 0 then 0 else rms (fun u => x1 (ix3 0 7 u)) (fun u => x2 (ix2 0 u)) l)
  else rms (fun u => x0 (ix3 0 ⟨r.val - 1, by omega⟩ u)) (fun u => x2 (ix2 0 u)) l

/-- Row `r` of the block, mixed by the mixing weights' row `k`. -/
def blockRow (k : Fin 6) (r : Fin 416) : Row :=
  shift (rms (fun v => x0 (ix3 0 r v)) (fun v => x2 (ix2 0 v))) (blockBefore i x0 x1 x2 r) (fun v => x3 (ix2 k v))

theorem mixed_eq (k : Fin 6) (h : ∀ a, (![k.val, 0] : Fin 2 → Nat) a + S1x2048.size a ≤ S6x2048.size a) (r : Fin 416) :
    blockMixed (k0_pay82 i x0 x1 x2 x3 x4 x5 x6 x7 x8 x9 x10 x11 x12 x13 x14 x15)
        (k0_pay83 i x0 x1 x2 x3 x4 x5 x6 x7 x8 x9 x10 x11 x12 x13 x14 x15)
        (View.ld x3 (Rect.unit (s := S6x2048) ![k.val, 0] S1x2048.size h)) r
      = blockRow i x0 x1 x2 x3 k r := by
  have hx : ∀ v, k0_pay82 i x0 x1 x2 x3 x4 x5 x6 x7 x8 x9 x10 x11 x12 x13 x14 x15 (ix2 r v)
      = rms (fun v => x0 (ix3 0 r v)) (fun v => x2 (ix2 0 v)) v := fun v => by
    unfold k0_pay82
    rw [View.ld_unit_lit _ x0 (by decide), View.ld_unit_lit _ x2 (by decide)]
    exact pay2_apply _ _ r v
  have hp : ∀ v, k0_pay83 i x0 x1 x2 x3 x4 x5 x6 x7 x8 x9 x10 x11 x12 x13 x14 x15 (ix2 r v) = blockBefore i x0 x1 x2 r v := fun v => by
    unfold k0_pay83
    rw [View.ld_unit_lit _ x0 (by decide), View.ld_unit_lit _ x1 (by decide), View.ld_unit_lit _ x2 (by decide)]
    exact pay3_apply _ _ _ _ r v
  unfold blockMixed blockRow
  simp only [hx, hp]
  exact congrArg (shift _ _) (funext fun v => ld_row x3 k h v)

theorem pay88_apply (r : Fin 416) (l : Fin 2048) :
    k0_pay88 i x0 x1 x2 x3 x4 x5 x6 x7 x8 x9 x10 x11 x12 x13 x14 x15 (ix2 r l)
      = rate (blockRow i x0 x1 x2 x3 4 r) x7 x8 (fun u => x9 (ix2 0 u)) l := by
  unfold k0_pay88 k0_pay86 k0_pay87 k0_pay84
  rw [pay25_eq, View.ld_unit_lit _ x7 (by decide), View.ld_unit_lit _ x8 (by decide), View.ld_unit_lit _ x9 (by decide), pay63_apply]
  exact congrArg (fun y => rate y x7 x8 (fun u => x9 (ix2 0 u)) l) (mixed_eq i x0 x1 x2 x3 x4 x5 x6 x7 x8 x9 x10 x11 x12 x13 x14 x15 4 _ r)

theorem pay91_apply (r : Fin 416) (l : Fin 2048) :
    k0_pay91 i x0 x1 x2 x3 x4 x5 x6 x7 x8 x9 x10 x11 x12 x13 x14 x15 (ix2 r l)
      = rate (blockRow i x0 x1 x2 x3 3 r) x13 x14 (fun u => x15 (ix2 0 u)) l := by
  unfold k0_pay91 k0_pay84
  rw [View.ld_unit_lit _ x13 (by decide), View.ld_unit_lit _ x14 (by decide), View.ld_unit_lit _ x15 (by decide), pay63_apply]
  exact congrArg (fun y => rate y x13 x14 (fun u => x15 (ix2 0 u)) l) (mixed_eq i x0 x1 x2 x3 x4 x5 x6 x7 x8 x9 x10 x11 x12 x13 x14 x15 3 _ r)

theorem pay90_apply (r : Fin 416) (l : Fin 2048) :
    k0_pay90 i x0 x1 x2 x3 x4 x5 x6 x7 x8 x9 x10 x11 x12 x13 x14 x15 (ix2 r l)
      = gate (blockRow i x0 x1 x2 x3 5 r) x10 x11 l := by
  unfold k0_pay90 k0_pay89 k0_pay84
  rw [View.ld_unit_lit _ x10 (by decide), View.ld_unit_lit _ x11 (by decide), pay44_apply]
  exact congrArg (fun y => gate y x10 x11 l) (mixed_eq i x0 x1 x2 x3 x4 x5 x6 x7 x8 x9 x10 x11 x12 x13 x14 x15 5 _ r)

end Cert.Lora

end
-- ==== Proof.Lora.Result.lean ====
/-
  Three results of the low-rank updates after the whole grid of 40 points, in terms of the contents that the launch finds.
-/
module

public import proofs.«01_k».proof.Proof.Gen.Kernel8Ideal.Value
public import proofs.«01_k».proof.Proof.Lora.Point

@[expose] public section

set_option maxRecDepth 16384

noncomputable section

namespace Cert.Lora

open Idealize.ShloMosaic Idealize.ShloMosaic.TcCoe Idealize.ShloMosaic.Tactic
open Cert.Kernel8Ideal Cert.Kernel8Ideal.Gen
open Cert.Mlp (Row rms)
open Cert.Rkv (before shift)
open scoped BigOperators

variable (m : (ℓ : Loc nD τ sig) → Buf (Elt Ideal) ℓ) (c : Dev nD)

/-- The hidden states, the gains and the mixing weights, then each update's bias and matrices, as the launch finds them. -/
abbrev argH : (⟨3, ![4, 4160, 2048]⟩ : Shape).Idx → EReal := m ((c : Thread nD τ).loc main_arg0)
abbrev argG : (⟨2, ![1, 2048]⟩ : Shape).Idx → EReal := m ((c : Thread nD τ).loc main_arg1)
abbrev argMix : (⟨2, ![6, 2048]⟩ : Shape).Idx → EReal := m ((c : Thread nD τ).loc main_arg2)
abbrev argA0 : (⟨1, ![2048]⟩ : Shape).Idx → EReal := m ((c : Thread nD τ).loc main_arg6)
abbrev argA1 : (⟨2, ![2048, 96]⟩ : Shape).Idx → EReal := m ((c : Thread nD τ).loc main_arg7)
abbrev argA2 : (⟨2, ![96, 2048]⟩ : Shape).Idx → EReal := m ((c : Thread nD τ).loc main_arg8)
abbrev argG1 : (⟨2, ![2048, 256]⟩ : Shape).Idx → EReal := m ((c : Thread nD τ).loc main_arg9)
abbrev argG2 : (⟨2, ![256, 2048]⟩ : Shape).Idx → EReal := m ((c : Thread nD τ).loc main_arg10)
abbrev argV0 : (⟨1, ![2048]⟩ : Shape).Idx → EReal := m ((c : Thread nD τ).loc main_arg11)
abbrev argV1 : (⟨2, ![2048, 64]⟩ : Shape).Idx → EReal := m ((c : Thread nD τ).loc main_arg12)
abbrev argV2 : (⟨2, ![64, 2048]⟩ : Shape).Idx → EReal := m ((c : Thread nD τ).loc main_arg13)

/-! ## What the host hands the call -/

theorem ix2_eta {a b : ℕ} (i : (⟨2, ![a, b]⟩ : Shape).Idx) : i = ix2 (i 0) (i 1) := by
  funext x
  match x with
  | ⟨0, _⟩ => rfl
  | ⟨1, _⟩ => rfl

theorem zero_apply {t : FTy} : (sitofp (F := Ideal) t (constantI S_ 32 0#32)) = fun _ => (0 : EReal) := by
  funext y
  show (((0#32 : BitVec 32).toInt : ℝ) : EReal) = 0
  simp

/-- The weights are padded with zeros and cast, the biases made rows. -/
theorem host_values :
    V m c main_v6 = truncf .bf16 (pad S2048x128 ![0, 0] ![0, 32] ![0, 0] (argA1 m c)
        (sitofp (F := Ideal) .f32 (constantI S_ 32 0#32)) pads_S2048x96_S2048x128_000_0320 h_S_) bitsLt_bf16_f32
    ∧ V m c main_v8 = truncf .bf16 (pad S128x2048 ![0, 0] ![32, 0] ![0, 0] (argA2 m c)
        (sitofp (F := Ideal) .f32 (constantI S_ 32 0#32)) pads_S96x2048_S128x2048_0320_000 h_S_) bitsLt_bf16_f32
    ∧ V m c main_v9 = shapeCast S1x2048 (argA0 m c) shapeCasts_S2048_S1x2048
    ∧ V m c main_v11 = truncf .bf16 (pad S2048x256 ![0, 0] ![0, 0] ![0, 0] (argG1 m c)
        (sitofp (F := Ideal) .f32 (constantI S_ 32 0#32)) pads_S2048x256_S2048x256_000_000 h_S_) bitsLt_bf16_f32
    ∧ V m c main_v13 = truncf .bf16 (pad S256x2048 ![0, 0] ![0, 0] ![0, 0] (argG2 m c)
        (sitofp (F := Ideal) .f32 (constantI S_ 32 0#32)) pads_S256x2048_S256x2048_000_000 h_S_) bitsLt_bf16_f32
    ∧ V m c main_v16 = truncf .bf16 (pad S2048x128 ![0, 0] ![0, 64] ![0, 0] (argV1 m c)
        (sitofp (F := Ideal) .f32 (constantI S_ 32 0#32)) pads_S2048x64_S2048x128_000_0640 h_S_) bitsLt_bf16_f32
    ∧ V m c main_v18 = truncf .bf16 (pad S128x2048 ![0, 0] ![64, 0] ![0, 0] (argV2 m c)
        (sitofp (F := Ideal) .f32 (constantI S_ 32 0#32)) pads_S64x2048_S128x2048_0640_000 h_S_) bitsLt_bf16_f32
    ∧ V m c main_v19 = shapeCast S1x2048 (argV0 m c) shapeCasts_S2048_S1x2048 := by
  refine ⟨?_, ?_, ?_, ?_, ?_, ?_, ?_, ?_⟩
  all_goals
    simp only [V, hostOps0, hostOps0_1, hostOps0_2, hostOps0_3, hostOps0_4, hostOps0_5, hostOps0_6, hostOps0_7, hostOps0_8, hostOps0_9,
      hostOps0_10, hostOps0_11, hostOps0_12, hostOps0_13, hostOps0_14, hostOps0_15, hostOps0_16, List.flatten_cons, List.flatten_nil,
      List.append_nil, List.cons_append, List.nil_append, StableHlo.TRef.binary, StableHlo.TRef.unary, StableHlo.TRef.toBuf,
      StableHlo.TRef.ofBuf, cast_eq]
    after_results
  all_goals rfl

theorem V_main_v6 : V m c main_v6 = wide (argA1 m c) := by
  rw [(host_values m c).1, zero_apply]
  funext i
  rw [ix2_eta i]
  pointwise
  rfl

theorem V_main_v8 : V m c main_v8 = tall (argA2 m c) := by
  rw [(host_values m c).2.1, zero_apply]
  funext i
  rw [ix2_eta i]
  pointwise
  rfl

theorem V_main_v9 (u : Fin 2048) : V m c main_v9 (ix2 0 u) = argA0 m c (ix1 u) := by
  rw [(host_values m c).2.2.1]
  pointwise

theorem V_main_v11 : V m c main_v11 = argG1 m c := by
  rw [(host_values m c).2.2.2.1]
  funext i
  rw [ix2_eta i]
  pointwise

theorem V_main_v13 : V m c main_v13 = argG2 m c := by
  rw [(host_values m c).2.2.2.2.1]
  funext i
  rw [ix2_eta i]
  pointwise

theorem V_main_v16 : V m c main_v16 = wide (argV1 m c) := by
  rw [(host_values m c).2.2.2.2.2.1, zero_apply]
  funext i
  rw [ix2_eta i]
  pointwise
  rfl

theorem V_main_v18 : V m c main_v18 = tall (argV2 m c) := by
  rw [(host_values m c).2.2.2.2.2.2.1, zero_apply]
  funext i
  rw [ix2_eta i]
  pointwise
  rfl

theorem V_main_v19 (u : Fin 2048) : V m c main_v19 (ix2 0 u) = argV0 m c (ix1 u) := by
  rw [(host_values m c).2.2.2.2.2.2.2]
  pointwise

/-! ## The windows -/

/-- Where the windows of the hidden states lie at point `t`. -/
theorem win_facts : ∀ t : Fin cfg0.N, t.val < 40
    ∧ (grid0.coords t 1).val = t.val % 10
    ∧ win0_0.index t = ![t.val / 10, t.val % 10, 0]
    ∧ win0_1.index t = ![t.val / 10, 52 * (t.val % 10) - 1, 0] :=
  (by decide +kernel : ∀ t : Fin grid0.N, _)

/-- The windows of whole arrays. -/
theorem win_whole : ∀ t : Fin cfg0.N, win0_2.index t = ![0, 0] ∧ win0_3.index t = ![0, 0] ∧ win0_7.index t = ![0, 0]
    ∧ win0_8.index t = ![0, 0] ∧ win0_9.index t = ![0, 0] ∧ win0_10.index t = ![0, 0] ∧ win0_11.index t = ![0, 0]
    ∧ win0_13.index t = ![0, 0] ∧ win0_14.index t = ![0, 0] ∧ win0_15.index t = ![0, 0] :=
  (by decide +kernel : ∀ t : Fin grid0.N, _)

/-- The windows of the results. -/
theorem win_results : ∀ t : Fin cfg0.N, win0_17.index t = ![0, t.val, 0] ∧ win0_18.index t = ![0, t.val, 0]
    ∧ win0_19.index t = ![0, t.val, 0] :=
  (by decide +kernel : ∀ t : Fin grid0.N, _)

theorem iblk0 (t : Fin cfg0.N) (ht : t.val < 40) (r : Fin 416) (u : Fin 2048) :
    iblk m c 0 t (ix3 0 r u) = argH m c (ix3 ⟨t.val / 10, by omega⟩ ⟨416 * (t.val % 10) + r.val, by omega⟩ u) := by
  obtain ⟨-, -, e, -⟩ := win_facts t
  show V m c main_arg0 (((cfg0.win 0).blk t).view.emb (ix3 0 r u)) = _
  rw [V_main_arg0]
  refine congrArg (argH m c) ?_
  funext a
  refine Fin.ext ?_
  fin_cases a
  · show win0_0.index t 0 * 1 + 1 * 0 = t.val / 10
    rw [e]; show t.val / 10 * 1 + 1 * 0 = _; omega
  · show win0_0.index t 1 * 416 + 1 * r.val = 416 * (t.val % 10) + r.val
    rw [e]; show t.val % 10 * 416 + 1 * r.val = _; omega
  · show win0_0.index t 2 * 2048 + 1 * u.val = u.val
    rw [e]; show 0 * 2048 + 1 * u.val = _; omega

/-- The last row of the eight-row block is the one before the point's rows. -/
theorem iblk1 (t : Fin cfg0.N) (ht : t.val < 40) (h0 : t.val % 10 ≠ 0) (u : Fin 2048) :
    iblk m c 1 t (ix3 0 7 u) = argH m c (ix3 ⟨t.val / 10, by omega⟩ ⟨416 * (t.val % 10) - 1, by omega⟩ u) := by
  obtain ⟨-, -, -, e⟩ := win_facts t
  show V m c main_arg0 (((cfg0.win 1).blk t).view.emb (ix3 0 7 u)) = _
  rw [V_main_arg0]
  refine congrArg (argH m c) ?_
  funext a
  refine Fin.ext ?_
  fin_cases a
  · show win0_1.index t 0 * 1 + 1 * 0 = t.val / 10
    rw [e]; show t.val / 10 * 1 + 1 * 0 = _; omega
  · show win0_1.index t 1 * 8 + 1 * 7 = 416 * (t.val % 10) - 1
    rw [e]; show (52 * (t.val % 10) - 1) * 8 + 1 * 7 = _; omega
  · show win0_1.index t 2 * 2048 + 1 * u.val = u.val
    rw [e]; show 0 * 2048 + 1 * u.val = _; omega

/-- A window's block at the origin and of the array's own size is the array. -/
theorem at_origin {j : Fin 2 → ℕ} (hj : j = ![0, 0]) {a b : ℕ} (y z : (⟨2, ![a, b]⟩ : Shape).Idx)
    (hz : ∀ x, (z x).val = j x * (⟨2, ![a, b]⟩ : Shape).size x + 1 * (y x).val) : z = y := by
  subst hj
  funext x
  refine Fin.ext ((hz x).trans ?_)
  match x with
  | ⟨0, _⟩ => show 0 * a + 1 * (y 0).val = (y 0).val; rw [Nat.zero_mul, Nat.zero_add, Nat.one_mul]
  | ⟨1, _⟩ => show 0 * b + 1 * (y 1).val = (y 1).val; rw [Nat.zero_mul, Nat.zero_add, Nat.one_mul]

theorem iblk2 (t : Fin cfg0.N) : iblk m c 2 t = argG m c :=
  funext fun y => (congrArg (V m c main_arg1) (at_origin (win_whole t).1 y _ fun _ => rfl)).trans (congrFun (V_main_arg1 m c) y)

theorem iblk3 (t : Fin cfg0.N) : iblk m c 3 t = argMix m c :=
  funext fun y => (congrArg (V m c main_arg2) (at_origin (win_whole t).2.1 y _ fun _ => rfl)).trans (congrFun (V_main_arg2 m c) y)

theorem iblk7 (t : Fin cfg0.N) : iblk m c 7 t = wide (argA1 m c) :=
  (funext fun y => congrArg (V m c main_v6) (at_origin (win_whole t).2.2.1 y _ fun _ => rfl)).trans (V_main_v6 m c)

theorem iblk8 (t : Fin cfg0.N) : iblk m c 8 t = tall (argA2 m c) :=
  (funext fun y => congrArg (V m c main_v8) (at_origin (win_whole t).2.2.2.1 y _ fun _ => rfl)).trans (V_main_v8 m c)

theorem iblk9 (t : Fin cfg0.N) (u : Fin 2048) : iblk m c 9 t (ix2 0 u) = argA0 m c (ix1 u) :=
  (congrArg (V m c main_v9) (at_origin (win_whole t).2.2.2.2.1 (ix2 0 u) _ fun _ => rfl)).trans (V_main_v9 m c u)

theorem iblk10 (t : Fin cfg0.N) : iblk m c 10 t = argG1 m c :=
  (funext fun y => congrArg (V m c main_v11) (at_origin (win_whole t).2.2.2.2.2.1 y _ fun _ => rfl)).trans (V_main_v11 m c)

theorem iblk11 (t : Fin cfg0.N) : iblk m c 11 t = argG2 m c :=
  (funext fun y => congrArg (V m c main_v13) (at_origin (win_whole t).2.2.2.2.2.2.1 y _ fun _ => rfl)).trans (V_main_v13 m c)

theorem iblk13 (t : Fin cfg0.N) : iblk m c 13 t = wide (argV1 m c) :=
  (funext fun y => congrArg (V m c main_v16) (at_origin (win_whole t).2.2.2.2.2.2.2.1 y _ fun _ => rfl)).trans (V_main_v16 m c)

theorem iblk14 (t : Fin cfg0.N) : iblk m c 14 t = tall (argV2 m c) :=
  (funext fun y => congrArg (V m c main_v18) (at_origin (win_whole t).2.2.2.2.2.2.2.2.1 y _ fun _ => rfl)).trans (V_main_v18 m c)

theorem iblk15 (t : Fin cfg0.N) (u : Fin 2048) : iblk m c 15 t (ix2 0 u) = argV0 m c (ix1 u) :=
  (congrArg (V m c main_v19) (at_origin (win_whole t).2.2.2.2.2.2.2.2.2 (ix2 0 u) _ fun _ => rfl)).trans (V_main_v19 m c u)

/-- The row of the sequence that row `r` of point `t`'s block is. -/
abbrev seqRow (t : ℕ) (r : Fin 416) : Fin 4160 := ⟨416 * (t % 10) + r.val, by omega⟩

/-- What the point takes for the row before row `r` of its block is the row before it in its sequence. -/
theorem before_block (t : Fin cfg0.N) (ht : t.val < 40) (r : Fin 416) (l : Fin 2048) :
    blockBefore (grid0.coords t) (iblk m c 0 t) (iblk m c 1 t) (argG m c) r l
      = before (argH m c) (fun u => argG m c (ix2 0 u)) ⟨t.val / 10, by omega⟩ (seqRow t.val r) l := by
  obtain ⟨-, ei, -⟩ := win_facts t
  unfold blockBefore before
  rw [ei]
  by_cases h0 : r.val = 0
  · by_cases h1 : t.val % 10 = 0
    · rw [if_pos h0, if_pos h1, if_pos (show 416 * (t.val % 10) + r.val = 0 by omega)]
    · rw [if_pos h0, if_neg h1, if_neg (show ¬416 * (t.val % 10) + r.val = 0 by omega)]
      simp only [iblk1 m c t ht h1]
      have e : (⟨416 * (t.val % 10) - 1, by omega⟩ : Fin 4160) = ⟨416 * (t.val % 10) + r.val - 1, by omega⟩ :=
        Fin.ext (by show 416 * (t.val % 10) - 1 = 416 * (t.val % 10) + r.val - 1; omega)
      rw [e]
  · rw [if_neg h0, if_neg (show ¬416 * (t.val % 10) + r.val = 0 by omega)]
    simp only [iblk0 m c t ht]
    have e : (⟨416 * (t.val % 10) + (r.val - 1), by omega⟩ : Fin 4160) = ⟨416 * (t.val % 10) + r.val - 1, by omega⟩ :=
      Fin.ext (by show 416 * (t.val % 10) + (r.val - 1) = 416 * (t.val % 10) + r.val - 1; omega)
    rw [e]

/-- The point's mixed rows are the sequence's. -/
theorem mixed_block (t : Fin cfg0.N) (ht : t.val < 40) (k : Fin 6) (r : Fin 416) :
    blockRow (grid0.coords t) (iblk m c 0 t) (iblk m c 1 t) (iblk m c 2 t) (iblk m c 3 t) k r
      = mixed (argH m c) (fun u => argG m c (ix2 0 u)) (argMix m c) k ⟨t.val / 10, by omega⟩ (seqRow t.val r) := by
  rw [iblk2, iblk3]
  unfold blockRow mixed
  rw [show blockBefore (grid0.coords t) (iblk m c 0 t) (iblk m c 1 t) (argG m c) r
      = before (argH m c) (fun u => argG m c (ix2 0 u)) ⟨t.val / 10, by omega⟩ (seqRow t.val r) from
    funext fun l => before_block m c t ht r l]
  simp only [iblk0 m c t ht]

/-! ## The results -/

/-- The in-context rates. -/
def rates : (⟨3, ![16, 16640, 128]⟩ : Shape).Idx → EReal := pairs fun b r =>
  rate (mixed (argH m c) (fun u => argG m c (ix2 0 u)) (argMix m c) 4 b r) (argA1 m c) (argA2 m c) (fun u => argA0 m c (ix1 u))

/-- The output gates. -/
def gates : (⟨3, ![16, 16640, 128]⟩ : Shape).Idx → EReal := pairs fun b r =>
  gate (mixed (argH m c) (fun u => argG m c (ix2 0 u)) (argMix m c) 5 b r) (argG1 m c) (argG2 m c)

/-- The shares of the first layer's values. -/
def shares : (⟨3, ![16, 16640, 128]⟩ : Shape).Idx → EReal := pairs fun b r =>
  rate (mixed (argH m c) (fun u => argG m c (ix2 0 u)) (argMix m c) 3 b r) (argV1 m c) (argV2 m c) (fun u => argV0 m c (ix1 u))

/-- A point's rows in pairs of heads are a block of all of them. -/
theorem inPairs_eq {j : Fin 3 → ℕ} {t : ℕ} (hj : j = ![0, t, 0]) (ht : t < 40) (Q : FVec Ideal S416x2048 .f32)
    (P : Fin 4 → Fin 4160 → Row) (hQ : ∀ r l, Q (ix2 r l) = P ⟨t / 10, by omega⟩ (seqRow t r) l) (y : S16x416x128.Idx)
    (z : S16x16640x128.Idx) (hz : ∀ a, (z a).val = j a * S16x416x128.size a + 1 * (y a).val) : inPairs Q y = pairs P z := by
  subst hj
  have hy0 : (y 0).val < 16 := (y 0).isLt
  have hy1 : (y 1).val < 416 := (y 1).isLt
  have hy2 : (y 2).val < 128 := (y 2).isLt
  have h0 : (z 0).val = 0 * 16 + 1 * (y 0).val := hz 0
  have h1 : (z 1).val = t * 416 + 1 * (y 1).val := hz 1
  have h2 : (z 2).val = 0 * 128 + 1 * (y 2).val := hz 2
  refine (hQ (y 1) ⟨128 * (y 0).val + (y 2).val, by omega⟩).trans ?_
  unfold pairs
  have eb : (⟨t / 10, by omega⟩ : Fin 4) = ⟨(z 1).val / 4160, by omega⟩ := Fin.ext (by show t / 10 = (z 1).val / 4160; omega)
  have er : seqRow t (y 1) = ⟨(z 1).val % 4160, Nat.mod_lt _ (by decide)⟩ :=
    Fin.ext (by show 416 * (t % 10) + (y 1).val = (z 1).val % 4160; omega)
  have el : (⟨128 * (y 0).val + (y 2).val, by omega⟩ : Fin 2048) = ⟨128 * (z 0).val + (z 2).val, by omega⟩ :=
    Fin.ext (by show 128 * (y 0).val + (y 2).val = 128 * (z 0).val + (z 2).val; omega)
  rw [eb, er, el]

/-- Every index lies in the block of the point that its row says. -/
theorem in_block {j : Fin 3 → ℕ} (i : S16x16640x128.Idx) (hj : j = ![0, (i 1).val / 416, 0]) (a : Fin 3) :
    j a * S16x416x128.size a ≤ (i a).val ∧ (i a).val < j a * S16x416x128.size a + S16x416x128.size a := by
  subst hj
  have hi0 : (i 0).val < 16 := (i 0).isLt
  have hi2 : (i 2).val < 128 := (i 2).isLt
  match a with
  | ⟨0, _⟩ => show 0 * 16 ≤ (i 0).val ∧ (i 0).val < 0 * 16 + 16; omega
  | ⟨1, _⟩ => show (i 1).val / 416 * 416 ≤ (i 1).val ∧ (i 1).val < (i 1).val / 416 * 416 + 416; omega
  | ⟨2, _⟩ => show 0 * 128 ≤ (i 2).val ∧ (i 2).val < 0 * 128 + 128; omega

/-- That point. -/
def point (i : S16x16640x128.Idx) : Fin cfg0.N :=
  ⟨(i 1).val / 416, lt_of_lt_of_eq (by have h : (i 1).val < 16640 := (i 1).isLt; omega : _ < 40) N_0.symm⟩

theorem rates_written (t : Fin cfg0.N) :
    (dats m 0 c).flushed 17 t = ((cfg0.win 17).blk t).view.read (Elt Ideal) (rates m c) := by
  have ht := (win_facts t).1
  rw [Value.flushed17]
  funext y
  refine (congrFun (out17_eq _ _ _ _ _ _ _ _ _ _ _ _ _ _ _ _ _) _).trans ?_
  show _ = rates m c (((cfg0.win 17).blk t).view.emb y)
  refine inPairs_eq (win_results t).1 ht _ _ (fun r l => ?_) _ _ fun _ => rfl
  refine (pay88_apply _ _ _ _ _ _ _ _ _ _ _ _ _ _ _ _ _ r l).trans ?_
  rw [mixed_block m c t ht, iblk7, iblk8]
  simp only [iblk9]
  exact rate_padded (by decide) _ _ _ _ l

theorem gates_written (t : Fin cfg0.N) :
    (dats m 0 c).flushed 18 t = ((cfg0.win 18).blk t).view.read (Elt Ideal) (gates m c) := by
  have ht := (win_facts t).1
  rw [Value.flushed18]
  funext y
  refine (congrFun (out18_eq _ _ _ _ _ _ _ _ _ _ _ _ _ _ _ _ _) _).trans ?_
  show _ = gates m c (((cfg0.win 18).blk t).view.emb y)
  refine inPairs_eq (win_results t).2.1 ht _ _ (fun r l => ?_) _ _ fun _ => rfl
  refine (pay90_apply _ _ _ _ _ _ _ _ _ _ _ _ _ _ _ _ _ r l).trans ?_
  rw [mixed_block m c t ht, iblk10, iblk11]

theorem shares_written (t : Fin cfg0.N) :
    (dats m 0 c).flushed 19 t = ((cfg0.win 19).blk t).view.read (Elt Ideal) (shares m c) := by
  have ht := (win_facts t).1
  rw [Value.flushed19]
  funext y
  refine (congrFun (out19_eq _ _ _ _ _ _ _ _ _ _ _ _ _ _ _ _ _) _).trans ?_
  show _ = shares m c (((cfg0.win 19).blk t).view.emb y)
  refine inPairs_eq (win_results t).2.2 ht _ _ (fun r l => ?_) _ _ fun _ => rfl
  refine (pay91_apply _ _ _ _ _ _ _ _ _ _ _ _ _ _ _ _ _ r l).trans ?_
  rw [mixed_block m c t ht, iblk13, iblk14]
  simp only [iblk15]
  exact rate_padded (by decide) _ _ _ _ l

theorem rates_after : (dats m 0 c).arrAt 17 cfg0.N = rates m c :=
  (dats m 0 c).arrAt_eq_of_cover 17 _ (fun t _ => rates_written m c t) fun i => ⟨point i, flush0_17 _, by
    show i ∈ ((View.whole main_v20_1).slice (win0_17.rect (point i))).set
    rw [View.set_slice_whole, Rect.mem_set_unit]
    exact in_block i (win_results (point i)).1⟩

theorem gates_after : (dats m 0 c).arrAt 18 cfg0.N = gates m c :=
  (dats m 0 c).arrAt_eq_of_cover 18 _ (fun t _ => gates_written m c t) fun i => ⟨point i, flush0_18 _, by
    show i ∈ ((View.whole main_v20_2).slice (win0_18.rect (point i))).set
    rw [View.set_slice_whole, Rect.mem_set_unit]
    exact in_block i (win_results (point i)).2.1⟩

theorem shares_after : (dats m 0 c).arrAt 19 cfg0.N = shares m c :=
  (dats m 0 c).arrAt_eq_of_cover 19 _ (fun t _ => shares_written m c t) fun i => ⟨point i, flush0_19 _, by
    show i ∈ ((View.whole main_v20_3).slice (win0_19.rect (point i))).set
    rw [View.set_slice_whole, Rect.mem_set_unit]
    exact in_block i (win_results (point i)).2.2⟩

end Cert.Lora

end
-- ==== Proof.Lora.Reference.lean ====
/-
  The reference's low-rank updates, read at an index.
-/
module

public import proofs.«01_k».proof.Proof.Gen.Reference8Ideal.Run
public import proofs.«01_k».proof.Proof.Rkv.Reference
public import proofs.«01_k».proof.Proof.Lora.Spec

@[expose] public section

set_option maxRecDepth 16384

noncomputable section

namespace Cert.Lora.Ref

open Idealize.ShloMosaic Idealize.ShloMosaic.TcCoe Idealize.ShloMosaic.Tactic
open Cert.Reference8Ideal Cert.Reference8Ideal.Gen
open Cert.Mlp (Row rms)
open Cert.Rkv.Ref (normed later normed_apply later_apply)
open scoped BigOperators

variable (h : FVec Ideal S4x4160x2048 .f32) (g : FVec Ideal S1x2048 .f32) (mix : FVec Ideal S6x2048 .f32)

/-- The rows mixed with the ones before them by one row of the mixing weights. -/
def mixedRows (o : ℕ) (hk : S6x2048.Slices ![o, 0] S1x2048) : FVec Ideal S4x4160x2048 .f32 :=
  addf (normed h g) (mulf (subf (later (normed h g)) (normed h g))
    (broadcastInDim S4x4160x2048 ![0, 1, 2] bcast_S1x1x2048_S4x4160x2048_0_1_2
      (broadcastInDim S1x1x2048 ![2] bcast_S2048_S1x1x2048_2 (shapeCast _ (extractStridedSlice S1x2048 ![o, 0] mix hk)
        shapeCasts_S1x2048_S2048))))

theorem mixedRows_apply (k : Fin 6) (hk : S6x2048.Slices ![k.val, 0] S1x2048) (b : Fin 4) (r : Fin 4160) (l : Fin 2048) :
    mixedRows h g mix k.val hk (ix3 b r l) = mixed h (fun u => g (ix2 0 u)) mix k b r l := by
  have hkv : ∀ v : Fin 2048, extractStridedSlice S1x2048 ![k.val, 0] mix hk (ix2 0 v) = mix (ix2 k v) := fun v =>
    extractStridedSlice_apply _ _ _ _ (ix2 k v) (by
      intro a
      match a with
      | ⟨0, _⟩ => rfl
      | ⟨1, _⟩ => exact (Nat.zero_add _).symm)
  unfold mixedRows
  generalize extractStridedSlice S1x2048 ![k.val, 0] mix hk = y at hkv ⊢
  pointwise
  simp only [normed_apply, later_apply, hkv]
  rfl

/-- Rows in sixteen pairs of heads, the sequences one below another. -/
def inPairs (x : FVec Ideal S4x4160x2048 .f32) : FVec Ideal S16x16640x128 .f32 :=
  transpose S16x16640x128 [1, 0, 2] (shapeCast _ x shapeCasts_S4x4160x2048_S16640x16x128) transposes_S16640x16x128_S16x16640x128_1_0_2

theorem transposed_apply (x : FVec Ideal S16640x16x128 .f32) (p : Fin 16) (R : Fin 16640) (q : Fin 128) :
    transpose S16x16640x128 [1, 0, 2] x transposes_S16640x16x128_S16x16640x128_1_0_2 (ix3 p R q) = x (ix3 R p q) := by
  pointwise

theorem inPairs_eq (x : FVec Ideal S4x4160x2048 .f32) (P : Fin 4 → Fin 4160 → Row) (hx : ∀ b r l, x (ix3 b r l) = P b r l) :
    inPairs x = pairs P := by
  funext i
  have hi : i = ix3 (i 0) (i 1) (i 2) := by
    funext a
    match a with
    | ⟨0, _⟩ => rfl
    | ⟨1, _⟩ => rfl
    | ⟨2, _⟩ => rfl
  have hp : (i 0).val < 16 := (i 0).isLt
  have hr : (i 1).val < 16640 := (i 1).isLt
  have hq : (i 2).val < 128 := (i 2).isLt
  refine (congrArg (inPairs x) hi).trans ((transposed_apply _ (i 0) (i 1) (i 2)).trans ?_)
  refine (shapeCast_apply _ _ _ (ix3 (⟨(i 1).val / 4160, by omega⟩ : Fin 4) (⟨(i 1).val % 4160, Nat.mod_lt _ (by decide)⟩ : Fin 4160)
    (⟨128 * (i 0).val + (i 2).val, by omega⟩ : Fin 2048)) ?_).trans (hx _ _ _)
  rw [Shape.rowMajor_val_three, Shape.rowMajor_val_three]
  show ((i 1).val / 4160 * 4160 + (i 1).val % 4160) * 2048 + (128 * (i 0).val + (i 2).val)
    = ((i 1).val * 16 + (i 0).val) * 128 + (i 2).val
  omega

/-- The logistic function at every index. -/
def logistics (x : FVec Ideal S4x4160x2048 .f32) : FVec Ideal S4x4160x2048 .f32 :=
  Host.divf (broadcastInDim S4x4160x2048 ![] bcast_S_S4x4160x2048 (constant S_ .f32 0x3F800000#32))
    (addf (broadcastInDim S4x4160x2048 ![] bcast_S_S4x4160x2048 (constant S_ .f32 0x3F800000#32)) (Host.exp (Host.negf x)))

theorem logistics_apply (x : FVec Ideal S4x4160x2048 .f32) (b : Fin 4) (r : Fin 4160) (l : Fin 2048) :
    logistics x (ix3 b r l) = logistic (x (ix3 b r l)) := by
  pointwise [logistics]
  rfl

/-- A bias before a product. -/
def biased (w : FVec Ideal S2048 .f32) (x : FVec Ideal S4x4160x2048 .f32) : FVec Ideal S4x4160x2048 .f32 :=
  addf (broadcastInDim S4x4160x2048 ![0, 1, 2] bcast_S1x1x2048_S4x4160x2048_0_1_2
    (broadcastInDim S1x1x2048 ![2] bcast_S2048_S1x1x2048_2 w)) x

theorem biased_apply (w : FVec Ideal S2048 .f32) (x : FVec Ideal S4x4160x2048 .f32) (b : Fin 4) (r : Fin 4160) (l : Fin 2048) :
    biased w x (ix3 b r l) = x (ix3 b r l) + w (ix1 l) := by
  pointwise [biased]
  exact add_comm _ _

theorem product96_apply (x : FVec Ideal S4x4160x2048 .f32) (w₁ : FVec Ideal S2048x96 .f32) (w₂ : FVec Ideal S96x2048 .f32) (b : Fin 4)
    (r : Fin 4160) (l : Fin 2048) :
    Host.dotGeneral dot_S4x4160x96_S96x2048_S4x4160x2048_2_0_01_1_n_n none
        (Host.dotGeneral dot_S4x4160x2048_S2048x96_S4x4160x96_2_0_01_1_n_n none x w₁) w₂ (ix3 b r l)
      = up (down (fun u => x (ix3 b r u)) w₁) w₂ l := by
  pointwise
  rfl

theorem product64_apply (x : FVec Ideal S4x4160x2048 .f32) (w₁ : FVec Ideal S2048x64 .f32) (w₂ : FVec Ideal S64x2048 .f32) (b : Fin 4)
    (r : Fin 4160) (l : Fin 2048) :
    Host.dotGeneral dot_S4x4160x64_S64x2048_S4x4160x2048_2_0_01_1_n_n none
        (Host.dotGeneral dot_S4x4160x2048_S2048x64_S4x4160x64_2_0_01_1_n_n none x w₁) w₂ (ix3 b r l)
      = up (down (fun u => x (ix3 b r u)) w₁) w₂ l := by
  pointwise
  rfl

/-- The logistic function between two products. -/
def gated (x : FVec Ideal S4x4160x2048 .f32) (w₁ : FVec Ideal S2048x256 .f32) (w₂ : FVec Ideal S256x2048 .f32) :
    FVec Ideal S4x4160x2048 .f32 :=
  Host.dotGeneral dot_S4x4160x256_S256x2048_S4x4160x2048_2_0_01_1_n_n none
    (Host.divf (broadcastInDim S4x4160x256 ![] bcast_S_S4x4160x256 (constant S_ .f32 0x3F800000#32))
      (addf (broadcastInDim S4x4160x256 ![] bcast_S_S4x4160x256 (constant S_ .f32 0x3F800000#32))
        (Host.exp (Host.negf (Host.dotGeneral dot_S4x4160x2048_S2048x256_S4x4160x256_2_0_01_1_n_n none x w₁))))) w₂

theorem gated_apply (x : FVec Ideal S4x4160x2048 .f32) (w₁ : FVec Ideal S2048x256 .f32) (w₂ : FVec Ideal S256x2048 .f32) (b : Fin 4)
    (r : Fin 4160) (l : Fin 2048) : gated x w₁ w₂ (ix3 b r l) = gate (fun u => x (ix3 b r u)) w₁ w₂ l := by
  pointwise [gated]
  rfl

/-- The reference's in-context rates. -/
theorem rates_eq (w₀ : FVec Ideal S2048 .f32) (w₁ : FVec Ideal S2048x96 .f32) (w₂ : FVec Ideal S96x2048 .f32) :
    inPairs (logistics (biased w₀ (Host.dotGeneral dot_S4x4160x96_S96x2048_S4x4160x2048_2_0_01_1_n_n none
        (Host.dotGeneral dot_S4x4160x2048_S2048x96_S4x4160x96_2_0_01_1_n_n none
          (mixedRows h g mix 4 slices_S6x2048_S1x2048_4_0) w₁) w₂)))
      = pairs fun b r => rate (mixed h (fun u => g (ix2 0 u)) mix 4 b r) w₁ w₂ (fun u => w₀ (ix1 u)) := by
  refine inPairs_eq _ _ fun b r l => ?_
  rw [logistics_apply, biased_apply, product96_apply,
    show (fun u => mixedRows h g mix 4 slices_S6x2048_S1x2048_4_0 (ix3 b r u)) = mixed h (fun u => g (ix2 0 u)) mix 4 b r from
      funext fun u => mixedRows_apply h g mix 4 _ b r u]
  rfl

/-- Its output gates. -/
theorem gates_eq (w₁ : FVec Ideal S2048x256 .f32) (w₂ : FVec Ideal S256x2048 .f32) :
    inPairs (gated (mixedRows h g mix 5 slices_S6x2048_S1x2048_5_0) w₁ w₂)
      = pairs fun b r => gate (mixed h (fun u => g (ix2 0 u)) mix 5 b r) w₁ w₂ := by
  refine inPairs_eq _ _ fun b r l => ?_
  rw [gated_apply,
    show (fun u => mixedRows h g mix 5 slices_S6x2048_S1x2048_5_0 (ix3 b r u)) = mixed h (fun u => g (ix2 0 u)) mix 5 b r from
      funext fun u => mixedRows_apply h g mix 5 _ b r u]

/-- Its shares of the first layer's values. -/
theorem shares_eq (w₀ : FVec Ideal S2048 .f32) (w₁ : FVec Ideal S2048x64 .f32) (w₂ : FVec Ideal S64x2048 .f32) :
    inPairs (logistics (biased w₀ (Host.dotGeneral dot_S4x4160x64_S64x2048_S4x4160x2048_2_0_01_1_n_n none
        (Host.dotGeneral dot_S4x4160x2048_S2048x64_S4x4160x64_2_0_01_1_n_n none
          (mixedRows h g mix 3 slices_S6x2048_S1x2048_3_0) w₁) w₂)))
      = pairs fun b r => rate (mixed h (fun u => g (ix2 0 u)) mix 3 b r) w₁ w₂ (fun u => w₀ (ix1 u)) := by
  refine inPairs_eq _ _ fun b r l => ?_
  rw [logistics_apply, biased_apply, product64_apply,
    show (fun u => mixedRows h g mix 3 slices_S6x2048_S1x2048_3_0 (ix3 b r u)) = mixed h (fun u => g (ix2 0 u)) mix 3 b r from
      funext fun u => mixedRows_apply h g mix 3 _ b r u]
  rfl

end Cert.Lora.Ref

end
-- ==== Proof.lean ====
/-
  The proof of `Cert.Claim`.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference2Ideal
public import proofs.«01_k».proof.Proof.Gen.Reference2Ideal.Run
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Reference7Ideal
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gla.Assumed
public import proofs.«01_k».proof.Proof.Gla.Result
public import proofs.«01_k».proof.Proof.Gla.Trips
public import proofs.«01_k».proof.Proof.Mlp.Spec
public import proofs.«01_k».proof.Proof.Mlp.Final.Fold
public import proofs.«01_k».proof.Proof.Mlp.Final.Result
public import proofs.«01_k».proof.Proof.Mlp.Casts.Fold
public import proofs.«01_k».proof.Proof.Mlp.Casts.Side
public import proofs.«01_k».proof.Proof.Mlp.Casts.Result
public import proofs.«01_k».proof.Proof.Out.Spec
public import proofs.«01_k».proof.Proof.Out.Flat
public import proofs.«01_k».proof.Proof.Out.Pairs
public import proofs.«01_k».proof.Proof.Rkv.Spec
public import proofs.«01_k».proof.Proof.Rkv.Point
public import proofs.«01_k».proof.Proof.Rkv.Result
public import proofs.«01_k».proof.Proof.Rkv.Reference
public import proofs.«01_k».proof.Proof.GlaIn.Float.Frame
public import proofs.«01_k».proof.Proof.GlaIn.Ideal.Frame
public import proofs.«01_k».proof.Proof.GlaIn.Spec
public import proofs.«01_k».proof.Proof.GlaIn.Point
public import proofs.«01_k».proof.Proof.GlaIn.Result
public import proofs.«01_k».proof.Proof.GlaIn.Reference
public import proofs.«01_k».proof.Proof.Lora.Spec
public import proofs.«01_k».proof.Proof.Lora.Point
public import proofs.«01_k».proof.Proof.Lora.Result
public import proofs.«01_k».proof.Proof.Lora.Reference
public import Idealize.ShloMosaic.Lib.Quiescent
public import Idealize.ShloMosaic.Adequacy
public import Idealize.ShloMosaic.Init

@[expose] public section

set_option maxRecDepth 16384

noncomputable section

namespace Cert.Proof

open Idealize.ShloMosaic Idealize.SL.Sem Idealize.ShloMosaic.TcCoe

section Gla

local instance : Cert.Kernel.Facts := Cert.Kernel.Gen.facts
local instance : Cert.KernelIdeal.Facts := Cert.KernelIdeal.Gen.facts
local instance : Cert.ReferenceIdeal.Facts := Cert.ReferenceIdeal.Gen.facts
local instance : Cert.Pre_layer_arguments.Facts := Cert.Gla.preFacts

theorem gla_reference_frame : Cert.quiescent_ReferenceIdeal := fun m ρ _ =>
  (θ_run _ _ _).mono (fun r h => ⟨fun c => (h c).2, sem_eq_zero_of_no_sems (by decide) r.2⟩)
    (Cert.Gla.reference_run m ρ (fun c n => Cert.Gla.trips (m ((c.tc : Thread _ _).loc Cert.ReferenceIdeal.main_arg0))
      (m ((c.tc : Thread _ _).loc Cert.ReferenceIdeal.main_arg1)) n) (fun _ => rfl) (fun _ _ => rfl))

/-- The kernel's array is the reference's. -/
theorem gla_arrays (m : (ℓ : Loc Cert.KernelIdeal.nD Cert.KernelIdeal.τ Cert.KernelIdeal.sig) → Buf (Elt Ideal) ℓ)
    (hpre : Cert.Pre_KernelIdeal_layer_arguments m) (c : Dev Cert.KernelIdeal.nD) :
    Cert.KernelIdeal.Value.G6 m c
      = Cert.ReferenceIdeal.Step.R_main_v153 (F := Ideal) (Cert.Gla.trips (Cert.Gla.argP m c) (Cert.Gla.argG m c) 64)
          (Cert.Gla.argP m c) (Cert.Gla.argG m c) (Cert.Gla.argW m c) := by
  funext y
  have hy : y = ix3 (y 0 : Fin 4) (y 1 : Fin 4160) (y 2 : Fin 2048) := by
    funext a
    match a with
    | ⟨0, _⟩ => rfl
    | ⟨1, _⟩ => rfl
    | ⟨2, _⟩ => rfl
  generalize (y 0 : Fin 4) = b at hy
  generalize (y 1 : Fin 4160) = r at hy
  generalize (y 2 : Fin 2048) = l at hy
  rw [hy]
  have hl : l.val / 512 < 4 := Nat.div_lt_of_lt_mul l.isLt
  refine Eq.trans ?_ (Cert.Gla.reference_value (Cert.Gla.argP m c) (Cert.Gla.argG m c) (Cert.Gla.argW m c) b r l).symm
  have hc : l = Cert.Gla.col (Cert.Gla.hO' ⟨l.val / 512, hl⟩) (⟨l.val % 512, Nat.mod_lt _ (by decide)⟩ : Fin 512) :=
    Fin.ext (Nat.div_add_mod l.val 512).symm
  refine (congrArg (fun q => Cert.KernelIdeal.Value.G6 m c (ix3 b r q)) hc).trans ?_
  exact Cert.Gla.array_after m c (fun b r l hb hr hl => Cert.Gla.idle_zero _ _ _ (hpre c) b r l hb hr hl)
    (fun r l => Cert.Gla.gate_nonpos _ _ _ (hpre c) r l) b ⟨l.val / 512, hl⟩ r ⟨l.val % 512, Nat.mod_lt _ (by decide)⟩

theorem gla_value : Cert.algebraic_KernelIdeal_ReferenceIdeal_pre_layer_arguments := by
  intro m ρ m' ρ' hpre hagree
  refine ⟨fun c => Cert.KernelIdeal.Value.G6 m c, Cert.KernelIdeal.Value.run m ρ, ?_⟩
  refine (θ_run _ _ _).mono (fun _ h c => ⟨(h c).1.trans ?_, (h c).2⟩)
    (Cert.Gla.reference_run m' ρ' (fun c n => Cert.Gla.trips (m' ((c.tc : Thread _ _).loc Cert.ReferenceIdeal.main_arg0))
      (m' ((c.tc : Thread _ _).loc Cert.ReferenceIdeal.main_arg1)) n) (fun _ => rfl) (fun _ _ => rfl))
  rw [(hagree c).1, (hagree c).2.1, (hagree c).2.2]
  exact (gla_arrays m hpre c).symm

end Gla

/-- An index of three axes by its coordinates. -/
theorem idx3 {a b d : ℕ} (y : (⟨3, ![a, b, d]⟩ : Shape).Idx) :
    y = ix3 (⟨(y 0).val, (y 0).isLt⟩ : Fin a) (⟨(y 1).val, (y 1).isLt⟩ : Fin b) (⟨(y 2).val, (y 2).isLt⟩ : Fin d) := by
  funext k
  match k with
  | ⟨0, _⟩ => rfl
  | ⟨1, _⟩ => rfl
  | ⟨2, _⟩ => rfl

/-- An index of two axes by its coordinates. -/
theorem idx2 {a b : ℕ} (y : (⟨2, ![a, b]⟩ : Shape).Idx) :
    y = ix2 (⟨(y 0).val, (y 0).isLt⟩ : Fin a) (⟨(y 1).val, (y 1).isLt⟩ : Fin b) := by
  funext k
  match k with
  | ⟨0, _⟩ => rfl
  | ⟨1, _⟩ => rfl

/-- Two arrays with one layer agree when they agree at its rows and columns. -/
theorem layer_ext {b d : ℕ} {f g : (⟨3, ![1, b, d]⟩ : Shape).Idx → EReal}
    (h : ∀ (r : Fin b) (l : Fin d), f (ix3 0 r l) = g (ix3 0 r l)) : f = g := by
  funext y
  rw [idx3 y, show (⟨(y 0).val, (y 0).isLt⟩ : Fin 1) = 0 from Subsingleton.elim _ _]
  exact h _ _

section Final

local instance : Cert.Kernel2.Facts := Cert.Kernel2.Gen.facts
local instance : Cert.Kernel2Ideal.Facts := Cert.Kernel2Ideal.Gen.facts
local instance : Cert.Reference2Ideal.Facts := Cert.Reference2Ideal.Gen.facts

theorem final_reference_frame : Cert.quiescent_Reference2Ideal := fun m ρ _ =>
  (θ_run _ _ _).mono (fun r h => ⟨fun c => (h c).2, sem_eq_zero_of_no_sems (by decide) r.2⟩)
    (Cert.Reference2Ideal.Value.run m ρ)

/-- The last feed-forward part: the kernel's array is the reference's. -/
theorem final_value : Cert.algebraic_Kernel2Ideal_Reference2Ideal := by
  intro m ρ m' ρ' _ hagree
  refine ⟨fun c => Cert.Kernel2Ideal.Value.G5 m c, Cert.Kernel2Ideal.Value.run m ρ, ?_⟩
  refine (θ_run _ _ _).mono (fun _ h c => ⟨(h c).1.trans ?_, (h c).2⟩) (Cert.Reference2Ideal.Value.run m' ρ')
  change Cert.Reference2Ideal.Value.res_out0 m' c = _
  funext y
  obtain ⟨e0, e1, e2, e3, e4⟩ := hagree c
  rw [idx3 y]
  refine (Cert.Mlp.Final.Ref.result_apply m' c _ _ _).trans ?_
  refine Eq.trans ?_ (Cert.Mlp.Final.array_after m c _ _ _).symm
  unfold Cert.Mlp.Final.Ref.argH Cert.Mlp.Final.Ref.argG Cert.Mlp.Final.Ref.argW1 Cert.Mlp.Final.Ref.argW2 Cert.Mlp.Final.Ref.argF
  rw [e0, e1, e2, e3, e4]

end Final

section Casts

local instance : Cert.Kernel3.Facts := Cert.Kernel3.Gen.facts
local instance : Cert.Kernel3Ideal.Facts := Cert.Kernel3Ideal.Gen.facts
local instance : Cert.Reference3Ideal.Facts := Cert.Reference3Ideal.Gen.facts

theorem layer_reference_frame : Cert.quiescent_Reference3Ideal := fun m ρ _ =>
  (θ_run _ _ _).mono (fun r h => ⟨fun c => (h c).2.2.2.2.2, sem_eq_zero_of_no_sems (by decide) r.2⟩)
    (Cert.Reference3Ideal.Value.run m ρ)

/-- A layer's feed-forward part with the casts beside it: the kernel's arrays are the reference's. -/
theorem layer_value : Cert.algebraic_Kernel3Ideal_Reference3Ideal := by
  intro m ρ m' ρ' _ hagree
  refine ⟨fun c => Cert.Mlp.Casts.rows m c, fun c => Cert.Mlp.Casts.castA m c, fun c => Cert.Mlp.Casts.castB m c,
    fun c => Cert.Mlp.Casts.castC m c, fun c => Cert.Mlp.Casts.castD m c, ?_, ?_⟩
  · refine (θ_run _ _ _).mono (fun _ h c => ?_) (Cert.Kernel3Ideal.Value.run_blocks m ρ)
    obtain ⟨h9, h10, h11, h12, h13, h⟩ := h c
    exact ⟨h9.trans (Cert.Mlp.Casts.rows_after m c), h10.trans (Cert.Mlp.Casts.afterA m c),
      h11.trans (Cert.Mlp.Casts.afterB m c), h12.trans (Cert.Mlp.Casts.afterC m c), h13.trans (Cert.Mlp.Casts.afterD m c), h⟩
  · refine (θ_run _ _ _).mono (fun _ h c => ?_) (Cert.Reference3Ideal.Value.run m' ρ')
    obtain ⟨h9, h10, h11, h12, h13, h⟩ := h c
    obtain ⟨e0, e1, e2, e3, e4, e5, e6, e7, e8⟩ := hagree c
    refine ⟨h9.trans ?_, h10.trans ?_, h11.trans ?_, h12.trans ?_, h13.trans ?_, h⟩
    · rw [e0, e1, e2, e3]
      funext y
      rw [idx2 y]
      exact Cert.Mlp.Casts.Ref.rows_apply _ _ _ _ _ _
    · rw [e5]
      exact layer_ext fun r l => Cert.Mlp.Casts.Ref.castA_apply _ r l
    · rw [e6]
      exact layer_ext fun r l => Cert.Mlp.Casts.Ref.castB_apply _ r l
    · rw [e7]
      exact layer_ext fun r l => Cert.Mlp.Casts.Ref.castC_apply _ r l
    · rw [e8]
      exact layer_ext fun r l => Cert.Mlp.Casts.Ref.castD_apply _ r l

end Casts

section Pairs

local instance : Cert.Kernel4.Facts := Cert.Kernel4.Gen.facts
local instance : Cert.Kernel4Ideal.Facts := Cert.Kernel4Ideal.Gen.facts
local instance : Cert.Reference4Ideal.Facts := Cert.Reference4Ideal.Gen.facts

theorem pairs_reference_frame : Cert.quiescent_Reference4Ideal := fun m ρ _ =>
  (θ_run _ _ _).mono (fun r h => ⟨fun c => (h c).2, sem_eq_zero_of_no_sems (by decide) r.2⟩)
    (Cert.Reference4Ideal.Value.run m ρ)

/-- The output projection over pairs of heads: the kernel's rows are the reference's. -/
theorem pairs_value : Cert.algebraic_Kernel4Ideal_Reference4Ideal := by
  intro m ρ m' ρ' _ hagree
  refine ⟨fun c => Cert.Out.Pairs.rows m c,
    (θ_run _ _ _).mono (fun _ h c => ⟨(h c).1.trans (Cert.Out.Pairs.rows_after m c), (h c).2⟩) (Cert.Kernel4Ideal.Value.run_blocks m ρ), ?_⟩
  refine (θ_run _ _ _).mono (fun _ h c => ⟨(h c).1.trans ?_, (h c).2⟩) (Cert.Reference4Ideal.Value.run m' ρ')
  obtain ⟨e0, e1, e2⟩ := hagree c
  rw [e0, e1, e2]
  funext y
  rw [idx2 y]
  exact Cert.Out.Pairs.Ref.rows_apply _ _ _ _ _

end Pairs

section Flat

local instance : Cert.Kernel5.Facts := Cert.Kernel5.Gen.facts
local instance : Cert.Kernel5Ideal.Facts := Cert.Kernel5Ideal.Gen.facts
local instance : Cert.Reference5Ideal.Facts := Cert.Reference5Ideal.Gen.facts

theorem flat_reference_frame : Cert.quiescent_Reference5Ideal := fun m ρ _ =>
  (θ_run _ _ _).mono (fun r h => ⟨fun c => (h c).2, sem_eq_zero_of_no_sems (by decide) r.2⟩)
    (Cert.Reference5Ideal.Value.run m ρ)

/-- The output projection over plain rows: the kernel's rows are the reference's. -/
theorem flat_value : Cert.algebraic_Kernel5Ideal_Reference5Ideal := by
  intro m ρ m' ρ' _ hagree
  refine ⟨fun c => Cert.Out.Flat.rows m c,
    (θ_run _ _ _).mono (fun _ h c => ⟨(h c).1.trans (Cert.Out.Flat.rows_after m c), (h c).2⟩) (Cert.Kernel5Ideal.Value.run_blocks m ρ), ?_⟩
  refine (θ_run _ _ _).mono (fun _ h c => ⟨(h c).1.trans ?_, (h c).2⟩) (Cert.Reference5Ideal.Value.run m' ρ')
  obtain ⟨e0, e1, e2⟩ := hagree c
  rw [e0, e1, e2]
  funext y
  rw [idx2 y]
  exact Cert.Out.Flat.Ref.rows_apply _ _ _ _ _

end Flat

section Rkv

local instance : Cert.Kernel6.Facts := Cert.Kernel6.Gen.facts
local instance : Cert.Kernel6Ideal.Facts := Cert.Kernel6Ideal.Gen.facts
local instance : Cert.Reference6Ideal.Facts := Cert.Reference6Ideal.Gen.facts

theorem rkv_reference_frame : Cert.quiescent_Reference6Ideal := fun m ρ _ =>
  (θ_run _ _ _).mono (fun r h => ⟨fun c => (h c).2, sem_eq_zero_of_no_sems (by decide) r.2⟩)
    (Cert.Reference6Ideal.Value.run m ρ)

/-- The token shift and its three projections: the kernel's array is the reference's. -/
theorem rkv_value : Cert.algebraic_Kernel6Ideal_Reference6Ideal := by
  intro m ρ m' ρ' _ hagree
  refine ⟨fun c => Cert.Rkv.result m c,
    (θ_run _ _ _).mono (fun _ h c => ⟨(h c).1.trans (Cert.Rkv.result_after m c), (h c).2⟩) (Cert.Kernel6Ideal.Value.run_blocks m ρ), ?_⟩
  refine (θ_run _ _ _).mono (fun _ h c => ⟨(h c).1.trans ?_, (h c).2⟩) (Cert.Reference6Ideal.Value.run m' ρ')
  obtain ⟨e0, e1, e2, e3⟩ := hagree c
  refine (Cert.Rkv.Ref.result_run m' c).trans ?_
  rw [e0, e1, e2, e3]
  rfl

end Rkv

section GlaIn

local instance : Cert.Kernel7.Facts := Cert.Kernel7.Gen.facts
local instance : Cert.Kernel7Ideal.Facts := Cert.Kernel7Ideal.Gen.facts
local instance : Cert.Reference7Ideal.Facts := Cert.Reference7Ideal.Gen.facts

theorem gla_in_reference_frame : Cert.quiescent_Reference7Ideal := fun m ρ _ =>
  (θ_run _ _ _).mono (fun r h => ⟨fun c => (h c).2.2, sem_eq_zero_of_no_sems (by decide) r.2⟩)
    (Cert.Reference7Ideal.Value.run m ρ)

/-- The GLA layers' input projections and gates: the kernel's arrays are the reference's. -/
theorem gla_in_value : Cert.algebraic_Kernel7Ideal_Reference7Ideal := by
  intro m ρ m' ρ' _ hagree
  refine ⟨fun c => Cert.GlaIn.resultP m c, fun c => Cert.GlaIn.resultG m c, Cert.GlaIn.run m ρ, ?_⟩
  refine (θ_run _ _ _).mono (fun _ h c => ?_) (Cert.Reference7Ideal.Value.run m' ρ')
  obtain ⟨hp, hg, h⟩ := h c
  obtain ⟨e0, e1, e2, e3, e4⟩ := hagree c
  refine ⟨hp.trans ?_, hg.trans ?_, h⟩
  · refine (Cert.GlaIn.Ref.projections_eq _ _ _).trans ?_
    rw [e0, e1, e2]
    rfl
  · refine (Cert.GlaIn.Ref.gates_run m' c).trans ?_
    rw [e0, e1, e2, e3, e4]
    rfl

end GlaIn

section Lora

local instance : Cert.Kernel8.Facts := Cert.Kernel8.Gen.facts
local instance : Cert.Kernel8Ideal.Facts := Cert.Kernel8Ideal.Gen.facts
local instance : Cert.Reference8Ideal.Facts := Cert.Reference8Ideal.Gen.facts

theorem lora_reference_frame : Cert.quiescent_Reference8Ideal := fun m ρ _ =>
  (θ_run _ _ _).mono (fun r h => ⟨fun c => (h c).2.2.2, sem_eq_zero_of_no_sems (by decide) r.2⟩)
    (Cert.Reference8Ideal.Value.run m ρ)

/-- The RWKV-7 layers' low-rank updates: the kernel's arrays are the reference's. -/
theorem lora_value : Cert.algebraic_Kernel8Ideal_Reference8Ideal := by
  intro m ρ m' ρ' _ hagree
  refine ⟨fun c => Cert.Lora.rates m c, fun c => Cert.Lora.gates m c, fun c => Cert.Lora.shares m c,
    (θ_run _ _ _).mono (fun _ h c => ?_) (Cert.Kernel8Ideal.Value.run_blocks m ρ), ?_⟩
  · obtain ⟨-, ha, hg, hs, h⟩ := h c
    exact ⟨ha.trans (Cert.Lora.rates_after m c), hg.trans (Cert.Lora.gates_after m c), hs.trans (Cert.Lora.shares_after m c), h⟩
  refine (θ_run _ _ _).mono (fun _ h c => ?_) (Cert.Reference8Ideal.Value.run m' ρ')
  obtain ⟨ha, hg, hs, h⟩ := h c
  obtain ⟨e0, e1, e2, -, -, -, e6, e7, e8, e9, e10, e11, e12, e13⟩ := hagree c
  refine ⟨ha.trans ?_, hg.trans ?_, hs.trans ?_, h⟩
  · refine (Cert.Lora.Ref.rates_eq _ _ _ _ _ _).trans ?_
    rw [e0, e1, e2, e6, e7, e8]
    rfl
  · refine (Cert.Lora.Ref.gates_eq _ _ _ _ _).trans ?_
    rw [e0, e1, e2, e9, e10]
    rfl
  · refine (Cert.Lora.Ref.shares_eq _ _ _ _ _ _).trans ?_
    rw [e0, e1, e2, e11, e12, e13]
    rfl

end Lora

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Gla.preFacts,
    fun m ρ _ => Cert.Kernel.Gen.frame m ρ, fun m ρ _ => Cert.KernelIdeal.Gen.frame m ρ,
    fun m ρ _ => Cert.KernelIdeal.Gen.frame m ρ, gla_reference_frame, fun m ρ _ => gla_reference_frame m ρ trivial,
    fun m ρ _ => Cert.Kernel2.Gen.frame m ρ, fun m ρ _ => Cert.Kernel2Ideal.Gen.frame m ρ, final_reference_frame,
    fun m ρ _ => Cert.Kernel3.Gen.frame m ρ, fun m ρ _ => Cert.Kernel3Ideal.Gen.frame m ρ, layer_reference_frame,
    fun m ρ _ => Cert.Kernel4.Gen.frame m ρ, fun m ρ _ => Cert.Kernel4Ideal.Gen.frame m ρ, pairs_reference_frame,
    fun m ρ _ => Cert.Kernel5.Gen.frame m ρ, fun m ρ _ => Cert.Kernel5Ideal.Gen.frame m ρ, flat_reference_frame,
    fun m ρ _ => Cert.Kernel6.Gen.frame m ρ, fun m ρ _ => Cert.Kernel6Ideal.Gen.frame m ρ, rkv_reference_frame,
    fun m ρ _ => Cert.Kernel7.Gen.frame m ρ, fun m ρ _ => Cert.Kernel7Ideal.Gen.frame m ρ, gla_in_reference_frame,
    fun m ρ _ => Cert.Kernel8.Gen.frame m ρ, fun m ρ _ => Cert.Kernel8Ideal.Gen.frame m ρ, lora_reference_frame,
    trivial, gla_value, trivial, final_value, trivial, layer_value,
    trivial, pairs_value, trivial, flat_value, trivial, rkv_value,
    trivial, gla_in_value, trivial, lora_value⟩

end Cert.Proof

end
